-- ==== Defs.lean ====
def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedRefIdeal (m : (ℓ : Loc Cert.DmergedRefIdeal.nD Cert.DmergedRefIdeal.τ Cert.DmergedRefIdeal.sig) → Buf (Elt Ideal) ℓ) : Prop :=
  True

def Pre_AttnDo (m : (ℓ : Loc Cert.AttnDo.nD Cert.AttnDo.τ Cert.AttnDo.sig) → Buf (Elt Bits) ℓ) : Prop :=
  True

def Pre_AttnDoIdeal (m : (ℓ : Loc Cert.AttnDoIdeal.nD Cert.AttnDoIdeal.τ Cert.AttnDoIdeal.sig) → Buf (Elt Ideal) ℓ) : Prop :=
  True

def Pre_AttnDoRefIdeal (m : (ℓ : Loc Cert.AttnDoRefIdeal.nD Cert.AttnDoRefIdeal.τ Cert.AttnDoRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_FlashBwd (m : (ℓ : Loc Cert.FlashBwd.nD Cert.FlashBwd.τ Cert.FlashBwd.sig) → Buf (Elt Bits) ℓ) : Prop :=
  True

def Pre_FlashBwdIdeal (m : (ℓ : Loc Cert.FlashBwdIdeal.nD Cert.FlashBwdIdeal.τ Cert.FlashBwdIdeal.sig) → Buf (Elt Ideal) ℓ) : Prop :=
  True

def Pre_FlashBwdIdeal_finite_flash [hPre_finite_flash : Cert.Pre_finite_flash.Facts] (m : (ℓ : Loc Cert.FlashBwdIdeal.nD Cert.FlashBwdIdeal.τ Cert.FlashBwdIdeal.sig) → Buf (Elt Ideal) ℓ) : Prop :=
  ∀ c : Dev Cert.FlashBwdIdeal.nD,
    (Cert.Pre_finite_flash.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))) = (fun _ => 1#1)

def Pre_FlashBwdRefIdeal (m : (ℓ : Loc Cert.FlashBwdRefIdeal.nD Cert.FlashBwdRefIdeal.τ Cert.FlashBwdRefIdeal.sig) → Buf (Elt Ideal) ℓ) : Prop :=
  True

def Pre_FlashBwdRefIdeal_finite_flash [hPre_finite_flash : Cert.Pre_finite_flash.Facts] (m : (ℓ : Loc Cert.FlashBwdRefIdeal.nD Cert.FlashBwdRefIdeal.τ Cert.FlashBwdRefIdeal.sig) → Buf (Elt Ideal) ℓ) : Prop :=
  ∀ c : Dev Cert.FlashBwdRefIdeal.nD,
    (Cert.Pre_finite_flash.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))) = (fun _ => 1#1)

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))) = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_ln [hPre_finite_ln : Cert.Pre_finite_ln.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))) = (fun _ => 1#1)

def Pre_QBwd (m : (ℓ : Loc Cert.QBwd.nD Cert.QBwd.τ Cert.QBwd.sig) → Buf (Elt Bits) ℓ) : Prop :=
  True

def Pre_QBwdIdeal (m : (ℓ : Loc Cert.QBwdIdeal.nD Cert.QBwdIdeal.τ Cert.QBwdIdeal.sig) → Buf (Elt Ideal) ℓ) : Prop :=
  True

def Pre_QBwdRefIdeal (m : (ℓ : Loc Cert.QBwdRefIdeal.nD Cert.QBwdRefIdeal.τ Cert.QBwdRefIdeal.sig) → Buf (Elt Ideal) ℓ) : Prop :=
  True

def Pre_KBwd (m : (ℓ : Loc Cert.KBwd.nD Cert.KBwd.τ Cert.KBwd.sig) → Buf (Elt Bits) ℓ) : Prop :=
  True

def Pre_KBwdIdeal (m : (ℓ : Loc Cert.KBwdIdeal.nD Cert.KBwdIdeal.τ Cert.KBwdIdeal.sig) → Buf (Elt Ideal) ℓ) : Prop :=
  True

def Pre_KBwdRefIdeal (m : (ℓ : Loc Cert.KBwdRefIdeal.nD Cert.KBwdRefIdeal.τ Cert.KBwdRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_Merged (m : (ℓ : Loc Cert.Merged.nD Cert.Merged.τ Cert.Merged.sig) → Buf (Elt Bits) ℓ) : Prop :=
  True

def Pre_MergedIdeal (m : (ℓ : Loc Cert.MergedIdeal.nD Cert.MergedIdeal.τ Cert.MergedIdeal.sig) → Buf (Elt Ideal) ℓ) : Prop :=
  True

def Pre_MergedRefIdeal (m : (ℓ : Loc Cert.MergedRefIdeal.nD Cert.MergedRefIdeal.τ Cert.MergedRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesRefIdeal (m : (ℓ : Loc Cert.QueriesRefIdeal.nD Cert.QueriesRefIdeal.τ Cert.QueriesRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedRefIdeal (m : (ℓ : Loc Cert.MixedRefIdeal.nD Cert.MixedRefIdeal.τ Cert.MixedRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_GroupSum (m : (ℓ : Loc Cert.GroupSum.nD Cert.GroupSum.τ Cert.GroupSum.sig) → Buf (Elt Bits) ℓ) : Prop :=
  True

def Pre_GroupSumIdeal (m : (ℓ : Loc Cert.GroupSumIdeal.nD Cert.GroupSumIdeal.τ Cert.GroupSumIdeal.sig) → Buf (Elt Ideal) ℓ) : Prop :=
  True

def Pre_GroupSumRefIdeal (m : (ℓ : Loc Cert.GroupSumRefIdeal.nD Cert.GroupSumRefIdeal.τ Cert.GroupSumRefIdeal.sig) → Buf (Elt Ideal) ℓ) : Prop :=
  True

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1)
      ∧ r.2.mem ((c.tc : Thread Cert.Dmerged.nD Cert.Dmerged.τ).loc Cert.Dmerged.main_arg2) = m ((c.tc : Thread Cert.Dmerged.nD Cert.Dmerged.τ).loc Cert.Dmerged.main_arg2)
      ∧ r.2.mem ((c.tc : Thread Cert.Dmerged.nD Cert.Dmerged.τ).loc Cert.Dmerged.main_arg3) = m ((c.tc : Thread Cert.Dmerged.nD Cert.Dmerged.τ).loc Cert.Dmerged.main_arg3)
      ∧ r.2.mem ((c.tc : Thread Cert.Dmerged.nD Cert.Dmerged.τ).loc Cert.Dmerged.main_arg4) = m ((c.tc : Thread Cert.Dmerged.nD Cert.Dmerged.τ).loc Cert.Dmerged.main_arg4))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1)
      ∧ r.2.mem ((c.tc : Thread Cert.DmergedIdeal.nD Cert.DmergedIdeal.τ).loc Cert.DmergedIdeal.main_arg2) = m ((c.tc : Thread Cert.DmergedIdeal.nD Cert.DmergedIdeal.τ).loc Cert.DmergedIdeal.main_arg2)
      ∧ r.2.mem ((c.tc : Thread Cert.DmergedIdeal.nD Cert.DmergedIdeal.τ).loc Cert.DmergedIdeal.main_arg3) = m ((c.tc : Thread Cert.DmergedIdeal.nD Cert.DmergedIdeal.τ).loc Cert.DmergedIdeal.main_arg3)
      ∧ r.2.mem ((c.tc : Thread Cert.DmergedIdeal.nD Cert.DmergedIdeal.τ).loc Cert.DmergedIdeal.main_arg4) = m ((c.tc : Thread Cert.DmergedIdeal.nD Cert.DmergedIdeal.τ).loc Cert.DmergedIdeal.main_arg4))
      ∧ r.2.sem = fun _ => 0)

def quiescent_DmergedRefIdeal [hDmergedRefIdeal : Cert.DmergedRefIdeal.Facts] : Prop :=
  ∀ (m : (ℓ : Loc Cert.DmergedRefIdeal.nD Cert.DmergedRefIdeal.τ Cert.DmergedRefIdeal.sig) → Buf (Elt Ideal) ℓ) (g : Dev Cert.DmergedRefIdeal.nD → PrngReg), Pre_DmergedRefIdeal m →
    θ_run (Cert.DmergedRefIdeal.defs (F := Ideal)) (onTc (τ := Cert.DmergedRefIdeal.τ) (Cert.DmergedRefIdeal.main (F := Ideal))) ⟨m, fun _ => 0, g⟩ (fun r => (∀ c : Dev Cert.DmergedRefIdeal.nD,
      r.2.mem ((c.tc : Thread Cert.DmergedRefIdeal.nD Cert.DmergedRefIdeal.τ).loc Cert.DmergedRefIdeal.main_arg0) = m ((c.tc : Thread Cert.DmergedRefIdeal.nD Cert.DmergedRefIdeal.τ).loc Cert.DmergedRefIdeal.main_arg0)
      ∧ r.2.mem ((c.tc : Thread Cert.DmergedRefIdeal.nD Cert.DmergedRefIdeal.τ).loc Cert.DmergedRefIdeal.main_arg1) = m ((c.tc : Thread Cert.DmergedRefIdeal.nD Cert.DmergedRefIdeal.τ).loc Cert.DmergedRefIdeal.main_arg1)
      ∧ r.2.mem ((c.tc : Thread Cert.DmergedRefIdeal.nD Cert.DmergedRefIdeal.τ).loc Cert.DmergedRefIdeal.main_arg2) = m ((c.tc : Thread Cert.DmergedRefIdeal.nD Cert.DmergedRefIdeal.τ).loc Cert.DmergedRefIdeal.main_arg2)
      ∧ r.2.mem ((c.tc : Thread Cert.DmergedRefIdeal.nD Cert.DmergedRefIdeal.τ).loc Cert.DmergedRefIdeal.main_arg3) = m ((c.tc : Thread Cert.DmergedRefIdeal.nD Cert.DmergedRefIdeal.τ).loc Cert.DmergedRefIdeal.main_arg3)
      ∧ r.2.mem ((c.tc : Thread Cert.DmergedRefIdeal.nD Cert.DmergedRefIdeal.τ).loc Cert.DmergedRefIdeal.main_arg4) = m ((c.tc : Thread Cert.DmergedRefIdeal.nD Cert.DmergedRefIdeal.τ).loc Cert.DmergedRefIdeal.main_arg4))
      ∧ r.2.sem = fun _ => 0)

def quiescent_AttnDo [hAttnDo : Cert.AttnDo.Facts] : Prop :=
  ∀ (m : (ℓ : Loc Cert.AttnDo.nD Cert.AttnDo.τ Cert.AttnDo.sig) → Buf (Elt Bits) ℓ) (g : Dev Cert.AttnDo.nD → PrngReg), Pre_AttnDo m →
    θ_run (Cert.AttnDo.defs (F := Bits)) (onTc (τ := Cert.AttnDo.τ) (Cert.AttnDo.main (F := Bits))) ⟨m, fun _ => 0, g⟩ (fun r => (∀ c : Dev Cert.AttnDo.nD,
      r.2.mem ((c.tc : Thread Cert.AttnDo.nD Cert.AttnDo.τ).loc Cert.AttnDo.main_arg0) = m ((c.tc : Thread Cert.AttnDo.nD Cert.AttnDo.τ).loc Cert.AttnDo.main_arg0)
      ∧ r.2.mem ((c.tc : Thread Cert.AttnDo.nD Cert.AttnDo.τ).loc Cert.AttnDo.main_arg1) = m ((c.tc : Thread Cert.AttnDo.nD Cert.AttnDo.τ).loc Cert.AttnDo.main_arg1)
      ∧ r.2.mem ((c.tc : Thread Cert.AttnDo.nD Cert.AttnDo.τ).loc Cert.AttnDo.main_arg2) = m ((c.tc : Thread Cert.AttnDo.nD Cert.AttnDo.τ).loc Cert.AttnDo.main_arg2))
      ∧ r.2.sem = fun _ => 0)

def quiescent_AttnDoIdeal [hAttnDoIdeal : Cert.AttnDoIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg), Pre_AttnDoIdeal m →
    θ_run (Cert.AttnDoIdeal.defs (F := Ideal)) (onTc (τ := Cert.AttnDoIdeal.τ) (Cert.AttnDoIdeal.main (F := Ideal))) ⟨m, fun _ => 0, g⟩ (fun r => (∀ c : Dev Cert.AttnDoIdeal.nD,
      r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
      ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1)
      ∧ r.2.mem ((c.tc : Thread Cert.AttnDoIdeal.nD Cert.AttnDoIdeal.τ).loc Cert.AttnDoIdeal.main_arg2) = m ((c.tc : Thread Cert.AttnDoIdeal.nD Cert.AttnDoIdeal.τ).loc Cert.AttnDoIdeal.main_arg2))
      ∧ r.2.sem = fun _ => 0)

def quiescent_AttnDoRefIdeal [hAttnDoRefIdeal : Cert.AttnDoRefIdeal.Facts] : Prop :=
  ∀ (m : (ℓ : Loc Cert.AttnDoRefIdeal.nD Cert.AttnDoRefIdeal.τ Cert.AttnDoRefIdeal.sig) → Buf (Elt Ideal) ℓ) (g : Dev Cert.AttnDoRefIdeal.nD → PrngReg), Pre_AttnDoRefIdeal m →
    θ_run (Cert.AttnDoRefIdeal.defs (F := Ideal)) (onTc (τ := Cert.AttnDoRefIdeal.τ) (Cert.AttnDoRefIdeal.main (F := Ideal))) ⟨m, fun _ => 0, g⟩ (fun r => (∀ c : Dev Cert.AttnDoRefIdeal.nD,
      r.2.mem ((c.tc : Thread Cert.AttnDoRefIdeal.nD Cert.AttnDoRefIdeal.τ).loc Cert.AttnDoRefIdeal.main_arg0) = m ((c.tc : Thread Cert.AttnDoRefIdeal.nD Cert.AttnDoRefIdeal.τ).loc Cert.AttnDoRefIdeal.main_arg0)
      ∧ r.2.mem ((c.tc : Thread Cert.AttnDoRefIdeal.nD Cert.AttnDoRefIdeal.τ).loc Cert.AttnDoRefIdeal.main_arg1) = m ((c.tc : Thread Cert.AttnDoRefIdeal.nD Cert.AttnDoRefIdeal.τ).loc Cert.AttnDoRefIdeal.main_arg1)
      ∧ r.2.mem ((c.tc : Thread Cert.AttnDoRefIdeal.nD Cert.AttnDoRefIdeal.τ).loc Cert.AttnDoRefIdeal.main_arg2) = m ((c.tc : Thread Cert.AttnDoRefIdeal.nD Cert.AttnDoRefIdeal.τ).loc Cert.AttnDoRefIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_FlashBwd [hFlashBwd : Cert.FlashBwd.Facts] : Prop :=
  ∀ (m : (ℓ : Loc Cert.FlashBwd.nD Cert.FlashBwd.τ Cert.FlashBwd.sig) → Buf (Elt Bits) ℓ) (g : Dev Cert.FlashBwd.nD → PrngReg), Pre_FlashBwd m →
    θ_run (Cert.FlashBwd.defs (F := Bits)) (onTc (τ := Cert.FlashBwd.τ) (Cert.FlashBwd.main (F := Bits))) ⟨m, fun _ => 0, g⟩ (fun r => (∀ c : Dev Cert.FlashBwd.nD,
      r.2.mem ((c.tc : Thread Cert.FlashBwd.nD Cert.FlashBwd.τ).loc Cert.FlashBwd.main_arg0) = m ((c.tc : Thread Cert.FlashBwd.nD Cert.FlashBwd.τ).loc Cert.FlashBwd.main_arg0)
      ∧ r.2.mem ((c.tc : Thread Cert.FlashBwd.nD Cert.FlashBwd.τ).loc Cert.FlashBwd.main_arg1) = m ((c.tc : Thread Cert.FlashBwd.nD Cert.FlashBwd.τ).loc Cert.FlashBwd.main_arg1)
      ∧ r.2.mem ((c.tc : Thread Cert.FlashBwd.nD Cert.FlashBwd.τ).loc Cert.FlashBwd.main_arg2) = m ((c.tc : Thread Cert.FlashBwd.nD Cert.FlashBwd.τ).loc Cert.FlashBwd.main_arg2)
      ∧ r.2.mem ((c.tc : Thread Cert.FlashBwd.nD Cert.FlashBwd.τ).loc Cert.FlashBwd.main_arg3) = m ((c.tc : Thread Cert.FlashBwd.nD Cert.FlashBwd.τ).loc Cert.FlashBwd.main_arg3))
      ∧ r.2.sem = fun _ => 0)

def quiescent_FlashBwdIdeal [hFlashBwdIdeal : Cert.FlashBwdIdeal.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_FlashBwdIdeal_pre_finite_flash [hFlashBwdIdeal : Cert.FlashBwdIdeal.Facts] [hPre_finite_flash : Cert.Pre_finite_flash.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal_finite_flash m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_FlashBwdRefIdeal [hFlashBwdRefIdeal : Cert.FlashBwdRefIdeal.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_FlashBwdRefIdeal_pre_finite_flash [hFlashBwdRefIdeal : Cert.FlashBwdRefIdeal.Facts] [hPre_finite_flash : Cert.Pre_finite_flash.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal_finite_flash m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnBwdRefIdeal_pre_finite_ln [hLnBwdRefIdeal : Cert.LnBwdRefIdeal.Facts] [hPre_finite_ln : Cert.Pre_finite_ln.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_ln m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_QBwd [hQBwd : Cert.QBwd.Facts] : Prop :=
  ∀ (m : (ℓ : Loc Cert.QBwd.nD Cert.QBwd.τ Cert.QBwd.sig) → Buf (Elt Bits) ℓ) (g : Dev Cert.QBwd.nD → PrngReg), Pre_QBwd m →
    θ_run (Cert.QBwd.defs (F := Bits)) (onTc (τ := Cert.QBwd.τ) (Cert.QBwd.main (F := Bits))) ⟨m, fun _ => 0, g⟩ (fun r => (∀ c : Dev Cert.QBwd.nD,
      r.2.mem ((c.tc : Thread Cert.QBwd.nD Cert.QBwd.τ).loc Cert.QBwd.main_arg0) = m ((c.tc : Thread Cert.QBwd.nD Cert.QBwd.τ).loc Cert.QBwd.main_arg0)
      ∧ r.2.mem ((c.tc : Thread Cert.QBwd.nD Cert.QBwd.τ).loc Cert.QBwd.main_arg1) = m ((c.tc : Thread Cert.QBwd.nD Cert.QBwd.τ).loc Cert.QBwd.main_arg1)
      ∧ r.2.mem ((c.tc : Thread Cert.QBwd.nD Cert.QBwd.τ).loc Cert.QBwd.main_arg2) = m ((c.tc : Thread Cert.QBwd.nD Cert.QBwd.τ).loc Cert.QBwd.main_arg2))
      ∧ r.2.sem = fun _ => 0)

def quiescent_QBwdIdeal [hQBwdIdeal : Cert.QBwdIdeal.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2))
      ∧ r.2.sem = fun _ => 0)

def quiescent_QBwdRefIdeal [hQBwdRefIdeal : Cert.QBwdRefIdeal.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2))
      ∧ r.2.sem = fun _ => 0)

def quiescent_KBwd [hKBwd : Cert.KBwd.Facts] : Prop :=
  ∀ (m : (ℓ : Loc Cert.KBwd.nD Cert.KBwd.τ Cert.KBwd.sig) → Buf (Elt Bits) ℓ) (g : Dev Cert.KBwd.nD → PrngReg), Pre_KBwd m →
    θ_run (Cert.KBwd.defs (F := Bits)) (onTc (τ := Cert.KBwd.τ) (Cert.KBwd.main (F := Bits))) ⟨m, fun _ => 0, g⟩ (fun r => (∀ c : Dev Cert.KBwd.nD,
      r.2.mem ((c.tc : Thread Cert.KBwd.nD Cert.KBwd.τ).loc Cert.KBwd.main_arg0) = m ((c.tc : Thread Cert.KBwd.nD Cert.KBwd.τ).loc Cert.KBwd.main_arg0)
      ∧ r.2.mem ((c.tc : Thread Cert.KBwd.nD Cert.KBwd.τ).loc Cert.KBwd.main_arg1) = m ((c.tc : Thread Cert.KBwd.nD Cert.KBwd.τ).loc Cert.KBwd.main_arg1)
      ∧ r.2.mem ((c.tc : Thread Cert.KBwd.nD Cert.KBwd.τ).loc Cert.KBwd.main_arg2) = m ((c.tc : Thread Cert.KBwd.nD Cert.KBwd.τ).loc Cert.KBwd.main_arg2))
      ∧ r.2.sem = fun _ => 0)

def quiescent_KBwdIdeal [hKBwdIdeal : Cert.KBwdIdeal.Facts] : Prop :=
  ∀ (m : (ℓ : Loc Cert.KBwdIdeal.nD Cert.KBwdIdeal.τ Cert.KBwdIdeal.sig) → Buf (Elt Ideal) ℓ) (g : Dev Cert.KBwdIdeal.nD → PrngReg), Pre_KBwdIdeal m →
    θ_run (Cert.KBwdIdeal.defs (F := Ideal)) (onTc (τ := Cert.KBwdIdeal.τ) (Cert.KBwdIdeal.main (F := Ideal))) ⟨m, fun _ => 0, g⟩ (fun r => (∀ c : Dev Cert.KBwdIdeal.nD,
      r.2.mem ((c.tc : Thread Cert.KBwdIdeal.nD Cert.KBwdIdeal.τ).loc Cert.KBwdIdeal.main_arg0) = m ((c.tc : Thread Cert.KBwdIdeal.nD Cert.KBwdIdeal.τ).loc Cert.KBwdIdeal.main_arg0)
      ∧ r.2.mem ((c.tc : Thread Cert.KBwdIdeal.nD Cert.KBwdIdeal.τ).loc Cert.KBwdIdeal.main_arg1) = m ((c.tc : Thread Cert.KBwdIdeal.nD Cert.KBwdIdeal.τ).loc Cert.KBwdIdeal.main_arg1)
      ∧ r.2.mem ((c.tc : Thread Cert.KBwdIdeal.nD Cert.KBwdIdeal.τ).loc Cert.KBwdIdeal.main_arg2) = m ((c.tc : Thread Cert.KBwdIdeal.nD Cert.KBwdIdeal.τ).loc Cert.KBwdIdeal.main_arg2))
      ∧ r.2.sem = fun _ => 0)

def quiescent_KBwdRefIdeal [hKBwdRefIdeal : Cert.KBwdRefIdeal.Facts] : Prop :=
  ∀ (m : (ℓ : Loc Cert.KBwdRefIdeal.nD Cert.KBwdRefIdeal.τ Cert.KBwdRefIdeal.sig) → Buf (Elt Ideal) ℓ) (g : Dev Cert.KBwdRefIdeal.nD → PrngReg), Pre_KBwdRefIdeal m →
    θ_run (Cert.KBwdRefIdeal.defs (F := Ideal)) (onTc (τ := Cert.KBwdRefIdeal.τ) (Cert.KBwdRefIdeal.main (F := Ideal))) ⟨m, fun _ => 0, g⟩ (fun r => (∀ c : Dev Cert.KBwdRefIdeal.nD,
      r.2.mem ((c.tc : Thread Cert.KBwdRefIdeal.nD Cert.KBwdRefIdeal.τ).loc Cert.KBwdRefIdeal.main_arg0) = m ((c.tc : Thread Cert.KBwdRefIdeal.nD Cert.KBwdRefIdeal.τ).loc Cert.KBwdRefIdeal.main_arg0)
      ∧ r.2.mem ((c.tc : Thread Cert.KBwdRefIdeal.nD Cert.KBwdRefIdeal.τ).loc Cert.KBwdRefIdeal.main_arg1) = m ((c.tc : Thread Cert.KBwdRefIdeal.nD Cert.KBwdRefIdeal.τ).loc Cert.KBwdRefIdeal.main_arg1)
      ∧ r.2.mem ((c.tc : Thread Cert.KBwdRefIdeal.nD Cert.KBwdRefIdeal.τ).loc Cert.KBwdRefIdeal.main_arg2) = m ((c.tc : Thread Cert.KBwdRefIdeal.nD Cert.KBwdRefIdeal.τ).loc Cert.KBwdRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_Merged [hMerged : Cert.Merged.Facts] : Prop :=
  ∀ (m : (ℓ : Loc Cert.Merged.nD Cert.Merged.τ Cert.Merged.sig) → Buf (Elt Bits) ℓ) (g : Dev Cert.Merged.nD → PrngReg), Pre_Merged m →
    θ_run (Cert.Merged.defs (F := Bits)) (onTc (τ := Cert.Merged.τ) (Cert.Merged.main (F := Bits))) ⟨m, fun _ => 0, g⟩ (fun r => (∀ c : Dev Cert.Merged.nD,
      r.2.mem ((c.tc : Thread Cert.Merged.nD Cert.Merged.τ).loc Cert.Merged.main_arg0) = m ((c.tc : Thread Cert.Merged.nD Cert.Merged.τ).loc Cert.Merged.main_arg0)
      ∧ r.2.mem ((c.tc : Thread Cert.Merged.nD Cert.Merged.τ).loc Cert.Merged.main_arg1) = m ((c.tc : Thread Cert.Merged.nD Cert.Merged.τ).loc Cert.Merged.main_arg1)
      ∧ r.2.mem ((c.tc : Thread Cert.Merged.nD Cert.Merged.τ).loc Cert.Merged.main_arg2) = m ((c.tc : Thread Cert.Merged.nD Cert.Merged.τ).loc Cert.Merged.main_arg2)
      ∧ r.2.mem ((c.tc : Thread Cert.Merged.nD Cert.Merged.τ).loc Cert.Merged.main_arg3) = m ((c.tc : Thread Cert.Merged.nD Cert.Merged.τ).loc Cert.Merged.main_arg3))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
      ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3))
      ∧ r.2.sem = fun _ => 0)

def quiescent_MergedRefIdeal [hMergedRefIdeal : Cert.MergedRefIdeal.Facts] : Prop :=
  ∀ (m : (ℓ : Loc Cert.MergedRefIdeal.nD Cert.MergedRefIdeal.τ Cert.MergedRefIdeal.sig) → Buf (Elt Ideal) ℓ) (g : Dev Cert.MergedRefIdeal.nD → PrngReg), Pre_MergedRefIdeal m →
    θ_run (Cert.MergedRefIdeal.defs (F := Ideal)) (onTc (τ := Cert.MergedRefIdeal.τ) (Cert.MergedRefIdeal.main (F := Ideal))) ⟨m, fun _ => 0, g⟩ (fun r => (∀ c : Dev Cert.MergedRefIdeal.nD,
      r.2.mem ((c.tc : Thread Cert.MergedRefIdeal.nD Cert.MergedRefIdeal.τ).loc Cert.MergedRefIdeal.main_arg0) = m ((c.tc : Thread Cert.MergedRefIdeal.nD Cert.MergedRefIdeal.τ).loc Cert.MergedRefIdeal.main_arg0)
      ∧ r.2.mem ((c.tc : Thread Cert.MergedRefIdeal.nD Cert.MergedRefIdeal.τ).loc Cert.MergedRefIdeal.main_arg1) = m ((c.tc : Thread Cert.MergedRefIdeal.nD Cert.MergedRefIdeal.τ).loc Cert.MergedRefIdeal.main_arg1)
      ∧ r.2.mem ((c.tc : Thread Cert.MergedRefIdeal.nD Cert.MergedRefIdeal.τ).loc Cert.MergedRefIdeal.main_arg2) = m ((c.tc : Thread Cert.MergedRefIdeal.nD Cert.MergedRefIdeal.τ).loc Cert.MergedRefIdeal.main_arg2)
      ∧ r.2.mem ((c.tc : Thread Cert.MergedRefIdeal.nD Cert.MergedRefIdeal.τ).loc Cert.MergedRefIdeal.main_arg3) = m ((c.tc : Thread Cert.MergedRefIdeal.nD Cert.MergedRefIdeal.τ).loc Cert.MergedRefIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_QueriesRefIdeal [hQueriesRefIdeal : Cert.QueriesRefIdeal.Facts] : Prop :=
  ∀ (m : (ℓ : Loc Cert.QueriesRefIdeal.nD Cert.QueriesRefIdeal.τ Cert.QueriesRefIdeal.sig) → Buf (Elt Ideal) ℓ) (g : Dev Cert.QueriesRefIdeal.nD → PrngReg), Pre_QueriesRefIdeal m →
    θ_run (Cert.QueriesRefIdeal.defs (F := Ideal)) (onTc (τ := Cert.QueriesRefIdeal.τ) (Cert.QueriesRefIdeal.main (F := Ideal))) ⟨m, fun _ => 0, g⟩ (fun r => (∀ c : Dev Cert.QueriesRefIdeal.nD,
      r.2.mem ((c.tc : Thread Cert.QueriesRefIdeal.nD Cert.QueriesRefIdeal.τ).loc Cert.QueriesRefIdeal.main_arg0) = m ((c.tc : Thread Cert.QueriesRefIdeal.nD Cert.QueriesRefIdeal.τ).loc Cert.QueriesRefIdeal.main_arg0)
      ∧ r.2.mem ((c.tc : Thread Cert.QueriesRefIdeal.nD Cert.QueriesRefIdeal.τ).loc Cert.QueriesRefIdeal.main_arg1) = m ((c.tc : Thread Cert.QueriesRefIdeal.nD Cert.QueriesRefIdeal.τ).loc Cert.QueriesRefIdeal.main_arg1))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1))
      ∧ r.2.sem = fun _ => 0)

def quiescent_MixedRefIdeal [hMixedRefIdeal : Cert.MixedRefIdeal.Facts] : Prop :=
  ∀ (m : (ℓ : Loc Cert.MixedRefIdeal.nD Cert.MixedRefIdeal.τ Cert.MixedRefIdeal.sig) → Buf (Elt Ideal) ℓ) (g : Dev Cert.MixedRefIdeal.nD → PrngReg), Pre_MixedRefIdeal m →
    θ_run (Cert.MixedRefIdeal.defs (F := Ideal)) (onTc (τ := Cert.MixedRefIdeal.τ) (Cert.MixedRefIdeal.main (F := Ideal))) ⟨m, fun _ => 0, g⟩ (fun r => (∀ c : Dev Cert.MixedRefIdeal.nD,
      r.2.mem ((c.tc : Thread Cert.MixedRefIdeal.nD Cert.MixedRefIdeal.τ).loc Cert.MixedRefIdeal.main_arg0) = m ((c.tc : Thread Cert.MixedRefIdeal.nD Cert.MixedRefIdeal.τ).loc Cert.MixedRefIdeal.main_arg0)
      ∧ r.2.mem ((c.tc : Thread Cert.MixedRefIdeal.nD Cert.MixedRefIdeal.τ).loc Cert.MixedRefIdeal.main_arg1) = m ((c.tc : Thread Cert.MixedRefIdeal.nD Cert.MixedRefIdeal.τ).loc Cert.MixedRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_GroupSum [hGroupSum : Cert.GroupSum.Facts] : Prop :=
  ∀ (m : (ℓ : Loc Cert.GroupSum.nD Cert.GroupSum.τ Cert.GroupSum.sig) → Buf (Elt Bits) ℓ) (g : Dev Cert.GroupSum.nD → PrngReg), Pre_GroupSum m →
    θ_run (Cert.GroupSum.defs (F := Bits)) (onTc (τ := Cert.GroupSum.τ) (Cert.GroupSum.main (F := Bits))) ⟨m, fun _ => 0, g⟩ (fun r => (∀ c : Dev Cert.GroupSum.nD,
      r.2.mem ((c.tc : Thread Cert.GroupSum.nD Cert.GroupSum.τ).loc Cert.GroupSum.main_arg0) = m ((c.tc : Thread Cert.GroupSum.nD Cert.GroupSum.τ).loc Cert.GroupSum.main_arg0))
      ∧ r.2.sem = fun _ => 0)

def quiescent_GroupSumIdeal [hGroupSumIdeal : Cert.GroupSumIdeal.Facts] : Prop :=
  ∀ (m : (ℓ : Loc Cert.GroupSumIdeal.nD Cert.GroupSumIdeal.τ Cert.GroupSumIdeal.sig) → Buf (Elt Ideal) ℓ) (g : Dev Cert.GroupSumIdeal.nD → PrngReg), Pre_GroupSumIdeal m →
    θ_run (Cert.GroupSumIdeal.defs (F := Ideal)) (onTc (τ := Cert.GroupSumIdeal.τ) (Cert.GroupSumIdeal.main (F := Ideal))) ⟨m, fun _ => 0, g⟩ (fun r => (∀ c : Dev Cert.GroupSumIdeal.nD,
      r.2.mem ((c.tc : Thread Cert.GroupSumIdeal.nD Cert.GroupSumIdeal.τ).loc Cert.GroupSumIdeal.main_arg0) = m ((c.tc : Thread Cert.GroupSumIdeal.nD Cert.GroupSumIdeal.τ).loc Cert.GroupSumIdeal.main_arg0))
      ∧ r.2.sem = fun _ => 0)

def quiescent_GroupSumRefIdeal [hGroupSumRefIdeal : Cert.GroupSumRefIdeal.Facts] : Prop :=
  ∀ (m : (ℓ : Loc Cert.GroupSumRefIdeal.nD Cert.GroupSumRefIdeal.τ Cert.GroupSumRefIdeal.sig) → Buf (Elt Ideal) ℓ) (g : Dev Cert.GroupSumRefIdeal.nD → PrngReg), Pre_GroupSumRefIdeal m →
    θ_run (Cert.GroupSumRefIdeal.defs (F := Ideal)) (onTc (τ := Cert.GroupSumRefIdeal.τ) (Cert.GroupSumRefIdeal.main (F := Ideal))) ⟨m, fun _ => 0, g⟩ (fun r => (∀ c : Dev Cert.GroupSumRefIdeal.nD,
      r.2.mem ((c.tc : Thread Cert.GroupSumRefIdeal.nD Cert.GroupSumRefIdeal.τ).loc Cert.GroupSumRefIdeal.main_arg0) = m ((c.tc : Thread Cert.GroupSumRefIdeal.nD Cert.GroupSumRefIdeal.τ).loc Cert.GroupSumRefIdeal.main_arg0))
      ∧ r.2.sem = fun _ => 0)

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v1) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v13) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_Dmerged_DmergedIdeal : Prop :=
  True

def algebraic_DmergedIdeal_DmergedRefIdeal [hDmergedIdeal : Cert.DmergedIdeal.Facts] [hDmergedRefIdeal : Cert.DmergedRefIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedRefIdeal.nD Cert.DmergedRefIdeal.τ Cert.DmergedRefIdeal.sig) → Buf (Elt Ideal) ℓ) (g' : Dev Cert.DmergedRefIdeal.nD → PrngReg), Pre_DmergedIdeal m →
    (∀ c : Dev Cert.DmergedIdeal.nD,
      m' ((c.tc : Thread Cert.DmergedRefIdeal.nD Cert.DmergedRefIdeal.τ).loc Cert.DmergedRefIdeal.main_arg0) = m ((c.tc : Thread Cert.DmergedIdeal.nD Cert.DmergedIdeal.τ).loc Cert.DmergedIdeal.main_arg0)
      ∧ m' ((c.tc : Thread Cert.DmergedRefIdeal.nD Cert.DmergedRefIdeal.τ).loc Cert.DmergedRefIdeal.main_arg1) = m ((c.tc : Thread Cert.DmergedIdeal.nD Cert.DmergedIdeal.τ).loc Cert.DmergedIdeal.main_arg1)
      ∧ m' ((c.tc : Thread Cert.DmergedRefIdeal.nD Cert.DmergedRefIdeal.τ).loc Cert.DmergedRefIdeal.main_arg2) = m ((c.tc : Thread Cert.DmergedIdeal.nD Cert.DmergedIdeal.τ).loc Cert.DmergedIdeal.main_arg2)
      ∧ m' ((c.tc : Thread Cert.DmergedRefIdeal.nD Cert.DmergedRefIdeal.τ).loc Cert.DmergedRefIdeal.main_arg3) = m ((c.tc : Thread Cert.DmergedIdeal.nD Cert.DmergedIdeal.τ).loc Cert.DmergedIdeal.main_arg3)
      ∧ m' ((c.tc : Thread Cert.DmergedRefIdeal.nD Cert.DmergedRefIdeal.τ).loc Cert.DmergedRefIdeal.main_arg4) = m ((c.tc : Thread Cert.DmergedIdeal.nD Cert.DmergedIdeal.τ).loc Cert.DmergedIdeal.main_arg4)) →
    ∃ (v0 : (c : Dev Cert.DmergedIdeal.nD) → Buf (Elt Ideal) ((c.tc : Thread Cert.DmergedIdeal.nD Cert.DmergedIdeal.τ).loc Cert.DmergedIdeal.main_v1_0)) (v1 : (c : Dev Cert.DmergedIdeal.nD) → Buf (Elt Ideal) ((c.tc : Thread Cert.DmergedIdeal.nD Cert.DmergedIdeal.τ).loc Cert.DmergedIdeal.main_v1_1)) (v2 : (c : Dev Cert.DmergedIdeal.nD) → Buf (Elt Ideal) ((c.tc : Thread Cert.DmergedIdeal.nD Cert.DmergedIdeal.τ).loc Cert.DmergedIdeal.main_v1_2)) (v3 : (c : Dev Cert.DmergedIdeal.nD) → Buf (Elt Ideal) ((c.tc : Thread Cert.DmergedIdeal.nD Cert.DmergedIdeal.τ).loc Cert.DmergedIdeal.main_v1_3)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v1_0) = v0 c
          ∧ r.2.mem ((c.tc : Thread Cert.DmergedIdeal.nD Cert.DmergedIdeal.τ).loc Cert.DmergedIdeal.main_v1_1) = v1 c
          ∧ r.2.mem ((c.tc : Thread Cert.DmergedIdeal.nD Cert.DmergedIdeal.τ).loc Cert.DmergedIdeal.main_v1_2) = v2 c
          ∧ r.2.mem ((c.tc : Thread Cert.DmergedIdeal.nD Cert.DmergedIdeal.τ).loc Cert.DmergedIdeal.main_v1_3) = v3 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1)
          ∧ r.2.mem ((c.tc : Thread Cert.DmergedIdeal.nD Cert.DmergedIdeal.τ).loc Cert.DmergedIdeal.main_arg2) = m ((c.tc : Thread Cert.DmergedIdeal.nD Cert.DmergedIdeal.τ).loc Cert.DmergedIdeal.main_arg2)
          ∧ r.2.mem ((c.tc : Thread Cert.DmergedIdeal.nD Cert.DmergedIdeal.τ).loc Cert.DmergedIdeal.main_arg3) = m ((c.tc : Thread Cert.DmergedIdeal.nD Cert.DmergedIdeal.τ).loc Cert.DmergedIdeal.main_arg3)
          ∧ r.2.mem ((c.tc : Thread Cert.DmergedIdeal.nD Cert.DmergedIdeal.τ).loc Cert.DmergedIdeal.main_arg4) = m ((c.tc : Thread Cert.DmergedIdeal.nD Cert.DmergedIdeal.τ).loc Cert.DmergedIdeal.main_arg4))
      ∧ θ_run (Cert.DmergedRefIdeal.defs (F := Ideal)) (onTc (τ := Cert.DmergedRefIdeal.τ) (Cert.DmergedRefIdeal.main (F := Ideal))) ⟨m', fun _ => 0, g'⟩ (fun r => ∀ c : Dev Cert.DmergedRefIdeal.nD,
          r.2.mem ((c.tc : Thread Cert.DmergedRefIdeal.nD Cert.DmergedRefIdeal.τ).loc Cert.DmergedRefIdeal.main_v32) = v0 c
          ∧ r.2.mem ((c.tc : Thread Cert.DmergedRefIdeal.nD Cert.DmergedRefIdeal.τ).loc Cert.DmergedRefIdeal.main_v33) = v1 c
          ∧ r.2.mem ((c.tc : Thread Cert.DmergedRefIdeal.nD Cert.DmergedRefIdeal.τ).loc Cert.DmergedRefIdeal.main_v34) = v2 c
          ∧ r.2.mem ((c.tc : Thread Cert.DmergedRefIdeal.nD Cert.DmergedRefIdeal.τ).loc Cert.DmergedRefIdeal.main_v35) = v3 c
          ∧ r.2.mem ((c.tc : Thread Cert.DmergedRefIdeal.nD Cert.DmergedRefIdeal.τ).loc Cert.DmergedRefIdeal.main_arg0) = m' ((c.tc : Thread Cert.DmergedRefIdeal.nD Cert.DmergedRefIdeal.τ).loc Cert.DmergedRefIdeal.main_arg0)
          ∧ r.2.mem ((c.tc : Thread Cert.DmergedRefIdeal.nD Cert.DmergedRefIdeal.τ).loc Cert.DmergedRefIdeal.main_arg1) = m' ((c.tc : Thread Cert.DmergedRefIdeal.nD Cert.DmergedRefIdeal.τ).loc Cert.DmergedRefIdeal.main_arg1)
          ∧ r.2.mem ((c.tc : Thread Cert.DmergedRefIdeal.nD Cert.DmergedRefIdeal.τ).loc Cert.DmergedRefIdeal.main_arg2) = m' ((c.tc : Thread Cert.DmergedRefIdeal.nD Cert.DmergedRefIdeal.τ).loc Cert.DmergedRefIdeal.main_arg2)
          ∧ r.2.mem ((c.tc : Thread Cert.DmergedRefIdeal.nD Cert.DmergedRefIdeal.τ).loc Cert.DmergedRefIdeal.main_arg3) = m' ((c.tc : Thread Cert.DmergedRefIdeal.nD Cert.DmergedRefIdeal.τ).loc Cert.DmergedRefIdeal.main_arg3)
          ∧ r.2.mem ((c.tc : Thread Cert.DmergedRefIdeal.nD Cert.DmergedRefIdeal.τ).loc Cert.DmergedRefIdeal.main_arg4) = m' ((c.tc : Thread Cert.DmergedRefIdeal.nD Cert.DmergedRefIdeal.τ).loc Cert.DmergedRefIdeal.main_arg4))

def preserves_AttnDo_AttnDoIdeal : Prop :=
  True

def algebraic_AttnDoIdeal_AttnDoRefIdeal [hAttnDoIdeal : Cert.AttnDoIdeal.Facts] [hAttnDoRefIdeal : Cert.AttnDoRefIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg)
    (m' : (ℓ : Loc Cert.AttnDoRefIdeal.nD Cert.AttnDoRefIdeal.τ Cert.AttnDoRefIdeal.sig) → Buf (Elt Ideal) ℓ) (g' : Dev Cert.AttnDoRefIdeal.nD → PrngReg), Pre_AttnDoIdeal m →
    (∀ c : Dev Cert.AttnDoIdeal.nD,
      m' ((c.tc : Thread Cert.AttnDoRefIdeal.nD Cert.AttnDoRefIdeal.τ).loc Cert.AttnDoRefIdeal.main_arg0) = m ((c.tc : Thread Cert.AttnDoIdeal.nD Cert.AttnDoIdeal.τ).loc Cert.AttnDoIdeal.main_arg0)
      ∧ m' ((c.tc : Thread Cert.AttnDoRefIdeal.nD Cert.AttnDoRefIdeal.τ).loc Cert.AttnDoRefIdeal.main_arg1) = m ((c.tc : Thread Cert.AttnDoIdeal.nD Cert.AttnDoIdeal.τ).loc Cert.AttnDoIdeal.main_arg1)
      ∧ m' ((c.tc : Thread Cert.AttnDoRefIdeal.nD Cert.AttnDoRefIdeal.τ).loc Cert.AttnDoRefIdeal.main_arg2) = m ((c.tc : Thread Cert.AttnDoIdeal.nD Cert.AttnDoIdeal.τ).loc Cert.AttnDoIdeal.main_arg2)) →
    ∃ (v0 : (c : Dev Cert.AttnDoIdeal.nD) → Buf (Elt Ideal) ((c.tc : Thread Cert.AttnDoIdeal.nD Cert.AttnDoIdeal.τ).loc Cert.AttnDoIdeal.main_v1_0)) (v1 : (c : Dev Cert.AttnDoIdeal.nD) → Buf (Elt Ideal) ((c.tc : Thread Cert.AttnDoIdeal.nD Cert.AttnDoIdeal.τ).loc Cert.AttnDoIdeal.main_v1_1)),
      θ_run (Cert.AttnDoIdeal.defs (F := Ideal)) (onTc (τ := Cert.AttnDoIdeal.τ) (Cert.AttnDoIdeal.main (F := Ideal))) ⟨m, fun _ => 0, g⟩ (fun r => ∀ c : Dev Cert.AttnDoIdeal.nD,
          r.2.mem ((c.tc : Thread Cert.AttnDoIdeal.nD Cert.AttnDoIdeal.τ).loc Cert.AttnDoIdeal.main_v1_0) = v0 c
          ∧ r.2.mem ((c.tc : Thread Cert.AttnDoIdeal.nD Cert.AttnDoIdeal.τ).loc Cert.AttnDoIdeal.main_v1_1) = v1 c
          ∧ r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
          ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1)
          ∧ r.2.mem ((c.tc : Thread Cert.AttnDoIdeal.nD Cert.AttnDoIdeal.τ).loc Cert.AttnDoIdeal.main_arg2) = m ((c.tc : Thread Cert.AttnDoIdeal.nD Cert.AttnDoIdeal.τ).loc Cert.AttnDoIdeal.main_arg2))
      ∧ θ_run (Cert.AttnDoRefIdeal.defs (F := Ideal)) (onTc (τ := Cert.AttnDoRefIdeal.τ) (Cert.AttnDoRefIdeal.main (F := Ideal))) ⟨m', fun _ => 0, g'⟩ (fun r => ∀ c : Dev Cert.AttnDoRefIdeal.nD,
          r.2.mem ((c.tc : Thread Cert.AttnDoRefIdeal.nD Cert.AttnDoRefIdeal.τ).loc Cert.AttnDoRefIdeal.main_v7) = v0 c
          ∧ r.2.mem ((c.tc : Thread Cert.AttnDoRefIdeal.nD Cert.AttnDoRefIdeal.τ).loc Cert.AttnDoRefIdeal.main_v10) = v1 c
          ∧ r.2.mem ((c.tc : Thread Cert.AttnDoRefIdeal.nD Cert.AttnDoRefIdeal.τ).loc Cert.AttnDoRefIdeal.main_arg0) = m' ((c.tc : Thread Cert.AttnDoRefIdeal.nD Cert.AttnDoRefIdeal.τ).loc Cert.AttnDoRefIdeal.main_arg0)
          ∧ r.2.mem ((c.tc : Thread Cert.AttnDoRefIdeal.nD Cert.AttnDoRefIdeal.τ).loc Cert.AttnDoRefIdeal.main_arg1) = m' ((c.tc : Thread Cert.AttnDoRefIdeal.nD Cert.AttnDoRefIdeal.τ).loc Cert.AttnDoRefIdeal.main_arg1)
          ∧ r.2.mem ((c.tc : Thread Cert.AttnDoRefIdeal.nD Cert.AttnDoRefIdeal.τ).loc Cert.AttnDoRefIdeal.main_arg2) = m' ((c.tc : Thread Cert.AttnDoRefIdeal.nD Cert.AttnDoRefIdeal.τ).loc Cert.AttnDoRefIdeal.main_arg2))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v2) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v37) = v0 c
          ∧ r.2.mem ((c.tc : Thread Cert.RmsBwdRefIdeal.nD Cert.RmsBwdRefIdeal.τ).loc Cert.RmsBwdRefIdeal.main_v38) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v1_0)) (v1 : (c : Dev Cert.HeadIdeal.nD) → Buf (Elt Ideal) ((c.tc : Thread Cert.HeadIdeal.nD Cert.HeadIdeal.τ).loc Cert.HeadIdeal.main_v1_1)) (v2 : (c : Dev Cert.HeadIdeal.nD) → Buf (Elt Ideal) ((c.tc : Thread Cert.HeadIdeal.nD Cert.HeadIdeal.τ).loc Cert.HeadIdeal.main_v1_2)) (v3 : (c : Dev Cert.HeadIdeal.nD) → Buf (Elt Ideal) ((c.tc : Thread Cert.HeadIdeal.nD Cert.HeadIdeal.τ).loc Cert.HeadIdeal.main_v2)) (v4 : (c : Dev Cert.HeadIdeal.nD) → Buf (Elt Ideal) ((c.tc : Thread Cert.HeadIdeal.nD Cert.HeadIdeal.τ).loc Cert.HeadIdeal.main_v4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v1_0) = v0 c
          ∧ r.2.mem ((c.tc : Thread Cert.HeadIdeal.nD Cert.HeadIdeal.τ).loc Cert.HeadIdeal.main_v1_1) = v1 c
          ∧ r.2.mem ((c.tc : Thread Cert.HeadIdeal.nD Cert.HeadIdeal.τ).loc Cert.HeadIdeal.main_v1_2) = v2 c
          ∧ r.2.mem ((c.tc : Thread Cert.HeadIdeal.nD Cert.HeadIdeal.τ).loc Cert.HeadIdeal.main_v2) = v3 c
          ∧ r.2.mem ((c.tc : Thread Cert.HeadIdeal.nD Cert.HeadIdeal.τ).loc Cert.HeadIdeal.main_v4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v61) = v0 c
          ∧ r.2.mem ((c.tc : Thread Cert.HeadRefIdeal.nD Cert.HeadRefIdeal.τ).loc Cert.HeadRefIdeal.main_v65) = v1 c
          ∧ r.2.mem ((c.tc : Thread Cert.HeadRefIdeal.nD Cert.HeadRefIdeal.τ).loc Cert.HeadRefIdeal.main_v66) = v2 c
          ∧ r.2.mem ((c.tc : Thread Cert.HeadRefIdeal.nD Cert.HeadRefIdeal.τ).loc Cert.HeadRefIdeal.main_v47) = v3 c
          ∧ r.2.mem ((c.tc : Thread Cert.HeadRefIdeal.nD Cert.HeadRefIdeal.τ).loc Cert.HeadRefIdeal.main_v35) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def preserves_FlashBwd_FlashBwdIdeal : Prop :=
  IdealRules.named_const.Statement Cert.FlashBwdIdeal.κ "ln2" .f32 0x3F317218#32 ((Real.log 2 : ℝ) : EReal)

def algebraic_FlashBwdIdeal_FlashBwdRefIdeal_pre_finite_flash [hFlashBwdIdeal : Cert.FlashBwdIdeal.Facts] [hFlashBwdRefIdeal : Cert.FlashBwdRefIdeal.Facts] [hPre_finite_flash : Cert.Pre_finite_flash.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg)
    (m' : (ℓ : Loc Cert.FlashBwdRefIdeal.nD Cert.FlashBwdRefIdeal.τ Cert.FlashBwdRefIdeal.sig) → Buf (Elt Ideal) ℓ) (g' : Dev Cert.FlashBwdRefIdeal.nD → PrngReg), Pre_FlashBwdIdeal_finite_flash m →
    (∀ c : Dev Cert.FlashBwdIdeal.nD,
      m' ((c.tc : Thread Cert.FlashBwdRefIdeal.nD Cert.FlashBwdRefIdeal.τ).loc Cert.FlashBwdRefIdeal.main_arg0) = m ((c.tc : Thread Cert.FlashBwdIdeal.nD Cert.FlashBwdIdeal.τ).loc Cert.FlashBwdIdeal.main_arg0)
      ∧ m' ((c.tc : Thread Cert.FlashBwdRefIdeal.nD Cert.FlashBwdRefIdeal.τ).loc Cert.FlashBwdRefIdeal.main_arg1) = m ((c.tc : Thread Cert.FlashBwdIdeal.nD Cert.FlashBwdIdeal.τ).loc Cert.FlashBwdIdeal.main_arg1)
      ∧ m' ((c.tc : Thread Cert.FlashBwdRefIdeal.nD Cert.FlashBwdRefIdeal.τ).loc Cert.FlashBwdRefIdeal.main_arg2) = m ((c.tc : Thread Cert.FlashBwdIdeal.nD Cert.FlashBwdIdeal.τ).loc Cert.FlashBwdIdeal.main_arg2)
      ∧ m' ((c.tc : Thread Cert.FlashBwdRefIdeal.nD Cert.FlashBwdRefIdeal.τ).loc Cert.FlashBwdRefIdeal.main_arg3) = m ((c.tc : Thread Cert.FlashBwdIdeal.nD Cert.FlashBwdIdeal.τ).loc Cert.FlashBwdIdeal.main_arg3)) →
    ∃ (v0 : (c : Dev Cert.FlashBwdIdeal.nD) → Buf (Elt Ideal) ((c.tc : Thread Cert.FlashBwdIdeal.nD Cert.FlashBwdIdeal.τ).loc Cert.FlashBwdIdeal.main_v45_0)) (v1 : (c : Dev Cert.FlashBwdIdeal.nD) → Buf (Elt Ideal) ((c.tc : Thread Cert.FlashBwdIdeal.nD Cert.FlashBwdIdeal.τ).loc Cert.FlashBwdIdeal.main_v45_1)) (v2 : (c : Dev Cert.FlashBwdIdeal.nD) → Buf (Elt Ideal) ((c.tc : Thread Cert.FlashBwdIdeal.nD Cert.FlashBwdIdeal.τ).loc Cert.FlashBwdIdeal.main_v45_2)),
      θ_run (Cert.FlashBwdIdeal.defs (F := Ideal)) (onTc (τ := Cert.FlashBwdIdeal.τ) (Cert.FlashBwdIdeal.main (F := Ideal))) ⟨m, fun _ => 0, g⟩ (fun r => ∀ c : Dev Cert.FlashBwdIdeal.nD,
          r.2.mem ((c.tc : Thread Cert.FlashBwdIdeal.nD Cert.FlashBwdIdeal.τ).loc Cert.FlashBwdIdeal.main_v45_0) = v0 c
          ∧ r.2.mem ((c.tc : Thread Cert.FlashBwdIdeal.nD Cert.FlashBwdIdeal.τ).loc Cert.FlashBwdIdeal.main_v45_1) = v1 c
          ∧ r.2.mem ((c.tc : Thread Cert.FlashBwdIdeal.nD Cert.FlashBwdIdeal.τ).loc Cert.FlashBwdIdeal.main_v45_2) = v2 c
          ∧ r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
          ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
          ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
          ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ θ_run (Cert.FlashBwdRefIdeal.defs (F := Ideal)) (onTc (τ := Cert.FlashBwdRefIdeal.τ) (Cert.FlashBwdRefIdeal.main (F := Ideal))) ⟨m', fun _ => 0, g'⟩ (fun r => ∀ c : Dev Cert.FlashBwdRefIdeal.nD,
          r.2.mem ((c.tc : Thread Cert.FlashBwdRefIdeal.nD Cert.FlashBwdRefIdeal.τ).loc Cert.FlashBwdRefIdeal.main_v70) = v0 c
          ∧ r.2.mem ((c.tc : Thread Cert.FlashBwdRefIdeal.nD Cert.FlashBwdRefIdeal.τ).loc Cert.FlashBwdRefIdeal.main_v67) = v1 c
          ∧ r.2.mem ((c.tc : Thread Cert.FlashBwdRefIdeal.nD Cert.FlashBwdRefIdeal.τ).loc Cert.FlashBwdRefIdeal.main_v69) = v2 c
          ∧ r.2.mem ((c.tc : Thread Cert.FlashBwdRefIdeal.nD Cert.FlashBwdRefIdeal.τ).loc Cert.FlashBwdRefIdeal.main_arg0) = m' ((c.tc : Thread Cert.FlashBwdRefIdeal.nD Cert.FlashBwdRefIdeal.τ).loc Cert.FlashBwdRefIdeal.main_arg0)
          ∧ r.2.mem ((c.tc : Thread Cert.FlashBwdRefIdeal.nD Cert.FlashBwdRefIdeal.τ).loc Cert.FlashBwdRefIdeal.main_arg1) = m' ((c.tc : Thread Cert.FlashBwdRefIdeal.nD Cert.FlashBwdRefIdeal.τ).loc Cert.FlashBwdRefIdeal.main_arg1)
          ∧ r.2.mem ((c.tc : Thread Cert.FlashBwdRefIdeal.nD Cert.FlashBwdRefIdeal.τ).loc Cert.FlashBwdRefIdeal.main_arg2) = m' ((c.tc : Thread Cert.FlashBwdRefIdeal.nD Cert.FlashBwdRefIdeal.τ).loc Cert.FlashBwdRefIdeal.main_arg2)
          ∧ r.2.mem ((c.tc : Thread Cert.FlashBwdRefIdeal.nD Cert.FlashBwdRefIdeal.τ).loc Cert.FlashBwdRefIdeal.main_arg3) = m' ((c.tc : Thread Cert.FlashBwdRefIdeal.nD Cert.FlashBwdRefIdeal.τ).loc Cert.FlashBwdRefIdeal.main_arg3))

def preserves_LnBwd_LnBwdIdeal : Prop :=
  True

def algebraic_LnBwdIdeal_LnBwdRefIdeal_pre_finite_ln [hLnBwdIdeal : Cert.LnBwdIdeal.Facts] [hLnBwdRefIdeal : Cert.LnBwdRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_ln m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v2)) (v2 : (c : Dev Cert.LnBwdIdeal.nD) → Buf (Elt Ideal) ((c.tc : Thread Cert.LnBwdIdeal.nD Cert.LnBwdIdeal.τ).loc Cert.LnBwdIdeal.main_v4)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v2) = v1 c
          ∧ r.2.mem ((c.tc : Thread Cert.LnBwdIdeal.nD Cert.LnBwdIdeal.τ).loc Cert.LnBwdIdeal.main_v4) = v2 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v59) = v0 c
          ∧ r.2.mem ((c.tc : Thread Cert.LnBwdRefIdeal.nD Cert.LnBwdRefIdeal.τ).loc Cert.LnBwdRefIdeal.main_v61) = v1 c
          ∧ r.2.mem ((c.tc : Thread Cert.LnBwdRefIdeal.nD Cert.LnBwdRefIdeal.τ).loc Cert.LnBwdRefIdeal.main_v60) = v2 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_QBwd_QBwdIdeal : Prop :=
  True

def algebraic_QBwdIdeal_QBwdRefIdeal [hQBwdIdeal : Cert.QBwdIdeal.Facts] [hQBwdRefIdeal : Cert.QBwdRefIdeal.Facts] : Prop :=
  ∀ (m : (ℓ : Loc Cert.QBwdIdeal.nD Cert.QBwdIdeal.τ Cert.QBwdIdeal.sig) → Buf (Elt Ideal) ℓ) (g : Dev Cert.QBwdIdeal.nD → PrngReg)
    (m' : (ℓ : Loc Cert.QBwdRefIdeal.nD Cert.QBwdRefIdeal.τ Cert.QBwdRefIdeal.sig) → Buf (Elt Ideal) ℓ) (g' : Dev Cert.QBwdRefIdeal.nD → PrngReg), Pre_QBwdIdeal m →
    (∀ c : Dev Cert.QBwdIdeal.nD,
      m' ((c.tc : Thread Cert.QBwdRefIdeal.nD Cert.QBwdRefIdeal.τ).loc Cert.QBwdRefIdeal.main_arg0) = m ((c.tc : Thread Cert.QBwdIdeal.nD Cert.QBwdIdeal.τ).loc Cert.QBwdIdeal.main_arg0)
      ∧ m' ((c.tc : Thread Cert.QBwdRefIdeal.nD Cert.QBwdRefIdeal.τ).loc Cert.QBwdRefIdeal.main_arg1) = m ((c.tc : Thread Cert.QBwdIdeal.nD Cert.QBwdIdeal.τ).loc Cert.QBwdIdeal.main_arg1)
      ∧ m' ((c.tc : Thread Cert.QBwdRefIdeal.nD Cert.QBwdRefIdeal.τ).loc Cert.QBwdRefIdeal.main_arg2) = m ((c.tc : Thread Cert.QBwdIdeal.nD Cert.QBwdIdeal.τ).loc Cert.QBwdIdeal.main_arg2)) →
    ∃ (v0 : (c : Dev Cert.QBwdIdeal.nD) → Buf (Elt Ideal) ((c.tc : Thread Cert.QBwdIdeal.nD Cert.QBwdIdeal.τ).loc Cert.QBwdIdeal.main_v42_0)) (v1 : (c : Dev Cert.QBwdIdeal.nD) → Buf (Elt Ideal) ((c.tc : Thread Cert.QBwdIdeal.nD Cert.QBwdIdeal.τ).loc Cert.QBwdIdeal.main_v44)),
      θ_run (Cert.QBwdIdeal.defs (F := Ideal)) (onTc (τ := Cert.QBwdIdeal.τ) (Cert.QBwdIdeal.main (F := Ideal))) ⟨m, fun _ => 0, g⟩ (fun r => ∀ c : Dev Cert.QBwdIdeal.nD,
          r.2.mem ((c.tc : Thread Cert.QBwdIdeal.nD Cert.QBwdIdeal.τ).loc Cert.QBwdIdeal.main_v42_0) = v0 c
          ∧ r.2.mem ((c.tc : Thread Cert.QBwdIdeal.nD Cert.QBwdIdeal.τ).loc Cert.QBwdIdeal.main_v44) = v1 c
          ∧ r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
          ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
          ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2))
      ∧ θ_run (Cert.QBwdRefIdeal.defs (F := Ideal)) (onTc (τ := Cert.QBwdRefIdeal.τ) (Cert.QBwdRefIdeal.main (F := Ideal))) ⟨m', fun _ => 0, g'⟩ (fun r => ∀ c : Dev Cert.QBwdRefIdeal.nD,
          r.2.mem ((c.tc : Thread Cert.QBwdRefIdeal.nD Cert.QBwdRefIdeal.τ).loc Cert.QBwdRefIdeal.main_v146) = v0 c
          ∧ r.2.mem ((c.tc : Thread Cert.QBwdRefIdeal.nD Cert.QBwdRefIdeal.τ).loc Cert.QBwdRefIdeal.main_v144) = v1 c
          ∧ r.2.mem ((c.tc : Thread Cert.QBwdRefIdeal.nD Cert.QBwdRefIdeal.τ).loc Cert.QBwdRefIdeal.main_arg0) = m' ((c.tc : Thread Cert.QBwdRefIdeal.nD Cert.QBwdRefIdeal.τ).loc Cert.QBwdRefIdeal.main_arg0)
          ∧ r.2.mem ((c.tc : Thread Cert.QBwdRefIdeal.nD Cert.QBwdRefIdeal.τ).loc Cert.QBwdRefIdeal.main_arg1) = m' ((c.tc : Thread Cert.QBwdRefIdeal.nD Cert.QBwdRefIdeal.τ).loc Cert.QBwdRefIdeal.main_arg1)
          ∧ r.2.mem ((c.tc : Thread Cert.QBwdRefIdeal.nD Cert.QBwdRefIdeal.τ).loc Cert.QBwdRefIdeal.main_arg2) = m' ((c.tc : Thread Cert.QBwdRefIdeal.nD Cert.QBwdRefIdeal.τ).loc Cert.QBwdRefIdeal.main_arg2))

def preserves_KBwd_KBwdIdeal : Prop :=
  True

def algebraic_KBwdIdeal_KBwdRefIdeal [hKBwdIdeal : Cert.KBwdIdeal.Facts] [hKBwdRefIdeal : Cert.KBwdRefIdeal.Facts] : Prop :=
  ∀ (m : (ℓ : Loc Cert.KBwdIdeal.nD Cert.KBwdIdeal.τ Cert.KBwdIdeal.sig) → Buf (Elt Ideal) ℓ) (g : Dev Cert.KBwdIdeal.nD → PrngReg)
    (m' : (ℓ : Loc Cert.KBwdRefIdeal.nD Cert.KBwdRefIdeal.τ Cert.KBwdRefIdeal.sig) → Buf (Elt Ideal) ℓ) (g' : Dev Cert.KBwdRefIdeal.nD → PrngReg), Pre_KBwdIdeal m →
    (∀ c : Dev Cert.KBwdIdeal.nD,
      m' ((c.tc : Thread Cert.KBwdRefIdeal.nD Cert.KBwdRefIdeal.τ).loc Cert.KBwdRefIdeal.main_arg0) = m ((c.tc : Thread Cert.KBwdIdeal.nD Cert.KBwdIdeal.τ).loc Cert.KBwdIdeal.main_arg0)
      ∧ m' ((c.tc : Thread Cert.KBwdRefIdeal.nD Cert.KBwdRefIdeal.τ).loc Cert.KBwdRefIdeal.main_arg1) = m ((c.tc : Thread Cert.KBwdIdeal.nD Cert.KBwdIdeal.τ).loc Cert.KBwdIdeal.main_arg1)
      ∧ m' ((c.tc : Thread Cert.KBwdRefIdeal.nD Cert.KBwdRefIdeal.τ).loc Cert.KBwdRefIdeal.main_arg2) = m ((c.tc : Thread Cert.KBwdIdeal.nD Cert.KBwdIdeal.τ).loc Cert.KBwdIdeal.main_arg2)) →
    ∃ (v0 : (c : Dev Cert.KBwdIdeal.nD) → Buf (Elt Ideal) ((c.tc : Thread Cert.KBwdIdeal.nD Cert.KBwdIdeal.τ).loc Cert.KBwdIdeal.main_v42_0)) (v1 : (c : Dev Cert.KBwdIdeal.nD) → Buf (Elt Ideal) ((c.tc : Thread Cert.KBwdIdeal.nD Cert.KBwdIdeal.τ).loc Cert.KBwdIdeal.main_v44)),
      θ_run (Cert.KBwdIdeal.defs (F := Ideal)) (onTc (τ := Cert.KBwdIdeal.τ) (Cert.KBwdIdeal.main (F := Ideal))) ⟨m, fun _ => 0, g⟩ (fun r => ∀ c : Dev Cert.KBwdIdeal.nD,
          r.2.mem ((c.tc : Thread Cert.KBwdIdeal.nD Cert.KBwdIdeal.τ).loc Cert.KBwdIdeal.main_v42_0) = v0 c
          ∧ r.2.mem ((c.tc : Thread Cert.KBwdIdeal.nD Cert.KBwdIdeal.τ).loc Cert.KBwdIdeal.main_v44) = v1 c
          ∧ r.2.mem ((c.tc : Thread Cert.KBwdIdeal.nD Cert.KBwdIdeal.τ).loc Cert.KBwdIdeal.main_arg0) = m ((c.tc : Thread Cert.KBwdIdeal.nD Cert.KBwdIdeal.τ).loc Cert.KBwdIdeal.main_arg0)
          ∧ r.2.mem ((c.tc : Thread Cert.KBwdIdeal.nD Cert.KBwdIdeal.τ).loc Cert.KBwdIdeal.main_arg1) = m ((c.tc : Thread Cert.KBwdIdeal.nD Cert.KBwdIdeal.τ).loc Cert.KBwdIdeal.main_arg1)
          ∧ r.2.mem ((c.tc : Thread Cert.KBwdIdeal.nD Cert.KBwdIdeal.τ).loc Cert.KBwdIdeal.main_arg2) = m ((c.tc : Thread Cert.KBwdIdeal.nD Cert.KBwdIdeal.τ).loc Cert.KBwdIdeal.main_arg2))
      ∧ θ_run (Cert.KBwdRefIdeal.defs (F := Ideal)) (onTc (τ := Cert.KBwdRefIdeal.τ) (Cert.KBwdRefIdeal.main (F := Ideal))) ⟨m', fun _ => 0, g'⟩ (fun r => ∀ c : Dev Cert.KBwdRefIdeal.nD,
          r.2.mem ((c.tc : Thread Cert.KBwdRefIdeal.nD Cert.KBwdRefIdeal.τ).loc Cert.KBwdRefIdeal.main_v146) = v0 c
          ∧ r.2.mem ((c.tc : Thread Cert.KBwdRefIdeal.nD Cert.KBwdRefIdeal.τ).loc Cert.KBwdRefIdeal.main_v144) = v1 c
          ∧ r.2.mem ((c.tc : Thread Cert.KBwdRefIdeal.nD Cert.KBwdRefIdeal.τ).loc Cert.KBwdRefIdeal.main_arg0) = m' ((c.tc : Thread Cert.KBwdRefIdeal.nD Cert.KBwdRefIdeal.τ).loc Cert.KBwdRefIdeal.main_arg0)
          ∧ r.2.mem ((c.tc : Thread Cert.KBwdRefIdeal.nD Cert.KBwdRefIdeal.τ).loc Cert.KBwdRefIdeal.main_arg1) = m' ((c.tc : Thread Cert.KBwdRefIdeal.nD Cert.KBwdRefIdeal.τ).loc Cert.KBwdRefIdeal.main_arg1)
          ∧ r.2.mem ((c.tc : Thread Cert.KBwdRefIdeal.nD Cert.KBwdRefIdeal.τ).loc Cert.KBwdRefIdeal.main_arg2) = m' ((c.tc : Thread Cert.KBwdRefIdeal.nD Cert.KBwdRefIdeal.τ).loc Cert.KBwdRefIdeal.main_arg2))

def preserves_Attn_AttnIdeal : Prop :=
  IdealRules.named_const.Statement Cert.AttnIdeal.κ "lowest" .f32 0xF149F2CA#32 ⊥
  ∧ IdealRules.named_const.Statement Cert.AttnIdeal.κ "log2e" .f32 0x3FB8AA3B#32 (((Real.log 2)⁻¹ : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v14_0)) (v1 : (c : Dev Cert.AttnIdeal.nD) → Buf (Elt Ideal) ((c.tc : Thread Cert.AttnIdeal.nD Cert.AttnIdeal.τ).loc Cert.AttnIdeal.main_v14_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v14_0) = v0 c
          ∧ r.2.mem ((c.tc : Thread Cert.AttnIdeal.nD Cert.AttnIdeal.τ).loc Cert.AttnIdeal.main_v14_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v27) = v0 c
          ∧ r.2.mem ((c.tc : Thread Cert.AttnRefIdeal.nD Cert.AttnRefIdeal.τ).loc Cert.AttnRefIdeal.main_v40) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)) →
    ∃ (v0 : (c : Dev Cert.GluBwdIdeal.nD) → Buf (Elt Ideal) ((c.tc : Thread Cert.GluBwdIdeal.nD Cert.GluBwdIdeal.τ).loc Cert.GluBwdIdeal.main_v2_0)) (v1 : (c : Dev Cert.GluBwdIdeal.nD) → Buf (Elt Ideal) ((c.tc : Thread Cert.GluBwdIdeal.nD Cert.GluBwdIdeal.τ).loc Cert.GluBwdIdeal.main_v2_1)) (v2 : (c : Dev Cert.GluBwdIdeal.nD) → Buf (Elt Ideal) ((c.tc : Thread Cert.GluBwdIdeal.nD Cert.GluBwdIdeal.τ).loc Cert.GluBwdIdeal.main_v2_2)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v2_0) = v0 c
          ∧ r.2.mem ((c.tc : Thread Cert.GluBwdIdeal.nD Cert.GluBwdIdeal.τ).loc Cert.GluBwdIdeal.main_v2_1) = v1 c
          ∧ r.2.mem ((c.tc : Thread Cert.GluBwdIdeal.nD Cert.GluBwdIdeal.τ).loc Cert.GluBwdIdeal.main_v2_2) = v2 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v223) = v0 c
          ∧ r.2.mem ((c.tc : Thread Cert.GluBwdRefIdeal.nD Cert.GluBwdRefIdeal.τ).loc Cert.GluBwdRefIdeal.main_v224) = v1 c
          ∧ r.2.mem ((c.tc : Thread Cert.GluBwdRefIdeal.nD Cert.GluBwdRefIdeal.τ).loc Cert.GluBwdRefIdeal.main_v226) = v2 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v14) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_Merged_MergedIdeal : Prop :=
  True

def algebraic_MergedIdeal_MergedRefIdeal [hMergedIdeal : Cert.MergedIdeal.Facts] [hMergedRefIdeal : Cert.MergedRefIdeal.Facts] : Prop :=
  ∀ (m : (ℓ : Loc Cert.MergedIdeal.nD Cert.MergedIdeal.τ Cert.MergedIdeal.sig) → Buf (Elt Ideal) ℓ) (g : Dev Cert.MergedIdeal.nD → PrngReg)
    (m' : (ℓ : Loc Cert.MergedRefIdeal.nD Cert.MergedRefIdeal.τ Cert.MergedRefIdeal.sig) → Buf (Elt Ideal) ℓ) (g' : Dev Cert.MergedRefIdeal.nD → PrngReg), Pre_MergedIdeal m →
    (∀ c : Dev Cert.MergedIdeal.nD,
      m' ((c.tc : Thread Cert.MergedRefIdeal.nD Cert.MergedRefIdeal.τ).loc Cert.MergedRefIdeal.main_arg0) = m ((c.tc : Thread Cert.MergedIdeal.nD Cert.MergedIdeal.τ).loc Cert.MergedIdeal.main_arg0)
      ∧ m' ((c.tc : Thread Cert.MergedRefIdeal.nD Cert.MergedRefIdeal.τ).loc Cert.MergedRefIdeal.main_arg1) = m ((c.tc : Thread Cert.MergedIdeal.nD Cert.MergedIdeal.τ).loc Cert.MergedIdeal.main_arg1)
      ∧ m' ((c.tc : Thread Cert.MergedRefIdeal.nD Cert.MergedRefIdeal.τ).loc Cert.MergedRefIdeal.main_arg2) = m ((c.tc : Thread Cert.MergedIdeal.nD Cert.MergedIdeal.τ).loc Cert.MergedIdeal.main_arg2)
      ∧ m' ((c.tc : Thread Cert.MergedRefIdeal.nD Cert.MergedRefIdeal.τ).loc Cert.MergedRefIdeal.main_arg3) = m ((c.tc : Thread Cert.MergedIdeal.nD Cert.MergedIdeal.τ).loc Cert.MergedIdeal.main_arg3)) →
    ∃ (v0 : (c : Dev Cert.MergedIdeal.nD) → Buf (Elt Ideal) ((c.tc : Thread Cert.MergedIdeal.nD Cert.MergedIdeal.τ).loc Cert.MergedIdeal.main_v1_0)) (v1 : (c : Dev Cert.MergedIdeal.nD) → Buf (Elt Ideal) ((c.tc : Thread Cert.MergedIdeal.nD Cert.MergedIdeal.τ).loc Cert.MergedIdeal.main_v1_1)),
      θ_run (Cert.MergedIdeal.defs (F := Ideal)) (onTc (τ := Cert.MergedIdeal.τ) (Cert.MergedIdeal.main (F := Ideal))) ⟨m, fun _ => 0, g⟩ (fun r => ∀ c : Dev Cert.MergedIdeal.nD,
          r.2.mem ((c.tc : Thread Cert.MergedIdeal.nD Cert.MergedIdeal.τ).loc Cert.MergedIdeal.main_v1_0) = v0 c
          ∧ r.2.mem ((c.tc : Thread Cert.MergedIdeal.nD Cert.MergedIdeal.τ).loc Cert.MergedIdeal.main_v1_1) = v1 c
          ∧ r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
          ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3))
      ∧ θ_run (Cert.MergedRefIdeal.defs (F := Ideal)) (onTc (τ := Cert.MergedRefIdeal.τ) (Cert.MergedRefIdeal.main (F := Ideal))) ⟨m', fun _ => 0, g'⟩ (fun r => ∀ c : Dev Cert.MergedRefIdeal.nD,
          r.2.mem ((c.tc : Thread Cert.MergedRefIdeal.nD Cert.MergedRefIdeal.τ).loc Cert.MergedRefIdeal.main_v1) = v0 c
          ∧ r.2.mem ((c.tc : Thread Cert.MergedRefIdeal.nD Cert.MergedRefIdeal.τ).loc Cert.MergedRefIdeal.main_v19) = v1 c
          ∧ r.2.mem ((c.tc : Thread Cert.MergedRefIdeal.nD Cert.MergedRefIdeal.τ).loc Cert.MergedRefIdeal.main_arg0) = m' ((c.tc : Thread Cert.MergedRefIdeal.nD Cert.MergedRefIdeal.τ).loc Cert.MergedRefIdeal.main_arg0)
          ∧ r.2.mem ((c.tc : Thread Cert.MergedRefIdeal.nD Cert.MergedRefIdeal.τ).loc Cert.MergedRefIdeal.main_arg1) = m' ((c.tc : Thread Cert.MergedRefIdeal.nD Cert.MergedRefIdeal.τ).loc Cert.MergedRefIdeal.main_arg1)
          ∧ r.2.mem ((c.tc : Thread Cert.MergedRefIdeal.nD Cert.MergedRefIdeal.τ).loc Cert.MergedRefIdeal.main_arg2) = m' ((c.tc : Thread Cert.MergedRefIdeal.nD Cert.MergedRefIdeal.τ).loc Cert.MergedRefIdeal.main_arg2)
          ∧ r.2.mem ((c.tc : Thread Cert.MergedRefIdeal.nD Cert.MergedRefIdeal.τ).loc Cert.MergedRefIdeal.main_arg3) = m' ((c.tc : Thread Cert.MergedRefIdeal.nD Cert.MergedRefIdeal.τ).loc Cert.MergedRefIdeal.main_arg3))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v4_0)) (v1 : (c : Dev Cert.ActIdeal.nD) → Buf (Elt Ideal) ((c.tc : Thread Cert.ActIdeal.nD Cert.ActIdeal.τ).loc Cert.ActIdeal.main_v4_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v4_0) = v0 c
          ∧ r.2.mem ((c.tc : Thread Cert.ActIdeal.nD Cert.ActIdeal.τ).loc Cert.ActIdeal.main_v4_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v2) = v0 c
          ∧ r.2.mem ((c.tc : Thread Cert.ActRefIdeal.nD Cert.ActRefIdeal.τ).loc Cert.ActRefIdeal.main_v5) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_Queries_QueriesIdeal : Prop :=
  IdealRules.named_const.Statement Cert.QueriesIdeal.κ "scale" .f32 0x3E0293EE#32 (((Real.sqrt 128)⁻¹ * (Real.log 2)⁻¹ : ℝ) : EReal)

def algebraic_QueriesIdeal_QueriesRefIdeal [hQueriesIdeal : Cert.QueriesIdeal.Facts] [hQueriesRefIdeal : Cert.QueriesRefIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesRefIdeal.nD Cert.QueriesRefIdeal.τ Cert.QueriesRefIdeal.sig) → Buf (Elt Ideal) ℓ) (g' : Dev Cert.QueriesRefIdeal.nD → PrngReg), Pre_QueriesIdeal m →
    (∀ c : Dev Cert.QueriesIdeal.nD,
      m' ((c.tc : Thread Cert.QueriesRefIdeal.nD Cert.QueriesRefIdeal.τ).loc Cert.QueriesRefIdeal.main_arg0) = m ((c.tc : Thread Cert.QueriesIdeal.nD Cert.QueriesIdeal.τ).loc Cert.QueriesIdeal.main_arg0)
      ∧ m' ((c.tc : Thread Cert.QueriesRefIdeal.nD Cert.QueriesRefIdeal.τ).loc Cert.QueriesRefIdeal.main_arg1) = m ((c.tc : Thread Cert.QueriesIdeal.nD Cert.QueriesIdeal.τ).loc Cert.QueriesIdeal.main_arg1)) →
    ∃ (v0 : (c : Dev Cert.QueriesIdeal.nD) → Buf (Elt Ideal) ((c.tc : Thread Cert.QueriesIdeal.nD Cert.QueriesIdeal.τ).loc Cert.QueriesIdeal.main_v42)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v42) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ θ_run (Cert.QueriesRefIdeal.defs (F := Ideal)) (onTc (τ := Cert.QueriesRefIdeal.τ) (Cert.QueriesRefIdeal.main (F := Ideal))) ⟨m', fun _ => 0, g'⟩ (fun r => ∀ c : Dev Cert.QueriesRefIdeal.nD,
          r.2.mem ((c.tc : Thread Cert.QueriesRefIdeal.nD Cert.QueriesRefIdeal.τ).loc Cert.QueriesRefIdeal.main_v89) = v0 c
          ∧ r.2.mem ((c.tc : Thread Cert.QueriesRefIdeal.nD Cert.QueriesRefIdeal.τ).loc Cert.QueriesRefIdeal.main_arg0) = m' ((c.tc : Thread Cert.QueriesRefIdeal.nD Cert.QueriesRefIdeal.τ).loc Cert.QueriesRefIdeal.main_arg0)
          ∧ r.2.mem ((c.tc : Thread Cert.QueriesRefIdeal.nD Cert.QueriesRefIdeal.τ).loc Cert.QueriesRefIdeal.main_arg1) = m' ((c.tc : Thread Cert.QueriesRefIdeal.nD Cert.QueriesRefIdeal.τ).loc Cert.QueriesRefIdeal.main_arg1))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v42)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v42) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v83) = v0 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v80) = v0 c
          ∧ r.2.mem ((c.tc : Thread Cert.ConvRefIdeal.nD Cert.ConvRefIdeal.τ).loc Cert.ConvRefIdeal.main_v106) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Mixed_MixedIdeal : Prop :=
  True

def algebraic_MixedIdeal_MixedRefIdeal [hMixedIdeal : Cert.MixedIdeal.Facts] [hMixedRefIdeal : Cert.MixedRefIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedRefIdeal.nD Cert.MixedRefIdeal.τ Cert.MixedRefIdeal.sig) → Buf (Elt Ideal) ℓ) (g' : Dev Cert.MixedRefIdeal.nD → PrngReg), Pre_MixedIdeal m →
    (∀ c : Dev Cert.MixedIdeal.nD,
      m' ((c.tc : Thread Cert.MixedRefIdeal.nD Cert.MixedRefIdeal.τ).loc Cert.MixedRefIdeal.main_arg0) = m ((c.tc : Thread Cert.MixedIdeal.nD Cert.MixedIdeal.τ).loc Cert.MixedIdeal.main_arg0)
      ∧ m' ((c.tc : Thread Cert.MixedRefIdeal.nD Cert.MixedRefIdeal.τ).loc Cert.MixedRefIdeal.main_arg1) = m ((c.tc : Thread Cert.MixedIdeal.nD Cert.MixedIdeal.τ).loc Cert.MixedIdeal.main_arg1)) →
    ∃ (v0 : (c : Dev Cert.MixedIdeal.nD) → Buf (Elt Ideal) ((c.tc : Thread Cert.MixedIdeal.nD Cert.MixedIdeal.τ).loc Cert.MixedIdeal.main_v4)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v4) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1))
      ∧ θ_run (Cert.MixedRefIdeal.defs (F := Ideal)) (onTc (τ := Cert.MixedRefIdeal.τ) (Cert.MixedRefIdeal.main (F := Ideal))) ⟨m', fun _ => 0, g'⟩ (fun r => ∀ c : Dev Cert.MixedRefIdeal.nD,
          r.2.mem ((c.tc : Thread Cert.MixedRefIdeal.nD Cert.MixedRefIdeal.τ).loc Cert.MixedRefIdeal.main_v2) = v0 c
          ∧ r.2.mem ((c.tc : Thread Cert.MixedRefIdeal.nD Cert.MixedRefIdeal.τ).loc Cert.MixedRefIdeal.main_arg0) = m' ((c.tc : Thread Cert.MixedRefIdeal.nD Cert.MixedRefIdeal.τ).loc Cert.MixedRefIdeal.main_arg0)
          ∧ r.2.mem ((c.tc : Thread Cert.MixedRefIdeal.nD Cert.MixedRefIdeal.τ).loc Cert.MixedRefIdeal.main_arg1) = m' ((c.tc : Thread Cert.MixedRefIdeal.nD Cert.MixedRefIdeal.τ).loc Cert.MixedRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v4)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v4) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v4) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v9) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)) →
    ∃ (v0 : (c : Dev Cert.StepIdeal.nD) → Buf (Elt Ideal) ((c.tc : Thread Cert.StepIdeal.nD Cert.StepIdeal.τ).loc Cert.StepIdeal.main_v4_0)) (v1 : (c : Dev Cert.StepIdeal.nD) → Buf (Elt Ideal) ((c.tc : Thread Cert.StepIdeal.nD Cert.StepIdeal.τ).loc Cert.StepIdeal.main_v4_1)) (v2 : (c : Dev Cert.StepIdeal.nD) → Buf (Elt Ideal) ((c.tc : Thread Cert.StepIdeal.nD Cert.StepIdeal.τ).loc Cert.StepIdeal.main_v4_2)) (v3 : (c : Dev Cert.StepIdeal.nD) → Buf (Elt Ideal) ((c.tc : Thread Cert.StepIdeal.nD Cert.StepIdeal.τ).loc Cert.StepIdeal.main_v4_3)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v4_0) = v0 c
          ∧ r.2.mem ((c.tc : Thread Cert.StepIdeal.nD Cert.StepIdeal.τ).loc Cert.StepIdeal.main_v4_1) = v1 c
          ∧ r.2.mem ((c.tc : Thread Cert.StepIdeal.nD Cert.StepIdeal.τ).loc Cert.StepIdeal.main_v4_2) = v2 c
          ∧ r.2.mem ((c.tc : Thread Cert.StepIdeal.nD Cert.StepIdeal.τ).loc Cert.StepIdeal.main_v4_3) = v3 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v1) = v0 c
          ∧ r.2.mem ((c.tc : Thread Cert.StepRefIdeal.nD Cert.StepRefIdeal.τ).loc Cert.StepRefIdeal.main_v28) = v1 c
          ∧ r.2.mem ((c.tc : Thread Cert.StepRefIdeal.nD Cert.StepRefIdeal.τ).loc Cert.StepRefIdeal.main_v9) = v2 c
          ∧ r.2.mem ((c.tc : Thread Cert.StepRefIdeal.nD Cert.StepRefIdeal.τ).loc Cert.StepRefIdeal.main_v15) = v3 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v2) = v0 c
          ∧ r.2.mem ((c.tc : Thread Cert.SmallRefIdeal.nD Cert.SmallRefIdeal.τ).loc Cert.SmallRefIdeal.main_v26) = v1 c
          ∧ r.2.mem ((c.tc : Thread Cert.SmallRefIdeal.nD Cert.SmallRefIdeal.τ).loc Cert.SmallRefIdeal.main_v7) = v2 c
          ∧ r.2.mem ((c.tc : Thread Cert.SmallRefIdeal.nD Cert.SmallRefIdeal.τ).loc Cert.SmallRefIdeal.main_v13) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_GroupSum_GroupSumIdeal : Prop :=
  True

def algebraic_GroupSumIdeal_GroupSumRefIdeal [hGroupSumIdeal : Cert.GroupSumIdeal.Facts] [hGroupSumRefIdeal : Cert.GroupSumRefIdeal.Facts] : Prop :=
  ∀ (m : (ℓ : Loc Cert.GroupSumIdeal.nD Cert.GroupSumIdeal.τ Cert.GroupSumIdeal.sig) → Buf (Elt Ideal) ℓ) (g : Dev Cert.GroupSumIdeal.nD → PrngReg)
    (m' : (ℓ : Loc Cert.GroupSumRefIdeal.nD Cert.GroupSumRefIdeal.τ Cert.GroupSumRefIdeal.sig) → Buf (Elt Ideal) ℓ) (g' : Dev Cert.GroupSumRefIdeal.nD → PrngReg), Pre_GroupSumIdeal m →
    (∀ c : Dev Cert.GroupSumIdeal.nD,
      m' ((c.tc : Thread Cert.GroupSumRefIdeal.nD Cert.GroupSumRefIdeal.τ).loc Cert.GroupSumRefIdeal.main_arg0) = m ((c.tc : Thread Cert.GroupSumIdeal.nD Cert.GroupSumIdeal.τ).loc Cert.GroupSumIdeal.main_arg0)) →
    ∃ (v0 : (c : Dev Cert.GroupSumIdeal.nD) → Buf (Elt Ideal) ((c.tc : Thread Cert.GroupSumIdeal.nD Cert.GroupSumIdeal.τ).loc Cert.GroupSumIdeal.main_v0)),
      θ_run (Cert.GroupSumIdeal.defs (F := Ideal)) (onTc (τ := Cert.GroupSumIdeal.τ) (Cert.GroupSumIdeal.main (F := Ideal))) ⟨m, fun _ => 0, g⟩ (fun r => ∀ c : Dev Cert.GroupSumIdeal.nD,
          r.2.mem ((c.tc : Thread Cert.GroupSumIdeal.nD Cert.GroupSumIdeal.τ).loc Cert.GroupSumIdeal.main_v0) = v0 c
          ∧ r.2.mem ((c.tc : Thread Cert.GroupSumIdeal.nD Cert.GroupSumIdeal.τ).loc Cert.GroupSumIdeal.main_arg0) = m ((c.tc : Thread Cert.GroupSumIdeal.nD Cert.GroupSumIdeal.τ).loc Cert.GroupSumIdeal.main_arg0))
      ∧ θ_run (Cert.GroupSumRefIdeal.defs (F := Ideal)) (onTc (τ := Cert.GroupSumRefIdeal.τ) (Cert.GroupSumRefIdeal.main (F := Ideal))) ⟨m', fun _ => 0, g'⟩ (fun r => ∀ c : Dev Cert.GroupSumRefIdeal.nD,
          r.2.mem ((c.tc : Thread Cert.GroupSumRefIdeal.nD Cert.GroupSumRefIdeal.τ).loc Cert.GroupSumRefIdeal.main_v3) = v0 c
          ∧ r.2.mem ((c.tc : Thread Cert.GroupSumRefIdeal.nD Cert.GroupSumRefIdeal.τ).loc Cert.GroupSumRefIdeal.main_arg0) = m' ((c.tc : Thread Cert.GroupSumRefIdeal.nD Cert.GroupSumRefIdeal.τ).loc Cert.GroupSumRefIdeal.main_arg0))

def Claim : Prop :=
  ∃ (hDact : Cert.Dact.Facts) (hDactIdeal : Cert.DactIdeal.Facts) (hDactRefIdeal : Cert.DactRefIdeal.Facts) (hDmerged : Cert.Dmerged.Facts) (hDmergedIdeal : Cert.DmergedIdeal.Facts) (hDmergedRefIdeal : Cert.DmergedRefIdeal.Facts) (hAttnDo : Cert.AttnDo.Facts) (hAttnDoIdeal : Cert.AttnDoIdeal.Facts) (hAttnDoRefIdeal : Cert.AttnDoRefIdeal.Facts) (hRmsBwd : Cert.RmsBwd.Facts) (hRmsBwdIdeal : Cert.RmsBwdIdeal.Facts) (hRmsBwdRefIdeal : Cert.RmsBwdRefIdeal.Facts) (hHead : Cert.Head.Facts) (hHeadIdeal : Cert.HeadIdeal.Facts) (hHeadRefIdeal : Cert.HeadRefIdeal.Facts) (hFlashBwd : Cert.FlashBwd.Facts) (hFlashBwdIdeal : Cert.FlashBwdIdeal.Facts) (hFlashBwdRefIdeal : Cert.FlashBwdRefIdeal.Facts) (hLnBwd : Cert.LnBwd.Facts) (hLnBwdIdeal : Cert.LnBwdIdeal.Facts) (hLnBwdRefIdeal : Cert.LnBwdRefIdeal.Facts) (hQBwd : Cert.QBwd.Facts) (hQBwdIdeal : Cert.QBwdIdeal.Facts) (hQBwdRefIdeal : Cert.QBwdRefIdeal.Facts) (hKBwd : Cert.KBwd.Facts) (hKBwdIdeal : Cert.KBwdIdeal.Facts) (hKBwdRefIdeal : Cert.KBwdRefIdeal.Facts) (hAttn : Cert.Attn.Facts) (hAttnIdeal : Cert.AttnIdeal.Facts) (hAttnRefIdeal : Cert.AttnRefIdeal.Facts) (hGluBwd : Cert.GluBwd.Facts) (hGluBwdIdeal : Cert.GluBwdIdeal.Facts) (hGluBwdRefIdeal : Cert.GluBwdRefIdeal.Facts) (hRmsFwd : Cert.RmsFwd.Facts) (hRmsFwdIdeal : Cert.RmsFwdIdeal.Facts) (hRmsFwdRefIdeal : Cert.RmsFwdRefIdeal.Facts) (hMerged : Cert.Merged.Facts) (hMergedIdeal : Cert.MergedIdeal.Facts) (hMergedRefIdeal : Cert.MergedRefIdeal.Facts) (hAct : Cert.Act.Facts) (hActIdeal : Cert.ActIdeal.Facts) (hActRefIdeal : Cert.ActRefIdeal.Facts) (hQueries : Cert.Queries.Facts) (hQueriesIdeal : Cert.QueriesIdeal.Facts) (hQueriesRefIdeal : Cert.QueriesRefIdeal.Facts) (hKeys : Cert.Keys.Facts) (hKeysIdeal : Cert.KeysIdeal.Facts) (hKeysRefIdeal : Cert.KeysRefIdeal.Facts) (hConv : Cert.Conv.Facts) (hConvIdeal : Cert.ConvIdeal.Facts) (hConvRefIdeal : Cert.ConvRefIdeal.Facts) (hMixed : Cert.Mixed.Facts) (hMixedIdeal : Cert.MixedIdeal.Facts) (hMixedRefIdeal : Cert.MixedRefIdeal.Facts) (hDh : Cert.Dh.Facts) (hDhIdeal : Cert.DhIdeal.Facts) (hDhRefIdeal : Cert.DhRefIdeal.Facts) (hDw : Cert.Dw.Facts) (hDwIdeal : Cert.DwIdeal.Facts) (hDwRefIdeal : Cert.DwRefIdeal.Facts) (hStep : Cert.Step.Facts) (hStepIdeal : Cert.StepIdeal.Facts) (hStepRefIdeal : Cert.StepRefIdeal.Facts) (hSmall : Cert.Small.Facts) (hSmallIdeal : Cert.SmallIdeal.Facts) (hSmallRefIdeal : Cert.SmallRefIdeal.Facts) (hGroupSum : Cert.GroupSum.Facts) (hGroupSumIdeal : Cert.GroupSumIdeal.Facts) (hGroupSumRefIdeal : Cert.GroupSumRefIdeal.Facts) (hPre_finite_flash : Cert.Pre_finite_flash.Facts) (hPre_finite_ln : Cert.Pre_finite_ln.Facts) (hPre_finite_attn : Cert.Pre_finite_attn.Facts),
    quiescent_Dact (hDact := hDact)
    ∧ quiescent_DactIdeal (hDactIdeal := hDactIdeal)
    ∧ quiescent_DactRefIdeal (hDactRefIdeal := hDactRefIdeal)
    ∧ quiescent_Dmerged (hDmerged := hDmerged)
    ∧ quiescent_DmergedIdeal (hDmergedIdeal := hDmergedIdeal)
    ∧ quiescent_DmergedRefIdeal (hDmergedRefIdeal := hDmergedRefIdeal)
    ∧ quiescent_AttnDo (hAttnDo := hAttnDo)
    ∧ quiescent_AttnDoIdeal (hAttnDoIdeal := hAttnDoIdeal)
    ∧ quiescent_AttnDoRefIdeal (hAttnDoRefIdeal := hAttnDoRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_Head (hHead := hHead)
    ∧ quiescent_HeadIdeal (hHeadIdeal := hHeadIdeal)
    ∧ quiescent_HeadRefIdeal (hHeadRefIdeal := hHeadRefIdeal)
    ∧ quiescent_FlashBwd (hFlashBwd := hFlashBwd)
    ∧ quiescent_FlashBwdIdeal (hFlashBwdIdeal := hFlashBwdIdeal)
    ∧ quiescent_FlashBwdIdeal_pre_finite_flash (hFlashBwdIdeal := hFlashBwdIdeal) (hPre_finite_flash := hPre_finite_flash)
    ∧ quiescent_FlashBwdRefIdeal (hFlashBwdRefIdeal := hFlashBwdRefIdeal)
    ∧ quiescent_FlashBwdRefIdeal_pre_finite_flash (hFlashBwdRefIdeal := hFlashBwdRefIdeal) (hPre_finite_flash := hPre_finite_flash)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdRefIdeal (hLnBwdRefIdeal := hLnBwdRefIdeal)
    ∧ quiescent_LnBwdRefIdeal_pre_finite_ln (hLnBwdRefIdeal := hLnBwdRefIdeal) (hPre_finite_ln := hPre_finite_ln)
    ∧ quiescent_QBwd (hQBwd := hQBwd)
    ∧ quiescent_QBwdIdeal (hQBwdIdeal := hQBwdIdeal)
    ∧ quiescent_QBwdRefIdeal (hQBwdRefIdeal := hQBwdRefIdeal)
    ∧ quiescent_KBwd (hKBwd := hKBwd)
    ∧ quiescent_KBwdIdeal (hKBwdIdeal := hKBwdIdeal)
    ∧ quiescent_KBwdRefIdeal (hKBwdRefIdeal := hKBwdRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_Merged (hMerged := hMerged)
    ∧ quiescent_MergedIdeal (hMergedIdeal := hMergedIdeal)
    ∧ quiescent_MergedRefIdeal (hMergedRefIdeal := hMergedRefIdeal)
    ∧ quiescent_Act (hAct := hAct)
    ∧ quiescent_ActIdeal (hActIdeal := hActIdeal)
    ∧ quiescent_ActRefIdeal (hActRefIdeal := hActRefIdeal)
    ∧ quiescent_Queries (hQueries := hQueries)
    ∧ quiescent_QueriesIdeal (hQueriesIdeal := hQueriesIdeal)
    ∧ quiescent_QueriesRefIdeal (hQueriesRefIdeal := hQueriesRefIdeal)
    ∧ quiescent_Keys (hKeys := hKeys)
    ∧ quiescent_KeysIdeal (hKeysIdeal := hKeysIdeal)
    ∧ quiescent_KeysRefIdeal (hKeysRefIdeal := hKeysRefIdeal)
    ∧ quiescent_Conv (hConv := hConv)
    ∧ quiescent_ConvIdeal (hConvIdeal := hConvIdeal)
    ∧ quiescent_ConvRefIdeal (hConvRefIdeal := hConvRefIdeal)
    ∧ quiescent_Mixed (hMixed := hMixed)
    ∧ quiescent_MixedIdeal (hMixedIdeal := hMixedIdeal)
    ∧ quiescent_MixedRefIdeal (hMixedRefIdeal := hMixedRefIdeal)
    ∧ quiescent_Dh (hDh := hDh)
    ∧ quiescent_DhIdeal (hDhIdeal := hDhIdeal)
    ∧ quiescent_DhRefIdeal (hDhRefIdeal := hDhRefIdeal)
    ∧ quiescent_Dw (hDw := hDw)
    ∧ quiescent_DwIdeal (hDwIdeal := hDwIdeal)
    ∧ quiescent_DwRefIdeal (hDwRefIdeal := hDwRefIdeal)
    ∧ quiescent_Step (hStep := hStep)
    ∧ quiescent_StepIdeal (hStepIdeal := hStepIdeal)
    ∧ quiescent_StepRefIdeal (hStepRefIdeal := hStepRefIdeal)
    ∧ quiescent_Small (hSmall := hSmall)
    ∧ quiescent_SmallIdeal (hSmallIdeal := hSmallIdeal)
    ∧ quiescent_SmallRefIdeal (hSmallRefIdeal := hSmallRefIdeal)
    ∧ quiescent_GroupSum (hGroupSum := hGroupSum)
    ∧ quiescent_GroupSumIdeal (hGroupSumIdeal := hGroupSumIdeal)
    ∧ quiescent_GroupSumRefIdeal (hGroupSumRefIdeal := hGroupSumRefIdeal)
    ∧ preserves_Dact_DactIdeal
    ∧ algebraic_DactIdeal_DactRefIdeal (hDactIdeal := hDactIdeal) (hDactRefIdeal := hDactRefIdeal)
    ∧ preserves_Dmerged_DmergedIdeal
    ∧ algebraic_DmergedIdeal_DmergedRefIdeal (hDmergedIdeal := hDmergedIdeal) (hDmergedRefIdeal := hDmergedRefIdeal)
    ∧ preserves_AttnDo_AttnDoIdeal
    ∧ algebraic_AttnDoIdeal_AttnDoRefIdeal (hAttnDoIdeal := hAttnDoIdeal) (hAttnDoRefIdeal := hAttnDoRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_Head_HeadIdeal
    ∧ algebraic_HeadIdeal_HeadRefIdeal (hHeadIdeal := hHeadIdeal) (hHeadRefIdeal := hHeadRefIdeal)
    ∧ preserves_FlashBwd_FlashBwdIdeal
    ∧ algebraic_FlashBwdIdeal_FlashBwdRefIdeal_pre_finite_flash (hFlashBwdIdeal := hFlashBwdIdeal) (hFlashBwdRefIdeal := hFlashBwdRefIdeal) (hPre_finite_flash := hPre_finite_flash)
    ∧ preserves_LnBwd_LnBwdIdeal
    ∧ algebraic_LnBwdIdeal_LnBwdRefIdeal_pre_finite_ln (hLnBwdIdeal := hLnBwdIdeal) (hLnBwdRefIdeal := hLnBwdRefIdeal) (hPre_finite_ln := hPre_finite_ln)
    ∧ preserves_QBwd_QBwdIdeal
    ∧ algebraic_QBwdIdeal_QBwdRefIdeal (hQBwdIdeal := hQBwdIdeal) (hQBwdRefIdeal := hQBwdRefIdeal)
    ∧ preserves_KBwd_KBwdIdeal
    ∧ algebraic_KBwdIdeal_KBwdRefIdeal (hKBwdIdeal := hKBwdIdeal) (hKBwdRefIdeal := hKBwdRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_GluBwd_GluBwdIdeal
    ∧ algebraic_GluBwdIdeal_GluBwdRefIdeal (hGluBwdIdeal := hGluBwdIdeal) (hGluBwdRefIdeal := hGluBwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_Merged_MergedIdeal
    ∧ algebraic_MergedIdeal_MergedRefIdeal (hMergedIdeal := hMergedIdeal) (hMergedRefIdeal := hMergedRefIdeal)
    ∧ preserves_Act_ActIdeal
    ∧ algebraic_ActIdeal_ActRefIdeal (hActIdeal := hActIdeal) (hActRefIdeal := hActRefIdeal)
    ∧ preserves_Queries_QueriesIdeal
    ∧ algebraic_QueriesIdeal_QueriesRefIdeal (hQueriesIdeal := hQueriesIdeal) (hQueriesRefIdeal := hQueriesRefIdeal)
    ∧ preserves_Keys_KeysIdeal
    ∧ algebraic_KeysIdeal_KeysRefIdeal (hKeysIdeal := hKeysIdeal) (hKeysRefIdeal := hKeysRefIdeal)
    ∧ preserves_Conv_ConvIdeal
    ∧ algebraic_ConvIdeal_ConvRefIdeal (hConvIdeal := hConvIdeal) (hConvRefIdeal := hConvRefIdeal)
    ∧ preserves_Mixed_MixedIdeal
    ∧ algebraic_MixedIdeal_MixedRefIdeal (hMixedIdeal := hMixedIdeal) (hMixedRefIdeal := hMixedRefIdeal)
    ∧ preserves_Dh_DhIdeal
    ∧ algebraic_DhIdeal_DhRefIdeal (hDhIdeal := hDhIdeal) (hDhRefIdeal := hDhRefIdeal)
    ∧ preserves_Dw_DwIdeal
    ∧ algebraic_DwIdeal_DwRefIdeal (hDwIdeal := hDwIdeal) (hDwRefIdeal := hDwRefIdeal)
    ∧ preserves_Step_StepIdeal
    ∧ algebraic_StepIdeal_StepRefIdeal (hStepIdeal := hStepIdeal) (hStepRefIdeal := hStepRefIdeal)
    ∧ preserves_Small_SmallIdeal
    ∧ algebraic_SmallIdeal_SmallRefIdeal (hSmallIdeal := hSmallIdeal) (hSmallRefIdeal := hSmallRefIdeal)
    ∧ preserves_GroupSum_GroupSumIdeal
    ∧ algebraic_GroupSumIdeal_GroupSumRefIdeal (hGroupSumIdeal := hGroupSumIdeal) (hGroupSumRefIdeal := hGroupSumRefIdeal)
-- ==== Pre_finite_attn.lean ====
abbrev S8192x2048 : Shape := ⟨2, ![8192, 2048]⟩
abbrev S8192x512 : Shape := ⟨2, ![8192, 512]⟩
abbrev S8192x9216 : Shape := ⟨2, ![8192, 9216]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  slices_S8192x9216_S8192x512_0_4608 : S8192x9216.Slices ![0, 4608] S8192x512

variable [Facts]

def fn {F : FTy → Type} [FloatOps F] (main_arg0 : FVec F S8192x2048 .f32) (main_arg1 : FVec F S8192x512 .f32) (main_arg2 : FVec F S8192x9216 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := (extractStridedSlice S8192x512 ![0, 4608] · slices_S8192x9216_S8192x512_0_4608) main_arg2
  let main_v10 : FVec F S8192x512 .f32 := Host.absf main_v9
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_c_3 : IVec S_ 1 := constantI S_ 1 1#1
  let main_v13 : IVec S_ 1 := (fun x v => Host.reduce IntOp.andi x v reducesTo_S8192x512_S_d0_1 h_S_) main_v12 main_c_3
  let main_v14 : IVec S_ 1 := andi main_v8 main_v13
  main_v14
-- ==== Pre_finite_flash.lean ====
abbrev S8192x2048 : Shape := ⟨2, ![8192, 2048]⟩
abbrev S8192x512 : Shape := ⟨2, ![8192, 512]⟩
abbrev S8192x9216 : Shape := ⟨2, ![8192, 9216]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  slices_S8192x9216_S8192x512_0_4608 : S8192x9216.Slices ![0, 4608] S8192x512

variable [Facts]

def fn_part1 {F : FTy → Type} [FloatOps F] (main_v14 : IVec S_ 1) (main_v15 : FVec F S8192x2048 .f32) (main_v16 : FVec F S8192x2048 .f32) : IVec S_ 1 :=
  let main_v17 : IVec S8192x2048 1 := cmpf .olt main_v15 main_v16
  let main_c_5 : IVec S_ 1 := constantI S_ 1 1#1
  let main_v18 : IVec S_ 1 := (fun x v => Host.reduce IntOp.andi x v reducesTo_S8192x2048_S_d0_1 h_S_) main_v17 main_c_5
  let main_v19 : IVec S_ 1 := andi main_v14 main_v18
  main_v19

def fn {F : FTy → Type} [FloatOps F] (main_arg0 : FVec F S8192x2048 .f32) (main_arg1 : FVec F S8192x512 .f32) (main_arg2 : FVec F S8192x9216 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := (extractStridedSlice S8192x512 ![0, 4608] · slices_S8192x9216_S8192x512_0_4608) main_arg2
  let main_v10 : FVec F S8192x512 .f32 := Host.absf main_v9
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_c_3 : IVec S_ 1 := constantI S_ 1 1#1
  let main_v13 : IVec S_ 1 := (fun x v => Host.reduce IntOp.andi x v reducesTo_S8192x512_S_d0_1 h_S_) main_v12 main_c_3
  let main_v14 : IVec S_ 1 := andi main_v8 main_v13
  let main_v15 : FVec F S8192x2048 .f32 := Host.absf main_arg3
  let main_cst_4 : FVec F S_ .f32 := constant S_ .f32 0x7F800000#32
  let main_v16 : FVec F S8192x2048 .f32 := broadcastInDim S8192x2048 ![] bcast_S_S8192x2048 main_cst_4
  fn_part1 (F := F) main_v14 main_v15 main_v16
-- ==== Pre_finite_ln.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S8192x1024 .f32) (main_arg2 : FVec F S1x1024 .f32) (main_arg3 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  main_v8
-- ==== Dact.lean ====
abbrev S8192x2048 : Shape := ⟨2, ![8192, 2048]⟩
abbrev S1x8192x2048 : Shape := ⟨3, ![1, 8192, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩
abbrev S8x128 : Shape := ⟨2, ![8, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x8192x2048, .f32⟩
  | .hbm, ⟨2, _⟩ => ⟨S8192x8192, .f32⟩
  | .hbm, ⟨3, _⟩ => ⟨S1x8192x2048, .bf16⟩
  | .hbm, ⟨4, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactRefIdeal.lean ====
abbrev S8192x2048 : Shape := ⟨2, ![8192, 2048]⟩
abbrev S1x8192x2048 : Shape := ⟨3, ![1, 8192, 2048]⟩
abbrev S8192x8192 : Shape := ⟨2, ![8192, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x8192x2048, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Dmerged.lean ====
abbrev S8192x2048 : Shape := ⟨2, ![8192, 2048]⟩
abbrev S1x2048x2048 : Shape := ⟨3, ![1, 2048, 2048]⟩
abbrev S8192x9216 : Shape := ⟨2, ![8192, 9216]⟩
abbrev S512x2048 : Shape := ⟨2, ![512, 2048]⟩
abbrev S1x1024x2048 : Shape := ⟨3, ![1, 1024, 2048]⟩
abbrev S512x1024 : Shape := ⟨2, ![512, 1024]⟩
abbrev S8x128 : Shape := ⟨2, ![8, 128]⟩
abbrev S1024x2048 : Shape := ⟨2, ![1024, 2048]⟩

abbrev nBuf : Space → Nat
  | .hbm => 10
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x9216, .f32⟩
  | .hbm, ⟨3, _⟩ => ⟨S8192x2048, .f32⟩
  | .hbm, ⟨4, _⟩ => ⟨S8192x2048, .f32⟩
  | .hbm, ⟨5, _⟩ => ⟨S1x2048x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== DmergedRefIdeal.lean ====
abbrev S8192x2048 : Shape := ⟨2, ![8192, 2048]⟩
abbrev S1x2048x2048 : Shape := ⟨3, ![1, 2048, 2048]⟩
abbrev S8192x9216 : Shape := ⟨2, ![8192, 9216]⟩
abbrev S_ : Shape := ⟨0, ![]⟩
abbrev S2048x2048 : Shape := ⟨2, ![2048, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x9216, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S2048x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | .hbm, ⟨44, _⟩ => ⟨S8192x2048, .bf16⟩
  | .hbm, ⟨45, _⟩ => ⟨S8192x2048, .bf16⟩
  | .hbm, ⟨46, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== AttnDo.lean ====
abbrev S8192x2048 : Shape := ⟨2, ![8192, 2048]⟩
abbrev S1x2048x2048 : Shape := ⟨3, ![1, 2048, 2048]⟩
abbrev S16x8x8192 : Shape := ⟨3, ![16, 8, 8192]⟩
abbrev S1024x2048 : Shape := ⟨2, ![1024, 2048]⟩
abbrev S1x1024x2048 : Shape := ⟨3, ![1, 1024, 2048]⟩
abbrev S1024x1024 : Shape := ⟨2, ![1024, 1024]⟩
abbrev S8x8x1024 : Shape := ⟨3, ![8, 8, 1024]⟩
abbrev S8x128 : Shape := ⟨2, ![8, 128]⟩
abbrev S1024x128 : Shape := ⟨2, ![1024, 128]⟩
abbrev S128x1024 : Shape := ⟨2, ![128, 1024]⟩
abbrev S1024 : Shape := ⟨1, ![1024]⟩
abbrev S1x1024 : Shape := ⟨2, ![1, 1024]⟩
abbrev S8x1024 : Shape := ⟨2, ![8, 1024]⟩
abbrev S1x8x1024 : Shape := ⟨3, ![1, 8, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S1x2048x2048, .bf16⟩
  | .hbm, ⟨4, _⟩ => ⟨S8192x2048, .bf16⟩
  | .hbm, ⟨5, _⟩ => ⟨S16x8x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x8x1024, .f32⟩
  | .local _ .vmem, ⟨9, _⟩ => ⟨S8x8x1024, .f32⟩
  | .local _ .vmem, ⟨10, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttnDoRefIdeal.lean ====
abbrev S8192x2048 : Shape := ⟨2, ![8192, 2048]⟩
abbrev S1x2048x2048 : Shape := ⟨3, ![1, 2048, 2048]⟩
abbrev S2048x2048 : Shape := ⟨2, ![2048, 2048]⟩
abbrev S8192x16x128 : Shape := ⟨3, ![8192, 16, 128]⟩
abbrev S_ : Shape := ⟨0, ![]⟩
abbrev S8192x16 : Shape := ⟨2, ![8192, 16]⟩
abbrev S16x8192 : Shape := ⟨2, ![16, 8192]⟩
abbrev S16x1x8192 : Shape := ⟨3, ![16, 1, 8192]⟩
abbrev S16x8x8192 : Shape := ⟨3, ![16, 8, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x16x128, .f32⟩
  | .hbm, ⟨9, _⟩ => ⟨S_, .f32⟩
  | .hbm, ⟨10, _⟩ => ⟨S8192x16, .f32⟩
  | .hbm, ⟨11, _⟩ => ⟨S8192x2048, .bf16⟩
  | .hbm, ⟨12, _⟩ => ⟨S16x8192, .f32⟩
  | .hbm, ⟨13, _⟩ => ⟨S16x1x8192, .f32⟩
  | .hbm, ⟨14, _⟩ => ⟨S16x8x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== RmsBwd.lean ====
abbrev S8192x2048 : Shape := ⟨2, ![8192, 2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩
abbrev S64x8x2048 : Shape := ⟨3, ![64, 8, 2048]⟩
abbrev S_ : Shape := ⟨0, ![]⟩
abbrev S2048 : Shape := ⟨1, ![2048]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8x2048, .f32⟩
  | .hbm, ⟨6, _⟩ => ⟨S_, .f32⟩
  | .hbm, ⟨7, _⟩ => ⟨S2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg1 : BitVec 32 := BitVec.ofNat 32 (i 1).val
  let c0_i32 : BitVec 32 := 0#32
  let v35 : BitVec 1 := Scalar.cmpi .eq arg1 c0_i32
  let v_true : BitVec 1 := 1#1
  let v38 : BitVec 1 := Scalar.xori v35 v_true
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== RmsBwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Head.lean ====
abbrev S8192x2048 : Shape := ⟨2, ![8192, 2048]⟩
abbrev S2048 : Shape := ⟨1, ![2048]⟩
abbrev S1x2048 : Shape := ⟨2, ![1, 2048]⟩
abbrev S8x2048 : Shape := ⟨2, ![8, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S32x8x2048 : Shape := ⟨3, ![32, 8, 2048]⟩
abbrev S_ : Shape := ⟨0, ![]⟩

abbrev nBuf : Space → Nat
  | .hbm => 15
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S8192x2048, .f32⟩
  | .hbm, ⟨7, _⟩ => ⟨S8192x2048, .bf16⟩
  | .hbm, ⟨8, _⟩ => ⟨S8192x2048, .bf16⟩
  | .hbm, ⟨9, _⟩ => ⟨S8x2048, .f32⟩
  | .hbm, ⟨10, _⟩ => ⟨S8x128, .f32⟩
  | .hbm, ⟨11, _⟩ => ⟨S_, .f32⟩
  | .hbm, ⟨12, _⟩ => ⟨S2048, .f32⟩
  | .hbm, ⟨13, _⟩ => ⟨S1x1, .f32⟩
  | .hbm, ⟨14, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S8x2048, .f32⟩
  | .local _ .vmem, ⟨16, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![1, 32], ![false, false]⟩

def k0_cond1 (i : grid0.Coords) : BitVec 1 :=
  let arg1 : BitVec 32 := BitVec.ofNat 32 (i 1).val
  let c0_i32 : BitVec 32 := 0#32
  let v65 : BitVec 1 := Scalar.cmpi .eq arg1 c0_i32
  let v66 : BitVec 32 := Scalar.extui v65
  let c0_i32_26 : BitVec 32 := 0#32
  let v67 : BitVec 1 := Scalar.cmpi .ne v66 c0_i32_26
  v67

def k0_cond2 (i : grid0.Coords) : BitVec 1 :=
  let arg1 : BitVec 32 := BitVec.ofNat 32 (i 1).val
  let c0_i32 : BitVec 32 := 0#32
  let v65 : BitVec 1 := Scalar.cmpi .eq arg1 c0_i32
  let v_true : BitVec 1 := 1#1
  let v68 : BitVec 1 := Scalar.xori v65 v_true
  let v69 : BitVec 32 := Scalar.extui v68
  let c0_i32_27 : BitVec 32 := 0#32
  let v70 : BitVec 1 := Scalar.cmpi .ne v69 c0_i32_27
  v70

def k0_cond3 (i : grid0.Coords) : BitVec 1 :=
  let arg1 : BitVec 32 := BitVec.ofNat 32 (i 1).val
  let c0_i32_28 : BitVec 32 := 0#32
  let v71 : BitVec 1 := Scalar.cmpi .eq arg1 c0_i32_28
  let v72 : BitVec 32 := Scalar.extui v71
  let c0_i32_29 : BitVec 32 := 0#32
  let v73 : BitVec 1 := Scalar.cmpi .ne v72 c0_i32_29
  v73

def k0_cond4 (i : grid0.Coords) : BitVec 1 :=
  let arg1 : BitVec 32 := BitVec.ofNat 32 (i 1).val
  let c0_i32_28 : BitVec 32 := 0#32
  let v71 : BitVec 1 := Scalar.cmpi .eq arg1 c0_i32_28
  let true_30 : BitVec 1 := 1#1
  let v74 : BitVec 1 := Scalar.xori v71 true_30
  let v75 : BitVec 32 := Scalar.extui v74
  let c0_i32_31 : BitVec 32 := 0#32
  let v76 : BitVec 1 := Scalar.cmpi .ne v75 c0_i32_31
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== HeadRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 92
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S_, .f32⟩
  | .hbm, ⟨69, _⟩ => ⟨S2048, .f32⟩
  | .hbm, ⟨70, _⟩ => ⟨S8192x2048, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x2048, .f32⟩
  | .hbm, ⟨75, _⟩ => ⟨S8192x2048, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .bf16⟩
  | .hbm, ⟨91, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_cst_13 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== FlashBwd.lean ====
abbrev S8192x2048 : Shape := ⟨2, ![8192, 2048]⟩
abbrev S8192x512 : Shape := ⟨2, ![8192, 512]⟩
abbrev S8192x9216 : Shape := ⟨2, ![8192, 9216]⟩
abbrev S8192x16x128 : Shape := ⟨3, ![8192, 16, 128]⟩
abbrev S16x8192x128 : Shape := ⟨3, ![16, 8192, 128]⟩
abbrev S8192x4x128 : Shape := ⟨3, ![8192, 4, 128]⟩
abbrev S4x8192x128 : Shape := ⟨3, ![4, 8192, 128]⟩
abbrev S4x4x8192x128 : Shape := ⟨4, ![4, 4, 8192, 128]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S512x8192 : Shape := ⟨2, ![512, 8192]⟩
abbrev S16x1x8192 : Shape := ⟨3, ![16, 1, 8192]⟩
abbrev S16x8x8192 : Shape := ⟨3, ![16, 8, 8192]⟩
abbrev S2048x8192 : Shape := ⟨2, ![2048, 8192]⟩
abbrev S2048x128 : Shape := ⟨2, ![2048, 128]⟩
abbrev S1024x128 : Shape := ⟨2, ![1024, 128]⟩
abbrev S128x1024 : Shape := ⟨2, ![128, 1024]⟩
abbrev S1x8x2048 : Shape := ⟨3, ![1, 8, 2048]⟩
abbrev S128x8192 : Shape := ⟨2, ![128, 8192]⟩
abbrev S1024x2048 : Shape := ⟨2, ![1024, 2048]⟩
abbrev S1x1x2048 : Shape := ⟨3, ![1, 1, 2048]⟩
abbrev S1x2048 : Shape := ⟨2, ![1, 2048]⟩
abbrev S128x2048 : Shape := ⟨2, ![128, 2048]⟩

abbrev nBuf : Space → Nat
  | .hbm => 58
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .f32⟩
  | .hbm, ⟨3, _⟩ => ⟨S8192x2048, .f32⟩
  | .hbm, ⟨4, _⟩ => ⟨S8192x16x128, .f32⟩
  | .hbm, ⟨5, _⟩ => ⟨S16x8192x128, .f32⟩
  | .hbm, ⟨6, _⟩ => ⟨S8192x4x128, .f32⟩
  | .hbm, ⟨7, _⟩ => ⟨S4x8192x128, .f32⟩
  | .hbm, ⟨8, _⟩ => ⟨S4x4x8192x128, .f32⟩
  | .hbm, ⟨9, _⟩ => ⟨S16x8192x128, .f32⟩
  | .hbm, ⟨10, _⟩ => ⟨S8192x512, .f32⟩
  | .hbm, ⟨11, _⟩ => ⟨S8192x4x128, .f32⟩
  | .hbm, ⟨12, _⟩ => ⟨S4x8192x128, .f32⟩
  | .hbm, ⟨13, _⟩ => ⟨S4x4x8192x128, .f32⟩
  | .hbm, ⟨14, _⟩ => ⟨S16x8192x128, .f32⟩
  | .hbm, ⟨15, _⟩ => ⟨S16x8192x8192, .f32⟩
  | .hbm, ⟨16, _⟩ => ⟨S_, .f32⟩
  | .hbm, ⟨17, _⟩ => ⟨S16x8192x8192, .f32⟩
  | .hbm, ⟨18, _⟩ => ⟨S16x8192x8192, .f32⟩
  | .hbm, ⟨19, _⟩ => ⟨S_, .f32⟩
  | .hbm, ⟨20, _⟩ => ⟨S16x8192, .f32⟩
  | .hbm, ⟨21, _⟩ => ⟨S16x8192x1, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S_, .f32⟩
  | .hbm, ⟨26, _⟩ => ⟨S16x8192, .f32⟩
  | .hbm, ⟨27, _⟩ => ⟨S16x8192x1, .f32⟩
  | .hbm, ⟨28, _⟩ => ⟨S16x8192x8192, .f32⟩
  | .hbm, ⟨29, _⟩ => ⟨S16x8192x8192, .f32⟩
  | .hbm, ⟨30, _⟩ => ⟨S16x8192x128, .f32⟩
  | .hbm, ⟨31, _⟩ => ⟨S8192x16x128, .f32⟩
  | .hbm, ⟨32, _⟩ => ⟨S16x8192x128, .f32⟩
  | .hbm, ⟨33, _⟩ => ⟨S16x8192x128, .f32⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S_, .f32⟩
  | .hbm, ⟨38, _⟩ => ⟨S16x8192, .f32⟩
  | .hbm, ⟨39, _⟩ => ⟨S16x8192, .f32⟩
  | .hbm, ⟨40, _⟩ => ⟨S16x8192, .f32⟩
  | .hbm, ⟨41, _⟩ => ⟨S16x8192, .f32⟩
  | .hbm, ⟨42, _⟩ => ⟨S8192x512, .bf16⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | .hbm, ⟨49, _⟩ => ⟨S512x8192, .bf16⟩
  | .hbm, ⟨50, _⟩ => ⟨S8192x2048, .bf16⟩
  | .hbm, ⟨51, _⟩ => ⟨S16x1x8192, .f32⟩
  | .hbm, ⟨52, _⟩ => ⟨S16x8x8192, .f32⟩
  | .hbm, ⟨53, _⟩ => ⟨S16x1x8192, .f32⟩
  | .hbm, ⟨54, _⟩ => ⟨S16x8x8192, .f32⟩
  | .hbm, ⟨55, _⟩ => ⟨S2048x8192, .f32⟩
  | .hbm, ⟨56, _⟩ => ⟨S8192x2048, .f32⟩
  | .hbm, ⟨57, _⟩ => ⟨S8192x2048, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S128x1024, .bf16⟩
  | .local _ .vmem, ⟨5, _⟩ => ⟨S128x1024, .bf16⟩
  | .local _ .vmem, ⟨6, _⟩ => ⟨S1024x128, .f32⟩
  | .local _ .vmem, ⟨7, _⟩ => ⟨S1024x128, .f32⟩
  | .local _ .vmem, ⟨8, _⟩ => ⟨S2048x128, .bf16⟩
  | .local _ .vmem, ⟨9, _⟩ => ⟨S2048x128, .bf16⟩
  | .local _ .vmem, ⟨10, _⟩ => ⟨S1x8x2048, .f32⟩
  | .local _ .vmem, ⟨11, _⟩ => ⟨S1x8x2048, .f32⟩
  | .local _ .vmem, ⟨12, _⟩ => ⟨S1x8x2048, .f32⟩
  | .local _ .vmem, ⟨13, _⟩ => ⟨S1x8x2048, .f32⟩
  | .local _ .vmem, ⟨14, _⟩ => ⟨S128x8192, .f32⟩
  | .local _ .vmem, ⟨15, _⟩ => ⟨S128x8192, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45_0 : Ref sig .tc := ⟨.hbm, 55, rfl⟩
abbrev main_v45_1 : Ref sig .tc := ⟨.hbm, 56, rfl⟩
abbrev main_v45_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![16, 8, 4], ![false, false, false]⟩

def k0_mult1 (i : grid0.Coords) : BitVec 32 :=
  let arg2 : BitVec 32 := BitVec.ofNat 32 (i 2).val
  let c2048_i32 : BitVec 32 := 2048#32
  let v40 : BitVec 32 := Scalar.muli arg2 c2048_i32
  v40
def k0_cond4 (i : grid0.Coords) : BitVec 1 :=
  let arg1 : BitVec 32 := BitVec.ofNat 32 (i 1).val
  let c0_i32_25 : BitVec 32 := 0#32
  let v42 : BitVec 1 := Scalar.cmpi .eq arg1 c0_i32_25
  let v43 : BitVec 32 := Scalar.extui v42
  let c0_i32_26 : BitVec 32 := 0#32
  let v44 : BitVec 1 := Scalar.cmpi .ne v43 c0_i32_26
  v44

def k0_off1 (i : grid0.Coords) : Fin 2 → Nat :=
  let c0_29 : Index := 0#32
  let arg2 : BitVec 32 := BitVec.ofNat 32 (i 2).val
  let c2048_i32 : BitVec 32 := 2048#32
  let v40 : BitVec 32 := Scalar.muli arg2 c2048_i32
  let v41 : BitVec 32 := v40
  let v48 : Index := Scalar.indexCast v41
  ![0, v48.toNat]
def k0_cond5 (i : grid0.Coords) : BitVec 1 :=
  let arg1 : BitVec 32 := BitVec.ofNat 32 (i 1).val
  let c0_i32_27 : BitVec 32 := 0#32
  let v45 : BitVec 1 := Scalar.cmpi .sgt arg1 c0_i32_27
  let v46 : BitVec 32 := Scalar.extui v45
  let c0_i32_28 : BitVec 32 := 0#32
  let v47 : BitVec 1 := Scalar.cmpi .ne v46 c0_i32_28
  v47

def k0_off2 (i : grid0.Coords) : Fin 2 → Nat :=
  let c0_29 : Index := 0#32
  let arg2 : BitVec 32 := BitVec.ofNat 32 (i 2).val
  let c2048_i32 : BitVec 32 := 2048#32
  let v40 : BitVec 32 := Scalar.muli arg2 c2048_i32
  let v41 : BitVec 32 := v40
  let v48 : Index := Scalar.indexCast v41
  ![0, v48.toNat]
def k0_cond3 (i : grid0.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_24 : BitVec 32 := 0#32
  let v39 : BitVec 1 := Scalar.cmpi .ne v38 c0_i32_24
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c36_i32 : BitVec 32 := 36#32
  let v17 : BitVec 32 := Scalar.addi c36_i32 v16
  let c0_i32_4 : BitVec 32 := 0#32
  ![arg1.toNat, v17.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S128x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== FlashBwdIdeal.lean ====
variable {F : FTy → Type} [FloatOps F] [Named F]
def κ : String → Option EReal := fun
  | "ln2" => some ((Real.log 2 : ℝ) : EReal)
  | _ => none
-- ==== FlashBwdRefIdeal.lean ====
abbrev S8192x2048 : Shape := ⟨2, ![8192, 2048]⟩
abbrev S8192x512 : Shape := ⟨2, ![8192, 512]⟩
abbrev S8192x9216 : Shape := ⟨2, ![8192, 9216]⟩
abbrev S8192x4x128 : Shape := ⟨3, ![8192, 4, 128]⟩
abbrev S4x8192x128 : Shape := ⟨3, ![4, 8192, 128]⟩
abbrev S4x4x8192x128 : Shape := ⟨4, ![4, 4, 8192, 128]⟩
abbrev S16x8192x128 : Shape := ⟨3, ![16, 8192, 128]⟩
abbrev S8192x16x128 : Shape := ⟨3, ![8192, 16, 128]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x128x8192 : Shape := ⟨3, ![16, 128, 8192]⟩
abbrev S2048x8192 : Shape := ⟨2, ![2048, 8192]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .f32⟩
  | .hbm, ⟨3, _⟩ => ⟨S8192x2048, .f32⟩
  | .hbm, ⟨4, _⟩ => ⟨S8192x4x128, .f32⟩
  | .hbm, ⟨5, _⟩ => ⟨S4x8192x128, .f32⟩
  | .hbm, ⟨6, _⟩ => ⟨S4x4x8192x128, .f32⟩
  | .hbm, ⟨7, _⟩ => ⟨S16x8192x128, .f32⟩
  | .hbm, ⟨8, _⟩ => ⟨S8192x512, .f32⟩
  | .hbm, ⟨9, _⟩ => ⟨S8192x4x128, .f32⟩
  | .hbm, ⟨10, _⟩ => ⟨S4x8192x128, .f32⟩
  | .hbm, ⟨11, _⟩ => ⟨S4x4x8192x128, .f32⟩
  | .hbm, ⟨12, _⟩ => ⟨S16x8192x128, .f32⟩
  | .hbm, ⟨13, _⟩ => ⟨S8192x16x128, .f32⟩
  | .hbm, ⟨14, _⟩ => ⟨S16x8192x128, .f32⟩
  | .hbm, ⟨15, _⟩ => ⟨S16x8192x8192, .f32⟩
  | .hbm, ⟨16, _⟩ => ⟨S_, .f32⟩
  | .hbm, ⟨17, _⟩ => ⟨S16x8192x8192, .f32⟩
  | .hbm, ⟨18, _⟩ => ⟨S16x8192x8192, .f32⟩
  | .hbm, ⟨19, _⟩ => ⟨S_, .f32⟩
  | .hbm, ⟨20, _⟩ => ⟨S16x8192, .f32⟩
  | .hbm, ⟨21, _⟩ => ⟨S16x8192x1, .f32⟩
  | .hbm, ⟨22, _⟩ => ⟨S16x8192x8192, .f32⟩
  | .hbm, ⟨23, _⟩ => ⟨S16x8192x8192, .i1⟩
  | .hbm, ⟨24, _⟩ => ⟨S16x8192x8192, .f32⟩
  | .hbm, ⟨25, _⟩ => ⟨S_, .f32⟩
  | .hbm, ⟨26, _⟩ => ⟨S16x8192, .f32⟩
  | .hbm, ⟨27, _⟩ => ⟨S_, .f32⟩
  | .hbm, ⟨28, _⟩ => ⟨S16x8192, .f32⟩
  | .hbm, ⟨29, _⟩ => ⟨S16x8192, .f32⟩
  | .hbm, ⟨30, _⟩ => ⟨S_, .f32⟩
  | .hbm, ⟨31, _⟩ => ⟨S16x8192, .f32⟩
  | .hbm, ⟨32, _⟩ => ⟨S16x8192, .i1⟩
  | .hbm, ⟨33, _⟩ => ⟨S_, .f32⟩
  | .hbm, ⟨34, _⟩ => ⟨S16x8192, .f32⟩
  | .hbm, ⟨35, _⟩ => ⟨S16x8192, .i1⟩
  | .hbm, ⟨36, _⟩ => ⟨S_, .f32⟩
  | .hbm, ⟨37, _⟩ => ⟨S16x8192, .f32⟩
  | .hbm, ⟨38, _⟩ => ⟨S_, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S16x8192, .f32⟩
  | .hbm, ⟨44, _⟩ => ⟨S16x8192x1, .f32⟩
  | .hbm, ⟨45, _⟩ => ⟨S16x8192x8192, .f32⟩
  | .hbm, ⟨46, _⟩ => ⟨S16x8192x8192, .f32⟩
  | .hbm, ⟨47, _⟩ => ⟨S16x8192x8192, .f32⟩
  | .hbm, ⟨48, _⟩ => ⟨S_, .f32⟩
  | .hbm, ⟨49, _⟩ => ⟨S16x8192, .f32⟩
  | .hbm, ⟨50, _⟩ => ⟨S16x8192x1, .f32⟩
  | .hbm, ⟨51, _⟩ => ⟨S16x8192x8192, .f32⟩
  | .hbm, ⟨52, _⟩ => ⟨S16x8192x8192, .f32⟩
  | .hbm, ⟨53, _⟩ => ⟨S16x8192x1, .f32⟩
  | .hbm, ⟨54, _⟩ => ⟨S_, .f32⟩
  | .hbm, ⟨55, _⟩ => ⟨S16x8192x1, .f32⟩
  | .hbm, ⟨56, _⟩ => ⟨S16x8192x1, .f32⟩
  | .hbm, ⟨57, _⟩ => ⟨S16x8192x128, .f32⟩
  | .hbm, ⟨58, _⟩ => ⟨S8192x16x128, .f32⟩
  | .hbm, ⟨59, _⟩ => ⟨S16x8192x128, .f32⟩
  | .hbm, ⟨60, _⟩ => ⟨S16x128x8192, .f32⟩
  | .hbm, ⟨61, _⟩ => ⟨S16x8192x128, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S_, .f32⟩
  | .hbm, ⟨67, _⟩ => ⟨S16x8192, .f32⟩
  | .hbm, ⟨68, _⟩ => ⟨S16x8192x1, .f32⟩
  | .hbm, ⟨69, _⟩ => ⟨S16x8192x1, .f32⟩
  | .hbm, ⟨70, _⟩ => ⟨S16x8192x8192, .f32⟩
  | .hbm, ⟨71, _⟩ => ⟨S16x8192x8192, .f32⟩
  | .hbm, ⟨72, _⟩ => ⟨S_, .f32⟩
  | .hbm, ⟨73, _⟩ => ⟨S16x8192, .f32⟩
  | .hbm, ⟨74, _⟩ => ⟨S16x8192x8192, .f32⟩
  | .hbm, ⟨75, _⟩ => ⟨S16x8192x8192, .f32⟩
  | .hbm, ⟨76, _⟩ => ⟨S16x8192x8192, .f32⟩
  | .hbm, ⟨77, _⟩ => ⟨S_, .f32⟩
  | .hbm, ⟨78, _⟩ => ⟨S16x8192x8192, .f32⟩
  | .hbm, ⟨79, _⟩ => ⟨S16x8192x8192, .f32⟩
  | .hbm, ⟨80, _⟩ => ⟨S16x8192x128, .f32⟩
  | .hbm, ⟨81, _⟩ => ⟨S16x8192x128, .f32⟩
  | .hbm, ⟨82, _⟩ => ⟨S8192x16x128, .f32⟩
  | .hbm, ⟨83, _⟩ => ⟨S8192x2048, .f32⟩
  | .hbm, ⟨84, _⟩ => ⟨S8192x16x128, .f32⟩
  | .hbm, ⟨85, _⟩ => ⟨S8192x2048, .f32⟩
  | .hbm, ⟨86, _⟩ => ⟨S8192x16x128, .f32⟩
  | .hbm, ⟨87, _⟩ => ⟨S8192x2048, .f32⟩
  | .hbm, ⟨88, _⟩ => ⟨S2048x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== LnBwd.lean ====
abbrev S8192x1024 : Shape := ⟨2, ![8192, 1024]⟩
abbrev S1x1024 : Shape := ⟨2, ![1, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩
abbrev S128x8x1024 : Shape := ⟨3, ![128, 8, 1024]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S_, .f32⟩
  | .hbm, ⟨11, _⟩ => ⟨S1024, .f32⟩
  | .hbm, ⟨12, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S8x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v56 : BitVec 1 := Scalar.cmpi .eq arg1 c0_i32
  let v57 : BitVec 32 := Scalar.extui v56
  let c0_i32_21 : BitVec 32 := 0#32
  let v58 : BitVec 1 := Scalar.cmpi .ne v57 c0_i32_21
  v58

def k0_cond2 (i : grid0.Coords) : BitVec 1 :=
  let arg1 : BitVec 32 := BitVec.ofNat 32 (i 1).val
  let c0_i32 : BitVec 32 := 0#32
  let v56 : BitVec 1 := Scalar.cmpi .eq arg1 c0_i32
  let v_true : BitVec 1 := 1#1
  let v59 : BitVec 1 := Scalar.xori v56 v_true
  let v60 : BitVec 32 := Scalar.extui v59
  let c0_i32_22 : BitVec 32 := 0#32
  let v61 : BitVec 1 := Scalar.cmpi .ne v60 c0_i32_22
  v61

def k0_cond3 (i : grid0.Coords) : BitVec 1 :=
  let arg1 : BitVec 32 := BitVec.ofNat 32 (i 1).val
  let c0_i32_23 : BitVec 32 := 0#32
  let v62 : BitVec 1 := Scalar.cmpi .eq arg1 c0_i32_23
  let v63 : BitVec 32 := Scalar.extui v62
  let c0_i32_24 : BitVec 32 := 0#32
  let v64 : BitVec 1 := Scalar.cmpi .ne v63 c0_i32_24
  v64

def k0_cond4 (i : grid0.Coords) : BitVec 1 :=
  let arg1 : BitVec 32 := BitVec.ofNat 32 (i 1).val
  let c0_i32_23 : BitVec 32 := 0#32
  let v62 : BitVec 1 := Scalar.cmpi .eq arg1 c0_i32_23
  let true_25 : BitVec 1 := 1#1
  let v65 : BitVec 1 := Scalar.xori v62 true_25
  let v66 : BitVec 32 := Scalar.extui v65
  let c0_i32_26 : BitVec 32 := 0#32
  let v67 : BitVec 1 := Scalar.cmpi .ne v66 c0_i32_26
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== LnBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v27_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v27_1 : Ref sig .tc := ⟨.hbm, 48, rfl⟩
abbrev main_v27_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== QBwd.lean ====
abbrev S2048x8192 : Shape := ⟨2, ![2048, 8192]⟩
abbrev S8192x9216 : Shape := ⟨2, ![8192, 9216]⟩
abbrev S1x128 : Shape := ⟨2, ![1, 128]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S64 : Shape := ⟨1, ![64]⟩
abbrev S64x1 : Shape := ⟨2, ![64, 1]⟩
abbrev S64x32 : Shape := ⟨2, ![64, 32]⟩
abbrev S128x64x32 : Shape := ⟨3, ![128, 64, 32]⟩
abbrev S8192x32 : Shape := ⟨2, ![8192, 32]⟩
abbrev S1x64x1x32 : Shape := ⟨4, ![1, 64, 1, 32]⟩
abbrev S128x64x1x32 : Shape := ⟨4, ![128, 64, 1, 32]⟩
abbrev S8192x128 : Shape := ⟨2, ![8192, 128]⟩
abbrev S8192x2048 : Shape := ⟨2, ![8192, 2048]⟩
abbrev S8x128 : Shape := ⟨2, ![8, 128]⟩
abbrev S512x1024 : Shape := ⟨2, ![512, 1024]⟩
abbrev S1024x512 : Shape := ⟨2, ![1024, 512]⟩
abbrev S1024x128 : Shape := ⟨2, ![1024, 128]⟩
abbrev S128x1024 : Shape := ⟨2, ![128, 1024]⟩
abbrev S1024 : Shape := ⟨1, ![1024]⟩
abbrev S1024x1 : Shape := ⟨2, ![1024, 1]⟩
abbrev S128x8x128 : Shape := ⟨3, ![128, 8, 128]⟩

abbrev nBuf : Space → Nat
  | .hbm => 54
  | .vmem => 12
  | .smem => 0
  | _ => 0

abbrev bufTy : (tb : Table) → Fin (tcTables nBuf tb) → BufTy
  | .hbm, ⟨0, _⟩ => ⟨S2048x8192, .f32⟩
  | .hbm, ⟨1, _⟩ => ⟨S8192x9216, .f32⟩
  | .hbm, ⟨2, _⟩ => ⟨S1x128, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S128, .i32⟩
  | .hbm, ⟨18, _⟩ => ⟨S128, .f32⟩
  | .hbm, ⟨19, _⟩ => ⟨S128x1, .f32⟩
  | .hbm, ⟨20, _⟩ => ⟨S1x32, .f32⟩
  | .hbm, ⟨21, _⟩ => ⟨S128x32, .f32⟩
  | .hbm, ⟨22, _⟩ => ⟨S128x32, .f32⟩
  | .hbm, ⟨23, _⟩ => ⟨S128x32, .f32⟩
  | .hbm, ⟨24, _⟩ => ⟨S64, .i32⟩
  | .hbm, ⟨25, _⟩ => ⟨S64, .f32⟩
  | .hbm, ⟨26, _⟩ => ⟨S64x1, .f32⟩
  | .hbm, ⟨27, _⟩ => ⟨S1x32, .f32⟩
  | .hbm, ⟨28, _⟩ => ⟨S64x32, .f32⟩
  | .hbm, ⟨29, _⟩ => ⟨S64x32, .f32⟩
  | .hbm, ⟨30, _⟩ => ⟨S64x32, .f32⟩
  | .hbm, ⟨31, _⟩ => ⟨S128x32, .f32⟩
  | .hbm, ⟨32, _⟩ => ⟨S128x64x32, .f32⟩
  | .hbm, ⟨33, _⟩ => ⟨S8192x32, .f32⟩
  | .hbm, ⟨34, _⟩ => ⟨S128x32, .f32⟩
  | .hbm, ⟨35, _⟩ => ⟨S128x64x32, .f32⟩
  | .hbm, ⟨36, _⟩ => ⟨S8192x32, .f32⟩
  | .hbm, ⟨37, _⟩ => ⟨S64x32, .f32⟩
  | .hbm, ⟨38, _⟩ => ⟨S1x64x1x32, .f32⟩
  | .hbm, ⟨39, _⟩ => ⟨S128x64x1x32, .f32⟩
  | .hbm, ⟨40, _⟩ => ⟨S8192x32, .f32⟩
  | .hbm, ⟨41, _⟩ => ⟨S64x32, .f32⟩
  | .hbm, ⟨42, _⟩ => ⟨S1x64x1x32, .f32⟩
  | .hbm, ⟨43, _⟩ => ⟨S128x64x1x32, .f32⟩
  | .hbm, ⟨44, _⟩ => ⟨S8192x32, .f32⟩
  | .hbm, ⟨45, _⟩ => ⟨S8192x128, .f32⟩
  | .hbm, ⟨46, _⟩ => ⟨S8192x32, .f32⟩
  | .hbm, ⟨47, _⟩ => ⟨S8192x32, .f32⟩
  | .hbm, ⟨48, _⟩ => ⟨S8192x128, .f32⟩
  | .hbm, ⟨49, _⟩ => ⟨S8192x2048, .bf16⟩
  | .hbm, ⟨50, _⟩ => ⟨S8x128, .f32⟩
  | .hbm, ⟨51, _⟩ => ⟨S_, .f32⟩
  | .hbm, ⟨52, _⟩ => ⟨S128, .f32⟩
  | .hbm, ⟨53, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | .local _ .vmem, ⟨11, _⟩ => ⟨S8x128, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42_0 : Ref sig .tc := ⟨.hbm, 49, rfl⟩
abbrev main_v42_1 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_65 : BitVec 32 := 0#32
  let v241 : BitVec 1 := Scalar.cmpi .eq arg1 c0_i32_65
  let arg0 : BitVec 32 := BitVec.ofNat 32 (i 0).val
  let c0_i32_66 : BitVec 32 := 0#32
  let v242 : BitVec 1 := Scalar.cmpi .eq arg0 c0_i32_66
  let v243 : BitVec 1 := Scalar.andi v241 v242
  let v244 : BitVec 32 := Scalar.extui v243
  let c0_i32_67 : BitVec 32 := 0#32
  let v245 : BitVec 1 := Scalar.cmpi .ne v244 c0_i32_67
  v245

def k0_cond2 (i : grid0.Coords) : BitVec 1 :=
  let arg1 : BitVec 32 := BitVec.ofNat 32 (i 1).val
  let c0_i32_65 : BitVec 32 := 0#32
  let v241 : BitVec 1 := Scalar.cmpi .eq arg1 c0_i32_65
  let arg0 : BitVec 32 := BitVec.ofNat 32 (i 0).val
  let c0_i32_66 : BitVec 32 := 0#32
  let v242 : BitVec 1 := Scalar.cmpi .eq arg0 c0_i32_66
  let v243 : BitVec 1 := Scalar.andi v241 v242
  let v_true : BitVec 1 := 1#1
  let v246 : BitVec 1 := Scalar.xori v243 v_true
  let v247 : BitVec 32 := Scalar.extui v246
  let c0_i32_68 : BitVec 32 := 0#32
  let v248 : BitVec 1 := Scalar.cmpi .ne v247 c0_i32_68
  v248

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c4_i32 : BitVec 32 := 4#32
  let v2 : BitVec 32 := Scalar.addi c4_i32 v1
  let c0_i32_0 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== QBwdRefIdeal.lean ====
abbrev S2048x8192 : Shape := ⟨2, ![2048, 8192]⟩
abbrev S8192x9216 : Shape := ⟨2, ![8192, 9216]⟩
abbrev S1x128 : Shape := ⟨2, ![1, 128]⟩
abbrev S8192x2048 : Shape := ⟨2, ![8192, 2048]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x16x128 : Shape := ⟨3, ![8192, 16, 128]⟩
abbrev S8192x16 : Shape := ⟨2, ![8192, 16]⟩
abbrev S8192x16x1 : Shape := ⟨3, ![8192, 16, 1]⟩
abbrev S1x1x128 : Shape := ⟨3, ![1, 1, 128]⟩
abbrev S8192x16x64 : Shape := ⟨3, ![8192, 16, 64]⟩
abbrev S8192x1x32 : Shape := ⟨3, ![8192, 1, 32]⟩
abbrev S8192x16x32 : Shape := ⟨3, ![8192, 16, 32]⟩

abbrev nBuf : Space → Nat
  | .hbm => 169
  | .vmem => 0
  | .smem => 0
  | _ => 0

abbrev hbmTy0_0 (i : Nat) : BufTy := match i % 128 with
  | 0 => ⟨S2048x8192, .f32⟩
  | 1 => ⟨S8192x9216, .f32⟩
  | 2 => ⟨S1x128, .f32⟩
  | 3 => ⟨S8192x2048, .f32⟩
  | 4 => ⟨S128, .i32⟩
  | 5 => ⟨S128x64, .i32⟩
  | 6 => ⟨S8192, .i32⟩
  | 7 => ⟨S64, .i32⟩
  | 8 => ⟨S1x64, .i32⟩
  | 9 => ⟨S128x64, .i32⟩
  | 10 => ⟨S8192, .i32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S8192, .f32⟩
  | 26 => ⟨S8192x1, .f32⟩
  | 27 => ⟨S1x32, .f32⟩
  | 28 => ⟨S8192x32, .f32⟩
  | 29 => ⟨S8192x32, .f32⟩
  | 30 => ⟨S8192x32, .f32⟩
  | 31 => ⟨S8192, .f32⟩
  | 32 => ⟨S8192x1, .f32⟩
  | 33 => ⟨S1x32, .f32⟩
  | 34 => ⟨S8192x32, .f32⟩
  | 35 => ⟨S8192x32, .f32⟩
  | 36 => ⟨S8192x32, .f32⟩
  | 37 => ⟨S8192x16x128, .f32⟩
  | 38 => ⟨S128, .f32⟩
  | 39 => ⟨S8192x16x128, .f32⟩
  | 40 => ⟨S_, .f32⟩
  | 41 => ⟨S8192x16, .f32⟩
  | 42 => ⟨S8192x16x1, .f32⟩
  | 43 => ⟨S_, .f32⟩
  | 44 => ⟨S8192x16x1, .f32⟩
  | 45 => ⟨S8192x16x1, .f32⟩
  | 46 => ⟨S_, .f32⟩
  | 47 => ⟨S8192x16x1, .f32⟩
  | 48 => ⟨S8192x16x1, .f32⟩
  | 49 => ⟨S8192x16x1, .f32⟩
  | 50 => ⟨S8192x16x1, .f32⟩
  | 51 => ⟨S_, .f32⟩
  | 52 => ⟨S8192x16x1, .f32⟩
  | 53 => ⟨S8192x16x1, .f32⟩
  | 54 => ⟨S8192x16x128, .f32⟩
  | 55 => ⟨S8192x16x128, .f32⟩
  | 56 => ⟨S1x1x128, .f32⟩
  | 57 => ⟨S8192x16x128, .f32⟩
  | 58 => ⟨S8192x16x128, .f32⟩
  | 59 => ⟨S8192x16x64, .f32⟩
  | 60 => ⟨S8192x32, .f32⟩
  | 61 => ⟨S8192x1x32, .f32⟩
  | 62 => ⟨S8192x32, .f32⟩
  | 63 => ⟨S8192x1x32, .f32⟩
  | 64 => ⟨S8192x16x32, .f32⟩
  | 65 => ⟨S8192x16x32, .f32⟩
  | 66 => ⟨S8192x16x32, .f32⟩
  | 67 => ⟨S8192x16x32, .f32⟩
  | 68 => ⟨S8192x16x32, .f32⟩
  | 69 => ⟨S8192x16x32, .f32⟩
  | 70 => ⟨S8192x16x32, .f32⟩
  | 71 => ⟨S8192x16x32, .f32⟩
  | 72 => ⟨S8192x16x32, .f32⟩
  | 73 => ⟨S8192x16x32, .f32⟩
  | 74 => ⟨S8192x16x32, .f32⟩
  | 75 => ⟨S8192x16x32, .f32⟩
  | 76 => ⟨S8192x16x64, .f32⟩
  | 77 => ⟨S8192x16x64, .f32⟩
  | 78 => ⟨S8192x32, .f32⟩
  | 79 => ⟨S8192x1x32, .f32⟩
  | 80 => ⟨S8192x32, .f32⟩
  | 81 => ⟨S8192x1x32, .f32⟩
  | 82 => ⟨S8192x16x32, .f32⟩
  | 83 => ⟨S8192x16x32, .f32⟩
  | 84 => ⟨S8192x16x32, .f32⟩
  | 85 => ⟨S8192x16x32, .f32⟩
  | 86 => ⟨S8192x16x32, .f32⟩
  | 87 => ⟨S8192x16x32, .f32⟩
  | 88 => ⟨S8192x16x32, .f32⟩
  | 89 => ⟨S8192x16x32, .f32⟩
  | 90 => ⟨S8192x16x32, .f32⟩
  | 91 => ⟨S8192x16x32, .f32⟩
  | 92 => ⟨S8192x16x32, .f32⟩
  | 93 => ⟨S8192x16x32, .f32⟩
  | 94 => ⟨S8192x16x64, .f32⟩
  | 95 => ⟨S8192x16x128, .f32⟩
  | 96 => ⟨S8192x2048, .f32⟩
  | 97 => ⟨S8192x16x128, .f32⟩
  | 98 => ⟨S8192x16x64, .f32⟩
  | 99 => ⟨S8192x16x64, .f32⟩
  | 100 => ⟨S8192x16x32, .f32⟩
  | 101 => ⟨S8192x16x32, .f32⟩
  | 102 => ⟨S8192x16x32, .f32⟩
  | 103 => ⟨S8192x16x32, .f32⟩
  | 104 => ⟨S8192x16x32, .f32⟩
  | 105 => ⟨S8192x16x32, .f32⟩
  | 106 => ⟨S8192x16x32, .f32⟩
  | 107 => ⟨S8192x16x32, .f32⟩
  | 108 => ⟨S8192x16x32, .f32⟩
  | 109 => ⟨S8192x16x32, .f32⟩
  | 110 => ⟨S8192x16x32, .f32⟩
  | 111 => ⟨S8192x16x32, .f32⟩
  | 112 => ⟨S8192x16x32, .f32⟩
  | 113 => ⟨S_, .f32⟩
  | 114 => ⟨S8192x16x64, .f32⟩
  | 115 => ⟨S_, .f32⟩
  | 116 => ⟨S8192x16x64, .f32⟩
  | 117 => ⟨S8192x16x64, .f32⟩
  | 118 => ⟨S_, .f32⟩
  | 119 => ⟨S8192x16x128, .f32⟩
  | 120 => ⟨S8192x16x32, .f32⟩
  | 121 => ⟨S8192x16x32, .f32⟩
  | 122 => ⟨S8192x16x32, .f32⟩
  | 123 => ⟨S8192x16x32, .f32⟩
  | 124 => ⟨S8192x16x32, .f32⟩
  | 125 => ⟨S8192x16x32, .f32⟩
  | 126 => ⟨S8192x16x32, .f32⟩
  | 127 => ⟨S8192x16x32, .f32⟩
  | _ => ⟨S2048x8192, .f32⟩

abbrev hbmTy0_1 (i : Nat) : BufTy := match i % 128 with
  | 0 => ⟨S8192x16x32, .f32⟩
  | 1 => ⟨S8192x16x32, .f32⟩
  | 2 => ⟨S8192x16x32, .f32⟩
  | 3 => ⟨S8192x16x32, .f32⟩
  | 4 => ⟨S8192x16x32, .f32⟩
  | 5 => ⟨S_, .f32⟩
  | 6 => ⟨S8192x16x64, .f32⟩
  | 7 => ⟨S_, .f32⟩
  | 8 => ⟨S8192x16x64, .f32⟩
  | 9 => ⟨S8192x16x64, .f32⟩
  | 10 => ⟨S_, .f32⟩
  | 11 => ⟨S8192x16x128, .f32⟩
  | 12 => ⟨S8192x16x128, .f32⟩
  | 13 => ⟨S8192x16x128, .f32⟩
  | 14 => ⟨S_, .f32⟩
  | 15 => ⟨S128, .f32⟩
  | 16 => ⟨S1x1x128, .f32⟩
  | 17 => ⟨S8192x16x128, .f32⟩
  | 18 => ⟨S8192x16x128, .f32⟩
  | 19 => ⟨S_, .f32⟩
  | 20 => ⟨S128, .f32⟩
  | 21 => ⟨S8192x16x128, .f32⟩
  | 22 => ⟨S_, .f32⟩
  | 23 => ⟨S8192x16, .f32⟩
  | 24 => ⟨S8192x16x1, .f32⟩
  | 25 => ⟨S8192x16x128, .f32⟩
  | 26 => ⟨S8192x16x128, .f32⟩
  | 27 => ⟨S8192x16x1, .f32⟩
  | 28 => ⟨S_, .f32⟩
  | 29 => ⟨S8192x16x1, .f32⟩
  | 30 => ⟨S8192x16x1, .f32⟩
  | 31 => ⟨S_, .f32⟩
  | 32 => ⟨S8192x16, .f32⟩
  | 33 => ⟨S8192x16x128, .f32⟩
  | 34 => ⟨S8192x16x128, .f32⟩
  | 35 => ⟨S8192x16x128, .f32⟩
  | 36 => ⟨S8192x16x128, .f32⟩
  | 37 => ⟨S8192x16x128, .f32⟩
  | 38 => ⟨S1x128, .f32⟩
  | 39 => ⟨S8192x2048, .f32⟩
  | 40 => ⟨S8192x2048, .bf16⟩
  | _ => ⟨S2048x8192, .f32⟩

abbrev hbmTy (i : Nat) : BufTy := match i / 128 with
  | 0 => hbmTy0_0 i
  | 1 => hbmTy0_1 i
  | _ => ⟨S2048x8192, .f32⟩

abbrev bufTy : (tb : Table) → Fin (tcTables nBuf tb) → BufTy
  | .hbm, ⟨i, _⟩ => hbmTy i
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_cst_7 : Ref sig .tc := ⟨.hbm, 113, rfl⟩
abbrev main_v102 : Ref sig .tc := ⟨.hbm, 114, rfl⟩
abbrev main_cst_8 : Ref sig .tc := ⟨.hbm, 115, rfl⟩
abbrev main_v103 : Ref sig .tc := ⟨.hbm, 116, rfl⟩
abbrev main_v104 : Ref sig .tc := ⟨.hbm, 117, rfl⟩
abbrev main_cst_9 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_cst_10 : Ref sig .tc := ⟨.hbm, 133, rfl⟩
abbrev main_v119 : Ref sig .tc := ⟨.hbm, 134, rfl⟩
abbrev main_cst_11 : Ref sig .tc := ⟨.hbm, 135, rfl⟩
abbrev main_v120 : Ref sig .tc := ⟨.hbm, 136, rfl⟩
abbrev main_v121 : Ref sig .tc := ⟨.hbm, 137, rfl⟩
abbrev main_cst_12 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_cst_13 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_cst_14 : Ref sig .tc := ⟨.hbm, 147, rfl⟩
abbrev main_v129 : Ref sig .tc := ⟨.hbm, 148, rfl⟩
abbrev main_v130 : Ref sig .tc := ⟨.hbm, 149, rfl⟩
abbrev main_cst_15 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_cst_16 : Ref sig .tc := ⟨.hbm, 156, rfl⟩
abbrev main_v136 : Ref sig .tc := ⟨.hbm, 157, rfl⟩
abbrev main_v137 : Ref sig .tc := ⟨.hbm, 158, rfl⟩
abbrev main_cst_17 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩

abbrev nD : Nat := 1
abbrev τ : Topo := Topo.v7x

variable {F : FTy → Type} [FloatOps F]
-- ==== KBwd.lean ====
abbrev S8192x2048 : Shape := ⟨2, ![8192, 2048]⟩
abbrev S8192x9216 : Shape := ⟨2, ![8192, 9216]⟩
abbrev S1x128 : Shape := ⟨2, ![1, 128]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S64 : Shape := ⟨1, ![64]⟩
abbrev S64x1 : Shape := ⟨2, ![64, 1]⟩
abbrev S64x32 : Shape := ⟨2, ![64, 32]⟩
abbrev S128x64x32 : Shape := ⟨3, ![128, 64, 32]⟩
abbrev S8192x32 : Shape := ⟨2, ![8192, 32]⟩
abbrev S1x64x1x32 : Shape := ⟨4, ![1, 64, 1, 32]⟩
abbrev S128x64x1x32 : Shape := ⟨4, ![128, 64, 1, 32]⟩
abbrev S8192x128 : Shape := ⟨2, ![8192, 128]⟩
abbrev S8192x512 : Shape := ⟨2, ![8192, 512]⟩
abbrev S8x128 : Shape := ⟨2, ![8, 128]⟩
abbrev S1024x128 : Shape := ⟨2, ![1024, 128]⟩
abbrev S1024 : Shape := ⟨1, ![1024]⟩
abbrev S1024x1 : Shape := ⟨2, ![1024, 1]⟩
abbrev S128x8x128 : Shape := ⟨3, ![128, 8, 128]⟩

abbrev nBuf : Space → Nat
  | .hbm => 54
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x9216, .f32⟩
  | .hbm, ⟨2, _⟩ => ⟨S1x128, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S128, .i32⟩
  | .hbm, ⟨18, _⟩ => ⟨S128, .f32⟩
  | .hbm, ⟨19, _⟩ => ⟨S128x1, .f32⟩
  | .hbm, ⟨20, _⟩ => ⟨S1x32, .f32⟩
  | .hbm, ⟨21, _⟩ => ⟨S128x32, .f32⟩
  | .hbm, ⟨22, _⟩ => ⟨S128x32, .f32⟩
  | .hbm, ⟨23, _⟩ => ⟨S128x32, .f32⟩
  | .hbm, ⟨24, _⟩ => ⟨S64, .i32⟩
  | .hbm, ⟨25, _⟩ => ⟨S64, .f32⟩
  | .hbm, ⟨26, _⟩ => ⟨S64x1, .f32⟩
  | .hbm, ⟨27, _⟩ => ⟨S1x32, .f32⟩
  | .hbm, ⟨28, _⟩ => ⟨S64x32, .f32⟩
  | .hbm, ⟨29, _⟩ => ⟨S64x32, .f32⟩
  | .hbm, ⟨30, _⟩ => ⟨S64x32, .f32⟩
  | .hbm, ⟨31, _⟩ => ⟨S128x32, .f32⟩
  | .hbm, ⟨32, _⟩ => ⟨S128x64x32, .f32⟩
  | .hbm, ⟨33, _⟩ => ⟨S8192x32, .f32⟩
  | .hbm, ⟨34, _⟩ => ⟨S128x32, .f32⟩
  | .hbm, ⟨35, _⟩ => ⟨S128x64x32, .f32⟩
  | .hbm, ⟨36, _⟩ => ⟨S8192x32, .f32⟩
  | .hbm, ⟨37, _⟩ => ⟨S64x32, .f32⟩
  | .hbm, ⟨38, _⟩ => ⟨S1x64x1x32, .f32⟩
  | .hbm, ⟨39, _⟩ => ⟨S128x64x1x32, .f32⟩
  | .hbm, ⟨40, _⟩ => ⟨S8192x32, .f32⟩
  | .hbm, ⟨41, _⟩ => ⟨S64x32, .f32⟩
  | .hbm, ⟨42, _⟩ => ⟨S1x64x1x32, .f32⟩
  | .hbm, ⟨43, _⟩ => ⟨S128x64x1x32, .f32⟩
  | .hbm, ⟨44, _⟩ => ⟨S8192x32, .f32⟩
  | .hbm, ⟨45, _⟩ => ⟨S8192x128, .f32⟩
  | .hbm, ⟨46, _⟩ => ⟨S8192x32, .f32⟩
  | .hbm, ⟨47, _⟩ => ⟨S8192x32, .f32⟩
  | .hbm, ⟨48, _⟩ => ⟨S8192x128, .f32⟩
  | .hbm, ⟨49, _⟩ => ⟨S8192x512, .bf16⟩
  | .hbm, ⟨50, _⟩ => ⟨S8x128, .f32⟩
  | .hbm, ⟨51, _⟩ => ⟨S_, .f32⟩
  | .hbm, ⟨52, _⟩ => ⟨S128, .f32⟩
  | .hbm, ⟨53, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .bf16⟩
  | .local _ .vmem, ⟨16, _⟩ => ⟨S1024x128, .bf16⟩
  | .local _ .vmem, ⟨17, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42_0 : Ref sig .tc := ⟨.hbm, 49, rfl⟩
abbrev main_v42_1 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_26 : BitVec 32 := 0#32
  let v69 : BitVec 1 := Scalar.cmpi .eq arg1 c0_i32_26
  let arg0 : BitVec 32 := BitVec.ofNat 32 (i 0).val
  let c0_i32_27 : BitVec 32 := 0#32
  let v70 : BitVec 1 := Scalar.cmpi .eq arg0 c0_i32_27
  let v71 : BitVec 1 := Scalar.andi v69 v70
  let v72 : BitVec 32 := Scalar.extui v71
  let c0_i32_28 : BitVec 32 := 0#32
  let v73 : BitVec 1 := Scalar.cmpi .ne v72 c0_i32_28
  v73

def k0_cond2 (i : grid0.Coords) : BitVec 1 :=
  let arg1 : BitVec 32 := BitVec.ofNat 32 (i 1).val
  let c0_i32_26 : BitVec 32 := 0#32
  let v69 : BitVec 1 := Scalar.cmpi .eq arg1 c0_i32_26
  let arg0 : BitVec 32 := BitVec.ofNat 32 (i 0).val
  let c0_i32_27 : BitVec 32 := 0#32
  let v70 : BitVec 1 := Scalar.cmpi .eq arg0 c0_i32_27
  let v71 : BitVec 1 := Scalar.andi v69 v70
  let v_true : BitVec 1 := 1#1
  let v74 : BitVec 1 := Scalar.xori v71 v_true
  let v75 : BitVec 32 := Scalar.extui v74
  let c0_i32_29 : BitVec 32 := 0#32
  let v76 : BitVec 1 := Scalar.cmpi .ne v75 c0_i32_29
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c4_i32 : BitVec 32 := 4#32
  let v1 : BitVec 32 := Scalar.muli c4_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c4_i32 : BitVec 32 := 4#32
  let v1 : BitVec 32 := Scalar.muli c4_i32 arg0
  let c1_i32 : BitVec 32 := 1#32
  let v2 : BitVec 32 := Scalar.addi c1_i32 v1
  let c0_i32_0 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c4_i32 : BitVec 32 := 4#32
  let v1 : BitVec 32 := Scalar.muli c4_i32 arg0
  let c2_i32 : BitVec 32 := 2#32
  let v2 : BitVec 32 := Scalar.addi c2_i32 v1
  let c0_i32_0 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c4_i32 : BitVec 32 := 4#32
  let v1 : BitVec 32 := Scalar.muli c4_i32 arg0
  let c3_i32 : BitVec 32 := 3#32
  let v2 : BitVec 32 := Scalar.addi c3_i32 v1
  let c0_i32_0 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c32_i32 : BitVec 32 := 32#32
  let v2 : BitVec 32 := Scalar.addi c32_i32 v1
  let c0_i32_0 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KBwdRefIdeal.lean ====
abbrev S8192x2048 : Shape := ⟨2, ![8192, 2048]⟩
abbrev S8192x9216 : Shape := ⟨2, ![8192, 9216]⟩
abbrev S1x128 : Shape := ⟨2, ![1, 128]⟩
abbrev S8192x4x4x128 : Shape := ⟨4, ![8192, 4, 4, 128]⟩
abbrev S_ : Shape := ⟨0, ![]⟩
abbrev S8192x4x128 : Shape := ⟨3, ![8192, 4, 128]⟩
abbrev S8192x512 : Shape := ⟨2, ![8192, 512]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x4 : Shape := ⟨2, ![8192, 4]⟩
abbrev S8192x4x1 : Shape := ⟨3, ![8192, 4, 1]⟩
abbrev S1x1x128 : Shape := ⟨3, ![1, 1, 128]⟩
abbrev S8192x4x64 : Shape := ⟨3, ![8192, 4, 64]⟩
abbrev S8192x1x32 : Shape := ⟨3, ![8192, 1, 32]⟩
abbrev S8192x4x32 : Shape := ⟨3, ![8192, 4, 32]⟩

abbrev nBuf : Space → Nat
  | .hbm => 170
  | .vmem => 0
  | .smem => 0
  | _ => 0

abbrev hbmTy0_0 (i : Nat) : BufTy := match i % 128 with
  | 0 => ⟨S8192x2048, .f32⟩
  | 1 => ⟨S8192x9216, .f32⟩
  | 2 => ⟨S1x128, .f32⟩
  | 3 => ⟨S8192x4x4x128, .f32⟩
  | 4 => ⟨S_, .f32⟩
  | 5 => ⟨S8192x4x128, .f32⟩
  | 6 => ⟨S8192x512, .f32⟩
  | 7 => ⟨S128, .i32⟩
  | 8 => ⟨S128x64, .i32⟩
  | 9 => ⟨S8192, .i32⟩
  | 10 => ⟨S64, .i32⟩
  | 11 => ⟨S1x64, .i32⟩
  | 12 => ⟨S128x64, .i32⟩
  | 13 => ⟨S8192, .i32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S8192, .f32⟩
  | 29 => ⟨S8192x1, .f32⟩
  | 30 => ⟨S1x32, .f32⟩
  | 31 => ⟨S8192x32, .f32⟩
  | 32 => ⟨S8192x32, .f32⟩
  | 33 => ⟨S8192x32, .f32⟩
  | 34 => ⟨S8192, .f32⟩
  | 35 => ⟨S8192x1, .f32⟩
  | 36 => ⟨S1x32, .f32⟩
  | 37 => ⟨S8192x32, .f32⟩
  | 38 => ⟨S8192x32, .f32⟩
  | 39 => ⟨S8192x32, .f32⟩
  | 40 => ⟨S8192x4x128, .f32⟩
  | 41 => ⟨S128, .f32⟩
  | 42 => ⟨S8192x4x128, .f32⟩
  | 43 => ⟨S_, .f32⟩
  | 44 => ⟨S8192x4, .f32⟩
  | 45 => ⟨S8192x4x1, .f32⟩
  | 46 => ⟨S_, .f32⟩
  | 47 => ⟨S8192x4x1, .f32⟩
  | 48 => ⟨S8192x4x1, .f32⟩
  | 49 => ⟨S_, .f32⟩
  | 50 => ⟨S8192x4x1, .f32⟩
  | 51 => ⟨S8192x4x1, .f32⟩
  | 52 => ⟨S8192x4x1, .f32⟩
  | 53 => ⟨S8192x4x1, .f32⟩
  | 54 => ⟨S_, .f32⟩
  | 55 => ⟨S8192x4x1, .f32⟩
  | 56 => ⟨S8192x4x1, .f32⟩
  | 57 => ⟨S8192x4x128, .f32⟩
  | 58 => ⟨S8192x4x128, .f32⟩
  | 59 => ⟨S1x1x128, .f32⟩
  | 60 => ⟨S8192x4x128, .f32⟩
  | 61 => ⟨S8192x4x128, .f32⟩
  | 62 => ⟨S8192x4x64, .f32⟩
  | 63 => ⟨S8192x32, .f32⟩
  | 64 => ⟨S8192x1x32, .f32⟩
  | 65 => ⟨S8192x32, .f32⟩
  | 66 => ⟨S8192x1x32, .f32⟩
  | 67 => ⟨S8192x4x32, .f32⟩
  | 68 => ⟨S8192x4x32, .f32⟩
  | 69 => ⟨S8192x4x32, .f32⟩
  | 70 => ⟨S8192x4x32, .f32⟩
  | 71 => ⟨S8192x4x32, .f32⟩
  | 72 => ⟨S8192x4x32, .f32⟩
  | 73 => ⟨S8192x4x32, .f32⟩
  | 74 => ⟨S8192x4x32, .f32⟩
  | 75 => ⟨S8192x4x32, .f32⟩
  | 76 => ⟨S8192x4x32, .f32⟩
  | 77 => ⟨S8192x4x32, .f32⟩
  | 78 => ⟨S8192x4x32, .f32⟩
  | 79 => ⟨S8192x4x64, .f32⟩
  | 80 => ⟨S8192x4x64, .f32⟩
  | 81 => ⟨S8192x32, .f32⟩
  | 82 => ⟨S8192x1x32, .f32⟩
  | 83 => ⟨S8192x32, .f32⟩
  | 84 => ⟨S8192x1x32, .f32⟩
  | 85 => ⟨S8192x4x32, .f32⟩
  | 86 => ⟨S8192x4x32, .f32⟩
  | 87 => ⟨S8192x4x32, .f32⟩
  | 88 => ⟨S8192x4x32, .f32⟩
  | 89 => ⟨S8192x4x32, .f32⟩
  | 90 => ⟨S8192x4x32, .f32⟩
  | 91 => ⟨S8192x4x32, .f32⟩
  | 92 => ⟨S8192x4x32, .f32⟩
  | 93 => ⟨S8192x4x32, .f32⟩
  | 94 => ⟨S8192x4x32, .f32⟩
  | 95 => ⟨S8192x4x32, .f32⟩
  | 96 => ⟨S8192x4x32, .f32⟩
  | 97 => ⟨S8192x4x64, .f32⟩
  | 98 => ⟨S8192x4x128, .f32⟩
  | 99 => ⟨S8192x4x64, .f32⟩
  | 100 => ⟨S8192x4x64, .f32⟩
  | 101 => ⟨S8192x4x32, .f32⟩
  | 102 => ⟨S8192x4x32, .f32⟩
  | 103 => ⟨S8192x4x32, .f32⟩
  | 104 => ⟨S8192x4x32, .f32⟩
  | 105 => ⟨S8192x4x32, .f32⟩
  | 106 => ⟨S8192x4x32, .f32⟩
  | 107 => ⟨S8192x4x32, .f32⟩
  | 108 => ⟨S8192x4x32, .f32⟩
  | 109 => ⟨S8192x4x32, .f32⟩
  | 110 => ⟨S8192x4x32, .f32⟩
  | 111 => ⟨S8192x4x32, .f32⟩
  | 112 => ⟨S8192x4x32, .f32⟩
  | 113 => ⟨S8192x4x32, .f32⟩
  | 114 => ⟨S_, .f32⟩
  | 115 => ⟨S8192x4x64, .f32⟩
  | 116 => ⟨S_, .f32⟩
  | 117 => ⟨S8192x4x64, .f32⟩
  | 118 => ⟨S8192x4x64, .f32⟩
  | 119 => ⟨S_, .f32⟩
  | 120 => ⟨S8192x4x128, .f32⟩
  | 121 => ⟨S8192x4x32, .f32⟩
  | 122 => ⟨S8192x4x32, .f32⟩
  | 123 => ⟨S8192x4x32, .f32⟩
  | 124 => ⟨S8192x4x32, .f32⟩
  | 125 => ⟨S8192x4x32, .f32⟩
  | 126 => ⟨S8192x4x32, .f32⟩
  | 127 => ⟨S8192x4x32, .f32⟩
  | _ => ⟨S8192x2048, .f32⟩

abbrev hbmTy0_1 (i : Nat) : BufTy := match i % 128 with
  | 0 => ⟨S8192x4x32, .f32⟩
  | 1 => ⟨S8192x4x32, .f32⟩
  | 2 => ⟨S8192x4x32, .f32⟩
  | 3 => ⟨S8192x4x32, .f32⟩
  | 4 => ⟨S8192x4x32, .f32⟩
  | 5 => ⟨S8192x4x32, .f32⟩
  | 6 => ⟨S_, .f32⟩
  | 7 => ⟨S8192x4x64, .f32⟩
  | 8 => ⟨S_, .f32⟩
  | 9 => ⟨S8192x4x64, .f32⟩
  | 10 => ⟨S8192x4x64, .f32⟩
  | 11 => ⟨S_, .f32⟩
  | 12 => ⟨S8192x4x128, .f32⟩
  | 13 => ⟨S8192x4x128, .f32⟩
  | 14 => ⟨S8192x4x128, .f32⟩
  | 15 => ⟨S_, .f32⟩
  | 16 => ⟨S128, .f32⟩
  | 17 => ⟨S1x1x128, .f32⟩
  | 18 => ⟨S8192x4x128, .f32⟩
  | 19 => ⟨S8192x4x128, .f32⟩
  | 20 => ⟨S_, .f32⟩
  | 21 => ⟨S128, .f32⟩
  | 22 => ⟨S8192x4x128, .f32⟩
  | 23 => ⟨S_, .f32⟩
  | 24 => ⟨S8192x4, .f32⟩
  | 25 => ⟨S8192x4x1, .f32⟩
  | 26 => ⟨S8192x4x128, .f32⟩
  | 27 => ⟨S8192x4x128, .f32⟩
  | 28 => ⟨S8192x4x1, .f32⟩
  | 29 => ⟨S_, .f32⟩
  | 30 => ⟨S8192x4x1, .f32⟩
  | 31 => ⟨S8192x4x1, .f32⟩
  | 32 => ⟨S_, .f32⟩
  | 33 => ⟨S8192x4, .f32⟩
  | 34 => ⟨S8192x4x128, .f32⟩
  | 35 => ⟨S8192x4x128, .f32⟩
  | 36 => ⟨S8192x4x128, .f32⟩
  | 37 => ⟨S8192x4x128, .f32⟩
  | 38 => ⟨S8192x4x128, .f32⟩
  | 39 => ⟨S1x128, .f32⟩
  | 40 => ⟨S8192x512, .f32⟩
  | 41 => ⟨S8192x512, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_cst_8 : Ref sig .tc := ⟨.hbm, 114, rfl⟩
abbrev main_v102 : Ref sig .tc := ⟨.hbm, 115, rfl⟩
abbrev main_cst_9 : Ref sig .tc := ⟨.hbm, 116, rfl⟩
abbrev main_v103 : Ref sig .tc := ⟨.hbm, 117, rfl⟩
abbrev main_v104 : Ref sig .tc := ⟨.hbm, 118, rfl⟩
abbrev main_cst_10 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_cst_11 : Ref sig .tc := ⟨.hbm, 134, rfl⟩
abbrev main_v119 : Ref sig .tc := ⟨.hbm, 135, rfl⟩
abbrev main_cst_12 : Ref sig .tc := ⟨.hbm, 136, rfl⟩
abbrev main_v120 : Ref sig .tc := ⟨.hbm, 137, rfl⟩
abbrev main_v121 : Ref sig .tc := ⟨.hbm, 138, rfl⟩
abbrev main_cst_13 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_cst_14 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_cst_15 : Ref sig .tc := ⟨.hbm, 148, rfl⟩
abbrev main_v129 : Ref sig .tc := ⟨.hbm, 149, rfl⟩
abbrev main_v130 : Ref sig .tc := ⟨.hbm, 150, rfl⟩
abbrev main_cst_16 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_17 : Ref sig .tc := ⟨.hbm, 157, rfl⟩
abbrev main_v136 : Ref sig .tc := ⟨.hbm, 158, rfl⟩
abbrev main_v137 : Ref sig .tc := ⟨.hbm, 159, rfl⟩
abbrev main_cst_18 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩

abbrev nD : Nat := 1
abbrev τ : Topo := Topo.v7x

variable {F : FTy → Type} [FloatOps F]
-- ==== Attn.lean ====
abbrev S8192x2048 : Shape := ⟨2, ![8192, 2048]⟩
abbrev S8192x512 : Shape := ⟨2, ![8192, 512]⟩
abbrev S8192x9216 : Shape := ⟨2, ![8192, 9216]⟩
abbrev S512x8192 : Shape := ⟨2, ![512, 8192]⟩
abbrev S4x128x8192 : Shape := ⟨3, ![4, 128, 8192]⟩
abbrev S_ : Shape := ⟨0, ![]⟩
abbrev S4x16x8192 : Shape := ⟨3, ![4, 16, 8192]⟩
abbrev S4x144x8192 : Shape := ⟨3, ![4, 144, 8192]⟩
abbrev S576x8192 : Shape := ⟨2, ![576, 8192]⟩
abbrev S16x8x8192 : Shape := ⟨3, ![16, 8, 8192]⟩
abbrev S2048x128 : Shape := ⟨2, ![2048, 128]⟩
abbrev S1024x128 : Shape := ⟨2, ![1024, 128]⟩
abbrev S144x1024 : Shape := ⟨2, ![144, 1024]⟩
abbrev S1x8x2048 : Shape := ⟨3, ![1, 8, 2048]⟩
abbrev S1x2048 : Shape := ⟨2, ![1, 2048]⟩
abbrev S144x2048 : Shape := ⟨2, ![144, 2048]⟩
abbrev S1024x2048 : Shape := ⟨2, ![1024, 2048]⟩
abbrev S2048 : Shape := ⟨1, ![2048]⟩
abbrev S128x2048 : Shape := ⟨2, ![128, 2048]⟩
abbrev S8x2048 : Shape := ⟨2, ![8, 2048]⟩

abbrev nBuf : Space → Nat
  | .hbm => 22
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .f32⟩
  | .hbm, ⟨3, _⟩ => ⟨S8192x512, .f32⟩
  | .hbm, ⟨4, _⟩ => ⟨S512x8192, .f32⟩
  | .hbm, ⟨5, _⟩ => ⟨S512x8192, .bf16⟩
  | .hbm, ⟨6, _⟩ => ⟨S4x128x8192, .bf16⟩
  | .hbm, ⟨7, _⟩ => ⟨S_, .bf16⟩
  | .hbm, ⟨8, _⟩ => ⟨S4x16x8192, .bf16⟩
  | .hbm, ⟨9, _⟩ => ⟨S4x144x8192, .bf16⟩
  | .hbm, ⟨10, _⟩ => ⟨S576x8192, .bf16⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S8192x512, .bf16⟩
  | .hbm, ⟨20, _⟩ => ⟨S8192x2048, .f32⟩
  | .hbm, ⟨21, _⟩ => ⟨S16x8x8192, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S144x1024, .bf16⟩
  | .local _ .vmem, ⟨5, _⟩ => ⟨S144x1024, .bf16⟩
  | .local _ .vmem, ⟨6, _⟩ => ⟨S2048x128, .f32⟩
  | .local _ .vmem, ⟨7, _⟩ => ⟨S2048x128, .f32⟩
  | .local _ .vmem, ⟨8, _⟩ => ⟨S1x8x2048, .f32⟩
  | .local _ .vmem, ⟨9, _⟩ => ⟨S1x8x2048, .f32⟩
  | .local _ .vmem, ⟨10, _⟩ => ⟨S1x2048, .f32⟩
  | .local _ .vmem, ⟨11, _⟩ => ⟨S144x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v31 : BitVec 1 := Scalar.cmpi .eq arg2 c7_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttnIdeal.lean ====
variable {F : FTy → Type} [FloatOps F] [Named F]
def κ : String → Option EReal := fun
  | "log2e" => some (((Real.log 2)⁻¹ : ℝ) : EReal)
  | "lowest" => some ⊥
  | _ => none
-- ==== AttnRefIdeal.lean ====
abbrev S8192x2048 : Shape := ⟨2, ![8192, 2048]⟩
abbrev S8192x512 : Shape := ⟨2, ![8192, 512]⟩
abbrev S8192x9216 : Shape := ⟨2, ![8192, 9216]⟩
abbrev S8192x4x128 : Shape := ⟨3, ![8192, 4, 128]⟩
abbrev S4x8192x128 : Shape := ⟨3, ![4, 8192, 128]⟩
abbrev S4x4x8192x128 : Shape := ⟨4, ![4, 4, 8192, 128]⟩
abbrev S16x8192x128 : Shape := ⟨3, ![16, 8192, 128]⟩
abbrev S8192x16x128 : Shape := ⟨3, ![8192, 16, 128]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S16x8x8192 : Shape := ⟨3, ![16, 8, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .f32⟩
  | .hbm, ⟨3, _⟩ => ⟨S8192x4x128, .f32⟩
  | .hbm, ⟨4, _⟩ => ⟨S4x8192x128, .f32⟩
  | .hbm, ⟨5, _⟩ => ⟨S4x4x8192x128, .f32⟩
  | .hbm, ⟨6, _⟩ => ⟨S16x8192x128, .f32⟩
  | .hbm, ⟨7, _⟩ => ⟨S8192x512, .f32⟩
  | .hbm, ⟨8, _⟩ => ⟨S8192x4x128, .f32⟩
  | .hbm, ⟨9, _⟩ => ⟨S4x8192x128, .f32⟩
  | .hbm, ⟨10, _⟩ => ⟨S4x4x8192x128, .f32⟩
  | .hbm, ⟨11, _⟩ => ⟨S16x8192x128, .f32⟩
  | .hbm, ⟨12, _⟩ => ⟨S8192x16x128, .f32⟩
  | .hbm, ⟨13, _⟩ => ⟨S16x8192x128, .f32⟩
  | .hbm, ⟨14, _⟩ => ⟨S16x8192x8192, .f32⟩
  | .hbm, ⟨15, _⟩ => ⟨S_, .f32⟩
  | .hbm, ⟨16, _⟩ => ⟨S16x8192x8192, .f32⟩
  | .hbm, ⟨17, _⟩ => ⟨S16x8192x8192, .f32⟩
  | .hbm, ⟨18, _⟩ => ⟨S_, .f32⟩
  | .hbm, ⟨19, _⟩ => ⟨S16x8192, .f32⟩
  | .hbm, ⟨20, _⟩ => ⟨S_, .f32⟩
  | .hbm, ⟨21, _⟩ => ⟨S16x8192, .f32⟩
  | .hbm, ⟨22, _⟩ => ⟨S16x8192, .f32⟩
  | .hbm, ⟨23, _⟩ => ⟨S16x8192x1, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S_, .f32⟩
  | .hbm, ⟨28, _⟩ => ⟨S16x8192, .f32⟩
  | .hbm, ⟨29, _⟩ => ⟨S16x8192x1, .f32⟩
  | .hbm, ⟨30, _⟩ => ⟨S16x8192x8192, .f32⟩
  | .hbm, ⟨31, _⟩ => ⟨S16x8192x8192, .f32⟩
  | .hbm, ⟨32, _⟩ => ⟨S16x8192x128, .f32⟩
  | .hbm, ⟨33, _⟩ => ⟨S8192x16x128, .f32⟩
  | .hbm, ⟨34, _⟩ => ⟨S8192x2048, .f32⟩
  | .hbm, ⟨35, _⟩ => ⟨S_, .f32⟩
  | .hbm, ⟨36, _⟩ => ⟨S16x8192, .f32⟩
  | .hbm, ⟨37, _⟩ => ⟨S16x8192x1, .f32⟩
  | .hbm, ⟨38, _⟩ => ⟨S16x8192x8192, .f32⟩
  | .hbm, ⟨39, _⟩ => ⟨S16x8192x8192, .f32⟩
  | .hbm, ⟨40, _⟩ => ⟨S16x8192x8192, .f32⟩
  | .hbm, ⟨41, _⟩ => ⟨S_, .f32⟩
  | .hbm, ⟨42, _⟩ => ⟨S16x8192, .f32⟩
  | .hbm, ⟨43, _⟩ => ⟨S16x8192, .f32⟩
  | .hbm, ⟨44, _⟩ => ⟨S16x8192, .f32⟩
  | .hbm, ⟨45, _⟩ => ⟨S_, .f32⟩
  | .hbm, ⟨46, _⟩ => ⟨S_, .f32⟩
  | .hbm, ⟨47, _⟩ => ⟨S16x8192, .f32⟩
  | .hbm, ⟨48, _⟩ => ⟨S16x8192, .f32⟩
  | .hbm, ⟨49, _⟩ => ⟨S16x1x8192, .f32⟩
  | .hbm, ⟨50, _⟩ => ⟨S16x8x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== GluBwd.lean ====
abbrev S8192x1024 : Shape := ⟨2, ![8192, 1024]⟩
abbrev S8192x9216 : Shape := ⟨2, ![8192, 9216]⟩
abbrev S1x31x1024 : Shape := ⟨3, ![1, 31, 1024]⟩
abbrev S31x1024 : Shape := ⟨2, ![31, 1024]⟩
abbrev S_ : Shape := ⟨0, ![]⟩
abbrev S32x1024 : Shape := ⟨2, ![32, 1024]⟩
abbrev S16x1024 : Shape := ⟨2, ![16, 1024]⟩
abbrev S128x1024 : Shape := ⟨2, ![128, 1024]⟩
abbrev S160x1024 : Shape := ⟨2, ![160, 1024]⟩
abbrev S1x1024 : Shape := ⟨2, ![1, 1024]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x9216, .f32⟩
  | .hbm, ⟨2, _⟩ => ⟨S1x31x1024, .f32⟩
  | .hbm, ⟨3, _⟩ => ⟨S31x1024, .f32⟩
  | .hbm, ⟨4, _⟩ => ⟨S_, .i32⟩
  | .hbm, ⟨5, _⟩ => ⟨S_, .f32⟩
  | .hbm, ⟨6, _⟩ => ⟨S32x1024, .f32⟩
  | .hbm, ⟨7, _⟩ => ⟨S8192x1024, .bf16⟩
  | .hbm, ⟨8, _⟩ => ⟨S8192x1024, .bf16⟩
  | .hbm, ⟨9, _⟩ => ⟨S32x1024, .f32⟩
  | .local _ .vmem, ⟨0, _⟩ => ⟨S16x1024, .f32⟩
  | .local _ .vmem, ⟨1, _⟩ => ⟨S16x1024, .f32⟩
  | .local _ .vmem, ⟨2, _⟩ => ⟨S128x1024, .f32⟩
  | .local _ .vmem, ⟨3, _⟩ => ⟨S128x1024, .f32⟩
  | .local _ .vmem, ⟨4, _⟩ => ⟨S16x1024, .f32⟩
  | .local _ .vmem, ⟨5, _⟩ => ⟨S16x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S32x1024, .f32⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S32x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![1, 64], ![false, false]⟩

def k0_cond1 (i : grid0.Coords) : BitVec 1 :=
  let arg1 : BitVec 32 := BitVec.ofNat 32 (i 1).val
  let c0_i32_127 : BitVec 32 := 0#32
  let v553 : BitVec 1 := Scalar.cmpi .eq arg1 c0_i32_127
  let v554 : BitVec 32 := Scalar.extui v553
  let c0_i32_128 : BitVec 32 := 0#32
  let v555 : BitVec 1 := Scalar.cmpi .ne v554 c0_i32_128
  v555

def k0_cond2 (i : grid0.Coords) : BitVec 1 :=
  let arg1 : BitVec 32 := BitVec.ofNat 32 (i 1).val
  let c0_i32_127 : BitVec 32 := 0#32
  let v553 : BitVec 1 := Scalar.cmpi .eq arg1 c0_i32_127
  let v_true : BitVec 1 := 1#1
  let v556 : BitVec 1 := Scalar.xori v553 v_true
  let v557 : BitVec 32 := Scalar.extui v556
  let c0_i32_129 : BitVec 32 := 0#32
  let v558 : BitVec 1 := Scalar.cmpi .ne v557 c0_i32_129
  v558

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c1_i32_0 : BitVec 32 := 1#32
  let v2 : BitVec 32 := Scalar.addi c1_i32_0 v1
  let c0_i32_1 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== GluBwdRefIdeal.lean ====
abbrev S8192x1024 : Shape := ⟨2, ![8192, 1024]⟩
abbrev S8192x9216 : Shape := ⟨2, ![8192, 9216]⟩
abbrev S1x31x1024 : Shape := ⟨3, ![1, 31, 1024]⟩
abbrev S_ : Shape := ⟨0, ![]⟩
abbrev S15x1024 : Shape := ⟨2, ![15, 1024]⟩
abbrev S8222x1024 : Shape := ⟨2, ![8222, 1024]⟩
abbrev S1x8192x1024 : Shape := ⟨3, ![1, 8192, 1024]⟩
abbrev S16x8192x1024 : Shape := ⟨3, ![16, 8192, 1024]⟩
abbrev S15x8192x1024 : Shape := ⟨3, ![15, 8192, 1024]⟩
abbrev S31x8192x1024 : Shape := ⟨3, ![31, 8192, 1024]⟩
abbrev S31x1024 : Shape := ⟨2, ![31, 1024]⟩
abbrev S31x1x1024 : Shape := ⟨3, ![31, 1, 1024]⟩
abbrev S32x1024 : Shape := ⟨2, ![32, 1024]⟩

abbrev nBuf : Space → Nat
  | .hbm => 272
  | .vmem => 0
  | .smem => 0
  | _ => 0

abbrev hbmTy0_0 (i : Nat) : BufTy := match i % 128 with
  | 0 => ⟨S8192x1024, .f32⟩
  | 1 => ⟨S8192x9216, .f32⟩
  | 2 => ⟨S1x31x1024, .f32⟩
  | 3 => ⟨S8192x1024, .f32⟩
  | 4 => ⟨S8192x1024, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S15x1024, .f32⟩
  | 20 => ⟨S8222x1024, .f32⟩
  | 21 => ⟨S_, .f32⟩
  | 22 => ⟨S15x1024, .f32⟩
  | 23 => ⟨S_, .f32⟩
  | 24 => ⟨S15x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S1x8192x1024, .f32⟩
  | 57 => ⟨S1x8192x1024, .f32⟩
  | 58 => ⟨S1x8192x1024, .f32⟩
  | 59 => ⟨S1x8192x1024, .f32⟩
  | 60 => ⟨S1x8192x1024, .f32⟩
  | 61 => ⟨S1x8192x1024, .f32⟩
  | 62 => ⟨S1x8192x1024, .f32⟩
  | 63 => ⟨S1x8192x1024, .f32⟩
  | 64 => ⟨S1x8192x1024, .f32⟩
  | 65 => ⟨S1x8192x1024, .f32⟩
  | 66 => ⟨S1x8192x1024, .f32⟩
  | 67 => ⟨S1x8192x1024, .f32⟩
  | 68 => ⟨S1x8192x1024, .f32⟩
  | 69 => ⟨S1x8192x1024, .f32⟩
  | 70 => ⟨S1x8192x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S1x8192x1024, .f32⟩
  | 79 => ⟨S1x8192x1024, .f32⟩
  | 80 => ⟨S1x8192x1024, .f32⟩
  | 81 => ⟨S1x8192x1024, .f32⟩
  | 82 => ⟨S1x8192x1024, .f32⟩
  | 83 => ⟨S1x8192x1024, .f32⟩
  | 84 => ⟨S1x8192x1024, .f32⟩
  | 85 => ⟨S1x8192x1024, .f32⟩
  | 86 => ⟨S1x8192x1024, .f32⟩
  | 87 => ⟨S16x8192x1024, .f32⟩
  | 88 => ⟨S15x8192x1024, .f32⟩
  | 89 => ⟨S31x8192x1024, .f32⟩
  | 90 => ⟨S31x1024, .f32⟩
  | 91 => ⟨S31x1x1024, .f32⟩
  | 92 => ⟨S31x8192x1024, .f32⟩
  | 93 => ⟨S31x8192x1024, .f32⟩
  | 94 => ⟨S_, .f32⟩
  | 95 => ⟨S8192x1024, .f32⟩
  | 96 => ⟨S31x8192x1024, .f32⟩
  | 97 => ⟨S31x8192x1024, .f32⟩
  | 98 => ⟨S_, .f32⟩
  | 99 => ⟨S31x1024, .f32⟩
  | 100 => ⟨S31x1x1024, .f32⟩
  | 101 => ⟨S31x8192x1024, .f32⟩
  | 102 => ⟨S31x8192x1024, .f32⟩
  | 103 => ⟨S_, .f32⟩
  | 104 => ⟨S31x1024, .f32⟩
  | 105 => ⟨S1x31x1024, .f32⟩
  | 106 => ⟨S1x8192x1024, .f32⟩
  | 107 => ⟨S8192x1024, .f32⟩
  | 108 => ⟨S1x8192x1024, .f32⟩
  | 109 => ⟨S8192x1024, .f32⟩
  | 110 => ⟨S1x8192x1024, .f32⟩
  | 111 => ⟨S8192x1024, .f32⟩
  | 112 => ⟨S1x8192x1024, .f32⟩
  | 113 => ⟨S8192x1024, .f32⟩
  | 114 => ⟨S1x8192x1024, .f32⟩
  | 115 => ⟨S8192x1024, .f32⟩
  | 116 => ⟨S1x8192x1024, .f32⟩
  | 117 => ⟨S8192x1024, .f32⟩
  | 118 => ⟨S1x8192x1024, .f32⟩
  | 119 => ⟨S8192x1024, .f32⟩
  | 120 => ⟨S1x8192x1024, .f32⟩
  | 121 => ⟨S8192x1024, .f32⟩
  | 122 => ⟨S1x8192x1024, .f32⟩
  | 123 => ⟨S8192x1024, .f32⟩
  | 124 => ⟨S1x8192x1024, .f32⟩
  | 125 => ⟨S8192x1024, .f32⟩
  | 126 => ⟨S1x8192x1024, .f32⟩
  | 127 => ⟨S8192x1024, .f32⟩
  | _ => ⟨S8192x1024, .f32⟩

abbrev hbmTy0_1 (i : Nat) : BufTy := match i % 128 with
  | 0 => ⟨S1x8192x1024, .f32⟩
  | 1 => ⟨S8192x1024, .f32⟩
  | 2 => ⟨S1x8192x1024, .f32⟩
  | 3 => ⟨S8192x1024, .f32⟩
  | 4 => ⟨S1x8192x1024, .f32⟩
  | 5 => ⟨S8192x1024, .f32⟩
  | 6 => ⟨S1x8192x1024, .f32⟩
  | 7 => ⟨S8192x1024, .f32⟩
  | 8 => ⟨S1x8192x1024, .f32⟩
  | 9 => ⟨S8192x1024, .f32⟩
  | 10 => ⟨S1x8192x1024, .f32⟩
  | 11 => ⟨S8192x1024, .f32⟩
  | 12 => ⟨S1x8192x1024, .f32⟩
  | 13 => ⟨S8192x1024, .f32⟩
  | 14 => ⟨S1x8192x1024, .f32⟩
  | 15 => ⟨S8192x1024, .f32⟩
  | 16 => ⟨S1x8192x1024, .f32⟩
  | 17 => ⟨S8192x1024, .f32⟩
  | 18 => ⟨S1x8192x1024, .f32⟩
  | 19 => ⟨S8192x1024, .f32⟩
  | 20 => ⟨S1x8192x1024, .f32⟩
  | 21 => ⟨S8192x1024, .f32⟩
  | 22 => ⟨S1x8192x1024, .f32⟩
  | 23 => ⟨S8192x1024, .f32⟩
  | 24 => ⟨S1x8192x1024, .f32⟩
  | 25 => ⟨S8192x1024, .f32⟩
  | 26 => ⟨S1x8192x1024, .f32⟩
  | 27 => ⟨S8192x1024, .f32⟩
  | 28 => ⟨S1x8192x1024, .f32⟩
  | 29 => ⟨S8192x1024, .f32⟩
  | 30 => ⟨S1x8192x1024, .f32⟩
  | 31 => ⟨S8192x1024, .f32⟩
  | 32 => ⟨S1x8192x1024, .f32⟩
  | 33 => ⟨S8192x1024, .f32⟩
  | 34 => ⟨S1x8192x1024, .f32⟩
  | 35 => ⟨S8192x1024, .f32⟩
  | 36 => ⟨S1x8192x1024, .f32⟩
  | 37 => ⟨S8192x1024, .f32⟩
  | 38 => ⟨S1x8192x1024, .f32⟩
  | 39 => ⟨S8192x1024, .f32⟩
  | 40 => ⟨S_, .f32⟩
  | 41 => ⟨S8222x1024, .f32⟩
  | 42 => ⟨S_, .f32⟩
  | 43 => ⟨S8222x1024, .f32⟩
  | 44 => ⟨S8222x1024, .f32⟩
  | 45 => ⟨S_, .f32⟩
  | 46 => ⟨S8222x1024, .f32⟩
  | 47 => ⟨S8222x1024, .f32⟩
  | 48 => ⟨S_, .f32⟩
  | 49 => ⟨S8222x1024, .f32⟩
  | 50 => ⟨S8222x1024, .f32⟩
  | 51 => ⟨S_, .f32⟩
  | 52 => ⟨S8222x1024, .f32⟩
  | 53 => ⟨S8222x1024, .f32⟩
  | 54 => ⟨S_, .f32⟩
  | 55 => ⟨S8222x1024, .f32⟩
  | 56 => ⟨S8222x1024, .f32⟩
  | 57 => ⟨S_, .f32⟩
  | 58 => ⟨S8222x1024, .f32⟩
  | 59 => ⟨S8222x1024, .f32⟩
  | 60 => ⟨S_, .f32⟩
  | 61 => ⟨S8222x1024, .f32⟩
  | 62 => ⟨S8222x1024, .f32⟩
  | 63 => ⟨S_, .f32⟩
  | 64 => ⟨S8222x1024, .f32⟩
  | 65 => ⟨S8222x1024, .f32⟩
  | 66 => ⟨S_, .f32⟩
  | 67 => ⟨S8222x1024, .f32⟩
  | 68 => ⟨S8222x1024, .f32⟩
  | 69 => ⟨S_, .f32⟩
  | 70 => ⟨S8222x1024, .f32⟩
  | 71 => ⟨S8222x1024, .f32⟩
  | 72 => ⟨S_, .f32⟩
  | 73 => ⟨S8222x1024, .f32⟩
  | 74 => ⟨S8222x1024, .f32⟩
  | 75 => ⟨S_, .f32⟩
  | 76 => ⟨S8222x1024, .f32⟩
  | 77 => ⟨S8222x1024, .f32⟩
  | 78 => ⟨S_, .f32⟩
  | 79 => ⟨S8222x1024, .f32⟩
  | 80 => ⟨S8222x1024, .f32⟩
  | 81 => ⟨S_, .f32⟩
  | 82 => ⟨S8222x1024, .f32⟩
  | 83 => ⟨S8222x1024, .f32⟩
  | 84 => ⟨S_, .f32⟩
  | 85 => ⟨S8222x1024, .f32⟩
  | 86 => ⟨S8222x1024, .f32⟩
  | 87 => ⟨S_, .f32⟩
  | 88 => ⟨S8222x1024, .f32⟩
  | 89 => ⟨S8222x1024, .f32⟩
  | 90 => ⟨S_, .f32⟩
  | 91 => ⟨S8222x1024, .f32⟩
  | 92 => ⟨S8222x1024, .f32⟩
  | 93 => ⟨S_, .f32⟩
  | 94 => ⟨S8222x1024, .f32⟩
  | 95 => ⟨S8222x1024, .f32⟩
  | 96 => ⟨S_, .f32⟩
  | 97 => ⟨S8222x1024, .f32⟩
  | 98 => ⟨S8222x1024, .f32⟩
  | 99 => ⟨S_, .f32⟩
  | 100 => ⟨S8222x1024, .f32⟩
  | 101 => ⟨S8222x1024, .f32⟩
  | 102 => ⟨S_, .f32⟩
  | 103 => ⟨S8222x1024, .f32⟩
  | 104 => ⟨S8222x1024, .f32⟩
  | 105 => ⟨S_, .f32⟩
  | 106 => ⟨S8222x1024, .f32⟩
  | 107 => ⟨S8222x1024, .f32⟩
  | 108 => ⟨S_, .f32⟩
  | 109 => ⟨S8222x1024, .f32⟩
  | 110 => ⟨S8222x1024, .f32⟩
  | 111 => ⟨S_, .f32⟩
  | 112 => ⟨S8222x1024, .f32⟩
  | 113 => ⟨S8222x1024, .f32⟩
  | 114 => ⟨S_, .f32⟩
  | 115 => ⟨S8222x1024, .f32⟩
  | 116 => ⟨S8222x1024, .f32⟩
  | 117 => ⟨S_, .f32⟩
  | 118 => ⟨S8222x1024, .f32⟩
  | 119 => ⟨S8222x1024, .f32⟩
  | 120 => ⟨S_, .f32⟩
  | 121 => ⟨S8222x1024, .f32⟩
  | 122 => ⟨S8222x1024, .f32⟩
  | 123 => ⟨S_, .f32⟩
  | 124 => ⟨S8222x1024, .f32⟩
  | 125 => ⟨S8222x1024, .f32⟩
  | 126 => ⟨S_, .f32⟩
  | 127 => ⟨S8222x1024, .f32⟩
  | _ => ⟨S8192x1024, .f32⟩

abbrev hbmTy0_2 (i : Nat) : BufTy := match i % 128 with
  | 0 => ⟨S8222x1024, .f32⟩
  | 1 => ⟨S_, .f32⟩
  | 2 => ⟨S8222x1024, .f32⟩
  | 3 => ⟨S8222x1024, .f32⟩
  | 4 => ⟨S15x1024, .f32⟩
  | 5 => ⟨S8192x1024, .f32⟩
  | 6 => ⟨S15x1024, .f32⟩
  | 7 => ⟨S8192x1024, .f32⟩
  | 8 => ⟨S8192x1024, .f32⟩
  | 9 => ⟨S8192x1024, .f32⟩
  | 10 => ⟨S8192x1024, .bf16⟩
  | 11 => ⟨S8192x1024, .bf16⟩
  | 12 => ⟨S31x1024, .f32⟩
  | 13 => ⟨S_, .i32⟩
  | 14 => ⟨S_, .f32⟩
  | 15 => ⟨S32x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst_5 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_6 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_cst_7 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_cst_8 : Ref sig .tc := ⟨.hbm, 168, rfl⟩
abbrev main_v156 : Ref sig .tc := ⟨.hbm, 169, rfl⟩
abbrev main_cst_9 : Ref sig .tc := ⟨.hbm, 170, rfl⟩
abbrev main_v157 : Ref sig .tc := ⟨.hbm, 171, rfl⟩
abbrev main_v158 : Ref sig .tc := ⟨.hbm, 172, rfl⟩
abbrev main_cst_10 : Ref sig .tc := ⟨.hbm, 173, rfl⟩
abbrev main_v159 : Ref sig .tc := ⟨.hbm, 174, rfl⟩
abbrev main_v160 : Ref sig .tc := ⟨.hbm, 175, rfl⟩
abbrev main_cst_11 : Ref sig .tc := ⟨.hbm, 176, rfl⟩
abbrev main_v161 : Ref sig .tc := ⟨.hbm, 177, rfl⟩
abbrev main_v162 : Ref sig .tc := ⟨.hbm, 178, rfl⟩
abbrev main_cst_12 : Ref sig .tc := ⟨.hbm, 179, rfl⟩
abbrev main_v163 : Ref sig .tc := ⟨.hbm, 180, rfl⟩
abbrev main_v164 : Ref sig .tc := ⟨.hbm, 181, rfl⟩
abbrev main_cst_13 : Ref sig .tc := ⟨.hbm, 182, rfl⟩
abbrev main_v165 : Ref sig .tc := ⟨.hbm, 183, rfl⟩
abbrev main_v166 : Ref sig .tc := ⟨.hbm, 184, rfl⟩
abbrev main_cst_14 : Ref sig .tc := ⟨.hbm, 185, rfl⟩
abbrev main_v167 : Ref sig .tc := ⟨.hbm, 186, rfl⟩
abbrev main_v168 : Ref sig .tc := ⟨.hbm, 187, rfl⟩
abbrev main_cst_15 : Ref sig .tc := ⟨.hbm, 188, rfl⟩
abbrev main_v169 : Ref sig .tc := ⟨.hbm, 189, rfl⟩
abbrev main_v170 : Ref sig .tc := ⟨.hbm, 190, rfl⟩
abbrev main_cst_16 : Ref sig .tc := ⟨.hbm, 191, rfl⟩
abbrev main_v171 : Ref sig .tc := ⟨.hbm, 192, rfl⟩
abbrev main_v172 : Ref sig .tc := ⟨.hbm, 193, rfl⟩
abbrev main_cst_17 : Ref sig .tc := ⟨.hbm, 194, rfl⟩
abbrev main_v173 : Ref sig .tc := ⟨.hbm, 195, rfl⟩
abbrev main_v174 : Ref sig .tc := ⟨.hbm, 196, rfl⟩
abbrev main_cst_18 : Ref sig .tc := ⟨.hbm, 197, rfl⟩
abbrev main_v175 : Ref sig .tc := ⟨.hbm, 198, rfl⟩
abbrev main_v176 : Ref sig .tc := ⟨.hbm, 199, rfl⟩
abbrev main_cst_19 : Ref sig .tc := ⟨.hbm, 200, rfl⟩
abbrev main_v177 : Ref sig .tc := ⟨.hbm, 201, rfl⟩
abbrev main_v178 : Ref sig .tc := ⟨.hbm, 202, rfl⟩
abbrev main_cst_20 : Ref sig .tc := ⟨.hbm, 203, rfl⟩
abbrev main_v179 : Ref sig .tc := ⟨.hbm, 204, rfl⟩
abbrev main_v180 : Ref sig .tc := ⟨.hbm, 205, rfl⟩
abbrev main_cst_21 : Ref sig .tc := ⟨.hbm, 206, rfl⟩
abbrev main_v181 : Ref sig .tc := ⟨.hbm, 207, rfl⟩
abbrev main_v182 : Ref sig .tc := ⟨.hbm, 208, rfl⟩
abbrev main_cst_22 : Ref sig .tc := ⟨.hbm, 209, rfl⟩
abbrev main_v183 : Ref sig .tc := ⟨.hbm, 210, rfl⟩
abbrev main_v184 : Ref sig .tc := ⟨.hbm, 211, rfl⟩
abbrev main_cst_23 : Ref sig .tc := ⟨.hbm, 212, rfl⟩
abbrev main_v185 : Ref sig .tc := ⟨.hbm, 213, rfl⟩
abbrev main_v186 : Ref sig .tc := ⟨.hbm, 214, rfl⟩
abbrev main_cst_24 : Ref sig .tc := ⟨.hbm, 215, rfl⟩
abbrev main_v187 : Ref sig .tc := ⟨.hbm, 216, rfl⟩
abbrev main_v188 : Ref sig .tc := ⟨.hbm, 217, rfl⟩
abbrev main_cst_25 : Ref sig .tc := ⟨.hbm, 218, rfl⟩
abbrev main_v189 : Ref sig .tc := ⟨.hbm, 219, rfl⟩
abbrev main_v190 : Ref sig .tc := ⟨.hbm, 220, rfl⟩
abbrev main_cst_26 : Ref sig .tc := ⟨.hbm, 221, rfl⟩
abbrev main_v191 : Ref sig .tc := ⟨.hbm, 222, rfl⟩
abbrev main_v192 : Ref sig .tc := ⟨.hbm, 223, rfl⟩
abbrev main_cst_27 : Ref sig .tc := ⟨.hbm, 224, rfl⟩
abbrev main_v193 : Ref sig .tc := ⟨.hbm, 225, rfl⟩
abbrev main_v194 : Ref sig .tc := ⟨.hbm, 226, rfl⟩
abbrev main_cst_28 : Ref sig .tc := ⟨.hbm, 227, rfl⟩
abbrev main_v195 : Ref sig .tc := ⟨.hbm, 228, rfl⟩
abbrev main_v196 : Ref sig .tc := ⟨.hbm, 229, rfl⟩
abbrev main_cst_29 : Ref sig .tc := ⟨.hbm, 230, rfl⟩
abbrev main_v197 : Ref sig .tc := ⟨.hbm, 231, rfl⟩
abbrev main_v198 : Ref sig .tc := ⟨.hbm, 232, rfl⟩
abbrev main_cst_30 : Ref sig .tc := ⟨.hbm, 233, rfl⟩
abbrev main_v199 : Ref sig .tc := ⟨.hbm, 234, rfl⟩
abbrev main_v200 : Ref sig .tc := ⟨.hbm, 235, rfl⟩
abbrev main_cst_31 : Ref sig .tc := ⟨.hbm, 236, rfl⟩
abbrev main_v201 : Ref sig .tc := ⟨.hbm, 237, rfl⟩
abbrev main_v202 : Ref sig .tc := ⟨.hbm, 238, rfl⟩
abbrev main_cst_32 : Ref sig .tc := ⟨.hbm, 239, rfl⟩
abbrev main_v203 : Ref sig .tc := ⟨.hbm, 240, rfl⟩
abbrev main_v204 : Ref sig .tc := ⟨.hbm, 241, rfl⟩
abbrev main_cst_33 : Ref sig .tc := ⟨.hbm, 242, rfl⟩
abbrev main_v205 : Ref sig .tc := ⟨.hbm, 243, rfl⟩
abbrev main_v206 : Ref sig .tc := ⟨.hbm, 244, rfl⟩
abbrev main_cst_34 : Ref sig .tc := ⟨.hbm, 245, rfl⟩
abbrev main_v207 : Ref sig .tc := ⟨.hbm, 246, rfl⟩
abbrev main_v208 : Ref sig .tc := ⟨.hbm, 247, rfl⟩
abbrev main_cst_35 : Ref sig .tc := ⟨.hbm, 248, rfl⟩
abbrev main_v209 : Ref sig .tc := ⟨.hbm, 249, rfl⟩
abbrev main_v210 : Ref sig .tc := ⟨.hbm, 250, rfl⟩
abbrev main_cst_36 : Ref sig .tc := ⟨.hbm, 251, rfl⟩
abbrev main_v211 : Ref sig .tc := ⟨.hbm, 252, rfl⟩
abbrev main_v212 : Ref sig .tc := ⟨.hbm, 253, rfl⟩
abbrev main_cst_37 : Ref sig .tc := ⟨.hbm, 254, rfl⟩
abbrev main_v213 : Ref sig .tc := ⟨.hbm, 255, rfl⟩
abbrev main_v214 : Ref sig .tc := ⟨.hbm, 256, rfl⟩
abbrev main_cst_38 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_c : Ref sig .tc := ⟨.hbm, 269, rfl⟩
abbrev main_call0_v0 : Ref sig .tc := ⟨.hbm, 270, rfl⟩
abbrev main_v226 : Ref sig .tc := ⟨.hbm, 271, rfl⟩

abbrev nD : Nat := 1
abbrev τ : Topo := Topo.v7x

variable {F : FTy → Type} [FloatOps F]
-- ==== RmsFwd.lean ====
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RmsFwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Merged.lean ====
abbrev S8192x2048 : Shape := ⟨2, ![8192, 2048]⟩
abbrev S1x2048x2048 : Shape := ⟨3, ![1, 2048, 2048]⟩
abbrev S8192x9216 : Shape := ⟨2, ![8192, 9216]⟩
abbrev S512x2048 : Shape := ⟨2, ![512, 2048]⟩
abbrev S1x2048x1024 : Shape := ⟨3, ![1, 2048, 1024]⟩
abbrev S512x1024 : Shape := ⟨2, ![512, 1024]⟩
abbrev S8x128 : Shape := ⟨2, ![8, 128]⟩
abbrev S2048x1024 : Shape := ⟨2, ![2048, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x9216, .f32⟩
  | .hbm, ⟨3, _⟩ => ⟨S8192x2048, .f32⟩
  | .hbm, ⟨4, _⟩ => ⟨S1x2048x2048, .bf16⟩
  | .hbm, ⟨5, _⟩ => ⟨S8192x2048, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MergedRefIdeal.lean ====
abbrev S8192x2048 : Shape := ⟨2, ![8192, 2048]⟩
abbrev S1x2048x2048 : Shape := ⟨3, ![1, 2048, 2048]⟩
abbrev S8192x9216 : Shape := ⟨2, ![8192, 9216]⟩
abbrev S2048x2048 : Shape := ⟨2, ![2048, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x9216, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Act.lean ====
abbrev S8192x2048 : Shape := ⟨2, ![8192, 2048]⟩
abbrev S1x2048x8192 : Shape := ⟨3, ![1, 2048, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S1x2048x8192, .f32⟩
  | .hbm, ⟨2, _⟩ => ⟨S2048x8192, .f32⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S8192x8192, .f32⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActRefIdeal.lean ====
abbrev S8192x2048 : Shape := ⟨2, ![8192, 2048]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x8192, .f32⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Queries.lean ====
abbrev S8192x9216 : Shape := ⟨2, ![8192, 9216]⟩
abbrev S1x128 : Shape := ⟨2, ![1, 128]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S64 : Shape := ⟨1, ![64]⟩
abbrev S64x1 : Shape := ⟨2, ![64, 1]⟩
abbrev S64x32 : Shape := ⟨2, ![64, 32]⟩
abbrev S128x64x32 : Shape := ⟨3, ![128, 64, 32]⟩
abbrev S8192x32 : Shape := ⟨2, ![8192, 32]⟩
abbrev S1x64x1x32 : Shape := ⟨4, ![1, 64, 1, 32]⟩
abbrev S128x64x1x32 : Shape := ⟨4, ![128, 64, 1, 32]⟩
abbrev S8192x128 : Shape := ⟨2, ![8192, 128]⟩
abbrev S8192x2048 : Shape := ⟨2, ![8192, 2048]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 49
  | .vmem => 9
  | .smem => 0
  | _ => 0

abbrev bufTy : (tb : Table) → Fin (tcTables nBuf tb) → BufTy
  | .hbm, ⟨0, _⟩ => ⟨S8192x9216, .f32⟩
  | .hbm, ⟨1, _⟩ => ⟨S1x128, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S128, .i32⟩
  | .hbm, ⟨17, _⟩ => ⟨S128, .f32⟩
  | .hbm, ⟨18, _⟩ => ⟨S128x1, .f32⟩
  | .hbm, ⟨19, _⟩ => ⟨S1x32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S64, .i32⟩
  | .hbm, ⟨24, _⟩ => ⟨S64, .f32⟩
  | .hbm, ⟨25, _⟩ => ⟨S64x1, .f32⟩
  | .hbm, ⟨26, _⟩ => ⟨S1x32, .f32⟩
  | .hbm, ⟨27, _⟩ => ⟨S64x32, .f32⟩
  | .hbm, ⟨28, _⟩ => ⟨S64x32, .f32⟩
  | .hbm, ⟨29, _⟩ => ⟨S64x32, .f32⟩
  | .hbm, ⟨30, _⟩ => ⟨S128x32, .f32⟩
  | .hbm, ⟨31, _⟩ => ⟨S128x64x32, .f32⟩
  | .hbm, ⟨32, _⟩ => ⟨S8192x32, .f32⟩
  | .hbm, ⟨33, _⟩ => ⟨S128x32, .f32⟩
  | .hbm, ⟨34, _⟩ => ⟨S128x64x32, .f32⟩
  | .hbm, ⟨35, _⟩ => ⟨S8192x32, .f32⟩
  | .hbm, ⟨36, _⟩ => ⟨S64x32, .f32⟩
  | .hbm, ⟨37, _⟩ => ⟨S1x64x1x32, .f32⟩
  | .hbm, ⟨38, _⟩ => ⟨S128x64x1x32, .f32⟩
  | .hbm, ⟨39, _⟩ => ⟨S8192x32, .f32⟩
  | .hbm, ⟨40, _⟩ => ⟨S64x32, .f32⟩
  | .hbm, ⟨41, _⟩ => ⟨S1x64x1x32, .f32⟩
  | .hbm, ⟨42, _⟩ => ⟨S128x64x1x32, .f32⟩
  | .hbm, ⟨43, _⟩ => ⟨S8192x32, .f32⟩
  | .hbm, ⟨44, _⟩ => ⟨S8192x128, .f32⟩
  | .hbm, ⟨45, _⟩ => ⟨S8192x32, .f32⟩
  | .hbm, ⟨46, _⟩ => ⟨S8192x32, .f32⟩
  | .hbm, ⟨47, _⟩ => ⟨S8192x128, .f32⟩
  | .hbm, ⟨48, _⟩ => ⟨S8192x2048, .bf16⟩
  | .local _ .vmem, ⟨0, _⟩ => ⟨S1024x512, .f32⟩
  | .local _ .vmem, ⟨1, _⟩ => ⟨S1024x512, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x512, .bf16⟩
  | .local _ .vmem, ⟨8, _⟩ => ⟨S1024x512, .bf16⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c4_i32 : BitVec 32 := 4#32
  let v2 : BitVec 32 := Scalar.addi c4_i32 v1
  let c0_i32_0 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QueriesIdeal.lean ====
variable {F : FTy → Type} [FloatOps F] [Named F]
def κ : String → Option EReal := fun
  | "scale" => some (((Real.sqrt 128)⁻¹ * (Real.log 2)⁻¹ : ℝ) : EReal)
  | _ => none
-- ==== QueriesRefIdeal.lean ====
abbrev S8192x9216 : Shape := ⟨2, ![8192, 9216]⟩
abbrev S1x128 : Shape := ⟨2, ![1, 128]⟩
abbrev S8192x2048 : Shape := ⟨2, ![8192, 2048]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x16x128 : Shape := ⟨3, ![8192, 16, 128]⟩
abbrev S8192x16 : Shape := ⟨2, ![8192, 16]⟩
abbrev S8192x16x1 : Shape := ⟨3, ![8192, 16, 1]⟩
abbrev S1x1x128 : Shape := ⟨3, ![1, 1, 128]⟩
abbrev S8192x16x64 : Shape := ⟨3, ![8192, 16, 64]⟩
abbrev S8192x1x32 : Shape := ⟨3, ![8192, 1, 32]⟩
abbrev S8192x16x32 : Shape := ⟨3, ![8192, 16, 32]⟩

abbrev nBuf : Space → Nat
  | .hbm => 101
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S1x128, .f32⟩
  | .hbm, ⟨2, _⟩ => ⟨S8192x2048, .f32⟩
  | .hbm, ⟨3, _⟩ => ⟨S128, .i32⟩
  | .hbm, ⟨4, _⟩ => ⟨S128x64, .i32⟩
  | .hbm, ⟨5, _⟩ => ⟨S8192, .i32⟩
  | .hbm, ⟨6, _⟩ => ⟨S64, .i32⟩
  | .hbm, ⟨7, _⟩ => ⟨S1x64, .i32⟩
  | .hbm, ⟨8, _⟩ => ⟨S128x64, .i32⟩
  | .hbm, ⟨9, _⟩ => ⟨S8192, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8192, .f32⟩
  | .hbm, ⟨25, _⟩ => ⟨S8192x1, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192, .f32⟩
  | .hbm, ⟨31, _⟩ => ⟨S8192x1, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x16x128, .f32⟩
  | .hbm, ⟨37, _⟩ => ⟨S128, .f32⟩
  | .hbm, ⟨38, _⟩ => ⟨S8192x16x128, .f32⟩
  | .hbm, ⟨39, _⟩ => ⟨S_, .f32⟩
  | .hbm, ⟨40, _⟩ => ⟨S8192x16, .f32⟩
  | .hbm, ⟨41, _⟩ => ⟨S8192x16x1, .f32⟩
  | .hbm, ⟨42, _⟩ => ⟨S_, .f32⟩
  | .hbm, ⟨43, _⟩ => ⟨S8192x16x1, .f32⟩
  | .hbm, ⟨44, _⟩ => ⟨S8192x16x1, .f32⟩
  | .hbm, ⟨45, _⟩ => ⟨S_, .f32⟩
  | .hbm, ⟨46, _⟩ => ⟨S8192x16x1, .f32⟩
  | .hbm, ⟨47, _⟩ => ⟨S8192x16x1, .f32⟩
  | .hbm, ⟨48, _⟩ => ⟨S8192x16x1, .f32⟩
  | .hbm, ⟨49, _⟩ => ⟨S8192x16x128, .f32⟩
  | .hbm, ⟨50, _⟩ => ⟨S8192x16x128, .f32⟩
  | .hbm, ⟨51, _⟩ => ⟨S1x1x128, .f32⟩
  | .hbm, ⟨52, _⟩ => ⟨S8192x16x128, .f32⟩
  | .hbm, ⟨53, _⟩ => ⟨S8192x16x128, .f32⟩
  | .hbm, ⟨54, _⟩ => ⟨S8192x16x64, .f32⟩
  | .hbm, ⟨55, _⟩ => ⟨S8192x32, .f32⟩
  | .hbm, ⟨56, _⟩ => ⟨S8192x1x32, .f32⟩
  | .hbm, ⟨57, _⟩ => ⟨S8192x32, .f32⟩
  | .hbm, ⟨58, _⟩ => ⟨S8192x1x32, .f32⟩
  | .hbm, ⟨59, _⟩ => ⟨S8192x16x32, .f32⟩
  | .hbm, ⟨60, _⟩ => ⟨S8192x16x32, .f32⟩
  | .hbm, ⟨61, _⟩ => ⟨S8192x16x32, .f32⟩
  | .hbm, ⟨62, _⟩ => ⟨S8192x16x32, .f32⟩
  | .hbm, ⟨63, _⟩ => ⟨S8192x16x32, .f32⟩
  | .hbm, ⟨64, _⟩ => ⟨S8192x16x32, .f32⟩
  | .hbm, ⟨65, _⟩ => ⟨S8192x16x32, .f32⟩
  | .hbm, ⟨66, _⟩ => ⟨S8192x16x32, .f32⟩
  | .hbm, ⟨67, _⟩ => ⟨S8192x16x32, .f32⟩
  | .hbm, ⟨68, _⟩ => ⟨S8192x16x32, .f32⟩
  | .hbm, ⟨69, _⟩ => ⟨S8192x16x32, .f32⟩
  | .hbm, ⟨70, _⟩ => ⟨S8192x16x32, .f32⟩
  | .hbm, ⟨71, _⟩ => ⟨S8192x16x64, .f32⟩
  | .hbm, ⟨72, _⟩ => ⟨S8192x16x64, .f32⟩
  | .hbm, ⟨73, _⟩ => ⟨S8192x32, .f32⟩
  | .hbm, ⟨74, _⟩ => ⟨S8192x1x32, .f32⟩
  | .hbm, ⟨75, _⟩ => ⟨S8192x32, .f32⟩
  | .hbm, ⟨76, _⟩ => ⟨S8192x1x32, .f32⟩
  | .hbm, ⟨77, _⟩ => ⟨S8192x16x32, .f32⟩
  | .hbm, ⟨78, _⟩ => ⟨S8192x16x32, .f32⟩
  | .hbm, ⟨79, _⟩ => ⟨S8192x16x32, .f32⟩
  | .hbm, ⟨80, _⟩ => ⟨S8192x16x32, .f32⟩
  | .hbm, ⟨81, _⟩ => ⟨S8192x16x32, .f32⟩
  | .hbm, ⟨82, _⟩ => ⟨S8192x16x32, .f32⟩
  | .hbm, ⟨83, _⟩ => ⟨S8192x16x32, .f32⟩
  | .hbm, ⟨84, _⟩ => ⟨S8192x16x32, .f32⟩
  | .hbm, ⟨85, _⟩ => ⟨S8192x16x32, .f32⟩
  | .hbm, ⟨86, _⟩ => ⟨S8192x16x32, .f32⟩
  | .hbm, ⟨87, _⟩ => ⟨S8192x16x32, .f32⟩
  | .hbm, ⟨88, _⟩ => ⟨S8192x16x32, .f32⟩
  | .hbm, ⟨89, _⟩ => ⟨S8192x16x64, .f32⟩
  | .hbm, ⟨90, _⟩ => ⟨S8192x16x128, .f32⟩
  | .hbm, ⟨91, _⟩ => ⟨S8192x2048, .f32⟩
  | .hbm, ⟨92, _⟩ => ⟨S_, .f32⟩
  | .hbm, ⟨93, _⟩ => ⟨S_, .f32⟩
  | .hbm, ⟨94, _⟩ => ⟨S8192x2048, .f32⟩
  | .hbm, ⟨95, _⟩ => ⟨S8192x2048, .f32⟩
  | .hbm, ⟨96, _⟩ => ⟨S_, .f32⟩
  | .hbm, ⟨97, _⟩ => ⟨S_, .f32⟩
  | .hbm, ⟨98, _⟩ => ⟨S8192x2048, .f32⟩
  | .hbm, ⟨99, _⟩ => ⟨S8192x2048, .f32⟩
  | .hbm, ⟨100, _⟩ => ⟨S8192x2048, .bf16⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_6 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_7 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩

abbrev nD : Nat := 1
abbrev τ : Topo := Topo.v7x

variable {F : FTy → Type} [FloatOps F]
-- ==== Keys.lean ====
abbrev S8192x9216 : Shape := ⟨2, ![8192, 9216]⟩
abbrev S1x128 : Shape := ⟨2, ![1, 128]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S64 : Shape := ⟨1, ![64]⟩
abbrev S64x1 : Shape := ⟨2, ![64, 1]⟩
abbrev S64x32 : Shape := ⟨2, ![64, 32]⟩
abbrev S128x64x32 : Shape := ⟨3, ![128, 64, 32]⟩
abbrev S8192x32 : Shape := ⟨2, ![8192, 32]⟩
abbrev S1x64x1x32 : Shape := ⟨4, ![1, 64, 1, 32]⟩
abbrev S128x64x1x32 : Shape := ⟨4, ![128, 64, 1, 32]⟩
abbrev S8192x128 : Shape := ⟨2, ![8192, 128]⟩
abbrev S8192x512 : Shape := ⟨2, ![8192, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 49
  | .vmem => 9
  | .smem => 0
  | _ => 0

abbrev bufTy : (tb : Table) → Fin (tcTables nBuf tb) → BufTy
  | .hbm, ⟨0, _⟩ => ⟨S8192x9216, .f32⟩
  | .hbm, ⟨1, _⟩ => ⟨S1x128, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S128, .i32⟩
  | .hbm, ⟨17, _⟩ => ⟨S128, .f32⟩
  | .hbm, ⟨18, _⟩ => ⟨S128x1, .f32⟩
  | .hbm, ⟨19, _⟩ => ⟨S1x32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S64, .i32⟩
  | .hbm, ⟨24, _⟩ => ⟨S64, .f32⟩
  | .hbm, ⟨25, _⟩ => ⟨S64x1, .f32⟩
  | .hbm, ⟨26, _⟩ => ⟨S1x32, .f32⟩
  | .hbm, ⟨27, _⟩ => ⟨S64x32, .f32⟩
  | .hbm, ⟨28, _⟩ => ⟨S64x32, .f32⟩
  | .hbm, ⟨29, _⟩ => ⟨S64x32, .f32⟩
  | .hbm, ⟨30, _⟩ => ⟨S128x32, .f32⟩
  | .hbm, ⟨31, _⟩ => ⟨S128x64x32, .f32⟩
  | .hbm, ⟨32, _⟩ => ⟨S8192x32, .f32⟩
  | .hbm, ⟨33, _⟩ => ⟨S128x32, .f32⟩
  | .hbm, ⟨34, _⟩ => ⟨S128x64x32, .f32⟩
  | .hbm, ⟨35, _⟩ => ⟨S8192x32, .f32⟩
  | .hbm, ⟨36, _⟩ => ⟨S64x32, .f32⟩
  | .hbm, ⟨37, _⟩ => ⟨S1x64x1x32, .f32⟩
  | .hbm, ⟨38, _⟩ => ⟨S128x64x1x32, .f32⟩
  | .hbm, ⟨39, _⟩ => ⟨S8192x32, .f32⟩
  | .hbm, ⟨40, _⟩ => ⟨S64x32, .f32⟩
  | .hbm, ⟨41, _⟩ => ⟨S1x64x1x32, .f32⟩
  | .hbm, ⟨42, _⟩ => ⟨S128x64x1x32, .f32⟩
  | .hbm, ⟨43, _⟩ => ⟨S8192x32, .f32⟩
  | .hbm, ⟨44, _⟩ => ⟨S8192x128, .f32⟩
  | .hbm, ⟨45, _⟩ => ⟨S8192x32, .f32⟩
  | .hbm, ⟨46, _⟩ => ⟨S8192x32, .f32⟩
  | .hbm, ⟨47, _⟩ => ⟨S8192x128, .f32⟩
  | .hbm, ⟨48, _⟩ => ⟨S8192x512, .bf16⟩
  | .local _ .vmem, ⟨0, _⟩ => ⟨S1024x512, .f32⟩
  | .local _ .vmem, ⟨1, _⟩ => ⟨S1024x512, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x512, .bf16⟩
  | .local _ .vmem, ⟨8, _⟩ => ⟨S1024x512, .bf16⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c8_i32 : BitVec 32 := 8#32
  let v2 : BitVec 32 := Scalar.addi c8_i32 v1
  let c0_i32_0 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KeysRefIdeal.lean ====
abbrev S8192x9216 : Shape := ⟨2, ![8192, 9216]⟩
abbrev S1x128 : Shape := ⟨2, ![1, 128]⟩
abbrev S8192x512 : Shape := ⟨2, ![8192, 512]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192x4x64 : Shape := ⟨3, ![8192, 4, 64]⟩
abbrev S8192x1x32 : Shape := ⟨3, ![8192, 1, 32]⟩
abbrev S8192x4x32 : Shape := ⟨3, ![8192, 4, 32]⟩

abbrev nBuf : Space → Nat
  | .hbm => 93
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S1x128, .f32⟩
  | .hbm, ⟨2, _⟩ => ⟨S8192x512, .f32⟩
  | .hbm, ⟨3, _⟩ => ⟨S128, .i32⟩
  | .hbm, ⟨4, _⟩ => ⟨S128x64, .i32⟩
  | .hbm, ⟨5, _⟩ => ⟨S8192, .i32⟩
  | .hbm, ⟨6, _⟩ => ⟨S64, .i32⟩
  | .hbm, ⟨7, _⟩ => ⟨S1x64, .i32⟩
  | .hbm, ⟨8, _⟩ => ⟨S128x64, .i32⟩
  | .hbm, ⟨9, _⟩ => ⟨S8192, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8192, .f32⟩
  | .hbm, ⟨25, _⟩ => ⟨S8192x1, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192, .f32⟩
  | .hbm, ⟨31, _⟩ => ⟨S8192x1, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x4x128, .f32⟩
  | .hbm, ⟨37, _⟩ => ⟨S128, .f32⟩
  | .hbm, ⟨38, _⟩ => ⟨S8192x4x128, .f32⟩
  | .hbm, ⟨39, _⟩ => ⟨S_, .f32⟩
  | .hbm, ⟨40, _⟩ => ⟨S8192x4, .f32⟩
  | .hbm, ⟨41, _⟩ => ⟨S8192x4x1, .f32⟩
  | .hbm, ⟨42, _⟩ => ⟨S_, .f32⟩
  | .hbm, ⟨43, _⟩ => ⟨S8192x4x1, .f32⟩
  | .hbm, ⟨44, _⟩ => ⟨S8192x4x1, .f32⟩
  | .hbm, ⟨45, _⟩ => ⟨S_, .f32⟩
  | .hbm, ⟨46, _⟩ => ⟨S8192x4x1, .f32⟩
  | .hbm, ⟨47, _⟩ => ⟨S8192x4x1, .f32⟩
  | .hbm, ⟨48, _⟩ => ⟨S8192x4x1, .f32⟩
  | .hbm, ⟨49, _⟩ => ⟨S8192x4x128, .f32⟩
  | .hbm, ⟨50, _⟩ => ⟨S8192x4x128, .f32⟩
  | .hbm, ⟨51, _⟩ => ⟨S1x1x128, .f32⟩
  | .hbm, ⟨52, _⟩ => ⟨S8192x4x128, .f32⟩
  | .hbm, ⟨53, _⟩ => ⟨S8192x4x128, .f32⟩
  | .hbm, ⟨54, _⟩ => ⟨S8192x4x64, .f32⟩
  | .hbm, ⟨55, _⟩ => ⟨S8192x32, .f32⟩
  | .hbm, ⟨56, _⟩ => ⟨S8192x1x32, .f32⟩
  | .hbm, ⟨57, _⟩ => ⟨S8192x32, .f32⟩
  | .hbm, ⟨58, _⟩ => ⟨S8192x1x32, .f32⟩
  | .hbm, ⟨59, _⟩ => ⟨S8192x4x32, .f32⟩
  | .hbm, ⟨60, _⟩ => ⟨S8192x4x32, .f32⟩
  | .hbm, ⟨61, _⟩ => ⟨S8192x4x32, .f32⟩
  | .hbm, ⟨62, _⟩ => ⟨S8192x4x32, .f32⟩
  | .hbm, ⟨63, _⟩ => ⟨S8192x4x32, .f32⟩
  | .hbm, ⟨64, _⟩ => ⟨S8192x4x32, .f32⟩
  | .hbm, ⟨65, _⟩ => ⟨S8192x4x32, .f32⟩
  | .hbm, ⟨66, _⟩ => ⟨S8192x4x32, .f32⟩
  | .hbm, ⟨67, _⟩ => ⟨S8192x4x32, .f32⟩
  | .hbm, ⟨68, _⟩ => ⟨S8192x4x32, .f32⟩
  | .hbm, ⟨69, _⟩ => ⟨S8192x4x32, .f32⟩
  | .hbm, ⟨70, _⟩ => ⟨S8192x4x32, .f32⟩
  | .hbm, ⟨71, _⟩ => ⟨S8192x4x64, .f32⟩
  | .hbm, ⟨72, _⟩ => ⟨S8192x4x64, .f32⟩
  | .hbm, ⟨73, _⟩ => ⟨S8192x32, .f32⟩
  | .hbm, ⟨74, _⟩ => ⟨S8192x1x32, .f32⟩
  | .hbm, ⟨75, _⟩ => ⟨S8192x32, .f32⟩
  | .hbm, ⟨76, _⟩ => ⟨S8192x1x32, .f32⟩
  | .hbm, ⟨77, _⟩ => ⟨S8192x4x32, .f32⟩
  | .hbm, ⟨78, _⟩ => ⟨S8192x4x32, .f32⟩
  | .hbm, ⟨79, _⟩ => ⟨S8192x4x32, .f32⟩
  | .hbm, ⟨80, _⟩ => ⟨S8192x4x32, .f32⟩
  | .hbm, ⟨81, _⟩ => ⟨S8192x4x32, .f32⟩
  | .hbm, ⟨82, _⟩ => ⟨S8192x4x32, .f32⟩
  | .hbm, ⟨83, _⟩ => ⟨S8192x4x32, .f32⟩
  | .hbm, ⟨84, _⟩ => ⟨S8192x4x32, .f32⟩
  | .hbm, ⟨85, _⟩ => ⟨S8192x4x32, .f32⟩
  | .hbm, ⟨86, _⟩ => ⟨S8192x4x32, .f32⟩
  | .hbm, ⟨87, _⟩ => ⟨S8192x4x32, .f32⟩
  | .hbm, ⟨88, _⟩ => ⟨S8192x4x32, .f32⟩
  | .hbm, ⟨89, _⟩ => ⟨S8192x4x64, .f32⟩
  | .hbm, ⟨90, _⟩ => ⟨S8192x4x128, .f32⟩
  | .hbm, ⟨91, _⟩ => ⟨S8192x512, .f32⟩
  | .hbm, ⟨92, _⟩ => ⟨S8192x512, .bf16⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩

abbrev nD : Nat := 1
abbrev τ : Topo := Topo.v7x

variable {F : FTy → Type} [FloatOps F]
-- ==== Conv.lean ====
abbrev S8192x9216 : Shape := ⟨2, ![8192, 9216]⟩
abbrev S1x31x1024 : Shape := ⟨3, ![1, 31, 1024]⟩
abbrev S1x1024 : Shape := ⟨2, ![1, 1024]⟩
abbrev S31x1024 : Shape := ⟨2, ![31, 1024]⟩
abbrev S_ : Shape := ⟨0, ![]⟩
abbrev S32x1024 : Shape := ⟨2, ![32, 1024]⟩
abbrev S8192x1024 : Shape := ⟨2, ![8192, 1024]⟩
abbrev S16x1024 : Shape := ⟨2, ![16, 1024]⟩
abbrev S128x1024 : Shape := ⟨2, ![128, 1024]⟩
abbrev S160x1024 : Shape := ⟨2, ![160, 1024]⟩
abbrev S128 : Shape := ⟨1, ![128]⟩
abbrev S128x1 : Shape := ⟨2, ![128, 1]⟩

abbrev nBuf : Space → Nat
  | .hbm => 10
  | .vmem => 19
  | .smem => 0
  | _ => 0

abbrev bufTy : (tb : Table) → Fin (tcTables nBuf tb) → BufTy
  | .hbm, ⟨0, _⟩ => ⟨S8192x9216, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S31x1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S8192x1024, .f32⟩
  | .hbm, ⟨9, _⟩ => ⟨S8192x1024, .bf16⟩
  | .local _ .vmem, ⟨0, _⟩ => ⟨S16x1024, .f32⟩
  | .local _ .vmem, ⟨1, _⟩ => ⟨S16x1024, .f32⟩
  | .local _ .vmem, ⟨2, _⟩ => ⟨S128x1024, .f32⟩
  | .local _ .vmem, ⟨3, _⟩ => ⟨S128x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S128x1024, .f32⟩
  | .local _ .vmem, ⟨9, _⟩ => ⟨S128x1024, .f32⟩
  | .local _ .vmem, ⟨10, _⟩ => ⟨S16x1024, .f32⟩
  | .local _ .vmem, ⟨11, _⟩ => ⟨S16x1024, .f32⟩
  | .local _ .vmem, ⟨12, _⟩ => ⟨S32x1024, .f32⟩
  | .local _ .vmem, ⟨13, _⟩ => ⟨S1x1024, .f32⟩
  | .local _ .vmem, ⟨14, _⟩ => ⟨S1x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .bf16⟩
  | .local _ .vmem, ⟨18, _⟩ => ⟨S128x1024, .bf16⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi c1_i32_0 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c1_i32_0 : BitVec 32 := 1#32
  let v2 : BitVec 32 := Scalar.addi c1_i32_0 v1
  let c0_i32_1 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c511_i32 : BitVec 32 := 511#32
  let v2 : BitVec 32 := Scalar.minsi v1 c511_i32
  let c1_i32_0 : BitVec 32 := 1#32
  let v3 : BitVec 32 := Scalar.addi c1_i32_0 arg0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvRefIdeal.lean ====
abbrev S8192x9216 : Shape := ⟨2, ![8192, 9216]⟩
abbrev S1x31x1024 : Shape := ⟨3, ![1, 31, 1024]⟩
abbrev S1x1024 : Shape := ⟨2, ![1, 1024]⟩
abbrev S8192x1024 : Shape := ⟨2, ![8192, 1024]⟩
abbrev S_ : Shape := ⟨0, ![]⟩
abbrev S15x1024 : Shape := ⟨2, ![15, 1024]⟩
abbrev S8222x1024 : Shape := ⟨2, ![8222, 1024]⟩
abbrev S1x8192x1024 : Shape := ⟨3, ![1, 8192, 1024]⟩
abbrev S16x8192x1024 : Shape := ⟨3, ![16, 8192, 1024]⟩
abbrev S15x8192x1024 : Shape := ⟨3, ![15, 8192, 1024]⟩
abbrev S31x8192x1024 : Shape := ⟨3, ![31, 8192, 1024]⟩
abbrev S31x1024 : Shape := ⟨2, ![31, 1024]⟩
abbrev S31x1x1024 : Shape := ⟨3, ![31, 1, 1024]⟩
abbrev S1024 : Shape := ⟨1, ![1024]⟩
abbrev S8192 : Shape := ⟨1, ![8192]⟩
abbrev S8192x1 : Shape := ⟨2, ![8192, 1]⟩

abbrev nBuf : Space → Nat
  | .hbm => 128
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S15x1024, .f32⟩
  | .hbm, ⟨17, _⟩ => ⟨S8222x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1x8192x1024, .f32⟩
  | .hbm, ⟨50, _⟩ => ⟨S1x8192x1024, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S1x8192x1024, .f32⟩
  | .hbm, ⟨61, _⟩ => ⟨S1x8192x1024, .f32⟩
  | .hbm, ⟨62, _⟩ => ⟨S1x8192x1024, .f32⟩
  | .hbm, ⟨63, _⟩ => ⟨S1x8192x1024, .f32⟩
  | .hbm, ⟨64, _⟩ => ⟨S1x8192x1024, .f32⟩
  | .hbm, ⟨65, _⟩ => ⟨S1x8192x1024, .f32⟩
  | .hbm, ⟨66, _⟩ => ⟨S1x8192x1024, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S1x8192x1024, .f32⟩
  | .hbm, ⟨71, _⟩ => ⟨S1x8192x1024, .f32⟩
  | .hbm, ⟨72, _⟩ => ⟨S1x8192x1024, .f32⟩
  | .hbm, ⟨73, _⟩ => ⟨S1x8192x1024, .f32⟩
  | .hbm, ⟨74, _⟩ => ⟨S1x8192x1024, .f32⟩
  | .hbm, ⟨75, _⟩ => ⟨S1x8192x1024, .f32⟩
  | .hbm, ⟨76, _⟩ => ⟨S1x8192x1024, .f32⟩
  | .hbm, ⟨77, _⟩ => ⟨S1x8192x1024, .f32⟩
  | .hbm, ⟨78, _⟩ => ⟨S1x8192x1024, .f32⟩
  | .hbm, ⟨79, _⟩ => ⟨S1x8192x1024, .f32⟩
  | .hbm, ⟨80, _⟩ => ⟨S16x8192x1024, .f32⟩
  | .hbm, ⟨81, _⟩ => ⟨S15x8192x1024, .f32⟩
  | .hbm, ⟨82, _⟩ => ⟨S31x8192x1024, .f32⟩
  | .hbm, ⟨83, _⟩ => ⟨S31x1024, .f32⟩
  | .hbm, ⟨84, _⟩ => ⟨S31x1x1024, .f32⟩
  | .hbm, ⟨85, _⟩ => ⟨S31x8192x1024, .f32⟩
  | .hbm, ⟨86, _⟩ => ⟨S31x8192x1024, .f32⟩
  | .hbm, ⟨87, _⟩ => ⟨S_, .f32⟩
  | .hbm, ⟨88, _⟩ => ⟨S8192x1024, .f32⟩
  | .hbm, ⟨89, _⟩ => ⟨S1024, .f32⟩
  | .hbm, ⟨90, _⟩ => ⟨S1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .f32⟩
  | .hbm, ⟨106, _⟩ => ⟨S_, .f32⟩
  | .hbm, ⟨107, _⟩ => ⟨S8192x1, .f32⟩
  | .hbm, ⟨108, _⟩ => ⟨S8192x1, .f32⟩
  | .hbm, ⟨109, _⟩ => ⟨S8192x1, .f32⟩
  | .hbm, ⟨110, _⟩ => ⟨S8192x1024, .f32⟩
  | .hbm, ⟨111, _⟩ => ⟨S8192x1024, .f32⟩
  | .hbm, ⟨112, _⟩ => ⟨S1x1024, .f32⟩
  | .hbm, ⟨113, _⟩ => ⟨S8192x1024, .f32⟩
  | .hbm, ⟨114, _⟩ => ⟨S8192x1024, .f32⟩
  | .hbm, ⟨115, _⟩ => ⟨S1x1024, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S_, .f32⟩
  | .hbm, ⟨121, _⟩ => ⟨S8192x1024, .f32⟩
  | .hbm, ⟨122, _⟩ => ⟨S8192x1024, .f32⟩
  | .hbm, ⟨123, _⟩ => ⟨S_, .f32⟩
  | .hbm, ⟨124, _⟩ => ⟨S8192x1024, .f32⟩
  | .hbm, ⟨125, _⟩ => ⟨S8192x1024, .f32⟩
  | .hbm, ⟨126, _⟩ => ⟨S8192x1024, .f32⟩
  | .hbm, ⟨127, _⟩ => ⟨S8192x1024, .bf16⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_cst_2 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_cst_3 : Ref sig .tc := ⟨.hbm, 91, rfl⟩
abbrev main_v83 : Ref sig .tc := ⟨.hbm, 92, rfl⟩
abbrev main_v84 : Ref sig .tc := ⟨.hbm, 93, rfl⟩
abbrev main_cst_4 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_5 : Ref sig .tc := ⟨.hbm, 100, rfl⟩
abbrev main_v90 : Ref sig .tc := ⟨.hbm, 101, rfl⟩
abbrev main_v91 : Ref sig .tc := ⟨.hbm, 102, rfl⟩
abbrev main_cst_6 : Ref sig .tc := ⟨.hbm, 103, rfl⟩
abbrev main_v92 : Ref sig .tc := ⟨.hbm, 104, rfl⟩
abbrev main_v93 : Ref sig .tc := ⟨.hbm, 105, rfl⟩
abbrev main_cst_7 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_call0_v0 : Ref sig .tc := ⟨.hbm, 118, rfl⟩
abbrev main_call0_v1 : Ref sig .tc := ⟨.hbm, 119, rfl⟩
abbrev main_call0_cst : Ref sig .tc := ⟨.hbm, 120, rfl⟩
abbrev main_call0_v2 : Ref sig .tc := ⟨.hbm, 121, rfl⟩
abbrev main_call0_v3 : Ref sig .tc := ⟨.hbm, 122, rfl⟩
abbrev main_call0_cst_0 : Ref sig .tc := ⟨.hbm, 123, rfl⟩
abbrev main_call0_v4 : Ref sig .tc := ⟨.hbm, 124, rfl⟩
abbrev main_call0_v5 : Ref sig .tc := ⟨.hbm, 125, rfl⟩
abbrev main_v105 : Ref sig .tc := ⟨.hbm, 126, rfl⟩
abbrev main_v106 : Ref sig .tc := ⟨.hbm, 127, rfl⟩

abbrev nD : Nat := 1
abbrev τ : Topo := Topo.v7x

variable {F : FTy → Type} [FloatOps F]
-- ==== Mixed.lean ====
abbrev S8192x2048 : Shape := ⟨2, ![8192, 2048]⟩
abbrev S1x2048x9216 : Shape := ⟨3, ![1, 2048, 9216]⟩
abbrev S2048x9216 : Shape := ⟨2, ![2048, 9216]⟩
abbrev S2048x8x1152 : Shape := ⟨3, ![2048, 8, 1152]⟩
abbrev S8x2048x1152 : Shape := ⟨3, ![8, 2048, 1152]⟩
abbrev S8192x9216 : Shape := ⟨2, ![8192, 9216]⟩
abbrev S512x2048 : Shape := ⟨2, ![512, 2048]⟩
abbrev S2x2048x1152 : Shape := ⟨3, ![2, 2048, 1152]⟩
abbrev S512x2304 : Shape := ⟨2, ![512, 2304]⟩
abbrev S8x128 : Shape := ⟨2, ![8, 128]⟩
abbrev S1x2048x1152 : Shape := ⟨3, ![1, 2048, 1152]⟩
abbrev S2048x1152 : Shape := ⟨2, ![2048, 1152]⟩
abbrev S2048x2304 : Shape := ⟨2, ![2048, 2304]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x9216, .f32⟩
  | .hbm, ⟨2, _⟩ => ⟨S2048x9216, .f32⟩
  | .hbm, ⟨3, _⟩ => ⟨S2048x9216, .bf16⟩
  | .hbm, ⟨4, _⟩ => ⟨S2048x8x1152, .bf16⟩
  | .hbm, ⟨5, _⟩ => ⟨S8x2048x1152, .bf16⟩
  | .hbm, ⟨6, _⟩ => ⟨S8192x9216, .f32⟩
  | .local _ .vmem, ⟨0, _⟩ => ⟨S512x2048, .bf16⟩
  | .local _ .vmem, ⟨1, _⟩ => ⟨S512x2048, .bf16⟩
  | .local _ .vmem, ⟨2, _⟩ => ⟨S2x2048x1152, .bf16⟩
  | .local _ .vmem, ⟨3, _⟩ => ⟨S2x2048x1152, .bf16⟩
  | .local _ .vmem, ⟨4, _⟩ => ⟨S512x2304, .f32⟩
  | .local _ .vmem, ⟨5, _⟩ => ⟨S512x2304, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixedRefIdeal.lean ====
abbrev S8192x2048 : Shape := ⟨2, ![8192, 2048]⟩
abbrev S1x2048x9216 : Shape := ⟨3, ![1, 2048, 9216]⟩
abbrev S2048x9216 : Shape := ⟨2, ![2048, 9216]⟩
abbrev S8192x9216 : Shape := ⟨2, ![8192, 9216]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x9216, .f32⟩
  | .hbm, ⟨2, _⟩ => ⟨S8192x2048, .f32⟩
  | .hbm, ⟨3, _⟩ => ⟨S2048x9216, .f32⟩
  | .hbm, ⟨4, _⟩ => ⟨S8192x9216, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dh.lean ====
abbrev S8192x9216 : Shape := ⟨2, ![8192, 9216]⟩
abbrev S1x2048x9216 : Shape := ⟨3, ![1, 2048, 9216]⟩
abbrev S2048x9216 : Shape := ⟨2, ![2048, 9216]⟩
abbrev S2048x8x1152 : Shape := ⟨3, ![2048, 8, 1152]⟩
abbrev S8x2048x1152 : Shape := ⟨3, ![8, 2048, 1152]⟩
abbrev S8192x2048 : Shape := ⟨2, ![8192, 2048]⟩
abbrev S1024x2304 : Shape := ⟨2, ![1024, 2304]⟩
abbrev S2x1024x1152 : Shape := ⟨3, ![2, 1024, 1152]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 7
  | .vmem => 7
  | .smem => 0
  | _ => 0

abbrev bufTy : (tb : Table) → Fin (tcTables nBuf tb) → BufTy
  | .hbm, ⟨0, _⟩ => ⟨S8192x9216, .bf16⟩
  | .hbm, ⟨1, _⟩ => ⟨S1x2048x9216, .f32⟩
  | .hbm, ⟨2, _⟩ => ⟨S2048x9216, .f32⟩
  | .hbm, ⟨3, _⟩ => ⟨S2048x9216, .bf16⟩
  | .hbm, ⟨4, _⟩ => ⟨S2048x8x1152, .bf16⟩
  | .hbm, ⟨5, _⟩ => ⟨S8x2048x1152, .bf16⟩
  | .hbm, ⟨6, _⟩ => ⟨S8192x2048, .f32⟩
  | .local _ .vmem, ⟨0, _⟩ => ⟨S1024x2304, .bf16⟩
  | .local _ .vmem, ⟨1, _⟩ => ⟨S1024x2304, .bf16⟩
  | .local _ .vmem, ⟨2, _⟩ => ⟨S2x1024x1152, .bf16⟩
  | .local _ .vmem, ⟨3, _⟩ => ⟨S2x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_9 : BitVec 32 := 3#32
  let v15 : BitVec 1 := Scalar.cmpi .eq arg2 c3_i32_9
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S8192x9216 : Shape := ⟨2, ![8192, 9216]⟩
abbrev S1x2048x9216 : Shape := ⟨3, ![1, 2048, 9216]⟩
abbrev S_ : Shape := ⟨0, ![]⟩
abbrev S8192x2048 : Shape := ⟨2, ![8192, 2048]⟩
abbrev S2048x9216 : Shape := ⟨2, ![2048, 9216]⟩

abbrev nBuf : Space → Nat
  | .hbm => 8
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S1x2048x9216, .f32⟩
  | .hbm, ⟨2, _⟩ => ⟨S_, .f32⟩
  | .hbm, ⟨3, _⟩ => ⟨S8192x2048, .f32⟩
  | .hbm, ⟨4, _⟩ => ⟨S2048x9216, .f32⟩
  | .hbm, ⟨5, _⟩ => ⟨S8192x9216, .f32⟩
  | .hbm, ⟨6, _⟩ => ⟨S8192x9216, .f32⟩
  | .hbm, ⟨7, _⟩ => ⟨S8192x2048, .f32⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dw.lean ====
abbrev S8192x2048 : Shape := ⟨2, ![8192, 2048]⟩
abbrev S8192x9216 : Shape := ⟨2, ![8192, 9216]⟩
abbrev S8x2048x1152 : Shape := ⟨3, ![8, 2048, 1152]⟩
abbrev S2048x512 : Shape := ⟨2, ![2048, 512]⟩
abbrev S2048x2304 : Shape := ⟨2, ![2048, 2304]⟩
abbrev S2x512x1152 : Shape := ⟨3, ![2, 512, 1152]⟩
abbrev S512x2304 : Shape := ⟨2, ![512, 2304]⟩
abbrev S512x1152 : Shape := ⟨2, ![512, 1152]⟩
abbrev S1x512x1152 : Shape := ⟨3, ![1, 512, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S8x2048x1152, .bf16⟩
  | .local _ .vmem, ⟨0, _⟩ => ⟨S2048x512, .bf16⟩
  | .local _ .vmem, ⟨1, _⟩ => ⟨S2048x512, .bf16⟩
  | .local _ .vmem, ⟨2, _⟩ => ⟨S2048x2304, .bf16⟩
  | .local _ .vmem, ⟨3, _⟩ => ⟨S2048x2304, .bf16⟩
  | .local _ .vmem, ⟨4, _⟩ => ⟨S2x512x1152, .bf16⟩
  | .local _ .vmem, ⟨5, _⟩ => ⟨S2x512x1152, .bf16⟩
  | .local _ .vmem, ⟨6, _⟩ => ⟨S512x2304, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S8192x2048 : Shape := ⟨2, ![8192, 2048]⟩
abbrev S8192x9216 : Shape := ⟨2, ![8192, 9216]⟩
abbrev S_ : Shape := ⟨0, ![]⟩
abbrev S2048x8x1152 : Shape := ⟨3, ![2048, 8, 1152]⟩
abbrev S2048x9216 : Shape := ⟨2, ![2048, 9216]⟩
abbrev S9216x2048 : Shape := ⟨2, ![9216, 2048]⟩
abbrev S8x2048x1152 : Shape := ⟨3, ![8, 2048, 1152]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S_, .f32⟩
  | .hbm, ⟨3, _⟩ => ⟨S2048x8x1152, .f32⟩
  | .hbm, ⟨4, _⟩ => ⟨S8192x2048, .f32⟩
  | .hbm, ⟨5, _⟩ => ⟨S2048x9216, .f32⟩
  | .hbm, ⟨6, _⟩ => ⟨S8192x9216, .f32⟩
  | .hbm, ⟨7, _⟩ => ⟨S8192x9216, .f32⟩
  | .hbm, ⟨8, _⟩ => ⟨S9216x2048, .f32⟩
  | .hbm, ⟨9, _⟩ => ⟨S2048x9216, .f32⟩
  | .hbm, ⟨10, _⟩ => ⟨S2048x8x1152, .f32⟩
  | .hbm, ⟨11, _⟩ => ⟨S8x2048x1152, .f32⟩
  | .hbm, ⟨12, _⟩ => ⟨S8x2048x1152, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Step.lean ====
abbrev S8x2048x1152 : Shape := ⟨3, ![8, 2048, 1152]⟩
abbrev S1x2048x1152 : Shape := ⟨3, ![1, 2048, 1152]⟩
abbrev S2048x1152 : Shape := ⟨2, ![2048, 1152]⟩
abbrev S16384x1152 : Shape := ⟨2, ![16384, 1152]⟩
abbrev S128x1152 : Shape := ⟨2, ![128, 1152]⟩

abbrev nBuf : Space → Nat
  | .hbm => 12
  | .vmem => 30
  | .smem => 0
  | _ => 0

abbrev bufTy : (tb : Table) → Fin (tcTables nBuf tb) → BufTy
  | .hbm, ⟨0, _⟩ => ⟨S8x2048x1152, .bf16⟩
  | .hbm, ⟨1, _⟩ => ⟨S1x2048x1152, .f32⟩
  | .hbm, ⟨2, _⟩ => ⟨S1x2048x1152, .f32⟩
  | .hbm, ⟨3, _⟩ => ⟨S1x2048x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S16384x1152, .bf16⟩
  | .hbm, ⟨8, _⟩ => ⟨S2048x1152, .f32⟩
  | .hbm, ⟨9, _⟩ => ⟨S2048x1152, .f32⟩
  | .hbm, ⟨10, _⟩ => ⟨S2048x1152, .f32⟩
  | .hbm, ⟨11, _⟩ => ⟨S2048x1152, .f32⟩
  | .local _ .vmem, ⟨0, _⟩ => ⟨S128x1152, .bf16⟩
  | .local _ .vmem, ⟨1, _⟩ => ⟨S128x1152, .bf16⟩
  | .local _ .vmem, ⟨2, _⟩ => ⟨S128x1152, .bf16⟩
  | .local _ .vmem, ⟨3, _⟩ => ⟨S128x1152, .bf16⟩
  | .local _ .vmem, ⟨4, _⟩ => ⟨S128x1152, .bf16⟩
  | .local _ .vmem, ⟨5, _⟩ => ⟨S128x1152, .bf16⟩
  | .local _ .vmem, ⟨6, _⟩ => ⟨S128x1152, .bf16⟩
  | .local _ .vmem, ⟨7, _⟩ => ⟨S128x1152, .bf16⟩
  | .local _ .vmem, ⟨8, _⟩ => ⟨S128x1152, .bf16⟩
  | .local _ .vmem, ⟨9, _⟩ => ⟨S128x1152, .bf16⟩
  | .local _ .vmem, ⟨10, _⟩ => ⟨S128x1152, .bf16⟩
  | .local _ .vmem, ⟨11, _⟩ => ⟨S128x1152, .bf16⟩
  | .local _ .vmem, ⟨12, _⟩ => ⟨S128x1152, .bf16⟩
  | .local _ .vmem, ⟨13, _⟩ => ⟨S128x1152, .bf16⟩
  | .local _ .vmem, ⟨14, _⟩ => ⟨S128x1152, .bf16⟩
  | .local _ .vmem, ⟨15, _⟩ => ⟨S128x1152, .bf16⟩
  | .local _ .vmem, ⟨16, _⟩ => ⟨S128x1152, .f32⟩
  | .local _ .vmem, ⟨17, _⟩ => ⟨S128x1152, .f32⟩
  | .local _ .vmem, ⟨18, _⟩ => ⟨S128x1152, .f32⟩
  | .local _ .vmem, ⟨19, _⟩ => ⟨S128x1152, .f32⟩
  | .local _ .vmem, ⟨20, _⟩ => ⟨S128x1152, .f32⟩
  | .local _ .vmem, ⟨21, _⟩ => ⟨S128x1152, .f32⟩
  | .local _ .vmem, ⟨22, _⟩ => ⟨S128x1152, .f32⟩
  | .local _ .vmem, ⟨23, _⟩ => ⟨S128x1152, .f32⟩
  | .local _ .vmem, ⟨24, _⟩ => ⟨S128x1152, .f32⟩
  | .local _ .vmem, ⟨25, _⟩ => ⟨S128x1152, .f32⟩
  | .local _ .vmem, ⟨26, _⟩ => ⟨S128x1152, .f32⟩
  | .local _ .vmem, ⟨27, _⟩ => ⟨S128x1152, .f32⟩
  | .local _ .vmem, ⟨28, _⟩ => ⟨S128x1152, .f32⟩
  | .local _ .vmem, ⟨29, _⟩ => ⟨S128x1152, .f32⟩
  | _, _ => ⟨S8x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c112_i32 : BitVec 32 := 112#32
  let v0 : BitVec 32 := Scalar.addi c112_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1152 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1152 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1152 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1152 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1152 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1152 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== StepRefIdeal.lean ====
abbrev S8x2048x1152 : Shape := ⟨3, ![8, 2048, 1152]⟩
abbrev S1x2048x1152 : Shape := ⟨3, ![1, 2048, 1152]⟩
abbrev S_ : Shape := ⟨0, ![]⟩
abbrev S2048x1152 : Shape := ⟨2, ![2048, 1152]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1152, .bf16⟩
  | .hbm, ⟨1, _⟩ => ⟨S1x2048x1152, .f32⟩
  | .hbm, ⟨2, _⟩ => ⟨S1x2048x1152, .f32⟩
  | .hbm, ⟨3, _⟩ => ⟨S1x2048x1152, .f32⟩
  | .hbm, ⟨4, _⟩ => ⟨S8x2048x1152, .f32⟩
  | .hbm, ⟨5, _⟩ => ⟨S_, .f32⟩
  | .hbm, ⟨6, _⟩ => ⟨S2048x1152, .f32⟩
  | .hbm, ⟨7, _⟩ => ⟨S2048x1152, .f32⟩
  | .hbm, ⟨8, _⟩ => ⟨S2048x1152, .f32⟩
  | .hbm, ⟨9, _⟩ => ⟨S2048x1152, .f32⟩
  | .hbm, ⟨10, _⟩ => ⟨S_, .f32⟩
  | .hbm, ⟨11, _⟩ => ⟨S2048x1152, .f32⟩
  | .hbm, ⟨12, _⟩ => ⟨S2048x1152, .f32⟩
  | .hbm, ⟨13, _⟩ => ⟨S_, .f32⟩
  | .hbm, ⟨14, _⟩ => ⟨S2048x1152, .f32⟩
  | .hbm, ⟨15, _⟩ => ⟨S2048x1152, .f32⟩
  | .hbm, ⟨16, _⟩ => ⟨S2048x1152, .f32⟩
  | .hbm, ⟨17, _⟩ => ⟨S_, .f32⟩
  | .hbm, ⟨18, _⟩ => ⟨S2048x1152, .f32⟩
  | .hbm, ⟨19, _⟩ => ⟨S2048x1152, .f32⟩
  | .hbm, ⟨20, _⟩ => ⟨S2048x1152, .f32⟩
  | .hbm, ⟨21, _⟩ => ⟨S_, .f32⟩
  | .hbm, ⟨22, _⟩ => ⟨S2048x1152, .f32⟩
  | .hbm, ⟨23, _⟩ => ⟨S2048x1152, .f32⟩
  | .hbm, ⟨24, _⟩ => ⟨S2048x1152, .f32⟩
  | .hbm, ⟨25, _⟩ => ⟨S_, .f32⟩
  | .hbm, ⟨26, _⟩ => ⟨S2048x1152, .f32⟩
  | .hbm, ⟨27, _⟩ => ⟨S2048x1152, .f32⟩
  | .hbm, ⟨28, _⟩ => ⟨S_, .f32⟩
  | .hbm, ⟨29, _⟩ => ⟨S2048x1152, .f32⟩
  | .hbm, ⟨30, _⟩ => ⟨S2048x1152, .f32⟩
  | .hbm, ⟨31, _⟩ => ⟨S2048x1152, .f32⟩
  | .hbm, ⟨32, _⟩ => ⟨S_, .f32⟩
  | .hbm, ⟨33, _⟩ => ⟨S2048x1152, .f32⟩
  | .hbm, ⟨34, _⟩ => ⟨S2048x1152, .f32⟩
  | .hbm, ⟨35, _⟩ => ⟨S2048x1152, .f32⟩
  | .hbm, ⟨36, _⟩ => ⟨S_, .f32⟩
  | .hbm, ⟨37, _⟩ => ⟨S2048x1152, .f32⟩
  | .hbm, ⟨38, _⟩ => ⟨S2048x1152, .f32⟩
  | .hbm, ⟨39, _⟩ => ⟨S2048x1152, .f32⟩
  | .hbm, ⟨40, _⟩ => ⟨S_, .f32⟩
  | .hbm, ⟨41, _⟩ => ⟨S2048x1152, .f32⟩
  | .hbm, ⟨42, _⟩ => ⟨S2048x1152, .f32⟩
  | _, _ => ⟨S8x2048x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Small.lean ====
abbrev S8x8x2048 : Shape := ⟨3, ![8, 8, 2048]⟩
abbrev S1x2048 : Shape := ⟨2, ![1, 2048]⟩
abbrev S1x8x2048 : Shape := ⟨3, ![1, 8, 2048]⟩
abbrev S8x2048 : Shape := ⟨2, ![8, 2048]⟩
abbrev S2048 : Shape := ⟨1, ![2048]⟩

abbrev nBuf : Space → Nat
  | .hbm => 8
  | .vmem => 8
  | .smem => 0
  | _ => 0

abbrev bufTy : (tb : Table) → Fin (tcTables nBuf tb) → BufTy
  | .hbm, ⟨0, _⟩ => ⟨S8x8x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S8x8x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallRefIdeal.lean ====
abbrev S8x8x2048 : Shape := ⟨3, ![8, 8, 2048]⟩
abbrev S1x2048 : Shape := ⟨2, ![1, 2048]⟩
abbrev S_ : Shape := ⟨0, ![]⟩
abbrev S8x2048 : Shape := ⟨2, ![8, 2048]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S_, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S_, .f32⟩
  | .hbm, ⟨40, _⟩ => ⟨S1x2048, .f32⟩
  | .hbm, ⟨41, _⟩ => ⟨S1x2048, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== GroupSum.lean ====
abbrev S8192x2048 : Shape := ⟨2, ![8192, 2048]⟩
abbrev S8192x512 : Shape := ⟨2, ![8192, 512]⟩
abbrev S1024x128 : Shape := ⟨2, ![1024, 128]⟩

abbrev nBuf : Space → Nat
  | .hbm => 2
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c4_i32 : BitVec 32 := 4#32
  let v1 : BitVec 32 := Scalar.muli c4_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c4_i32 : BitVec 32 := 4#32
  let v1 : BitVec 32 := Scalar.muli c4_i32 arg0
  let c1_i32 : BitVec 32 := 1#32
  let v2 : BitVec 32 := Scalar.addi c1_i32 v1
  let c0_i32_0 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c4_i32 : BitVec 32 := 4#32
  let v1 : BitVec 32 := Scalar.muli c4_i32 arg0
  let c2_i32 : BitVec 32 := 2#32
  let v2 : BitVec 32 := Scalar.addi c2_i32 v1
  let c0_i32_0 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c4_i32 : BitVec 32 := 4#32
  let v1 : BitVec 32 := Scalar.muli c4_i32 arg0
  let c3_i32 : BitVec 32 := 3#32
  let v2 : BitVec 32 := Scalar.addi c3_i32 v1
  let c0_i32_0 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GroupSumRefIdeal.lean ====
abbrev S8192x2048 : Shape := ⟨2, ![8192, 2048]⟩
abbrev S8192x4x4x128 : Shape := ⟨4, ![8192, 4, 4, 128]⟩
abbrev S_ : Shape := ⟨0, ![]⟩
abbrev S8192x4x128 : Shape := ⟨3, ![8192, 4, 128]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4x4x128, .f32⟩
  | .hbm, ⟨2, _⟩ => ⟨S_, .f32⟩
  | .hbm, ⟨3, _⟩ => ⟨S8192x4x128, .f32⟩
  | .hbm, ⟨4, _⟩ => ⟨S8192x512, .f32⟩
  | .hbm, ⟨5, _⟩ => ⟨S8192x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Dact.lean ====
/- The value of the fed-forward squared ReLU's gradient: what the kernel leaves in its result is the reference's term. -/
module

public import proofs.«01_k».proof.Proof.Gen.DactIdeal.Frame
public import proofs.«01_k».proof.Proof.Gen.DactRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DactIdeal.Whole

open Cert.DactIdeal Cert.DactIdeal.Gen

variable (m : (ℓ : Loc nD τ sig) → Buf (Elt Ideal) ℓ)

/-- The reference's result over its arguments: the product's cotangent, times twice the positive part, where the argument is positive. -/
abbrev REF (x0 : FVec Ideal Cert.DactRefIdeal.S8192x2048 .f32) (x1 : FVec Ideal Cert.DactRefIdeal.S1x8192x2048 .f32)
    (x2 : FVec Ideal Cert.DactRefIdeal.S8192x8192 .f32) : FVec Ideal Cert.DactRefIdeal.S8192x8192 .bf16 :=
  truncf .bf16 (select (cmpf .ogt x2 (broadcastInDim Cert.DactRefIdeal.S8192x8192 ![] Cert.DactRefIdeal.Gen.bcast_S_S8192x8192 (constant Cert.DactRefIdeal.S_ .f32 0x00000000#32)))
    (mulf (Host.dotGeneral Cert.DactRefIdeal.dot_S8192x2048_S8192x2048_S8192x8192_1_1_0_0_n_n none x0 (shapeCast _ x1 Cert.DactRefIdeal.Gen.shapeCasts_S1x8192x2048_S8192x2048))
      (mulf (broadcastInDim Cert.DactRefIdeal.S8192x8192 ![] Cert.DactRefIdeal.Gen.bcast_S_S8192x8192 (constant Cert.DactRefIdeal.S_ .f32 0x40000000#32))
        (maximumf x2 (broadcastInDim Cert.DactRefIdeal.S8192x8192 ![] Cert.DactRefIdeal.Gen.bcast_S_S8192x8192 (constant Cert.DactRefIdeal.S_ .f32 0x00000000#32)))))
    (broadcastInDim Cert.DactRefIdeal.S8192x8192 ![] Cert.DactRefIdeal.Gen.bcast_S_S8192x8192 (constant Cert.DactRefIdeal.S_ .f32 0x00000000#32))) Cert.DactRefIdeal.Gen.bitsLt_bf16_f32

/-- Where the argument isn't positive the factor is zero already, so choosing between the product and zero changes nothing. -/
theorem relu_branch (s t x : EReal) : (if 0 < x then s * (t * max x 0) else 0) = s * (t * max x 0) := by
  split
  · rfl
  · rename_i h
    rw [max_eq_right (not_lt.mp h), mul_zero, mul_zero]

theorem idx : ∀ t : Fin cfg0.N, win0_0.index t = ![t.val / 8, 0]
    ∧ win0_1.index t = ![0, t.val % 8, 0]
    ∧ win0_2.index t = ![t.val / 8, t.val % 8]
    ∧ win0_3.index t = ![t.val / 8, t.val % 8] :=
  (by decide +kernel : ∀ t : Fin grid0.N, _)

theorem point (c : Dev nD) (t : Fin cfg0.N) (y) :
    k0_pay1 (F := Ideal) (iblk m c 1 t) (iblk m c 0 t) (iblk m c 2 t) y
      = REF (m ((c : Thread nD τ).loc main_arg0)) (m ((c : Thread nD τ).loc main_arg1)) (m ((c : Thread nD τ).loc main_arg2))
          (((cfg0.win 3).blk t).view.emb y) := by
  pointwise [k0_pay1, REF]
  refine Eq.trans ?_ (relu_branch _ _ _).symm
  blk_point [iblk, idx t]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold Gen.outsAt0
  frame_out
  exact point m c t y

end Cert.DactIdeal.Whole

end
-- ==== Proof.Dmerged.lean ====
/- The value of the gated merge's gradient: each of the kernel's four results is the reference's term. -/
module

public import proofs.«01_k».proof.Proof.Gen.DmergedIdeal.Frame
public import proofs.«01_k».proof.Proof.Gen.DmergedRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DmergedIdeal.Whole

open Cert.DmergedIdeal Cert.DmergedIdeal.Gen

variable (m : (ℓ : Loc nD τ sig) → Buf (Elt Ideal) ℓ)

theorem idx : ∀ t : Fin cfg0.N, win0_0.index t = ![t.val % 16, 0]
    ∧ win0_1.index t = ![0, t.val / 16, 0]
    ∧ win0_2.index t = ![t.val % 16, 5 + t.val / 16] ∧ win0_3.index t = ![t.val % 16, 7 + t.val / 16]
    ∧ win0_4.index t = ![t.val % 16, t.val / 16] ∧ win0_5.index t = ![t.val % 16, t.val / 16]
    ∧ win0_6.index t = ![t.val % 16, t.val / 16] ∧ win0_7.index t = ![t.val % 16, t.val / 16]
    ∧ win0_8.index t = ![t.val % 16, t.val / 16] ∧ win0_9.index t = ![t.val % 16, t.val / 16] :=
  (by decide +kernel : ∀ t : Fin grid0.N, _)

/-- The gate's slope by the kernel's bracketing: the reference multiplies the slope out first. -/
theorem pay4_at (v0 v2 v5 v7 y) : k0_pay4 (F := Ideal) v0 v2 v5 v7 y
    = (∑ k, v2 (ix2 (y 0) k) * v0 (ix3 0 (y 1) k)) * v7 y * (Ideal.logistic (v5 y) * (1 - Ideal.logistic (v5 y))) := by
  pointwise [k0_pay4, k0_pay1, k0_pay2]
  exact mul_assoc _ _ _

theorem pay5_at (v0 v2 v6 v8 y) : k0_pay5 (F := Ideal) v0 v2 v6 v8 y
    = (∑ k, v2 (ix2 (y 0) k) * v0 (ix3 0 (y 1) k)) * v8 y * (Ideal.logistic (v6 y) * (1 - Ideal.logistic (v6 y))) := by
  pointwise [k0_pay5, k0_pay1, k0_pay3]
  exact mul_assoc _ _ _

theorem pay6_at (v0 v2 v5 y) : k0_pay6 (F := Ideal) v0 v2 v5 y
    = Ideal.logistic (v5 y) * ∑ k, v2 (ix2 (y 0) k) * v0 (ix3 0 (y 1) k) := by
  pointwise [k0_pay6, k0_pay1, k0_pay2]
  exact mul_comm _ _

theorem pay7_at (v0 v2 v6 y) : k0_pay7 (F := Ideal) v0 v2 v6 y
    = Ideal.logistic (v6 y) * ∑ k, v2 (ix2 (y 0) k) * v0 (ix3 0 (y 1) k) := by
  pointwise [k0_pay7, k0_pay1, k0_pay3]
  exact mul_comm _ _

open Cert.DmergedRefIdeal.Read

attribute [local pointwise] val_main_v0 val_main_v1 val_main_v2 val_main_v3 val_main_cst val_main_v4 val_main_v5 val_main_cst_0 val_main_v6 val_main_v7 val_main_cst_1 val_main_v8 val_main_v9 val_main_v10 val_main_v11 val_main_v12 val_main_v13 val_main_cst_2 val_main_v14 val_main_v15 val_main_cst_3 val_main_v16 val_main_v17 val_main_cst_4 val_main_v18 val_main_v19 val_main_v20 val_main_v21 val_main_v22 val_main_v23 val_main_v24 val_main_v25 val_main_v26 val_main_v27 val_main_v28 val_main_v29 val_main_v30 val_main_v31 val_main_v32 val_main_v33 val_main_v34 val_main_v35

theorem point6 (c : Dev nD) (t : Fin cfg0.N) (y) :
    k0_pay4 (F := Ideal) (iblk m c 1 t) (iblk m c 0 t) (iblk m c 2 t) (iblk m c 4 t) y
      = val_main_v32 (m ((c : Thread nD τ).loc main_arg0)) (m ((c : Thread nD τ).loc main_arg1)) (m ((c : Thread nD τ).loc main_arg2)) (m ((c : Thread nD τ).loc main_arg3)) (((cfg0.win 6).blk t).view.emb y) := by
  rw [pay4_at]
  pointwise [Ideal.logistic]
  blk_point [iblk, idx t]

theorem final6 (c : Dev nD) : (dats m 0 c).arrAt 6 (cfgs 0).N
    = val_main_v32 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  unfold Gen.outsAt0
  frame_out
  exact point6 m c t y

theorem point7 (c : Dev nD) (t : Fin cfg0.N) (y) :
    k0_pay5 (F := Ideal) (iblk m c 1 t) (iblk m c 0 t) (iblk m c 3 t) (iblk m c 5 t) y
      = val_main_v33 (m ((c : Thread nD τ).loc main_arg0)) (m ((c : Thread nD τ).loc main_arg1)) (m ((c : Thread nD τ).loc main_arg2)) (m ((c : Thread nD τ).loc main_arg4)) (((cfg0.win 7).blk t).view.emb y) := by
  rw [pay5_at]
  pointwise [Ideal.logistic]
  blk_point [iblk, idx t]

theorem final7 (c : Dev nD) : (dats m 0 c).arrAt 7 (cfgs 0).N
    = val_main_v33 (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t _ y => ?_
  blk_simp
  rw [after0_7]
  unfold Gen.outsAt0
  frame_out
  exact point7 m c t y

theorem point8 (c : Dev nD) (t : Fin cfg0.N) (y) :
    k0_pay6 (F := Ideal) (iblk m c 1 t) (iblk m c 0 t) (iblk m c 2 t) y
      = val_main_v34 (m ((c : Thread nD τ).loc main_arg0)) (m ((c : Thread nD τ).loc main_arg1)) (m ((c : Thread nD τ).loc main_arg2)) (((cfg0.win 8).blk t).view.emb y) := by
  rw [pay6_at]
  pointwise [Ideal.logistic]
  blk_point [iblk, idx t]

theorem final8 (c : Dev nD) : (dats m 0 c).arrAt 8 (cfgs 0).N
    = val_main_v34 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  unfold Gen.outsAt0
  frame_out
  exact point8 m c t y

theorem point9 (c : Dev nD) (t : Fin cfg0.N) (y) :
    k0_pay7 (F := Ideal) (iblk m c 1 t) (iblk m c 0 t) (iblk m c 3 t) y
      = val_main_v35 (m ((c : Thread nD τ).loc main_arg0)) (m ((c : Thread nD τ).loc main_arg1)) (m ((c : Thread nD τ).loc main_arg2)) (((cfg0.win 9).blk t).view.emb y) := by
  rw [pay7_at]
  pointwise [Ideal.logistic]
  blk_point [iblk, idx t]

theorem final9 (c : Dev nD) : (dats m 0 c).arrAt 9 (cfgs 0).N
    = val_main_v35 (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  unfold Gen.outsAt0
  frame_out
  exact point9 m c t y

end Cert.DmergedIdeal.Whole

end
-- ==== Proof.AttnDo.lean ====
/- The value of the attention projection's gradient and of each row's sum of it times the attention's output. -/
module

public import proofs.«01_k».proof.Proof.Gen.AttnDoIdeal.Frame
public import proofs.«01_k».proof.Proof.Gen.AttnDoRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AttnDoIdeal.Whole

open Cert.AttnDoIdeal Cert.AttnDoIdeal.Gen

variable (m : (ℓ : Loc nD τ sig) → Buf (Elt Ideal) ℓ)

open Cert.AttnDoRefIdeal.Read

attribute [local pointwise] val_main_v0 val_main_v1 val_main_v2 val_main_v3 val_main_v4 val_main_v5 val_main_cst val_main_v6
  val_main_v7 val_main_v8 val_main_v9 val_main_v10

theorem idx : ∀ t : Fin cfg0.N, win0_0.index t = ![t.val % 8, 0] ∧ win0_1.index t = ![0, t.val / 8, 0]
    ∧ win0_2.index t = ![t.val % 8, t.val / 8] ∧ win0_3.index t = ![t.val % 8, t.val / 8]
    ∧ win0_4.index t = ![t.val / 8, 0, t.val % 8] :=
  (by decide +kernel : ∀ t : Fin grid0.N, _)

theorem final3 (c : Dev nD) : (dats m 0 c).arrAt 3 (cfgs 0).N
    = val_main_v7 (m ((c : Thread nD τ).loc main_arg0)) (m ((c : Thread nD τ).loc main_arg1)) := by
  refine (dats m 0 c).arrAt_eq_of_covers 3 _ (by decide +kernel) fun t _ y => ?_
  blk_simp
  rw [after0_3]
  unfold Gen.outsAt0
  frame_out
  pointwise [k0_pay4, k0_pay3]
  blk_point [iblk, idx t]

theorem final4 (c : Dev nD) : (dats m 0 c).arrAt 4 (cfgs 0).N
    = val_main_v10 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold Gen.outsAt0
  frame_out
  canon_tiles x h
  all_goals
    open_payloads
    pointwise
    blk_point [iblk, idx t]

end Cert.AttnDoIdeal.Whole

end
-- ==== Proof.Reals.lean ====
/- Facts about the extended reals the value proofs share: constants, the reciprocal root, and sums over blocks of rows. -/
module

public import Idealize.ShloMosaic.Lib.Pipeline.ValueKit

@[expose] public section

noncomputable section

open Idealize.ShloMosaic
open scoped BigOperators

namespace Cert.Reals

/-- The f32 pattern of 2048. -/
theorem bits_2048 : Ideal.ofBits .f32 0x45000000#32 = ((2048 : ℝ) : EReal) := by
  simp [Ideal.ofBits, Ideal.ieee, -EReal.coe_mul]; norm_num

/-- The f32 pattern of minus one half. -/
theorem bits_neg_half : Ideal.ofBits .f32 0xBF000000#32 = ((-(1 / 2) : ℝ) : EReal) := by
  simp [Ideal.ofBits, Ideal.ieee, -EReal.coe_mul, -EReal.coe_neg]; norm_num

/-- The f32 pattern nearest 1e-6 is a positive real. -/
theorem bits_eps : ∃ e : ℝ, 0 < e ∧ Ideal.ofBits .f32 0x358637BD#32 = (e : EReal) := by
  refine ⟨_, ?_, by simp [Ideal.ofBits, Ideal.ieee, -EReal.coe_mul]; rfl⟩
  norm_num

/-- The f32 pattern of one half, of two, and of one over 2048. -/
theorem bits_half : Ideal.ofBits .f32 0x3F000000#32 = ((1 / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_inv_2048 : Ideal.ofBits .f32 0x3A000000#32 = ((1 / 2048 : ℝ) : EReal) := by
  simp [Ideal.ofBits, Ideal.ieee, -EReal.coe_mul]; norm_num

/-- Division by a nonzero real is the product with its inverse. -/
theorem div_coe (x : EReal) {r : ℝ} (h : r ≠ 0) : Ideal.div x (r : EReal) = x * ((r⁻¹ : ℝ) : EReal) := by
  have : (r : EReal) ≠ 0 := by exact_mod_cast h
  rw [Ideal.div, if_neg this, EReal.coe_inv]

/-- Half of the mean's share times twice a number is the number's share. -/
theorem half_two (e : EReal) :
    Ideal.div (Ideal.ofBits .f32 0x3F000000#32) (Ideal.ofBits .f32 0x45000000#32) * (Ideal.ofBits .f32 0x40000000#32 * e)
      = e * Ideal.ofBits .f32 0x3A000000#32 := by
  rw [bits_half, bits_2048, bits_two, bits_inv_2048, div_coe _ (by norm_num), ← mul_assoc, mul_comm e]
  congr 1
  norm_cast
  norm_num

/-- A square is not negative. -/
theorem square_nonneg (x : EReal) : 0 ≤ x * x := by
  induction x with
  | bot => simp
  | top => simp
  | coe r => exact_mod_cast _root_.mul_self_nonneg r

/-- The reciprocal root of a positive number divided by the number is the root's cube. -/
theorem rsqrt_div {v : EReal} (h : 0 < v) :
    Ideal.div (Ideal.rsqrt v) v = Ideal.rsqrt v * Ideal.rsqrt v * Ideal.rsqrt v := by
  induction v with
  | bot => simp at h
  | top => simp [Ideal.div]
  | coe r =>
    have hr : 0 < r := by exact_mod_cast h
    rw [div_coe _ hr.ne', Ideal.rsqrt_coe, if_neg hr.not_gt, if_neg hr.ne']
    have e : r⁻¹ = (Real.sqrt r)⁻¹ * (Real.sqrt r)⁻¹ := by rw [← mul_inv, Real.mul_self_sqrt hr.le]
    rw [e]
    push_cast
    exact (mul_assoc _ _ _).symm

/-- A number added to itself is its double. -/
theorem add_self (y : EReal) : y + y = ((2 : ℝ) : EReal) * y := by
  induction y with
  | bot => simp [EReal.coe_mul_bot_of_pos]
  | top => simp [EReal.coe_mul_top_of_pos]
  | coe r => norm_cast; ring

/-- The two equal terms a transpose of the reciprocal root of a mean of squares adds, as one term taken away. -/
theorem pull_back_of {N : EReal} {n : ℝ} (hN : N = (n : EReal)) (hn : n ≠ 0) (b x S q : EReal) (hq : 0 < q) :
    b + x * Ideal.div (S * (Ideal.ofBits .f32 0xBF000000#32 * Ideal.div (Ideal.rsqrt q) q)) N
        + Ideal.div (S * (Ideal.ofBits .f32 0xBF000000#32 * Ideal.div (Ideal.rsqrt q) q)) N * x
      = b - x * (Ideal.rsqrt q * Ideal.rsqrt q * Ideal.rsqrt q) * Ideal.div S N := by
  rw [rsqrt_div hq, bits_neg_half, hN, div_coe _ hn, div_coe _ hn]
  generalize Ideal.rsqrt q = r
  rw [mul_comm _ x, add_assoc, add_self, sub_eq_add_neg]
  congr 1
  calc ((2 : ℝ) : EReal) * (x * (S * (((-(1 / 2) : ℝ) : EReal) * (r * r * r)) * ((n⁻¹ : ℝ) : EReal)))
      = (((2 : ℝ) : EReal) * ((-(1 / 2) : ℝ) : EReal)) * (x * (r * r * r) * (S * ((n⁻¹ : ℝ) : EReal))) := by ac_rfl
    _ = -(x * (r * r * r) * (S * ((n⁻¹ : ℝ) : EReal))) := by
      rw [← EReal.coe_mul, show (2 * (-(1 / 2)) : ℝ) = -1 by norm_num, EReal.coe_neg, EReal.coe_one, neg_one_mul]

theorem pull_back (b x S q : EReal) (hq : 0 < q) :
    b + x * Ideal.div (S * (Ideal.ofBits .f32 0xBF000000#32 * Ideal.div (Ideal.rsqrt q) q)) (Ideal.ofBits .f32 0x45000000#32)
        + Ideal.div (S * (Ideal.ofBits .f32 0xBF000000#32 * Ideal.div (Ideal.rsqrt q) q)) (Ideal.ofBits .f32 0x45000000#32) * x
      = b - x * (Ideal.rsqrt q * Ideal.rsqrt q * Ideal.rsqrt q) * Ideal.div S (Ideal.ofBits .f32 0x45000000#32) :=
  pull_back_of bits_2048 (by norm_num) b x S q hq

/-- A mean of squares, and 1e-6 more, is positive. -/
theorem mean_square_pos_of {N : EReal} {n : ℝ} (hN : N = (n : EReal)) (hn : 0 < n) {L : ℕ} (f : Fin L → EReal) :
    0 < Ideal.div (∑ k, f k * f k) N + Ideal.ofBits .f32 0x358637BD#32 := by
  obtain ⟨e, he, h⟩ := bits_eps
  rw [h, hN, div_coe _ hn.ne']
  have h0 : (0 : EReal) ≤ (∑ k, f k * f k) * ((n⁻¹ : ℝ) : EReal) :=
    mul_nonneg (Finset.sum_nonneg fun k _ => square_nonneg (f k)) (by exact_mod_cast (inv_pos.mpr hn).le)
  exact lt_of_lt_of_le (by exact_mod_cast he) (le_add_of_nonneg_left h0)

theorem mean_square_pos (f : Fin 2048 → EReal) :
    0 < Ideal.div (∑ k, f k * f k) (Ideal.ofBits .f32 0x45000000#32) + Ideal.ofBits .f32 0x358637BD#32 :=
  mean_square_pos_of bits_2048 (by norm_num) f

theorem bits_128 : Ideal.ofBits .f32 0x43000000#32 = ((128 : ℝ) : EReal) := by
  simp [Ideal.ofBits, Ideal.ieee, -EReal.coe_mul]; norm_num

/-- A sum over the first two of three axes. -/
theorem sum_two {A B L : ℕ} (h : (⟨3, ![A, B, L]⟩ : Shape).ReducesTo [0, 1] ⟨1, ![L]⟩) (x : (⟨3, ![A, B, L]⟩ : Shape).Idx → EReal) (z : EReal) (l : Fin L) :
    Ideal.hostReduceAdd h x z (ix1 l) = z + ∑ a : Fin A, ∑ b : Fin B, x (ix3 a b l) := by
  unfold Ideal.hostReduceAdd
  congr 1
  rw [← Fintype.sum_prod_type']
  refine Finset.sum_nbij' (fun i => (i 0, i 1)) (fun p => ix3 p.1 p.2 l) (fun _ _ => Finset.mem_univ _) (fun p _ => ?_) (fun i hi => ?_) (fun p _ => rfl) (fun i hi => ?_)
  · refine Finset.mem_filter.mpr ⟨Finset.mem_univ _, funext fun b => ?_⟩
    obtain rfl : b = 0 := Subsingleton.elim _ _
    rfl
  all_goals
    have h2 : i 2 = l := congrFun (Finset.mem_filter.mp hi).2 0
    have h3 : i = ix3 (i 0) (i 1) l := by rw [← h2]; exact eq_ix3 _
    first | exact h3.symm | exact congrArg x h3

/-- Sums over the sublanes, the blocks and a block's groups of `S` rows are the sum over all rows. -/
theorem sum_rows_congr {M : Type*} {_ : AddCommMonoid M} {S P B L : ℕ} {F : Fin S → Fin P → Fin B → M} {f : Fin L → M}
    (h : ∀ s t i (hl : t.val * (B * S) + (i.val * S + s.val) < L), F s t i = f ⟨t.val * (B * S) + (i.val * S + s.val), hl⟩)
    (hL : P * (B * S) = L) :
    ∑ s : Fin S, ∑ t : Fin P, ∑ i : Fin B, F s t i = ∑ l : Fin L, f l := by
  rw [Fin.sum_univ_tiles P (B * S) hL f, Finset.sum_comm]
  refine Finset.sum_congr rfl fun t _ => ?_
  rw [Fin.sum_univ_tiles B S rfl, Finset.sum_comm]
  exact Finset.sum_congr rfl fun i _ => Finset.sum_congr rfl fun s _ => h s t i _

/-- A nonnegative real factor comes out of a sum of extended reals. -/
theorem sum_coe_mul {ι : Type*} (s : Finset ι) {c : ℝ} (hc : 0 ≤ c) (f : ι → EReal) :
    ∑ i ∈ s, (c : EReal) * f i = c * ∑ i ∈ s, f i := by
  classical
  induction s using Finset.induction_on with
  | empty => simp
  | insert a s ha ih =>
    rw [Finset.sum_insert ha, Finset.sum_insert ha, ih,
      EReal.left_distrib_of_nonneg_of_ne_top (by exact_mod_cast hc) (EReal.coe_ne_top c)]

end Cert.Reals

end
-- ==== Proof.RmsBwd.lean ====
/- The value of the root-mean-square norm's backward call: the input's and the gain's gradient. -/
module

public import proofs.«01_k».proof.Proof.Gen.RmsBwdIdeal.Frame
public import proofs.«01_k».proof.Proof.Gen.RmsBwdRefIdeal.Read
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.RmsBwdIdeal.Whole

open Cert.RmsBwdIdeal Cert.RmsBwdIdeal.Gen

variable (m : (ℓ : Loc nD τ sig) → Buf (Elt Ideal) ℓ)

open Cert.RmsBwdRefIdeal.Read

attribute [local pointwise] val_main_v0 val_main_v1 val_main_cst val_main_v2 val_main_v3 val_main_cst_0 val_main_v4 val_main_v5
  val_main_cst_1 val_main_v6 val_main_v7 val_main_v8 val_main_v9 val_main_cst_2 val_main_v10
  val_main_v11 val_main_v12 val_main_v13 val_main_v14 val_main_v15 val_main_v16 val_main_v17
  val_main_cst_3 val_main_v18 val_main_v19 val_main_v20 val_main_v21 val_main_cst_4 val_main_v22
  val_main_v23 val_main_cst_5 val_main_v24 val_main_v25 val_main_v26 val_main_v27 val_main_v28
  val_main_v29 val_main_cst_6 val_main_v30 val_main_v31 val_main_cst_7 val_main_v32 val_main_v33
  val_main_v34 val_main_v35 val_main_v36 val_main_v37 val_main_v38

open Cert.Reals

theorem idx : ∀ t : Fin cfg0.N, win0_0.index t = ![t.val, 0] ∧ win0_1.index t = ![0, 0]
    ∧ win0_2.index t = ![t.val, 0] ∧ win0_3.index t = ![t.val, 0] ∧ win0_4.index t = ![t.val, 0] :=
  (by decide +kernel : ∀ t : Fin grid0.N, _)

theorem dx_at (X : (⟨S8192x2048, .f32⟩ : BufTy).Contents (Elt Ideal)) (G : (⟨S1x2048, .f32⟩ : BufTy).Contents (Elt Ideal))
    (D R : (⟨S8192x2048, .f32⟩ : BufTy).Contents (Elt Ideal)) (i : S8192x2048.Idx) :
    val_main_v37 (F := Ideal) X G D R i
      = (let q := Ideal.div (∑ k : Fin 2048, X (ix2 (i 0) k) * X (ix2 (i 0) k)) (Ideal.ofBits .f32 0x45000000#32)
            + Ideal.ofBits .f32 0x358637BD#32
         R i + Ideal.rsqrt q * (D i * G (ix2 0 (i 1)))
          - X i * (Ideal.rsqrt q * Ideal.rsqrt q * Ideal.rsqrt q)
            * Ideal.div (∑ k : Fin 2048, X (ix2 (i 0) k) * (D (ix2 (i 0) k) * G (ix2 0 k))) (Ideal.ofBits .f32 0x45000000#32)) := by
  dsimp only
  rw [mul_comm (Ideal.rsqrt _) (D i * _), ← pull_back _ _ _ _ (mean_square_pos _)]
  pointwise
  simp only [Fin.sum_univ_one]

theorem final4 (c : Dev nD) : (dats m 0 c).arrAt 4 (cfgs 0).N
    = val_main_v37 (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  have e : (outsAt0 m c t.val t.isLt).1 = k0_pay3 (F := Ideal) (iblk m c 0 t) (iblk m c 1 t) (iblk m c 2 t) (iblk m c 3 t) := by
    by_cases h0 : t.val % 16 = 0
    · rw [outsAt0_A m c t h0 (by have := lt_of_lt_of_eq t.isLt N_0; omega)]; frame_out
    · rw [outsAt0_B m c t h0 (by omega)]; frame_out
  blk_simp
  rw [after0_4, e, dx_at]
  pointwise [k0_pay3, k0_pay2]
  blk_point [iblk, idx t]

theorem step (acc : Vec Ideal S8x2048 .f32) (v : FVec Ideal S8x2048 .f32) (j : S8x2048.Idx) :
    k0_pay1 (F := Ideal) v acc j = acc j + v j := by
  pointwise [k0_pay1]

/-- The accumulated block: each point adds its own rows' part. -/
theorem parts (c : Dev nD) : (dats m 0 c).arrAt 5 (cfgs 0).N
    = fun j => ∑ t : Fin cfg0.N, k0_pay4 (F := Ideal) (iblk m c 0 t) (iblk m c 2 t) j := by
  refine (dats m 0 c).arrAt_eq_of_after_last 5 t0_15 (by decide +kernel) _ (fun j => ?_)
  blk_simp
  rw [after0_5, Pipeline.eq_sum_fin_of_reset_step_apply_last (fun n h => (outsAt0 m c n h).2) 16 (fun _ => 0)
    (fun t => k0_pay4 (F := Ideal) (iblk m c 0 t) (iblk m c 2 t))
    (fun t h j => by rw [outsAt0_A m c t h (by have := lt_of_lt_of_eq t.isLt N_0; omega)]; frame_out; rw [zero_add])
    (fun t h j => by rw [outsAt0_B m c t h (by omega)]; frame_out; rw [step])
    (le_of_eq N_0) t0_15 rfl j, zero_add]

theorem tail (c : Dev nD) : Pipeline.afterTail₀ cfgs (dats m) 0 (V0 m) [hostOps1] c main_v2
    = val_main_v38 (m ((c : Thread nD τ).loc main_arg0)) (m ((c : Thread nD τ).loc main_arg2)) := by
  show StableHlo.after hostOps1 _ _ = _
  unfold hostOps1
  after_results_simp
  rw [show Pipeline.withArrays (cfgs 0).spec c (V0 m c) (fun w => (dats m 0 c).arrAt w (cfgs 0).N) (Proc.tc.devRef main_v0_1)
    = _ from Pipeline.withArrays_arr spec0 (by decide) c (V0 m c) (fun w => (dats m 0 c).arrAt w (cfgs 0).N) 5]
  rw [parts]
  funext y
  pointwise [k0_pay4, k0_pay2]
  simp only [Fin.sum_univ_one]
  refine sum_rows_congr (fun s t i hl => (mul_rotate _ _ _).trans ?_) (by decide)
  blk_point [iblk, idx t]

end Cert.RmsBwdIdeal.Whole

end
-- ==== Proof.Head.lean ====
/- The value of the loss head's backward call: the gradients of its inputs and of the gain, and the loss. -/
module

public import proofs.«01_k».proof.Proof.Gen.HeadIdeal.Frame
public import proofs.«01_k».proof.Proof.Gen.HeadRefIdeal.Read
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.HeadIdeal.Whole

open Cert.HeadIdeal Cert.HeadIdeal.Gen

variable (m : (ℓ : Loc nD τ sig) → Buf (Elt Ideal) ℓ)

open Cert.HeadRefIdeal.Read

attribute [local pointwise] val_main_v0 val_main_v1 val_main_cst val_main_v2 val_main_v3 val_main_cst_0 val_main_v4 val_main_v5
  val_main_cst_1 val_main_v6 val_main_v7 val_main_v8 val_main_v9 val_main_v10 val_main_v11
  val_main_cst_2 val_main_v12 val_main_v13 val_main_cst_3 val_main_v14 val_main_v15 val_main_cst_4
  val_main_v16 val_main_v17 val_main_v18 val_main_v19 val_main_cst_5 val_main_v20 val_main_v21
  val_main_v22 val_main_v23 val_main_v24 val_main_v25 val_main_v26 val_main_v27 val_main_v28
  val_main_cst_6 val_main_v29 val_main_v30 val_main_cst_7 val_main_v31 val_main_cst_8 val_main_v32
  val_main_v33 val_main_cst_9 val_main_v34 val_main_cst_10 val_main_v35 val_main_cst_11
  val_main_cst_12 val_main_v36 val_main_v37 val_main_cst_13 val_main_v38 val_main_v39 val_main_v40
  val_main_v41 val_main_v42 val_main_cst_14 val_main_v43 val_main_v44 val_main_v45 val_main_v46
  val_main_cst_15 val_main_v47 val_main_v48 val_main_cst_16 val_main_v49 val_main_v50 val_main_v51
  val_main_v52 val_main_v53 val_main_cst_17 val_main_v54 val_main_v55 val_main_cst_18 val_main_v56
  val_main_v57 val_main_v58 val_main_v59 val_main_v60 val_main_v61 val_main_v62 val_main_v63
  val_main_v64 val_main_v65 val_main_v66

open Cert.Reals

/-- The loss head's input, its squared norm's mean, its error, the error's gradient and the input's gradient. -/
def x3 (X A B : S8192x2048.Idx → EReal) (i : S8192x2048.Idx) : EReal := X i + Ideal.logistic (A i) * B i

def ms (X A B : S8192x2048.Idx → EReal) (r : Fin 8192) : EReal :=
  Ideal.div (∑ k : Fin 2048, x3 X A B (ix2 r k) * x3 X A B (ix2 r k)) (Ideal.ofBits .f32 0x45000000#32) + Ideal.ofBits .f32 0x358637BD#32

def er (X A B T : S8192x2048.Idx → EReal) (G : S2048.Idx → EReal) (i : S8192x2048.Idx) : EReal :=
  x3 X A B i * Ideal.rsqrt (ms X A B (i 0)) * G (ix1 (i 1)) - T i

def wt (X A B T : S8192x2048.Idx → EReal) (G : S2048.Idx → EReal) (i : S8192x2048.Idx) : EReal :=
  er X A B T G i * Ideal.ofBits .f32 0x3A000000#32 * G (ix1 (i 1))

def dx3 (X A B T : S8192x2048.Idx → EReal) (G : S2048.Idx → EReal) (i : S8192x2048.Idx) : EReal :=
  Ideal.rsqrt (ms X A B (i 0)) * wt X A B T G i
    - x3 X A B i * (Ideal.rsqrt (ms X A B (i 0)) * Ideal.rsqrt (ms X A B (i 0)) * Ideal.rsqrt (ms X A B (i 0)))
      * Ideal.div (∑ k : Fin 2048, x3 X A B (ix2 (i 0) k) * wt X A B T G (ix2 (i 0) k)) (Ideal.ofBits .f32 0x45000000#32)

variable (X A B T : (⟨S8192x2048, .f32⟩ : BufTy).Contents (Elt Ideal)) (G : (⟨S2048, .f32⟩ : BufTy).Contents (Elt Ideal))

theorem dx_at (i : S8192x2048.Idx) : val_main_v61 (F := Ideal) X A B T G i = dx3 X A B T G i := by
  unfold dx3
  have hq : 0 < ms X A B (i 0) := mean_square_pos _
  rw [mul_comm (Ideal.rsqrt _) (wt _ _ _ _ _ _), ← pull_back _ _ _ _ hq]
  pointwise [wt, er, ms, x3, Ideal.logistic]
  simp only [Fin.sum_univ_one, half_two]

theorem dpp_at (i : S8192x2048.Idx) :
    val_main_v65 (F := Ideal) X A B T G i = dx3 X A B T G i * Ideal.logistic (A i) := by
  rw [← dx_at, mul_comm]
  pointwise [Ideal.logistic]

theorem dpre_at (i : S8192x2048.Idx) :
    val_main_v66 (F := Ideal) X A B T G i = dx3 X A B T G i * B i * Ideal.logistic (A i) * (1 - Ideal.logistic (A i)) := by
  rw [← dx_at, mul_assoc]
  pointwise [Ideal.logistic]

theorem dg_at (j : S2048.Idx) : val_main_v47 (F := Ideal) X A B T G j
    = ∑ r : Fin 8192, er X A B T G (ix2 r (j 0)) * Ideal.ofBits .f32 0x3A000000#32
        * (x3 X A B (ix2 r (j 0)) * Ideal.rsqrt (ms X A B r)) := by
  pointwise [er, ms, x3, Ideal.logistic]
  simp only [Fin.sum_univ_one, half_two]
  exact Finset.sum_congr rfl fun r _ => mul_comm _ _

theorem loss_at (j : S_.Idx) : val_main_v35 (F := Ideal) X A B T G j
    = Ideal.ofBits .f32 0x3F000000#32 * ∑ r : Fin 8192,
        Ideal.div (∑ k : Fin 2048, er X A B T G (ix2 r k) * er X A B T G (ix2 r k)) (Ideal.ofBits .f32 0x45000000#32) := by
  pointwise [er, ms, x3, Ideal.logistic]

theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![t.val, 0] :=
  (by decide +kernel : ∀ t : Fin grid0.N, _)

variable (c : Dev nD) (t : Fin cfg0.N)

theorem gain : V m c main_v0 = shapeCast S1x2048 (m ((c : Thread nD τ).loc main_arg4)) shapeCasts_S2048_S1x2048 := by
  show StableHlo.after hostOps0 _ _ = _
  unfold hostOps0
  after_results_simp
  rfl

/-- What one point leaves, the five blocks it read by name. -/
def blkDx : FVec Ideal S256x2048 .f32 :=
  k0_pay13 (k0_pay4 (iblk m c 0 t) (iblk m c 1 t) (iblk m c 2 t))
    (k0_pay10 (iblk m c 0 t) (iblk m c 1 t) (iblk m c 2 t) (iblk m c 3 t) (iblk m c 4 t))
    (k0_pay11 (iblk m c 0 t) (iblk m c 1 t) (iblk m c 2 t) (iblk m c 3 t) (iblk m c 4 t))
    (k0_pay12 (iblk m c 0 t) (iblk m c 1 t) (iblk m c 2 t))

/-- The grid's last point. -/
def lastPoint : Fin cfg0.N := ⟨31, lt_of_lt_of_eq (by decide) N_0.symm⟩

theorem dpre_blk (v2 v6 v8 v34 v36 v39 : FVec Ideal S256x2048 .f32) (y : S256x2048.Idx) :
    k0_pay17 (F := Ideal) v2 v6 v8 v34 v36 v39 y = k0_pay13 (F := Ideal) v8 v34 v36 v39 y * v2 y * v6 y * (1 - v6 y) := by
  pointwise [k0_pay17]

theorem after (c : Dev nD) (t : Fin cfg0.N) :
    (outsAt0 m c t.val t.isLt).1 = blkDx m c t
    ∧ (outsAt0 m c t.val t.isLt).2.1 = mulf (blkDx m c t) (k0_pay3 (iblk m c 1 t))
    ∧ ∀ y, (outsAt0 m c t.val t.isLt).2.2.1 y
      = blkDx m c t y * iblk m c 2 t y * k0_pay3 (F := Ideal) (iblk m c 1 t) y * (1 - k0_pay3 (F := Ideal) (iblk m c 1 t) y) := by
  have hN := lt_of_lt_of_eq t.isLt N_0
  by_cases h0 : t.val % 32 = 0
  · rw [outsAt0_A m c t h0 (by omega) h0 (by omega)]
    refine ⟨?_, ?_, fun y => ?_⟩
    · frame_out; rfl
    · frame_out; rfl
    · frame_out; exact dpre_blk _ _ _ _ _ _ y
  · rw [outsAt0_B m c t h0 (by omega) h0 (by omega)]
    refine ⟨?_, ?_, fun y => ?_⟩
    · frame_out; rfl
    · frame_out; rfl
    · frame_out; exact dpre_blk _ _ _ _ _ _ y

theorem blk_at (y) : blkDx m c t y = dx3 (m ((c : Thread nD τ).loc main_arg0)) (m ((c : Thread nD τ).loc main_arg1))
      (m ((c : Thread nD τ).loc main_arg2)) (m ((c : Thread nD τ).loc main_arg3)) (m ((c : Thread nD τ).loc main_arg4))
     ((win0_5.blk t).view.emb y) := by
  unfold blkDx
  pointwise [k0_pay13, k0_pay4, k0_pay10, k0_pay11, k0_pay12, k0_pay9, k0_pay5, k0_pay3, k0_pay7, k0_pay6, k0_pay2, dx3, wt, er, ms, x3]
  blk_point [iblk, idx t]
  all_goals
    rw [gain]
    pointwise
    blk_ext [idx t]

theorem emb6 (t : Fin cfg0.N) (y : S256x2048.Idx) : (win0_6.blk t).view.emb y = (win0_5.blk t).view.emb y := rfl

theorem emb7 (t : Fin cfg0.N) (y : S256x2048.Idx) : (win0_7.blk t).view.emb y = (win0_5.blk t).view.emb y := rfl

theorem final5 (c : Dev nD) : (dats m 0 c).arrAt 5 (cfgs 0).N = val_main_v61 (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, (after m c t).1, blk_at, dx_at]

theorem final6 (c : Dev nD) : (dats m 0 c).arrAt 6 (cfgs 0).N = val_main_v65 (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, (after m c t).2.1, emb6, dpp_at]
  refine (congrArg (· * _) (blk_at m c t y)).trans ?_
  pointwise [k0_pay3]
  blk_point [iblk, idx t]
  done

theorem final7 (c : Dev nD) : (dats m 0 c).arrAt 7 (cfgs 0).N = val_main_v66 (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7, (after m c t).2.2, emb7, dpre_at, blk_at]
  pointwise [k0_pay3]
  blk_point [iblk, idx t]
  done

theorem dg_step (v18 v32 : FVec Ideal S256x2048 .f32) (acc : Vec Ideal S8x2048 .f32) (j : S8x2048.Idx) :
    k0_pay18 (F := Ideal) v18 v32 acc j = acc j + k0_pay14 (F := Ideal) v18 v32 j := by
  pointwise [k0_pay18]
  done

theorem loss_step (v : FVec Ideal S8x128 .f32) (acc : Vec Ideal S8x128 .f32) (j : S8x128.Idx) :
    k0_pay1 (F := Ideal) v acc j = acc j + v j := by
  pointwise [k0_pay1]
  done

theorem parts_dg (c : Dev nD) : (dats m 0 c).arrAt 8 (cfgs 0).N
    = fun j => ∑ t : Fin cfg0.N, k0_pay14 (F := Ideal) (k0_pay6 (iblk m c 0 t) (iblk m c 1 t) (iblk m c 2 t))
        (k0_pay9 (iblk m c 0 t) (iblk m c 1 t) (iblk m c 2 t) (iblk m c 3 t) (iblk m c 4 t)) j := by
  refine (dats m 0 c).arrAt_eq_of_after_last 8 lastPoint (by decide +kernel) _ (fun j => ?_)
  blk_simp
  rw [after0_8, Pipeline.eq_sum_fin_of_reset_step_apply_last (fun n h => (outsAt0 m c n h).2.2.2.1) 32 (fun _ => 0)
    (fun t => k0_pay14 (F := Ideal) (k0_pay6 (iblk m c 0 t) (iblk m c 1 t) (iblk m c 2 t))
        (k0_pay9 (iblk m c 0 t) (iblk m c 1 t) (iblk m c 2 t) (iblk m c 3 t) (iblk m c 4 t)))
    (fun t h j => by rw [outsAt0_A m c t h (by have := lt_of_lt_of_eq t.isLt N_0; omega) h (by have := lt_of_lt_of_eq t.isLt N_0; omega)]; frame_out; rw [zero_add])
    (fun t h j => by rw [outsAt0_B m c t h (by omega) h (by omega)]; frame_out; rw [dg_step])
    (le_of_eq N_0) lastPoint rfl j, zero_add]

theorem parts_loss (c : Dev nD) : (dats m 0 c).arrAt 9 (cfgs 0).N
    = fun j => ∑ t : Fin cfg0.N, k0_pay15 (F := Ideal)
        (k0_pay8 (iblk m c 0 t) (iblk m c 1 t) (iblk m c 2 t) (iblk m c 3 t) (iblk m c 4 t)) j := by
  refine (dats m 0 c).arrAt_eq_of_after_last 9 lastPoint (by decide +kernel) _ (fun j => ?_)
  blk_simp
  rw [after0_9, Pipeline.eq_sum_fin_of_reset_step_apply_last (fun n h => (outsAt0 m c n h).2.2.2.2) 32 (fun _ => 0)
    (fun t => k0_pay15 (F := Ideal) (k0_pay8 (iblk m c 0 t) (iblk m c 1 t) (iblk m c 2 t) (iblk m c 3 t) (iblk m c 4 t)))
    (fun t h j => by rw [outsAt0_A m c t h (by have := lt_of_lt_of_eq t.isLt N_0; omega) h (by have := lt_of_lt_of_eq t.isLt N_0; omega)]; frame_out; rw [zero_add])
    (fun t h j => by rw [outsAt0_B m c t h (by omega) h (by omega)]; frame_out; rw [loss_step])
    (le_of_eq N_0) lastPoint rfl j, zero_add]

theorem final_dg (c : Dev nD) : Pipeline.afterTail₀ cfgs (dats m) 0 (V0 m) [hostOps1] c main_v2 = val_main_v47 (m ((c : Thread nD τ).loc main_arg0)) (m ((c : Thread nD τ).loc main_arg1))
      (m ((c : Thread nD τ).loc main_arg2)) (m ((c : Thread nD τ).loc main_arg3)) (m ((c : Thread nD τ).loc main_arg4)) := by
  show StableHlo.after hostOps1 _ _ = _
  unfold hostOps1
  after_results_simp
  rw [show Pipeline.withArrays (cfgs 0).spec c (V0 m c) (fun w => (dats m 0 c).arrAt w (cfgs 0).N) (Proc.tc.devRef main_v1_3)
    = _ from Pipeline.withArrays_arr spec0 (by decide) c (V0 m c) (fun w => (dats m 0 c).arrAt w (cfgs 0).N) 8]
  rw [parts_dg]
  funext y
  rw [dg_at]
  pointwise [k0_pay14, k0_pay6, k0_pay9, k0_pay4, k0_pay5, k0_pay3, k0_pay7, k0_pay2, er, ms, x3]
  refine sum_rows_congr (fun s t i hl => ?_) (by decide)
  blk_point [iblk, idx t]
  all_goals (rw [gain]; pointwise; blk_ext [idx t])
  done

theorem final_loss (c : Dev nD) : Pipeline.afterTail₀ cfgs (dats m) 0 (V0 m) [hostOps1] c main_v4 = val_main_v35 (m ((c : Thread nD τ).loc main_arg0)) (m ((c : Thread nD τ).loc main_arg1))
      (m ((c : Thread nD τ).loc main_arg2)) (m ((c : Thread nD τ).loc main_arg3)) (m ((c : Thread nD τ).loc main_arg4)) := by
  show StableHlo.after hostOps1 _ _ = _
  unfold hostOps1
  after_results_simp
  rw [show Pipeline.withArrays (cfgs 0).spec c (V0 m c) (fun w => (dats m 0 c).arrAt w (cfgs 0).N) (Proc.tc.devRef main_v1_4)
    = _ from Pipeline.withArrays_arr spec0 (by decide) c (V0 m c) (fun w => (dats m 0 c).arrAt w (cfgs 0).N) 9]
  rw [parts_loss]
  funext y
  rw [loss_at]
  pointwise [k0_pay15, k0_pay8, k0_pay6, k0_pay9, k0_pay4, k0_pay5, k0_pay3, k0_pay7, k0_pay2, er, ms, x3]
  rw [bits_half, sum_coe_mul _ (by norm_num)]
  refine congrArg (_ * ·) ?_
  refine Fin.sum_mul_add_congr (fun t p hl => ?_) (by decide)
  blk_point [iblk, idx t]
  all_goals (rw [gain]; pointwise; blk_ext [idx t])
  done

theorem gain_kept (c : Dev nD) : Pipeline.afterTail₀ cfgs (dats m) 0 (V0 m) [hostOps1] c main_arg4
    = m ((c : Thread nD τ).loc main_arg4) := by
  show StableHlo.after hostOps1 _ _ = _
  unfold hostOps1
  after_results_simp
  refine (Pipeline.withArrays_of_ne spec0 c (V0 m c) (fun w => (dats m 0 c).arrAt w (cfgs 0).N) main_arg4 (by decide)).trans ?_
  show StableHlo.after hostOps0 _ _ = _
  unfold hostOps0
  after_results_simp

end Cert.HeadIdeal.Whole

end
-- ==== Proof.FlashRun.lean ====
/- One grid point of the attention's gradient kernel: what the body leaves in its three result blocks and its two
   accumulators, in each of its six cases. -/
module

public import proofs.«01_k».proof.Proof.Gen.FlashBwdIdeal.Frame
public import proofs.«01_k».proof.Proof.Gen.FlashBwdIdeal.Skeleton
public import Idealize.ShloMosaic.Lib.VecWindow

@[expose] public section

set_option maxRecDepth 16384

noncomputable section

namespace Cert.FlashBwdIdeal.Hand

open Cert.FlashBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The point is its row's first: the accumulators are set. -/
abbrev First (i : grid0.Coords) : Prop := (Scalar.cmpi .ne (Scalar.extui (Scalar.cmpi .eq (BitVec.ofNat 32 (i 2).val) 0#32)) 0#32) = 1#1
/-- The point is not its row's first: the accumulators are added to. -/
abbrev Later (i : grid0.Coords) : Prop := (Scalar.cmpi .ne (Scalar.extui (Scalar.cmpi .sgt (BitVec.ofNat 32 (i 2).val) 0#32)) 0#32) = 1#1

/-- The one row of the eight equal ones that the body reads. -/
def row (x : Vec F S1x8x2048 .f32) : Vec F S1x1x2048 .f32 :=
  VecWindow.window x ![0, 0, 0] S1x1x2048.size inb_S1x8x2048_S1x1x2048_0_0_0

/-- An accumulator after the body: the point's part set, or added. -/
def accNext (i : grid0.Coords) (part s : Vec F S1024x128 .f32) : Vec F S1024x128 .f32 :=
  if First i then k0_pay1 part else k0_pay3 part s

/-- The block of the queries' gradient after the body: the point's columns set, or added to. -/
def dqNext (i : grid0.Coords) (part : Vec F S128x2048 .f32) (Y : Vec F S128x8192 .f32) : Vec F S128x8192 .f32 :=
  if h : k0_cond4 i = 1#1 then VecWindow.put Y (k0_off1 i) S128x2048.size part
  else if h : k0_cond5 i = 1#1 then
    VecWindow.put Y (k0_off2 i) S128x2048.size (k0_pay5 part (VecWindow.window Y (k0_off2 i) S128x2048.size (k0_off2_inb i h)))
  else Y

set_option maxHeartbeats 4000000 in
theorem body_run (c : Dev nD) (i : grid0.Coords) (arg3 : Memref sig .tc .vmem S2048x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .f32) (harg6 : arg6.IsWhole) (arg7 : Memref sig .tc .vmem S2048x128 .bf16) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S128x8192 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole)
    (hl : Later i ↔ ¬ First i) (hf : k0_cond3 i = 1#1 → ¬ First i) (hk : k0_cond5 i = 1#1 ↔ ¬ k0_cond4 i = 1#1)
    (x0 : Vec F S2048x128 .bf16) (x1 : Vec F S1024x128 .bf16) (x2 : Vec F S128x1024 .bf16) (x3 : Vec F S1024x128 .f32) (x4 : Vec F S2048x128 .bf16) (x5 x6 : Vec F S1x8x2048 .f32) (Y7 : Vec F S128x8192 .f32) (Y8 Y9 s0 s1 : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare Y7 ∗ owns (c : Thread nD τ) arg11 fullShare Y8 ∗ owns (c : Thread nD τ) arg12 fullShare Y9 ∗ owns (c : Thread nD τ) arg13 fullShare s0 ∗ owns (c : Thread nD τ) arg14 fullShare s1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (dqNext i (k0_pay12 x0 x1 x4 x3 (row x5) (row x6) x2) Y7)
            ∗ owns (c : Thread nD τ) arg11 fullShare (if k0_cond3 i = 1#1 then accNext i (k0_pay11 x0 x1 x4 x3 (row x5) (row x6)) s0 else Y8)
            ∗ owns (c : Thread nD τ) arg12 fullShare (if k0_cond3 i = 1#1 then accNext i (k0_pay10 x0 x1 x4 (row x5)) s1 else Y9)
            ∗ owns (c : Thread nD τ) arg13 fullShare (accNext i (k0_pay11 x0 x1 x4 x3 (row x5) (row x6)) s0)
            ∗ owns (c : Thread nD τ) arg14 fullShare (accNext i (k0_pay10 x0 x1 x4 (row x5)) s1)) -∗ K ⟨⟩))
      ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12 arg13 harg13 arg14 harg14) K := by

  simp only [cc0_flash_bwd_eq_skeleton]; unfold cc0_flash_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
  have e0 := (View.readAt_full arg3.view f0 (Val := Elt F) inb_S2048x128_S2048x128_0_0).trans hf0
  have e1 := (View.readAt_full arg4.view f1 (Val := Elt F) inb_S1024x128_S1024x128_0_0).trans hf1
  have e2 := (View.readAt_full arg5.view f2 (Val := Elt F) inb_S128x1024_S128x1024_0_0).trans hf2
  have e3 := (View.readAt_full arg6.view f3 (Val := Elt F) inb_S1024x128_S1024x128_0_0).trans hf3
  have e4 := (View.readAt_full arg7.view f4 (Val := Elt F) inb_S2048x128_S2048x128_0_0).trans hf4
  have e5 : arg8.view.readAt (Elt F) (Rect.unit (s := S1x8x2048) ![0, 0, 0] S1x1x2048.size inb_S1x8x2048_S1x1x2048_0_0_0).toLoadRect f5 = row x5 :=
    (View.readAt_unit arg8.view f5 inb_S1x8x2048_S1x1x2048_0_0_0 rfl inb_S1x8x2048_S1x1x2048_0_0_0).trans (by rw [hf5]; rfl)
  have e6 : arg9.view.readAt (Elt F) (Rect.unit (s := S1x8x2048) ![0, 0, 0] S1x1x2048.size inb_S1x8x2048_S1x1x2048_0_0_0).toLoadRect f6 = row x6 :=
    (View.readAt_unit arg9.view f6 inb_S1x8x2048_S1x1x2048_0_0_0 rfl inb_S1x8x2048_S1x1x2048_0_0_0).trans (by rw [hf6]; rfl)
  have es0 := (View.readAt_full arg13.view fs0 (Val := Elt F) inb_S1024x128_S1024x128_0_0).trans hfs0
  have es1 := (View.readAt_full arg14.view fs1 (Val := Elt F) inb_S1024x128_S1024x128_0_0).trans hfs1
  have cases4 : (k0_cond4 i = 1#1 ∧ ¬ k0_cond5 i = 1#1) ∨ (¬ k0_cond4 i = 1#1 ∧ k0_cond5 i = 1#1) := by
    by_cases h : k0_cond4 i = 1#1
    · exact .inl ⟨h, fun h' => hk.mp h' h⟩
    · exact .inr ⟨h, hk.mpr h⟩
  have cases3 : (First i ∧ ¬ Later i ∧ ¬ k0_cond3 i = 1#1) ∨ (¬ First i ∧ Later i ∧ ¬ k0_cond3 i = 1#1) ∨ (¬ First i ∧ Later i ∧ k0_cond3 i = 1#1) := by
    by_cases h : First i
    · exact .inl ⟨h, fun h' => hl.mp h' h, fun h' => hf h' h⟩
    · by_cases h' : k0_cond3 i = 1#1
      · exact .inr (.inr ⟨h, hl.mpr h, h'⟩)
      · exact .inr (.inl ⟨h, hl.mpr h, h'⟩)
  rcases cases3 with ⟨h1, h2, h3⟩ | ⟨h1, h2, h3⟩ | ⟨h1, h2, h3⟩
  all_goals rcases cases4 with ⟨h4, h5⟩ | ⟨h4, h5⟩
  all_goals
    simp only [accNext, dqNext]
    first | simp only [if_pos h1] | simp only [if_neg h1]
    first | simp only [if_pos h3] | simp only [if_neg h3]
    first | simp only [dif_pos h4] | simp only [dif_neg h4, dif_pos h5]
    sl_exec (disch := first | sl_exact h1 | sl_exact h2 | sl_exact h3 | sl_exact h4 | sl_exact h5)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]
    · iexists _; isplitr
      swap; · iexact H7
      ipureintro
      exact (View.read_writes_cons_put arg10.view f7 _ _ [] rfl).trans (by subst hf7; rfl)
    isplitl [H8]
    · iexists _; isplitr
      swap; · iexact H8
      ipureintro
      first | exact hf8 | exact (View.read_writes_full arg11.view f8 inb_S1024x128_S1024x128_0_0 _ _).trans (View.readCov_full arg13.view inb_S1024x128_S1024x128_0_0 inb_S1024x128_S1024x128_0_0 _ _)
    isplitl [H9]
    · iexists _; isplitr
      swap; · iexact H9
      ipureintro
      first | exact hf9 | exact (View.read_writes_full arg12.view f9 inb_S1024x128_S1024x128_0_0 _ _).trans (View.readCov_full arg14.view inb_S1024x128_S1024x128_0_0 inb_S1024x128_S1024x128_0_0 _ _)
    isplitl [HS0]
    · iexists _; isplitr
      swap; · iexact HS0
      ipureintro
      exact View.read_writes_full arg13.view fs0 inb_S1024x128_S1024x128_0_0 _ _
    · iexists _; isplitr
      swap; · iexact HS1
      ipureintro
      exact View.read_writes_full arg14.view fs1 inb_S1024x128_S1024x128_0_0 _ _

end Cert.FlashBwdIdeal.Hand

end
-- ==== Proof.FlashFrame.lean ====
/- The whole run of the attention's gradient kernel: what the accumulators hold point by point, what each result block may
   hold, and the launch. -/
module

public import proofs.«01_k».proof.Proof.FlashRun

@[expose] public section

set_option maxRecDepth 16384

noncomputable section

namespace Cert.FlashBwdIdeal.Hand

open Cert.FlashBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig Unit (Elt F) ℕ (UR sig nD τ) ℕ

theorem first_iff : ∀ t : Fin cfg0.N, First (grid0.coords t) ↔ t.val % 4 = 0 := (by decide +kernel : ∀ t : Fin grid0.N, _)
theorem later_iff : ∀ t : Fin cfg0.N, Later (grid0.coords t) ↔ ¬ First (grid0.coords t) := (by decide +kernel : ∀ t : Fin grid0.N, _)
theorem cond3_iff : ∀ t : Fin cfg0.N, k0_cond3 (grid0.coords t) = 1#1 ↔ t.val % 4 = 3 := (by decide +kernel : ∀ t : Fin grid0.N, _)
theorem cond4_iff : ∀ t : Fin cfg0.N, k0_cond4 (grid0.coords t) = 1#1 ↔ t.val / 4 % 8 = 0 := (by decide +kernel : ∀ t : Fin grid0.N, _)
theorem cond5_iff : ∀ t : Fin cfg0.N, k0_cond5 (grid0.coords t) = 1#1 ↔ ¬ k0_cond4 (grid0.coords t) = 1#1 := (by decide +kernel : ∀ t : Fin grid0.N, _)

theorem accNext_first {i : grid0.Coords} (h : First i) (p s : Vec F S1024x128 .f32) : accNext i p s = k0_pay1 p := if_pos h
theorem accNext_later {i : grid0.Coords} (h : ¬ First i) (p s : Vec F S1024x128 .f32) : accNext i p s = k0_pay3 p s := if_neg h

/-- The accumulators. -/
abbrev accM0 : Memref sig .tc .vmem S1024x128 .f32 := Memref.whole cc0_scratch0
abbrev accM1 : Memref sig .tc .vmem S1024x128 .f32 := Memref.whole cc0_scratch1

theorem PhiA_eq (c : Dev nD) :
    (Pipeline.ΦA spec0 c : sProp 𝕄)
      = iprop(iprop((∃ d, owns (c : Thread nD τ) accM0 fullShare d) ∗ (∃ d, owns (c : Thread nD τ) accM1 fullShare d)) ∗ (∃ r, prngReg c r)) := by
  unfold Pipeline.ΦA; rw [scopedRest0_eq]; simp only [accM0, accM1, owns_whole]; try rfl

variable (m : (ℓ : Loc nD τ sig) → Buf (Elt F) ℓ) (ρ : Dev nD → PrngReg)

/-- The point's parts of the keys', the values' and the queries' gradients. -/
def partK (c : Dev nD) (t : Fin cfg0.N) : Vec F S1024x128 .f32 :=
  k0_pay11 (iblk m c 0 t) (iblk m c 1 t) (iblk m c 4 t) (iblk m c 3 t) (row (iblk m c 5 t)) (row (iblk m c 6 t))
def partV (c : Dev nD) (t : Fin cfg0.N) : Vec F S1024x128 .f32 :=
  k0_pay10 (iblk m c 0 t) (iblk m c 1 t) (iblk m c 4 t) (row (iblk m c 5 t))
def partQ (c : Dev nD) (t : Fin cfg0.N) : Vec F S128x2048 .f32 :=
  k0_pay12 (iblk m c 0 t) (iblk m c 1 t) (iblk m c 4 t) (iblk m c 3 t) (row (iblk m c 5 t)) (row (iblk m c 6 t)) (iblk m c 2 t)

/-- An accumulator after each point, from the points' parts. -/
def acc (part : Fin cfg0.N → Vec F S1024x128 .f32) : (n : ℕ) → n < cfg0.N → Vec F S1024x128 .f32
  | 0, hn => k0_pay1 (part ⟨0, hn⟩)
  | n + 1, hn => accNext (grid0.coords ⟨n + 1, hn⟩) (part ⟨n + 1, hn⟩) (acc part n (Nat.lt_of_succ_lt hn))

theorem acc_step (part : Fin cfg0.N → Vec F S1024x128 .f32) (t : Fin cfg0.N) (s : Vec F S1024x128 .f32)
    (h : ∀ hz : t.val ≠ 0, s = acc part (t.val - 1) (by omega)) :
    accNext (grid0.coords t) (part t) s = acc part t.val t.isLt := by
  obtain ⟨n, hn⟩ := t
  cases n with
  | zero => exact accNext_first ((first_iff ⟨0, hn⟩).mpr rfl) _ _
  | succ n => rw [h (Nat.succ_ne_zero n)]; rfl

/-- Before each point: at the first the accumulators at anything, later at what the points before left. -/
def Phi (c : Dev nD) : (n : ℕ) → n ≤ cfg0.N → sProp 𝕄
  | 0, _ => Pipeline.ΦA spec0 c
  | n + 1, hn => iprop(iprop(owns (c : Thread nD τ) accM0 fullShare (acc (partK m c) n hn) ∗ owns (c : Thread nD τ) accM1 fullShare (acc (partV m c) n hn)) ∗ (∃ r, prngReg c r))

/-- Before any point the accumulators hold something, which after the first is what the point before left. -/
theorem Phi_some (c : Dev nD) (n : ℕ) (hn : n ≤ cfg0.N) :
    Phi m c n hn ⊢ iprop(∃ s0 s1, ⌜∀ hz : n ≠ 0, s0 = acc (partK m c) (n - 1) (by omega) ∧ s1 = acc (partV m c) (n - 1) (by omega)⌝
      ∗ (owns (c : Thread nD τ) accM0 fullShare s0 ∗ owns (c : Thread nD τ) accM1 fullShare s1) ∗ (∃ r, prngReg c r)) := by
  cases n with
  | zero =>
    rw [show Phi m c 0 hn = Pipeline.ΦA spec0 c from rfl, PhiA_eq]
    iintro ⟨⟨⟨%s0, H0⟩, ⟨%s1, H1⟩⟩, Hg⟩
    iexists s0; iexists s1
    isplitr; · ipureintro; exact fun hz => absurd rfl hz
    isplitl [H0 H1]
    · isplitl [H0]; · iexact H0
      iexact H1
    iexact Hg
  | succ n =>
    rw [show Phi m c (n + 1) hn = iprop(iprop(owns (c : Thread nD τ) accM0 fullShare (acc (partK m c) n hn) ∗ owns (c : Thread nD τ) accM1 fullShare (acc (partV m c) n hn)) ∗ (∃ r, prngReg c r)) from rfl]
    iintro ⟨⟨H0, H1⟩, Hg⟩
    iexists _; iexists _
    isplitr; swap
    · isplitl [H0 H1]
      · isplitl [H0]; · iexact H0
        iexact H1
      iexact Hg
    ipureintro; exact fun _ => ⟨rfl, rfl⟩

/-- What the body leaves in each window's block, from what it found there. -/
def rdats (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = dqNext (grid0.coords t) (partQ m c t) Y
    | ⟨8, _⟩ => fun Y X => X = if k0_cond3 (grid0.coords t) = 1#1 then acc (partK m c) t.val t.isLt else Y
    | ⟨9, _⟩ => fun Y X => X = if k0_cond3 (grid0.coords t) = 1#1 then acc (partV m c) t.val t.isLt else Y
  Φ t := Phi m c t.val (Nat.le_of_lt_succ t.isLt)
  q _ := fullShare
  owed _ := 0

theorem A_eq (c : Dev nD) (w : Fin cfg0.W) : (rdats m c).A w = V m c (Pipeline.arrRef spec0 w) := by
  dsimp only [rdats]

/-- An input's block is in its buffer at every point. -/
theorem finds_in (c : Dev nD) (w : Fin cfg0.W) (hw : w.val < 7) (t : Fin cfg0.N) (Y) (h : (rdats m c).Finds w t Y) :
    ∃ d, Y = (rdats m c).fetched w t d := by
  have key : ∀ w : Fin 10, w.val < 7 → (cfg0.win w).isOut = false ∧ (∀ t Y X, (rdats m c).after w t Y X → X = Y)
      ∧ (∀ t t' : Fin cfg0.N, (cfg0.win w).index t = (cfg0.win w).index t' → (cfg0.win w).clip (cfg0.grid.coords t) = (cfg0.win w).clip (cfg0.grid.coords t')) := by
    intro w hw
    match w, hw with
    | ⟨0, _⟩, _ | ⟨1, _⟩, _ | ⟨2, _⟩, _ | ⟨3, _⟩, _ | ⟨4, _⟩, _ | ⟨5, _⟩, _ | ⟨6, _⟩, _ => exact ⟨rfl, fun _ _ _ h => h, fun _ _ _ => rfl⟩
  exact (rdats m c).finds_in_eq_fetched w (key w hw).1 (key w hw).2.2 (key w hw).2.1 t Y h

theorem in0 (c : Dev nD) (t : Fin cfg0.N) (Y) (h : (rdats m c).Finds 0 t Y) : Y = iblk m c 0 t := by
  obtain ⟨d, rfl⟩ := finds_in m c 0 (by decide) t Y h; unfold RDat.fetched RDat.blockOf iblk; rw [A_eq]; rfl
theorem in1 (c : Dev nD) (t : Fin cfg0.N) (Y) (h : (rdats m c).Finds 1 t Y) : Y = iblk m c 1 t := by
  obtain ⟨d, rfl⟩ := finds_in m c 1 (by decide) t Y h; unfold RDat.fetched RDat.blockOf iblk; rw [A_eq]; rfl
theorem in2 (c : Dev nD) (t : Fin cfg0.N) (Y) (h : (rdats m c).Finds 2 t Y) : Y = iblk m c 2 t := by
  obtain ⟨d, rfl⟩ := finds_in m c 2 (by decide) t Y h; unfold RDat.fetched RDat.blockOf iblk; rw [A_eq]; rfl
theorem in3 (c : Dev nD) (t : Fin cfg0.N) (Y) (h : (rdats m c).Finds 3 t Y) : Y = iblk m c 3 t := by
  obtain ⟨d, rfl⟩ := finds_in m c 3 (by decide) t Y h; unfold RDat.fetched RDat.blockOf iblk; rw [A_eq]; rfl
theorem in4 (c : Dev nD) (t : Fin cfg0.N) (Y) (h : (rdats m c).Finds 4 t Y) : Y = iblk m c 4 t := by
  obtain ⟨d, rfl⟩ := finds_in m c 4 (by decide) t Y h; unfold RDat.fetched RDat.blockOf iblk; rw [A_eq]; rfl
theorem in5 (c : Dev nD) (t : Fin cfg0.N) (Y) (h : (rdats m c).Finds 5 t Y) : Y = iblk m c 5 t := by
  obtain ⟨d, rfl⟩ := finds_in m c 5 (by decide) t Y h; unfold RDat.fetched RDat.blockOf iblk; rw [A_eq]; rfl
theorem in6 (c : Dev nD) (t : Fin cfg0.N) (Y) (h : (rdats m c).Finds 6 t Y) : Y = iblk m c 6 t := by
  obtain ⟨d, rfl⟩ := finds_in m c 6 (by decide) t Y h; unfold RDat.fetched RDat.blockOf iblk; rw [A_eq]; rfl

theorem body_row (t : Fin cfg0.N) :
    defs₀ (F := F) .tc cfg0.body (cfg0.bodyArgs t (cfg0.slots t)) = bodyAt0 t := by
  unfold defs₀; rw [Defs.onTc_tc]

theorem body_obligation (c : Dev nD) : (rdats (F := F) m c).BodyObligation (defs₀ (F := F)) Variants.none () Set.univ := fun t Y hY => by
  rw [bigSep_W0, bigSep_W0, body_row]
  rw [in0 m c t _ (hY 0), in1 m c t _ (hY 1), in2 m c t _ (hY 2), in3 m c t _ (hY 3), in4 m c t _ (hY 4), in5 m c t _ (hY 5), in6 m c t _ (hY 6)]
  rw [show (rdats m c).owesAt () t.succ = (rdats m c).owesAt () t.castSucc from rfl,
    show (rdats m c).Φ t.castSucc = Phi m c t.val (Nat.le_of_lt t.isLt) from rfl,
    show (rdats m c).Φ t.succ = iprop(iprop(owns (c : Thread nD τ) accM0 fullShare (acc (partK m c) t.val t.isLt) ∗ owns (c : Thread nD τ) accM1 fullShare (acc (partV m c) t.val t.isLt)) ∗ (∃ r, prngReg c r)) from rfl]
  iintro ⟨HP, Ho, H0, H1, H2, H3, H4, H5, H6, H7, H8, H9⟩
  ihave HQ := Phi_some m c t.val (Nat.le_of_lt t.isLt) $$ HP
  icases HQ with ⟨%s0, %s1, %hs, ⟨HS0, HS1⟩, Hg⟩
  unfold bodyAt0
  iapply (body_run c (grid0.coords t) _ _ _ _ _ _ _ _ _ _ _ _ _ _ _ _ _ _ _ _ _ _ _ _ (later_iff t)
    (fun h h' => by have := (cond3_iff t).mp h; have := (first_iff t).mp h'; omega) (cond5_iff t)
    (iblk m c 0 t) (iblk m c 1 t) (iblk m c 2 t) (iblk m c 3 t) (iblk m c 4 t) (iblk m c 5 t) (iblk m c 6 t) (Y 7) (Y 8) (Y 9) s0 s1)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  rw [show accNext (grid0.coords t) (k0_pay11 (iblk m c 0 t) (iblk m c 1 t) (iblk m c 4 t) (iblk m c 3 t) (row (iblk m c 5 t)) (row (iblk m c 6 t))) s0
      = acc (partK m c) t.val t.isLt from acc_step (partK m c) t s0 fun hz => (hs hz).1,
    show accNext (grid0.coords t) (k0_pay10 (iblk m c 0 t) (iblk m c 1 t) (iblk m c 4 t) (row (iblk m c 5 t))) s1
      = acc (partV m c) t.val t.isLt from acc_step (partV m c) t s1 fun hz => (hs hz).2]
  iintro ⟨H0, H1, H2, H3, H4, H5, H6, H7, H8, H9, HS0, HS1⟩
  isplitl [HS0 HS1 Hg]
  · isplitl [HS0 HS1]
    · isplitl [HS0]; · iexact HS0
      iexact HS1
    iexact Hg
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; rfl
  iexists _; isplitr; swap; · iexact H9
  ipureintro; rfl

theorem hout (c : Dev nD) : (rdats m c).Φ (Fin.last cfg0.N) ⊢ Pipeline.ΦA spec0 c := by
  rw [show (rdats m c).Φ (Fin.last cfg0.N) = Phi m c cfg0.N (le_refl _) from rfl]
  refine (Phi_some m c _ _).trans ?_
  rw [PhiA_eq]
  iintro ⟨%s0, %s1, -, ⟨HS0, HS1⟩, Hg⟩
  isplitl [HS0 HS1]
  · isplitl [HS0]
    · iexists _; iexact HS0
    iexists _; iexact HS1
  iexact Hg

set_option backward.isDefEq.respectTransparency.types false in
theorem run_main_quiescent : θ_run defs (onTc (τ := τ) (main (F := F))) (s₀ m ρ) (fun r => RDat.FramePost (cfgs 0) (rdats m) (V m) r ∧ r.2.sem = fun _ => 0) :=
  RDat.θ_run_frame_track (Q' := _) cfgs (0 : Fin 1) launch0 defs₀ Variants.none (rdats m) m ρ main
    (hbody := body_obligation m) (hshare := fun c w => by unfold RDat.share; split <;> rfl)
    (howed := fun _ _ => rfl) (V := V m) (hmain := hmain m Variants.none) (hA := A_eq m) (hin := fun _ => .rfl) (hout := hout m)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).2 main_arg0 (Pipeline.mem_restRefs_of main_arg0 (by decide) (by decide)) |>.trans (V_main_arg0 m c),
      (h.1 c).2 main_arg1 (Pipeline.mem_restRefs_of main_arg1 (by decide) (by decide)) |>.trans (V_main_arg1 m c),
      (RDat.FramePost.arr_in h.1 c 3 rfl).trans ((A_eq m c 3).trans (V_main_arg2 m c)),
      (h.1 c).2 main_arg3 (Pipeline.mem_restRefs_of main_arg3 (by decide) (by decide)) |>.trans (V_main_arg3 m c)⟩, h.2⟩) (run_main_quiescent m ρ)

end Cert.FlashBwdIdeal.Hand

end
-- ==== Proof.FlashBits.lean ====
/- The frame of the attention's gradient kernel as printed: the idealised program's run, read at the formats' values. -/
module

public import proofs.«01_k».proof.Defs
public import proofs.«01_k».proof.Proof.Gen.FlashBwd
public import proofs.«01_k».proof.Proof.FlashFrame

@[expose] public section

set_option maxRecDepth 16384

noncomputable section

namespace Cert.FlashBwd.Hand

open Idealize.ShloMosaic Idealize.SL.Sem

/-- At the formats' values a named constant is the printed one. -/
local instance named : Named Bits where
  named _ _ {_} b := b

theorem defs_eq : Cert.FlashBwd.defs (F := Bits) = Cert.FlashBwdIdeal.defs (F := Bits) := by sl_kernel_rfl
theorem main_eq : Cert.FlashBwd.main (F := Bits) = Cert.FlashBwdIdeal.main (F := Bits) := by sl_kernel_rfl

theorem frame : Cert.quiescent_FlashBwd := fun m ρ _ => by
  have := Cert.FlashBwdIdeal.Hand.frame (F := Bits) m ρ
  rw [defs_eq, main_eq]
  exact this

end Cert.FlashBwd.Hand

end
-- ==== Proof.FlashSums.lean ====
/- What the attention's gradient kernel leaves in its result blocks, as sums of the points' parts. -/
module

public import proofs.«01_k».proof.Proof.FlashFrame
public import Idealize.ShloMosaic.Lib.Pipeline.ValueKit

@[expose] public section

set_option maxRecDepth 16384

noncomputable section

namespace Cert.FlashBwdIdeal.Hand

open Cert.FlashBwdIdeal.Gen
open Idealize.ShloMosaic Idealize.ShloMosaic.TcCoe
open Idealize.ShloMosaic.Pipeline (RDat)
open scoped BigOperators

variable (m : (ℓ : Loc nD τ sig) → Buf (Elt Ideal) ℓ)

/-- The point of query head `h`, key block `kb` and query block `qb`. -/
def pt (h : Fin 16) (kb : Fin 8) (qb : Fin 4) : Fin cfg0.N :=
  ⟨h.val * 32 + kb.val * 4 + qb.val, lt_of_lt_of_eq (by omega : _ < 512) N_0.symm⟩

theorem pay1_apply (v : Vec Ideal S1024x128 .f32) (y : S1024x128.Idx) : k0_pay1 (F := Ideal) v y = v y := by pointwise [k0_pay1]
theorem pay3_apply (v s : Vec Ideal S1024x128 .f32) (y : S1024x128.Idx) : k0_pay3 (F := Ideal) v s y = s y + v y := by pointwise [k0_pay3]
theorem pay5_apply (v s : Vec Ideal S128x2048 .f32) (y : S128x2048.Idx) : k0_pay5 (F := Ideal) v s y = s y + v y := by pointwise [k0_pay5]

theorem acc_first (part : Fin cfg0.N → Vec Ideal S1024x128 .f32) (n : ℕ) (hn : n < cfg0.N) (h : n % 4 = 0) :
    acc part n hn = k0_pay1 (F := Ideal) (part ⟨n, hn⟩) := by
  cases n with
  | zero => rfl
  | succ n => exact accNext_first ((first_iff ⟨n + 1, hn⟩).mpr h) _ _

theorem acc_later (part : Fin cfg0.N → Vec Ideal S1024x128 .f32) (n : ℕ) (hn : n + 1 < cfg0.N) (h : (n + 1) % 4 ≠ 0) :
    acc part (n + 1) hn = k0_pay3 (F := Ideal) (part ⟨n + 1, hn⟩) (acc part n (Nat.lt_of_succ_lt hn)) :=
  accNext_later (fun hf => h ((first_iff ⟨n + 1, hn⟩).mp hf)) _ _

/-- After a key block's last query block an accumulator holds the sum of its four parts. -/
theorem acc_sum (part : Fin cfg0.N → Vec Ideal S1024x128 .f32) (h : Fin 16) (kb : Fin 8) (y : S1024x128.Idx) :
    acc part (pt h kb 3).val (pt h kb 3).isLt y = ∑ s : Fin 4, part (pt h kb s) y := by
  have e : ∀ (n : ℕ) (hn : n + 3 < cfg0.N), n % 4 = 0 → acc part (n + 3) hn y
      = part ⟨n, by omega⟩ y + part ⟨n + 1, by omega⟩ y + part ⟨n + 2, by omega⟩ y + part ⟨n + 3, hn⟩ y := by
    intro n hn h0
    rw [acc_later part (n + 2) hn (by omega), pay3_apply, acc_later part (n + 1) _ (by omega), pay3_apply,
      acc_later part n _ (by omega), pay3_apply, acc_first part n _ h0, pay1_apply]
  rw [Fin.sum_univ_four]
  exact e (h.val * 32 + kb.val * 4) (pt h kb 3).isLt (by omega)

/-- The parts of the queries' gradient, by the point's number. -/
def numQ (c : Dev nD) (n : ℕ) : Vec Ideal S128x2048 .f32 := if h : n < cfg0.N then partQ m c ⟨n, h⟩ else fun _ => 0

theorem numQ_of (c : Dev nD) (t : Fin cfg0.N) : numQ m c t.val = partQ m c t := dif_pos t.isLt

theorem off1_eq : ∀ t : Fin cfg0.N, k0_off1 (grid0.coords t) 0 = 0 ∧ k0_off1 (grid0.coords t) 1 = t.val % 4 * 2048 := (by decide +kernel : ∀ t : Fin grid0.N, _)
theorem off2_eq : ∀ t : Fin cfg0.N, k0_off2 (grid0.coords t) 0 = 0 ∧ k0_off2 (grid0.coords t) 1 = t.val % 4 * 2048 := (by decide +kernel : ∀ t : Fin grid0.N, _)

/-- A put of a block of columns, read at an entry. -/
theorem put_apply (Y : Vec Ideal S128x8192 .f32) (off : Fin 2 → ℕ) (b : ℕ) (h0 : off 0 = 0) (h1 : off 1 = b * 2048) (w : Vec Ideal S128x2048 .f32)
    (j : Fin 128) (q : Fin 8192) :
    VecWindow.put (s := S128x8192) Y off S128x2048.size w (ix2 j q)
      = if q.val / 2048 = b then w (ix2 j ⟨q.val % 2048, Nat.mod_lt _ (by decide)⟩) else Y (ix2 j q) := by
  unfold VecWindow.put
  by_cases h : q.val / 2048 = b
  · rw [dif_pos, if_pos h]
    · congr 1
      funext a
      refine Fin.ext ?_
      rw [Rect.unitLocal_val]
      match a with
      | ⟨0, _⟩ => show j.val - off 0 = j.val; rw [h0]; rfl
      | ⟨1, _⟩ => show q.val - off 1 = q.val % 2048; rw [h1]; omega
    · intro a
      match a with
      | ⟨0, _⟩ => show off 0 ≤ j.val ∧ j.val < off 0 + 128; rw [h0]; omega
      | ⟨1, _⟩ => show off 1 ≤ q.val ∧ q.val < off 1 + 2048; rw [h1]; omega
  · rw [dif_neg, if_neg h]
    intro hc
    have := hc 1
    change off 1 ≤ q.val ∧ q.val < off 1 + 2048 at this
    rw [h1] at this
    omega

/-- A block of columns, read at an entry. -/
theorem window_apply (Y : Vec Ideal S128x8192 .f32) (off : Fin 2 → ℕ) (inb) (b : ℕ) (h0 : off 0 = 0) (h1 : off 1 = b * 2048)
    (j : Fin 128) (q : Fin 8192) (h : q.val / 2048 = b) :
    VecWindow.window (s := S128x8192) Y off S128x2048.size inb (ix2 j ⟨q.val % 2048, Nat.mod_lt _ (by decide)⟩) = Y (ix2 j q) := by
  show Y _ = Y _
  congr 1
  funext a
  refine Fin.ext ?_
  match a with
  | ⟨0, _⟩ => show off 0 + 1 * j.val = j.val; rw [h0]; omega
  | ⟨1, _⟩ => show off 1 + 1 * (q.val % 2048) = q.val; rw [h1]; omega

/-- How many points of a head have visited block `b` of the queries, up to its point `r`. -/
abbrev visits (r b : ℕ) : ℕ := (r + 4 - b) / 4

/-- The queries' gradient in progress: a visited block holds the sum of its parts so far. -/
def SoFar (c : Dev nD) (t : Fin cfg0.N) (X : Vec Ideal S128x8192 .f32) : Prop :=
  ∀ (j : Fin 128) (q : Fin 8192), 0 < visits (t.val % 32) (q.val / 2048) →
    X (ix2 j q) = ∑ k ∈ Finset.range (visits (t.val % 32) (q.val / 2048)),
      numQ m c (t.val / 32 * 32 + k * 4 + q.val / 2048) (ix2 j ⟨q.val % 2048, Nat.mod_lt _ (by decide)⟩)

/-- One point: its block starts from its part, or has the part added; the other blocks keep what they hold. -/
theorem dqNext_apply (t : Fin cfg0.N) (part : Vec Ideal S128x2048 .f32) (Y : Vec Ideal S128x8192 .f32) (j : Fin 128) (q : Fin 8192) :
    dqNext (grid0.coords t) part Y (ix2 j q)
      = if q.val / 2048 = t.val % 4 then
          (if t.val / 4 % 8 = 0 then part (ix2 j ⟨q.val % 2048, Nat.mod_lt _ (by decide)⟩)
            else Y (ix2 j q) + part (ix2 j ⟨q.val % 2048, Nat.mod_lt _ (by decide)⟩))
        else Y (ix2 j q) := by
  unfold dqNext
  by_cases h4 : k0_cond4 (grid0.coords t) = 1#1
  · rw [dif_pos h4, put_apply Y _ (t.val % 4) (off1_eq t).1 (off1_eq t).2, if_pos ((cond4_iff t).mp h4)]
  · have h5 := (cond5_iff t).mpr h4
    rw [dif_neg h4, dif_pos h5, put_apply Y _ (t.val % 4) (off2_eq t).1 (off2_eq t).2, if_neg (fun h => h4 ((cond4_iff t).mpr h))]
    by_cases hq : q.val / 2048 = t.val % 4
    · rw [if_pos hq, if_pos hq, pay5_apply, window_apply Y _ _ (t.val % 4) (off2_eq t).1 (off2_eq t).2 j q hq]
    · rw [if_neg hq, if_neg hq]

theorem soFar (c : Dev nD) : ∀ (n : ℕ) (hn : n < cfg0.N) (X : Vec Ideal S128x8192 .f32), (rdats m c).Leaves 7 ⟨n, hn⟩ X → SoFar m c ⟨n, hn⟩ X := by
  intro n
  induction n with
  | zero =>
    rintro hn X ⟨Y, -, hX⟩ j q hv
    have hX' : X = dqNext (grid0.coords ⟨0, hn⟩) (partQ m c ⟨0, hn⟩) Y := hX
    rw [hX', dqNext_apply]
    have hb : q.val / 2048 = 0 := by have := hv; simp only [visits] at this; omega
    rw [if_pos (by simpa using hb), if_pos (by show 0 / 4 % 8 = 0; rfl)]
    have hvis : visits ((⟨0, hn⟩ : Fin cfg0.N).val % 32) (q.val / 2048) = 1 := by simp only [visits, hb]
    rw [hvis, Finset.sum_range_one, hb, show (⟨0, hn⟩ : Fin cfg0.N).val / 32 * 32 + 0 * 4 + 0 = (⟨0, hn⟩ : Fin cfg0.N).val by show 0 / 32 * 32 + 0 * 4 + 0 = 0; rfl, numQ_of]
  | succ n ih =>
    rintro hn X ⟨Y, hY, hX⟩ j q hv
    have hX' : X = dqNext (grid0.coords ⟨n + 1, hn⟩) (partQ m c ⟨n + 1, hn⟩) Y := hX
    rw [hX', dqNext_apply]
    simp only [visits] at hv ⊢
    have hq4 : q.val / 2048 < 4 := by have := q.isLt; omega
    generalize hb : q.val / 2048 = b at hv hq4 ⊢
    by_cases h32 : (n + 1) % 32 = 0
    · have hb0 : b = 0 := by omega
      subst hb0
      rw [if_pos (by omega), if_pos (by omega), show ((n + 1) % 32 + 4 - 0) / 4 = 1 by omega, Finset.sum_range_one,
        show (n + 1) / 32 * 32 + 0 * 4 + 0 = (⟨n + 1, hn⟩ : Fin cfg0.N).val by show _ = n + 1; omega, numQ_of]
    · have hL : (rdats m c).Leaves 7 ⟨n, Nat.lt_of_succ_lt hn⟩ Y := by
        rcases ((rdats m c).finds_of_pos (w := 7) (t := ⟨n + 1, hn⟩) (by rfl) (Nat.succ_ne_zero n) Y).mp hY with hf | hL
        · exact absurd ((flush0_7 _).mp hf) (by show ¬ (n + 1 - 1) % 32 = 31; omega)
        · exact hL
      have hS := ih (Nat.lt_of_succ_lt hn) Y hL j q
      simp only [visits, hb] at hS
      have hdiv : n / 32 = (n + 1) / 32 := by omega
      rw [hdiv] at hS
      by_cases hbt : b = (n + 1) % 4
      · rw [if_pos hbt]
        by_cases hk : (n + 1) / 4 % 8 = 0
        · rw [if_pos hk, show ((n + 1) % 32 + 4 - b) / 4 = 1 by omega, Finset.sum_range_one,
            show (n + 1) / 32 * 32 + 0 * 4 + b = (⟨n + 1, hn⟩ : Fin cfg0.N).val by show _ = n + 1; omega, numQ_of]
        · rw [if_neg hk, hS (by omega), show ((n + 1) % 32 + 4 - b) / 4 = (n % 32 + 4 - b) / 4 + 1 by omega, Finset.sum_range_succ,
            show (n + 1) / 32 * 32 + (n % 32 + 4 - b) / 4 * 4 + b = (⟨n + 1, hn⟩ : Fin cfg0.N).val by show _ = n + 1; omega, numQ_of]
      · rw [if_neg hbt, show ((n + 1) % 32 + 4 - b) / 4 = (n % 32 + 4 - b) / 4 by omega, hS (by omega)]

/-- After a head's last point, every block of its queries' gradient holds the sum of its eight parts. -/
theorem leavesQ (c : Dev nD) (h : Fin 16) (X : Vec Ideal S128x8192 .f32) (hX : (rdats m c).Leaves 7 (pt h 7 3) X) (j : Fin 128) (q : Fin 8192) :
    X (ix2 j q) = ∑ k : Fin 8, partQ m c (pt h k ⟨q.val / 2048, by omega⟩) (ix2 j ⟨q.val % 2048, Nat.mod_lt _ (by decide)⟩) := by
  have ht : (pt h 7 3).val = h.val * 32 + 31 := rfl
  have hq := q.isLt
  have hS := soFar m c _ (pt h 7 3).isLt X hX j q (by simp only [visits]; omega)
  simp only [visits, show ((pt h 7 3).val % 32 + 4 - q.val / 2048) / 4 = 8 by omega] at hS
  rw [hS, Finset.sum_range]
  refine Finset.sum_congr rfl fun k _ => ?_
  rw [← numQ_of]
  congr 1
  show (pt h 7 3).val / 32 * 32 + k.val * 4 + q.val / 2048 = h.val * 32 + k.val * 4 + q.val / 2048
  rw [ht]
  omega

/-- What the two other windows leave after a key block's last query block. -/
theorem leavesK (c : Dev nD) (h : Fin 16) (kb : Fin 8) (X : Vec Ideal S1024x128 .f32) (hX : (rdats m c).Leaves 8 (pt h kb 3) X) (y : S1024x128.Idx) :
    X y = ∑ s : Fin 4, partK m c (pt h kb s) y := by
  obtain ⟨Y, -, hX⟩ := hX
  have hX' : X = if k0_cond3 (grid0.coords (pt h kb 3)) = 1#1 then acc (partK m c) (pt h kb 3).val (pt h kb 3).isLt else Y := hX
  rw [hX', if_pos ((cond3_iff _).mpr (by show (h.val * 32 + kb.val * 4 + 3) % 4 = 3; omega)), acc_sum]

theorem leavesV (c : Dev nD) (h : Fin 16) (kb : Fin 8) (X : Vec Ideal S1024x128 .f32) (hX : (rdats m c).Leaves 9 (pt h kb 3) X) (y : S1024x128.Idx) :
    X y = ∑ s : Fin 4, partV m c (pt h kb s) y := by
  obtain ⟨Y, -, hX⟩ := hX
  have hX' : X = if k0_cond3 (grid0.coords (pt h kb 3)) = 1#1 then acc (partV m c) (pt h kb 3).val (pt h kb 3).isLt else Y := hX
  rw [hX', if_pos ((cond3_iff _).mpr (by show (h.val * 32 + kb.val * 4 + 3) % 4 = 3; omega)), acc_sum]

end Cert.FlashBwdIdeal.Hand
-- ==== Proof.Softmax.lean ====
/- Attention rows over the reals: what the two programs' extended-real expressions are when the arguments are finite. -/
module

public import proofs.«01_k».proof.Proof.Reals

@[expose] public section

noncomputable section

open Idealize.ShloMosaic
open scoped BigOperators

namespace Cert.Softmax

variable {n d : ℕ}

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The product of two rows. -/
def dot (a b : Fin d → ℝ) : ℝ := ∑ j, a j * b j

theorem dot_coe (a b : Fin d → ℝ) : ∑ j, (a j : EReal) * (b j : EReal) = ((dot a b : ℝ) : EReal) := by
  simp only [← EReal.coe_mul]; exact sum_coe _ _

/-- The f32 pattern nearest `1/√128` is a positive real. -/
theorem exists_scale : ∃ e : ℝ, 0 < e ∧ Ideal.ofBits .f32 0x3DB504F3#32 = (e : EReal) := by
  refine ⟨_, ?_, by simp [Ideal.ofBits, Ideal.ieee, -EReal.coe_mul]; rfl⟩
  norm_num

def scale : ℝ := exists_scale.choose
theorem scale_coe : Ideal.ofBits .f32 0x3DB504F3#32 = (scale : EReal) := exists_scale.choose_spec.2

theorem negInf : Ideal.ofBits .f32 0xFF800000#32 = ⊥ := by
  simp [Ideal.ofBits, Ideal.ieee]

theorem log_two : Ideal.log (Ideal.ofBits .f32 0x40000000#32) = ((Real.log 2 : ℝ) : EReal) := by
  rw [Cert.Reals.bits_two, Ideal.log_coe, if_neg (by norm_num)]

theorem log_two_pos : 0 < Real.log 2 := Real.log_pos (by norm_num)

/-- The greatest of a row of scores. -/
def top (s : Fin n → ℝ) : ℝ := (Finset.univ.fold max (⊥ : EReal) fun k => (s k : EReal)).toReal

theorem top_coe [NeZero n] (s : Fin n → ℝ) : (Finset.univ.fold max (⊥ : EReal) fun k => (s k : EReal)) = ((top s : ℝ) : EReal) := by
  have h : (Finset.univ.fold max (⊥ : EReal) fun k => (s k : EReal)) = Finset.univ.sup fun k => (s k : EReal) := rfl
  obtain ⟨k, -, hk⟩ := Finset.exists_mem_eq_sup (Finset.univ : Finset (Fin n)) Finset.univ_nonempty (fun k => (s k : EReal))
  rw [top, h, hk, EReal.toReal_coe]

/-- The sum of a row's exponentials, and the row of weights. -/
def total (s : Fin n → ℝ) : ℝ := ∑ k, Real.exp (s k - top s)
def prob (s : Fin n → ℝ) (k : Fin n) : ℝ := Real.exp (s k - top s) / total s

theorem total_pos [NeZero n] (s : Fin n → ℝ) : 0 < total s :=
  Finset.sum_pos (fun _ _ => Real.exp_pos _) Finset.univ_nonempty

theorem wt_coe (s : Fin n → ℝ) (k : Fin n) : Ideal.exp ((s k : EReal) - ((top s : ℝ) : EReal)) = ((Real.exp (s k - top s) : ℝ) : EReal) := by
  rw [← EReal.coe_sub, Ideal.exp_coe]

theorem total_coe (s : Fin n → ℝ) : ∑ k, ((Real.exp (s k - top s) : ℝ) : EReal) = ((total s : ℝ) : EReal) := sum_coe _ _

theorem prob_coe [NeZero n] (s : Fin n → ℝ) (k : Fin n) :
    Ideal.div ((Real.exp (s k - top s) : ℝ) : EReal) ((total s : ℝ) : EReal) = ((prob s k : ℝ) : EReal) := by
  rw [Cert.Reals.div_coe _ (total_pos s).ne', ← EReal.coe_mul]; rfl

theorem share_coe [NeZero n] (s : Fin n → ℝ) (x : ℝ) : Ideal.div (x : EReal) ((total s : ℝ) : EReal) = ((x / total s : ℝ) : EReal) := by
  rw [Cert.Reals.div_coe _ (total_pos s).ne', ← EReal.coe_mul]; rfl

theorem square_coe [NeZero n] (s : Fin n → ℝ) :
    Ideal.div 1 (((total s : ℝ) : EReal) * ((total s : ℝ) : EReal)) = ((1 / (total s * total s) : ℝ) : EReal) := by
  have h := (total_pos s).ne'
  rw [← EReal.coe_mul, ← EReal.coe_one, Cert.Reals.div_coe _ (mul_ne_zero h h), ← EReal.coe_mul]; rfl

/-- The logarithm of a row's sum, in base two. -/
def lse (s : Fin n → ℝ) : ℝ := (top s + Real.log (total s)) / Real.log 2

theorem lse_coe [NeZero n] (s : Fin n → ℝ) :
    Ideal.div (((top s : ℝ) : EReal) + Ideal.log ((total s : ℝ) : EReal)) ((Real.log 2 : ℝ) : EReal) = ((lse s : ℝ) : EReal) := by
  rw [Ideal.log_coe, if_neg (total_pos s).not_ge, ← EReal.coe_add, Cert.Reals.div_coe _ log_two_pos.ne', ← EReal.coe_mul]; rfl

/-- The weights from the scores and the row's logarithm, both in base two. -/
theorem exp2_prob [NeZero n] (s : Fin n → ℝ) (k : Fin n) :
    Ideal.exp2 (((s k / Real.log 2 : ℝ) : EReal) - ((lse s : ℝ) : EReal)) = ((prob s k : ℝ) : EReal) := by
  rw [← EReal.coe_sub, Ideal.exp2_coe]
  congr 1
  show (2 : ℝ) ^ (s k / Real.log 2 - lse s) = prob s k
  have h2 := log_two_pos.ne'
  rw [Real.rpow_def_of_pos (by norm_num), prob, ← Real.exp_log (total_pos s), ← Real.exp_sub, lse]
  congr 1
  field_simp
  ring

/-- A query row's scaled scores against the keys. -/
def scores (q : Fin d → ℝ) (K : Fin n → Fin d → ℝ) (k : Fin n) : ℝ := dot q (K k) * scale

theorem scores_coe (q : Fin d → ℝ) (K : Fin n → Fin d → ℝ) (k : Fin n) :
    ((dot q (K k) : ℝ) : EReal) * ((scale : ℝ) : EReal) = ((scores q K k : ℝ) : EReal) := by rw [← EReal.coe_mul]; rfl

/-- The query row in base two. -/
def base2 (q : Fin d → ℝ) (j : Fin d) : ℝ := q j * scale / Real.log 2

theorem base2_coe (q : Fin d → ℝ) (j : Fin d) :
    Ideal.div ((q j : EReal) * ((scale : ℝ) : EReal)) ((Real.log 2 : ℝ) : EReal) = ((base2 q j : ℝ) : EReal) := by
  rw [← EReal.coe_mul, Cert.Reals.div_coe _ log_two_pos.ne', ← EReal.coe_mul]; rfl

theorem dot_base2 (q : Fin d → ℝ) (K : Fin n → Fin d → ℝ) (k : Fin n) : dot (K k) (base2 q) = scores q K k / Real.log 2 := by
  rw [scores, dot, dot, Finset.sum_mul, Finset.sum_div]
  refine Finset.sum_congr rfl fun j _ => ?_
  rw [base2]; ring

theorem dot_comm (a b : Fin d → ℝ) : dot a b = dot b a := Finset.sum_congr rfl fun j _ => mul_comm _ _

/-- A query row's output, its product with the row's cotangent, and the scores' gradient. -/
def out (q : Fin d → ℝ) (K V : Fin n → Fin d → ℝ) (j : Fin d) : ℝ := ∑ k, prob (scores q K) k * V k j
def delta (q : Fin d → ℝ) (K V : Fin n → Fin d → ℝ) (o : Fin d → ℝ) : ℝ := ∑ j, out q K V j * o j
def dscore (q : Fin d → ℝ) (K V : Fin n → Fin d → ℝ) (o : Fin d → ℝ) (k : Fin n) : ℝ :=
  prob (scores q K) k * (dot o (V k) - delta q K V o)

theorem delta_eq (q : Fin d → ℝ) (K V : Fin n → Fin d → ℝ) (o : Fin d → ℝ) :
    delta q K V o = ∑ k, prob (scores q K) k * dot o (V k) := by
  simp only [delta, out, dot, Finset.sum_mul, Finset.mul_sum]
  rw [Finset.sum_comm]
  exact Finset.sum_congr rfl fun k _ => Finset.sum_congr rfl fun j _ => by ring

/-- The scores' gradient as the derivative of the quotient writes it. -/
theorem quotient_dscore [NeZero n] (q : Fin d → ℝ) (K V : Fin n → Fin d → ℝ) (o : Fin d → ℝ) (k : Fin n) :
    (dot o (V k) / total (scores q K)
        + -(∑ k', dot o (V k') * (1 / (total (scores q K) * total (scores q K))) * Real.exp (scores q K k' - top (scores q K))))
      * Real.exp (scores q K k - top (scores q K)) = dscore q K V o k := by
  have hT := (total_pos (scores q K)).ne'
  rw [dscore, delta_eq, prob]
  have e : ∑ k', dot o (V k') * (1 / (total (scores q K) * total (scores q K))) * Real.exp (scores q K k' - top (scores q K))
      = (∑ k', prob (scores q K) k' * dot o (V k')) / total (scores q K) := by
    rw [Finset.sum_div]
    refine Finset.sum_congr rfl fun k' _ => ?_
    rw [prob]
    field_simp
  rw [e]
  field_simp
  ring

end Cert.Softmax

end
-- ==== Proof.FlashParts.lean ====
/- The attention's gradient kernel computes, at finite arguments, the real gradient of the attention: its points' parts. -/
module

public import proofs.«01_k».proof.Proof.FlashSums
public import proofs.«01_k».proof.Proof.Softmax
public import Idealize.ShloMosaic.Lib.Pipeline.ValueKit
public import Idealize.ShloMosaic.Lib.Claim
public import Idealize.ShloMosaic.Lib.StableHlo.RunRead

@[expose] public section

set_option maxRecDepth 16384

noncomputable section

namespace Cert.FlashBwdIdeal.Hand

open Cert.FlashBwdIdeal.Gen Cert.Softmax
open Idealize.ShloMosaic Idealize.ShloMosaic.TcCoe
open scoped BigOperators
variable (m : (ℓ : Loc nD τ sig) → Buf (Elt Ideal) ℓ) (c : Dev nD)

theorem idx : ∀ (h : Fin 16) (kb : Fin 8) (qb : Fin 4), win0_0.index (pt h kb qb) = ![qb.val, h.val] ∧ win0_1.index (pt h kb qb) = ![kb.val, h.val / 4]
    ∧ win0_2.index (pt h kb qb) = ![h.val / 4, kb.val] ∧ win0_3.index (pt h kb qb) = ![kb.val, 36 + h.val / 4] ∧ win0_4.index (pt h kb qb) = ![qb.val, h.val]
    ∧ win0_5.index (pt h kb qb) = ![h.val, 0, qb.val] ∧ win0_6.index (pt h kb qb) = ![h.val, 0, qb.val]
    ∧ win0_7.index (pt h kb qb) = ![h.val, 0] ∧ win0_8.index (pt h kb qb) = ![kb.val, h.val] ∧ win0_9.index (pt h kb qb) = ![kb.val, h.val] := by
  decide +kernel

theorem row_apply (x : Vec Ideal S1x8x2048 .f32) (y : S1x1x2048.Idx) : row x y = x (ix3 0 0 (y 2)) := by
  show x _ = x _
  congr 1
  funext a
  refine Fin.ext ?_
  match a with
  | ⟨0, _⟩ => show 0 + 1 * (y 0).val = 0; have := (y 0).isLt; change (y 0).val < 1 at this; omega
  | ⟨1, _⟩ => show 0 + 1 * (y 1).val = 0; have := (y 1).isLt; change (y 1).val < 1 at this; omega
  | ⟨2, _⟩ => show 0 + 1 * (y 2).val = (y 2).val; omega

/-- An entry of an argument: rows of a block of queries and of keys, columns of a head's queries, keys and values. -/
abbrev qAt (qb : Fin 4) (x : Fin 2048) : Fin 8192 := ⟨qb.val * 2048 + x.val, by omega⟩
abbrev kAt (kb : Fin 8) (i : Fin 1024) : Fin 8192 := ⟨kb.val * 1024 + i.val, by omega⟩
abbrev qCol (h : Fin 16) (j : Fin 128) : Fin 2048 := ⟨h.val * 128 + j.val, by omega⟩
abbrev kCol (h : Fin 16) (j : Fin 128) : Fin 512 := ⟨h.val / 4 * 128 + j.val, by omega⟩
abbrev vCol (h : Fin 16) (j : Fin 128) : Fin 9216 := ⟨4608 + (h.val / 4 * 128 + j.val), by omega⟩

/-- The operands' blocks at a point. -/
theorem blk0 (h : Fin 16) (kb : Fin 8) (s : Fin 4) (x : Fin 2048) (j : Fin 128) :
    iblk m c 0 (pt h kb s) (ix2 x j) = V m c main_v38 (ix2 (qAt s x) (qCol h j)) := by
  blk_point [iblk, idx h kb s]
theorem blk1 (h : Fin 16) (kb : Fin 8) (s : Fin 4) (x : Fin 1024) (j : Fin 128) :
    iblk m c 1 (pt h kb s) (ix2 x j) = m ((c : Thread nD τ).loc main_arg1) (ix2 (kAt kb x) (kCol h j)) := by
  blk_point [iblk, idx h kb s]
theorem blk2 (h : Fin 16) (kb : Fin 8) (s : Fin 4) (x : Fin 1024) (j : Fin 128) :
    iblk m c 2 (pt h kb s) (ix2 j x) = m ((c : Thread nD τ).loc main_arg1) (ix2 (kAt kb x) (kCol h j)) := by
  blk_point [iblk, idx h kb s]
theorem blk3 (h : Fin 16) (kb : Fin 8) (s : Fin 4) (x : Fin 1024) (j : Fin 128) :
    iblk m c 3 (pt h kb s) (ix2 x j) = m ((c : Thread nD τ).loc main_arg2) (ix2 (kAt kb x) (vCol h j)) := by
  blk_point [iblk, idx h kb s]
theorem blk4 (h : Fin 16) (kb : Fin 8) (s : Fin 4) (x : Fin 2048) (j : Fin 128) :
    iblk m c 4 (pt h kb s) (ix2 x j) = m ((c : Thread nD τ).loc main_arg3) (ix2 (qAt s x) (qCol h j)) := by
  blk_point [iblk, idx h kb s]
theorem blk5 (h : Fin 16) (kb : Fin 8) (s : Fin 4) (x : Fin 2048) :
    iblk m c 5 (pt h kb s) (ix3 0 0 x) = V m c main_v42 (ix3 h 0 (qAt s x)) := by
  blk_point [iblk, idx h kb s]
theorem blk6 (h : Fin 16) (kb : Fin 8) (s : Fin 4) (x : Fin 2048) :
    iblk m c 6 (pt h kb s) (ix3 0 0 x) = V m c main_v44 (ix3 h 0 (qAt s x)) := by
  blk_point [iblk, idx h kb s]

/-- The arguments are these reals. -/
structure Reads (a0 : S8192x2048.Idx → ℝ) (a1 : S8192x512.Idx → ℝ) (a2 : S8192x512.Idx → ℝ) (a3 : S8192x2048.Idx → ℝ) : Prop where
  q : ∀ y, (m ((c : Thread nD τ).loc main_arg0) y : EReal) = (a0 y : EReal)
  k : ∀ y, (m ((c : Thread nD τ).loc main_arg1) y : EReal) = (a1 y : EReal)
  v : ∀ (x : Fin 8192) (y : Fin 512) (h : 4608 + y.val < 9216), (m ((c : Thread nD τ).loc main_arg2) (ix2 x ⟨4608 + y.val, h⟩) : EReal) = (a2 (ix2 x y) : EReal)
  o : ∀ y, (m ((c : Thread nD τ).loc main_arg3) y : EReal) = (a3 y : EReal)

/-- A head's rows of queries (and of cotangents), and of keys (and of values). -/
def qRow (a : S8192x2048.Idx → ℝ) (h : Fin 16) (q : Fin 8192) (j : Fin 128) : ℝ := a (ix2 q (qCol h j))
def kRow (a : S8192x512.Idx → ℝ) (h : Fin 16) (k : Fin 8192) (j : Fin 128) : ℝ := a (ix2 k (kCol h j))

variable {m c}
variable {a0 : S8192x2048.Idx → ℝ} {a1 : S8192x512.Idx → ℝ} {a2 : S8192x512.Idx → ℝ} {a3 : S8192x2048.Idx → ℝ} (R : Reads m c a0 a1 a2 a3)
include R

theorem Reads.q' (h : Fin 16) (q : Fin 8192) (j : Fin 128) (p) : (m ((c : Thread nD τ).loc main_arg0) (ix2 q ⟨h.val * 128 + j.val, p⟩) : EReal) = (qRow a0 h q j : EReal) := R.q _
theorem Reads.k' (h : Fin 16) (k : Fin 8192) (j : Fin 128) (p) : (m ((c : Thread nD τ).loc main_arg1) (ix2 k ⟨h.val / 4 * 128 + j.val, p⟩) : EReal) = (kRow a1 h k j : EReal) := R.k _
theorem Reads.v' (h : Fin 16) (k : Fin 8192) (j : Fin 128) (p) :
    (m ((c : Thread nD τ).loc main_arg2) (ix2 k ⟨4608 + (h.val / 4 * 128 + j.val), p⟩) : EReal) = (kRow a2 h k j : EReal) := R.v k (kCol h j) p
theorem Reads.o' (h : Fin 16) (q : Fin 8192) (j : Fin 128) (p) : (m ((c : Thread nD τ).loc main_arg3) (ix2 q ⟨h.val * 128 + j.val, p⟩) : EReal) = (qRow a3 h q j : EReal) := R.o _

theorem entry_score (h : Fin 16) (q k : Fin 8192) : (V m c main_v13 (ix3 h q k) : EReal) = (scores (qRow a0 h q) (kRow a1 h) k : EReal) := by
  have h0 := R.q' h q; have h1 := R.k' h
  entry_read
  pointwise
  simp only [h0, h1, dot_coe, scale_coe, scores_coe]

theorem entry_base2 (h : Fin 16) (q : Fin 8192) (j : Fin 128) : (V m c main_v38 (ix2 q (qCol h j)) : EReal) = (base2 (qRow a0 h q) j : EReal) := by
  have h0 := R.q' h q
  entry_read
  pointwise
  simp only [h0, scale_coe, log_two, base2_coe]

omit R

abbrev B3 := FVec Ideal S16x8192x8192 .f32
abbrev B2 := FVec Ideal S16x8192 .f32

/-- The host's steps over whole arrays. -/
def topsOf (x : B3) : B2 := Host.reduce FloatOps.maximumf x (constant S_ .f32 0xFF800000#32) reducesTo_S16x8192x8192_S16x8192_d2 h_S_

def wtsOf (x : B3) (t : B2) : B3 := Host.exp (subf x (broadcastInDim S16x8192x8192 ![0, 1, 2] bcast_S16x8192x1_S16x8192x8192_0_1_2
  (broadcastInDim S16x8192x1 ![0, 1] bcast_S16x8192_S16x8192x1_0_1 t)))

def totalsOf (x : B3) : B2 := Host.reduceAdd x (constant S_ .f32 0x00000000#32) reducesTo_S16x8192x8192_S16x8192_d2 h_S_

def probsOf (x : B3) (t : B2) : B3 := Host.divf x (broadcastInDim S16x8192x8192 ![0, 1, 2] bcast_S16x8192x1_S16x8192x8192_0_1_2
  (broadcastInDim S16x8192x1 ![0, 1] bcast_S16x8192_S16x8192x1_0_1 t))

def outsOf (p : B3) (v : FVec Ideal S16x8192x128 .f32) : FVec Ideal S16x8192x128 .f32 :=
  Host.dotGeneral dot_S16x8192x8192_S16x8192x128_S16x8192x128_2_1_1_2_0_0 none p v

def deltasOf (a b : FVec Ideal S16x8192x128 .f32) : FVec Ideal S16x8x8192 .f32 :=
  broadcastInDim S16x8x8192 ![0, 1, 2] bcast_S16x1x8192_S16x8x8192_0_1_2 (shapeCast _
    (Host.reduceAdd (mulf a b) (constant S_ .f32 0x00000000#32) reducesTo_S16x8192x128_S16x8192_d2 h_S_) shapeCasts_S16x8192_S16x1x8192)

def lsesOf (t l : B2) : FVec Ideal S16x8x8192 .f32 :=
  broadcastInDim S16x8x8192 ![0, 1, 2] bcast_S16x1x8192_S16x8x8192_0_1_2 (shapeCast _
    (Host.divf (addf t (Host.log l)) (broadcastInDim S16x8192 ![] bcast_S_S16x8192 (Host.log (constant S_ .f32 0x40000000#32))))
      shapeCasts_S16x8192_S16x1x8192)

/-- The host's operations, cut after the first `n`. -/
theorem cut (n : ℕ) (b : Ref sig .tc) : V m c b = StableHlo.after (hostOps0.drop n) (StableHlo.after (hostOps0.take n) fun b => m (c, b)) b := by
  rw [← StableHlo.after_append, List.take_append_drop]

theorem v14_eq : V m c main_v14 = topsOf (V m c main_v13) := by
  rw [cut 15 main_v14, cut 15 main_v13]
  unfold topsOf
  generalize StableHlo.after ((hostOps0 (F := Ideal)).take 15) _ = W
  simp only [hostOps0, List.drop_succ_cons, List.drop_zero]
  after_reads_simp

theorem v18_eq : V m c main_v18 = wtsOf (V m c main_v13) (V m c main_v14) := by
  rw [cut 17 main_v18, cut 17 main_v13, cut 17 main_v14]
  unfold wtsOf
  generalize StableHlo.after ((hostOps0 (F := Ideal)).take 17) _ = W
  simp only [hostOps0, List.drop_succ_cons, List.drop_zero]
  after_reads_simp

theorem v19_eq : V m c main_v19 = totalsOf (V m c main_v18) := by
  rw [cut 21 main_v19, cut 21 main_v18]
  unfold totalsOf
  generalize StableHlo.after ((hostOps0 (F := Ideal)).take 21) _ = W
  simp only [hostOps0, List.drop_succ_cons, List.drop_zero]
  after_reads_simp

theorem v22_eq : V m c main_v22 = probsOf (V m c main_v18) (V m c main_v19) := by
  rw [cut 23 main_v22, cut 23 main_v18, cut 23 main_v19]
  unfold probsOf
  generalize StableHlo.after ((hostOps0 (F := Ideal)).take 23) _ = W
  simp only [hostOps0, List.drop_succ_cons, List.drop_zero]
  after_reads_simp

theorem v23_eq : V m c main_v23 = outsOf (V m c main_v22) (V m c main_v10) := by
  rw [cut 26 main_v23, cut 26 main_v22, cut 26 main_v10]
  unfold outsOf
  generalize StableHlo.after ((hostOps0 (F := Ideal)).take 26) _ = W
  simp only [hostOps0, List.drop_succ_cons, List.drop_zero]
  after_reads_simp

theorem v44_eq : V m c main_v44 = deltasOf (V m c main_v23) (V m c main_v25) := by
  rw [cut 29 main_v44, cut 29 main_v23, cut 29 main_v25]
  unfold deltasOf
  generalize StableHlo.after ((hostOps0 (F := Ideal)).take 29) _ = W
  simp only [hostOps0, List.drop_succ_cons, List.drop_zero]
  after_reads_simp
  rfl

theorem v42_eq : V m c main_v42 = lsesOf (V m c main_v14) (V m c main_v19) := by
  rw [cut 32 main_v42, cut 32 main_v14, cut 32 main_v19]
  unfold lsesOf
  generalize StableHlo.after ((hostOps0 (F := Ideal)).take 32) _ = W
  simp only [hostOps0, List.drop_succ_cons, List.drop_zero]
  after_reads_simp
  rfl

theorem top_of (x : B3) (h : Fin 16) (q : Fin 8192) (s : Fin 8192 → ℝ) (hs : ∀ k, x (ix3 h q k) = (s k : EReal)) :
    topsOf x (ix2 h q) = ((top s : ℝ) : EReal) := by
  unfold topsOf
  pointwise
  simp only [hs, negInf, top_coe]

theorem wt_of (x : B3) (t : B2) (h : Fin 16) (q k : Fin 8192) (s : Fin 8192 → ℝ) (hs : ∀ k, x (ix3 h q k) = (s k : EReal)) (ht : t (ix2 h q) = ((top s : ℝ) : EReal)) :
    wtsOf x t (ix3 h q k) = ((Real.exp (s k - top s) : ℝ) : EReal) := by
  unfold wtsOf
  pointwise
  simp only [hs, ht, wt_coe]

theorem total_of (x : B3) (h : Fin 16) (q : Fin 8192) (s : Fin 8192 → ℝ) (hs : ∀ k, x (ix3 h q k) = ((Real.exp (s k - top s) : ℝ) : EReal)) :
    totalsOf x (ix2 h q) = ((total s : ℝ) : EReal) := by
  unfold totalsOf
  pointwise
  simp only [hs, total_coe]

theorem prob_of (x : B3) (t : B2) (h : Fin 16) (q k : Fin 8192) (s : Fin 8192 → ℝ) (hs : x (ix3 h q k) = ((Real.exp (s k - top s) : ℝ) : EReal)) (ht : t (ix2 h q) = ((total s : ℝ) : EReal)) :
    probsOf x t (ix3 h q k) = ((prob s k : ℝ) : EReal) := by
  unfold probsOf
  pointwise
  simp only [hs, ht, prob_coe]

theorem lse_of (t l : B2) (h : Fin 16) (q : Fin 8192) (s : Fin 8192 → ℝ) (ht : t (ix2 h q) = ((top s : ℝ) : EReal)) (hl : l (ix2 h q) = ((total s : ℝ) : EReal)) :
    lsesOf t l (ix3 h 0 q) = ((lse s : ℝ) : EReal) := by
  unfold lsesOf
  pointwise
  simp only [ht, hl, log_two, lse_coe]

theorem out_of (p : B3) (v : FVec Ideal S16x8192x128 .f32) (h : Fin 16) (q : Fin 8192) (j : Fin 128) (w : Fin 8192 → ℝ) (y : Fin 8192 → Fin 128 → ℝ)
    (hp : ∀ k, p (ix3 h q k) = (w k : EReal)) (hv : ∀ k j, v (ix3 h k j) = (y k j : EReal)) : outsOf p v (ix3 h q j) = ((dot w fun k => y k j : ℝ) : EReal) := by
  unfold outsOf
  pointwise
  simp only [hp, hv]
  exact dot_coe w fun k => y k j

theorem delta_of (a b : FVec Ideal S16x8192x128 .f32) (h : Fin 16) (q : Fin 8192) (x y : Fin 128 → ℝ)
    (ha : ∀ j, a (ix3 h q j) = (x j : EReal)) (hb : ∀ j, b (ix3 h q j) = (y j : EReal)) : deltasOf a b (ix3 h 0 q) = ((dot x y : ℝ) : EReal) := by
  unfold deltasOf
  pointwise
  simp only [ha, hb, dot_coe]

include R

theorem entry_top (h : Fin 16) (q : Fin 8192) : (V m c main_v14 (ix2 h q) : EReal) = (top (scores (qRow a0 h q) (kRow a1 h)) : EReal) := by
  rw [v14_eq]
  exact top_of _ h q _ (entry_score R h q)

theorem entry_wt (h : Fin 16) (q k : Fin 8192) : (V m c main_v18 (ix3 h q k) : EReal)
    = (Real.exp (scores (qRow a0 h q) (kRow a1 h) k - top (scores (qRow a0 h q) (kRow a1 h))) : EReal) := by
  rw [v18_eq]
  exact wt_of _ _ h q k _ (entry_score R h q) (entry_top R h q)

theorem entry_total (h : Fin 16) (q : Fin 8192) : (V m c main_v19 (ix2 h q) : EReal) = (total (scores (qRow a0 h q) (kRow a1 h)) : EReal) := by
  rw [v19_eq]
  exact total_of _ h q _ (entry_wt R h q)

theorem entry_prob (h : Fin 16) (q k : Fin 8192) : (V m c main_v22 (ix3 h q k) : EReal) = (prob (scores (qRow a0 h q) (kRow a1 h)) k : EReal) := by
  rw [v22_eq]
  exact prob_of _ _ h q k _ (entry_wt R h q k) (entry_total R h q)

theorem entry_lse (h : Fin 16) (q : Fin 8192) : (V m c main_v42 (ix3 h 0 q) : EReal) = (lse (scores (qRow a0 h q) (kRow a1 h)) : EReal) := by
  rw [v42_eq]
  exact lse_of _ _ h q _ (entry_top R h q) (entry_total R h q)

theorem entry_v (h : Fin 16) (k : Fin 8192) (j : Fin 128) : (V m c main_v10 (ix3 h k j) : EReal) = (kRow a2 h k j : EReal) := by
  have h2 := R.v' h
  entry_read
  pointwise
  simp only [h2]

theorem entry_o (h : Fin 16) (q : Fin 8192) (j : Fin 128) : (V m c main_v25 (ix3 h q j) : EReal) = (qRow a3 h q j : EReal) := by
  have h3 := R.o' h
  entry_read
  pointwise
  simp only [h3]

theorem entry_out (h : Fin 16) (q : Fin 8192) (j : Fin 128) : (V m c main_v23 (ix3 h q j) : EReal) = (out (qRow a0 h q) (kRow a1 h) (kRow a2 h) j : EReal) := by
  rw [v23_eq]
  exact out_of _ _ h q j _ _ (entry_prob R h q) (entry_v R h)

theorem entry_delta (h : Fin 16) (q : Fin 8192) :
    (V m c main_v44 (ix3 h 0 q) : EReal) = (delta (qRow a0 h q) (kRow a1 h) (kRow a2 h) (qRow a3 h q) : EReal) := by
  rw [v44_eq]
  exact delta_of _ _ h q _ _ (entry_out R h q) (entry_o R h q)

end Cert.FlashBwdIdeal.Hand
-- ==== Proof.FlashPoint.lean ====
/- The attention's gradient kernel: its points' parts and their sums, at finite arguments, as sums of reals. -/
module

public import proofs.«01_k».proof.Proof.FlashParts

@[expose] public section

set_option maxRecDepth 16384

noncomputable section

namespace Cert.FlashBwdIdeal.Hand

open Idealize.ShloMosaic Idealize.ShloMosaic.TcCoe
open scoped BigOperators
open Cert.FlashBwdIdeal Cert.FlashBwdIdeal.Gen Cert.Softmax

variable {m : (ℓ : Loc nD τ sig) → Buf (Elt Ideal) ℓ} {c : Dev nD}
variable {a0 : S8192x2048.Idx → ℝ} {a1 : S8192x512.Idx → ℝ} {a2 : S8192x512.Idx → ℝ} {a3 : S8192x2048.Idx → ℝ} (R : Reads m c a0 a1 a2 a3)

theorem exp2_def (x : EReal) : (FloatOps.exp2 (F := Ideal) (φ := .f32) x : EReal) = Ideal.exp2 x := rfl
theorem ln2_def : (Named.named (F := Ideal) κ "ln2" (φ := .f32) 1060205080#32 : EReal) = ((Real.log 2 : ℝ) : EReal) := rfl

variable (a0 a1 a2 a3) in
/-- A head's weight and its score's gradient at a query and a key. -/
def wt (h : Fin 16) (q k : Fin 8192) : ℝ := prob (scores (qRow a0 h q) (kRow a1 h)) k
variable (a0 a1 a2 a3) in
def ds (h : Fin 16) (q k : Fin 8192) : ℝ := dscore (qRow a0 h q) (kRow a1 h) (kRow a2 h) (qRow a3 h q) k

theorem wt_eq (h : Fin 16) (q k : Fin 8192) :
    Ideal.exp2 (((dot (kRow a1 h k) (base2 (qRow a0 h q)) : ℝ) : EReal) - ((lse (scores (qRow a0 h q) (kRow a1 h)) : ℝ) : EReal)) = ((wt a0 a1 h q k : ℝ) : EReal) := by
  rw [dot_base2, exp2_prob, wt]

theorem ds_eq (h : Fin 16) (q k : Fin 8192) :
    ((wt a0 a1 h q k : ℝ) : EReal) * (((dot (kRow a2 h k) (qRow a3 h q) : ℝ) : EReal) - ((delta (qRow a0 h q) (kRow a1 h) (kRow a2 h) (qRow a3 h q) : ℝ) : EReal))
      = ((ds a0 a1 a2 a3 h q k : ℝ) : EReal) := by
  rw [← EReal.coe_sub, ← EReal.coe_mul, dot_comm, ds, dscore, wt]

include R

theorem Reads.b0 (h : Fin 16) (kb : Fin 8) (s : Fin 4) (x : Fin 2048) (j : Fin 128) :
    (iblk m c 0 (pt h kb s) (ix2 x j) : EReal) = (base2 (qRow a0 h (qAt s x)) j : EReal) := by
  rw [blk0]; exact entry_base2 R h _ j
theorem Reads.b1 (h : Fin 16) (kb : Fin 8) (s : Fin 4) (x : Fin 1024) (j : Fin 128) :
    (iblk m c 1 (pt h kb s) (ix2 x j) : EReal) = (kRow a1 h (kAt kb x) j : EReal) := by
  rw [blk1]; exact R.k' h _ j _
theorem Reads.b2 (h : Fin 16) (kb : Fin 8) (s : Fin 4) (x : Fin 1024) (j : Fin 128) :
    (iblk m c 2 (pt h kb s) (ix2 j x) : EReal) = (kRow a1 h (kAt kb x) j : EReal) := by
  rw [blk2]; exact R.k' h _ j _
theorem Reads.b3 (h : Fin 16) (kb : Fin 8) (s : Fin 4) (x : Fin 1024) (j : Fin 128) :
    (iblk m c 3 (pt h kb s) (ix2 x j) : EReal) = (kRow a2 h (kAt kb x) j : EReal) := by
  rw [blk3]; exact R.v' h _ j _
theorem Reads.b4 (h : Fin 16) (kb : Fin 8) (s : Fin 4) (x : Fin 2048) (j : Fin 128) :
    (iblk m c 4 (pt h kb s) (ix2 x j) : EReal) = (qRow a3 h (qAt s x) j : EReal) := by
  rw [blk4]; exact R.o' h _ j _
theorem Reads.b5 (h : Fin 16) (kb : Fin 8) (s : Fin 4) (x : Fin 2048) :
    (iblk m c 5 (pt h kb s) (ix3 0 0 x) : EReal) = (lse (scores (qRow a0 h (qAt s x)) (kRow a1 h)) : EReal) := by
  rw [blk5]; exact entry_lse R h _
theorem Reads.b6 (h : Fin 16) (kb : Fin 8) (s : Fin 4) (x : Fin 2048) :
    (iblk m c 6 (pt h kb s) (ix3 0 0 x) : EReal) = (delta (qRow a0 h (qAt s x)) (kRow a1 h) (kRow a2 h) (qRow a3 h (qAt s x)) : EReal) := by
  rw [blk6]; exact entry_delta R h _

theorem partK_real (h : Fin 16) (kb : Fin 8) (s : Fin 4) (i : Fin 1024) (j : Fin 128) : (partK m c (pt h kb s) (ix2 i j) : EReal)
    = ((∑ x : Fin 2048, ds a0 a1 a2 a3 h (qAt s x) (kAt kb i) * base2 (qRow a0 h (qAt s x)) j * Real.log 2 : ℝ) : EReal) := by
  have b0 := R.b0 h kb s; have b1 := R.b1 h kb s; have b3 := R.b3 h kb s; have b4 := R.b4 h kb s; have b5 := R.b5 h kb s; have b6 := R.b6 h kb s
  unfold partK
  pointwise [k0_pay11, k0_pay9, k0_pay8, k0_pay6, k0_pay7, row_apply]
  simp only [b0, b1, b3, b4, b5, b6, dot_coe, exp2_def, ln2_def, wt_eq, ds_eq]
  rw [← EReal.coe_mul]
  simp only [dot, Finset.sum_mul]

theorem partV_real (h : Fin 16) (kb : Fin 8) (s : Fin 4) (i : Fin 1024) (j : Fin 128) : (partV m c (pt h kb s) (ix2 i j) : EReal)
    = ((∑ x : Fin 2048, wt a0 a1 h (qAt s x) (kAt kb i) * qRow a3 h (qAt s x) j : ℝ) : EReal) := by
  have b0 := R.b0 h kb s; have b1 := R.b1 h kb s; have b4 := R.b4 h kb s; have b5 := R.b5 h kb s
  unfold partV
  pointwise [k0_pay10, k0_pay9, k0_pay8, k0_pay6, k0_pay7, row_apply]
  simp only [b0, b1, b4, b5, dot_coe, exp2_def, wt_eq]
  rfl

theorem partQ_real (h : Fin 16) (kb : Fin 8) (s : Fin 4) (i : Fin 2048) (j : Fin 128) : (partQ m c (pt h kb s) (ix2 j i) : EReal)
    = ((∑ x : Fin 1024, kRow a1 h (kAt kb x) j * ds a0 a1 a2 a3 h (qAt s i) (kAt kb x) * scale : ℝ) : EReal) := by
  have b0 := R.b0 h kb s; have b1 := R.b1 h kb s; have b3 := R.b3 h kb s; have b4 := R.b4 h kb s; have b5 := R.b5 h kb s; have b6 := R.b6 h kb s; have b2 := R.b2 h kb s
  unfold partQ
  pointwise [k0_pay12, k0_pay11, k0_pay9, k0_pay8, k0_pay6, k0_pay7, row_apply]
  simp only [b0, b1, b2, b3, b4, b5, b6, dot_coe, exp2_def, wt_eq, ds_eq, scale_coe]
  rw [← EReal.coe_mul]
  simp only [dot, Finset.sum_mul]

/-- What the accumulators end at: the sums over all queries, and over all keys. -/
theorem endK (h : Fin 16) (kb : Fin 8) (X : Vec Ideal S1024x128 .f32) (hX : (rdats m c).Leaves 8 (pt h kb 3) X) (i : Fin 1024) (j : Fin 128) :
    (X (ix2 i j) : EReal) = ((∑ q : Fin 8192, ds a0 a1 a2 a3 h q (kAt kb i) * qRow a0 h q j * scale : ℝ) : EReal) := by
  rw [leavesK m c h kb X hX]
  refine (Finset.sum_congr rfl fun s _ => partK_real R h kb s i j).trans ?_
  rw [sum_coe]
  congr 1
  refine Fin.sum_mul_add_congr fun s x _ => ?_
  rw [base2]
  have h2 := log_two_pos.ne'
  field_simp

theorem endV (h : Fin 16) (kb : Fin 8) (X : Vec Ideal S1024x128 .f32) (hX : (rdats m c).Leaves 9 (pt h kb 3) X) (i : Fin 1024) (j : Fin 128) :
    (X (ix2 i j) : EReal) = ((∑ q : Fin 8192, wt a0 a1 h q (kAt kb i) * qRow a3 h q j : ℝ) : EReal) := by
  rw [leavesV m c h kb X hX]
  refine (Finset.sum_congr rfl fun s _ => partV_real R h kb s i j).trans ?_
  rw [sum_coe]
  congr 1
  exact Fin.sum_mul_add_congr fun s x _ => rfl

theorem endQ (h : Fin 16) (X : Vec Ideal S128x8192 .f32) (hX : (rdats m c).Leaves 7 (pt h 7 3) X) (j : Fin 128) (q : Fin 8192) :
    (X (ix2 j q) : EReal) = ((∑ k : Fin 8192, kRow a1 h k j * ds a0 a1 a2 a3 h q k * scale : ℝ) : EReal) := by
  have hq : qAt ⟨q.val / 2048, by omega⟩ ⟨q.val % 2048, Nat.mod_lt _ (by decide)⟩ = q := Fin.ext (by show q.val / 2048 * 2048 + q.val % 2048 = q.val; omega)
  rw [leavesQ m c h X hX]
  refine (Finset.sum_congr rfl fun k _ => partQ_real R h k _ _ j).trans ?_
  rw [sum_coe, hq]
  congr 1
  exact Fin.sum_mul_add_congr fun s x _ => rfl

end Cert.FlashBwdIdeal.Hand

end
-- ==== Proof.FlashRef.lean ====
/- The attention's gradient as the reference derives it: at finite arguments, each of its steps is a step of the real gradient. -/
module

public import proofs.«01_k».proof.Proof.Gen.FlashBwdRefIdeal.Read
public import proofs.«01_k».proof.Proof.FlashParts
public import Idealize.ShloMosaic.Lib.Pipeline.ValueKit
public import Idealize.ShloMosaic.Lib.Claim

@[expose] public section

set_option maxRecDepth 16384

noncomputable section

namespace Cert.FlashBwdRefIdeal.Hand

open Idealize.ShloMosaic Idealize.ShloMosaic.TcCoe
open scoped BigOperators
open Cert.FlashBwdRefIdeal Cert.FlashBwdRefIdeal.Gen Cert.FlashBwdRefIdeal.Read Cert.Softmax

/-- The arguments' rows of each head are these reals. -/
structure Heads (x0 : FVec Ideal S8192x2048 .f32) (x1 : FVec Ideal S8192x512 .f32) (x2 : FVec Ideal S8192x9216 .f32) (x3 : FVec Ideal S8192x2048 .f32)
    (Q K V O : Fin 16 → Fin 8192 → Fin 128 → ℝ) : Prop where
  q : ∀ (h : Fin 16) (q : Fin 8192) (j : Fin 128) (p), x0 (ix2 q ⟨h.val * 128 + j.val, p⟩) = ((Q h q j : ℝ) : EReal)
  k : ∀ (h : Fin 16) (k : Fin 8192) (j : Fin 128) (p), x1 (ix2 k ⟨h.val / 4 * 128 + j.val, p⟩) = ((K h k j : ℝ) : EReal)
  v : ∀ (h : Fin 16) (k : Fin 8192) (j : Fin 128) (p), x2 (ix2 k ⟨4608 + (h.val / 4 * 128 + j.val), p⟩) = ((V h k j : ℝ) : EReal)
  o : ∀ (h : Fin 16) (q : Fin 8192) (j : Fin 128) (p), x3 (ix2 q ⟨h.val * 128 + j.val, p⟩) = ((O h q j : ℝ) : EReal)

variable {x0 : FVec Ideal S8192x2048 .f32} {x1 : FVec Ideal S8192x512 .f32} {x2 : FVec Ideal S8192x9216 .f32} {x3 : FVec Ideal S8192x2048 .f32}
variable {Q K V O : Fin 16 → Fin 8192 → Fin 128 → ℝ} (H : Heads x0 x1 x2 x3 Q K V O)
include H

theorem qh (h : Fin 16) (q : Fin 8192) (j : Fin 128) : val_main_v10 (F := Ideal) x0 (ix3 h q j) = ((Q h q j : ℝ) : EReal) := by
  have h0 := H.q h
  unfold val_main_v10 val_main_v9
  pointwise
  simp only [h0]
theorem kh (h : Fin 16) (k : Fin 8192) (j : Fin 128) : val_main_v3 (F := Ideal) x1 (ix3 h k j) = ((K h k j : ℝ) : EReal) := by
  have h0 := H.k h
  unfold val_main_v3 val_main_v2 val_main_v1 val_main_v0
  pointwise
  simp only [h0]
theorem vh (h : Fin 16) (k : Fin 8192) (j : Fin 128) : val_main_v8 (F := Ideal) x2 (ix3 h k j) = ((V h k j : ℝ) : EReal) := by
  have h0 := H.v h
  unfold val_main_v8 val_main_v7 val_main_v6 val_main_v5 val_main_v4
  pointwise
  simp only [h0]
theorem oh (h : Fin 16) (q : Fin 8192) (j : Fin 128) : val_main_v44 (F := Ideal) x3 (ix3 h q j) = ((O h q j : ℝ) : EReal) := by
  have h0 := H.o h
  unfold val_main_v44 val_main_v43
  pointwise
  simp only [h0]

theorem score (h : Fin 16) (q k : Fin 8192) : val_main_v13 (F := Ideal) x0 x1 (ix3 h q k) = ((scores (Q h q) (K h) k : ℝ) : EReal) := by
  have h0 := qh H h q; have h1 := kh H h
  unfold val_main_v13 val_main_v12 val_main_cst val_main_v11
  generalize val_main_v10 (F := Ideal) x0 = y0 at *
  generalize val_main_v3 (F := Ideal) x1 = y1 at *
  pointwise
  simp only [h0, h1, dot_coe, scale_coe, scores_coe]

theorem rowTop (h : Fin 16) (q : Fin 8192) : val_main_v14 (F := Ideal) x0 x1 (ix2 h q) = ((top (scores (Q h q) (K h)) : ℝ) : EReal) := by
  exact Cert.FlashBwdIdeal.Hand.top_of (val_main_v13 (F := Ideal) x0 x1) h q _ (score H h q)

omit H in
theorem top_again (x : FVec Ideal S16x8192 .f32) (i : S16x8192.Idx) (s : Fin 8192 → ℝ) (h : x i = ((top s : ℝ) : EReal)) :
    maximumf (val_main_v20 (F := Ideal)) x i = ((top s : ℝ) : EReal) := by
  show max (val_main_v20 (F := Ideal) i : EReal) (x i : EReal) = _
  rw [h, show (val_main_v20 (F := Ideal) i : EReal) = ⊥ from negInf]
  exact max_eq_right bot_le

theorem rowTop' (h : Fin 16) (q : Fin 8192) : val_main_v21 (F := Ideal) x0 x1 (ix2 h q) = ((top (scores (Q h q) (K h)) : ℝ) : EReal) :=
  top_again _ _ _ (rowTop H h q)

theorem weight (h : Fin 16) (q k : Fin 8192) :
    val_main_v34 (F := Ideal) x0 x1 (ix3 h q k) = ((Real.exp (scores (Q h q) (K h) k - top (scores (Q h q) (K h))) : ℝ) : EReal) :=
  Cert.FlashBwdIdeal.Hand.wt_of (val_main_v13 (F := Ideal) x0 x1) (val_main_v21 (F := Ideal) x0 x1) h q k _ (score H h q) (rowTop' H h q)

theorem rowTotal (h : Fin 16) (q : Fin 8192) : val_main_v35 (F := Ideal) x0 x1 (ix2 h q) = ((total (scores (Q h q) (K h)) : ℝ) : EReal) := by
  have h0 := weight H h q
  unfold val_main_v35 val_main_cst_8
  generalize val_main_v34 (F := Ideal) x0 x1 = y0 at *
  pointwise
  simp only [h0, total_coe]

theorem probs (h : Fin 16) (q k : Fin 8192) : val_main_v38 (F := Ideal) x0 x1 (ix3 h q k) = ((prob (scores (Q h q) (K h)) k : ℝ) : EReal) := by
  have h0 := weight H h q k; have h1 := rowTotal H h q
  unfold val_main_v38 val_main_v37 val_main_v36
  generalize val_main_v34 (F := Ideal) x0 x1 = y0 at *
  generalize val_main_v35 (F := Ideal) x0 x1 = y1 at *
  pointwise
  simp only [h0, h1, prob_coe]

theorem dprob (h : Fin 16) (q k : Fin 8192) : val_main_v47 (F := Ideal) x2 x3 (ix3 h q k) = ((dot (O h q) (V h k) : ℝ) : EReal) := by
  have h0 := oh H h q; have h1 := vh H h
  unfold val_main_v47
  generalize val_main_v44 (F := Ideal) x3 = y0 at *
  generalize val_main_v8 (F := Ideal) x2 = y1 at *
  pointwise
  simp only [h0, h1, dot_coe]

theorem quotient (h : Fin 16) (q : Fin 8192) : val_main_v51 (F := Ideal) x0 x1 x2 x3 (ix2 h q)
    = ((∑ k', dot (O h q) (V h k') * (1 / (total (scores (Q h q) (K h)) * total (scores (Q h q) (K h))))
        * Real.exp (scores (Q h q) (K h) k' - top (scores (Q h q) (K h))) : ℝ) : EReal) := by
  have h0 := weight H h q; have h1 := rowTotal H h q; have h2 := dprob H h q
  unfold val_main_v51 val_main_v50 val_main_v49 val_main_v48 val_main_v41 val_main_v40 val_main_v39 val_main_v36 val_main_cst_9 val_main_cst_10
  generalize val_main_v34 (F := Ideal) x0 x1 = y0 at *
  generalize val_main_v35 (F := Ideal) x0 x1 = y1 at *
  generalize val_main_v47 (F := Ideal) x2 x3 = y2 at *
  pointwise
  simp only [h0, h1, h2, square_coe]
  simp only [← EReal.coe_mul, sum_coe]

theorem dscores (h : Fin 16) (q k : Fin 8192) : val_main_v59 (F := Ideal) x0 x1 x2 x3 (ix3 h q k)
    = ((dscore (Q h q) (K h) (V h) (O h q) k : ℝ) : EReal) := by
  have h0 := weight H h q k; have h1 := rowTotal H h q; have h2 := dprob H h q k; have h3 := quotient H h q
  unfold val_main_v59 val_main_v58 val_main_v57 val_main_v56 val_main_v55 val_main_v54 val_main_v53 val_main_v52 val_main_v36 val_main_cst_11
  generalize val_main_v34 (F := Ideal) x0 x1 = y0 at *
  generalize val_main_v35 (F := Ideal) x0 x1 = y1 at *
  generalize val_main_v47 (F := Ideal) x2 x3 = y2 at *
  generalize val_main_v51 (F := Ideal) x0 x1 x2 x3 = y3 at *
  pointwise
  simp only [h0, h1, h2, h3, share_coe, Fin.sum_univ_one, ← EReal.coe_neg, ← EReal.coe_add, ← EReal.coe_mul, quotient_dscore]

theorem dq (h : Fin 16) (q : Fin 8192) (j : Fin 128) (p) : val_main_v70 (F := Ideal) x0 x1 x2 x3 (ix2 ⟨h.val * 128 + j.val, p⟩ q)
    = ((∑ k, dscore (Q h q) (K h) (V h) (O h q) k * scale * K h k j : ℝ) : EReal) := by
  have h0 := dscores H h q; have h1 := kh H h
  unfold val_main_v70 val_main_v65 val_main_v64 val_main_v63 val_main_v61 val_main_v60 val_main_cst_12
  generalize val_main_v59 (F := Ideal) x0 x1 x2 x3 = y0 at *
  generalize val_main_v3 (F := Ideal) x1 = y1 at *
  pointwise
  simp only [h0, h1, scale_coe, ← EReal.coe_mul, sum_coe]

theorem dk (h : Fin 16) (k : Fin 8192) (j : Fin 128) (p) : val_main_v67 (F := Ideal) x0 x1 x2 x3 (ix2 k ⟨h.val * 128 + j.val, p⟩)
    = ((∑ q, dscore (Q h q) (K h) (V h) (O h q) k * scale * Q h q j : ℝ) : EReal) := by
  have h0 := fun q => dscores H h q k; have h1 := qh H h
  unfold val_main_v67 val_main_v66 val_main_v62 val_main_v61 val_main_v60 val_main_cst_12
  generalize val_main_v59 (F := Ideal) x0 x1 x2 x3 = y0 at *
  generalize val_main_v10 (F := Ideal) x0 = y1 at *
  pointwise
  simp only [h0, h1, scale_coe, ← EReal.coe_mul, sum_coe]

theorem dv (h : Fin 16) (k : Fin 8192) (j : Fin 128) (p) : val_main_v69 (F := Ideal) x0 x1 x3 (ix2 k ⟨h.val * 128 + j.val, p⟩)
    = ((∑ q, O h q j * prob (scores (Q h q) (K h)) k : ℝ) : EReal) := by
  have h0 := fun q => probs H h q k; have h1 := oh H h
  unfold val_main_v69 val_main_v68 val_main_v46 val_main_v45
  generalize val_main_v38 (F := Ideal) x0 x1 = y0 at *
  generalize val_main_v44 (F := Ideal) x3 = y1 at *
  pointwise
  simp only [h0, h1, ← EReal.coe_mul, sum_coe]

end Cert.FlashBwdRefIdeal.Hand

end
-- ==== Proof.FlashFinal.lean ====
/- The attention's gradient kernel and its reference end with the same arrays, at finite arguments. -/
module

public import proofs.«01_k».proof.Proof.FlashPoint
public import proofs.«01_k».proof.Proof.FlashRef
public import Idealize.ShloMosaic.Lib.Pipeline.ArrRel

@[expose] public section

set_option maxRecDepth 16384

noncomputable section

namespace Cert.FlashBwdIdeal.Hand

open Idealize.ShloMosaic Idealize.ShloMosaic.TcCoe Idealize.ShloMosaic.Pipeline
open scoped BigOperators
open Cert.FlashBwdIdeal Cert.FlashBwdIdeal.Gen Cert.Softmax Cert.FlashBwdRefIdeal.Read

variable {m : (ℓ : Loc nD τ sig) → Buf (Elt Ideal) ℓ} {c : Dev nD}
/-- The grid's points by head, block of keys and block of queries. -/
theorem pt_7 (t : Fin cfg0.N) (h : t.val % 32 = 31) : ∃ x : Fin 16, t = pt x 7 3 := by
  have := t.isLt
  have e : cfg0.N = 512 := by decide +kernel
  exact ⟨⟨t.val / 32, by omega⟩, Fin.ext (by simp only [pt]; show t.val = _ ; simp; omega)⟩
theorem pt_3 (t : Fin cfg0.N) (h : t.val % 4 = 3) : ∃ (x : Fin 16) (y : Fin 8), t = pt x y 3 := by
  have := t.isLt
  have e : cfg0.N = 512 := by decide +kernel
  exact ⟨⟨t.val / 32, by omega⟩, ⟨t.val / 4 % 8, by omega⟩, Fin.ext (by simp only [pt]; show t.val = _; simp; omega)⟩

theorem idx7 : ∀ h : Fin 16, win0_7.index (pt h 7 3) = ![h.val, 0] := by decide +kernel
theorem idx8 : ∀ (h : Fin 16) (kb : Fin 8), win0_8.index (pt h kb 3) = ![kb.val, h.val] := by decide +kernel

theorem emb7 (h : Fin 16) (j : Fin 128) (q : Fin 8192) : (win0_7.blk (pt h 7 3)).view.emb (ix2 j q) = ix2 (qCol h j) q := by
  blk_ext [idx7 h]
theorem emb8 (h : Fin 16) (kb : Fin 8) (i : Fin 1024) (j : Fin 128) : (win0_8.blk (pt h kb 3)).view.emb (ix2 i j) = ix2 (kAt kb i) (qCol h j) := by
  blk_ext [idx8 h kb]
theorem emb9 (h : Fin 16) (kb : Fin 8) (i : Fin 1024) (j : Fin 128) : (win0_9.blk (pt h kb 3)).view.emb (ix2 i j) = ix2 (kAt kb i) (qCol h j) := emb8 h kb i j

variable {a0 : S8192x2048.Idx → ℝ} {a1 : S8192x512.Idx → ℝ} {a2 : S8192x512.Idx → ℝ} {a3 : S8192x2048.Idx → ℝ} (R : Reads m c a0 a1 a2 a3)
include R

theorem heads : Cert.FlashBwdRefIdeal.Hand.Heads (m ((c : Thread nD τ).loc main_arg0)) (m ((c : Thread nD τ).loc main_arg1))
    (m ((c : Thread nD τ).loc main_arg2)) (m ((c : Thread nD τ).loc main_arg3)) (qRow a0) (kRow a1) (kRow a2) (qRow a3) where
  q := R.q'
  k := R.k'
  v := R.v'
  o := R.o'

variable (after : (w : Fin cfg0.W) → Fin cfg0.N → (cfg0.win w).block.Idx → Elt Ideal (cfg0.win w).elt) (hA : ∀ w u, (cfg0.win w).flush u = true → (rdats m c).Leaves w u (after w u))
include hA

theorem final7 : ((rdats m c).withAfter after).arrAt 7 (cfgs 0).N
    = val_main_v70 (m ((c : Thread nD τ).loc main_arg0)) (m ((c : Thread nD τ).loc main_arg1)) (m ((c : Thread nD τ).loc main_arg2)) (m ((c : Thread nD τ).loc main_arg3)) := by
  refine ((rdats m c).withAfter after).arrAt_eq_of_covers 7 _ (by decide +kernel) fun t hf y => ?_
  blk_simp [RDat.withAfter_after]
  obtain ⟨h, rfl⟩ := pt_7 t ((flush0_7 t).mp hf)
  obtain ⟨j, q, rfl⟩ : ∃ j q, y = ix2 j q := ⟨y 0, y 1, eq_ix2 _⟩
  rw [emb7 h j q]
  refine (endQ R h _ (hA 7 _ hf) j q).trans (Eq.trans ?_ (Cert.FlashBwdRefIdeal.Hand.dq (heads R) h q j _).symm)
  congr 1
  exact Finset.sum_congr rfl fun k _ => by unfold ds; ring

theorem final8 : ((rdats m c).withAfter after).arrAt 8 (cfgs 0).N
    = val_main_v67 (m ((c : Thread nD τ).loc main_arg0)) (m ((c : Thread nD τ).loc main_arg1)) (m ((c : Thread nD τ).loc main_arg2)) (m ((c : Thread nD τ).loc main_arg3)) := by
  refine ((rdats m c).withAfter after).arrAt_eq_of_covers 8 _ (by decide +kernel) fun t hf y => ?_
  blk_simp [RDat.withAfter_after]
  obtain ⟨h, kb, rfl⟩ := pt_3 t ((flush0_8 t).mp hf)
  obtain ⟨i, j, rfl⟩ : ∃ i j, y = ix2 i j := ⟨y 0, y 1, eq_ix2 _⟩
  rw [emb8 h kb i j]
  refine (endK R h kb _ (hA 8 _ hf) i j).trans (Eq.trans ?_ (Cert.FlashBwdRefIdeal.Hand.dk (heads R) h (kAt kb i) j _).symm)
  congr 1
  exact Finset.sum_congr rfl fun q _ => by unfold ds; ring

theorem final9 : ((rdats m c).withAfter after).arrAt 9 (cfgs 0).N
    = val_main_v69 (m ((c : Thread nD τ).loc main_arg0)) (m ((c : Thread nD τ).loc main_arg1)) (m ((c : Thread nD τ).loc main_arg3)) := by
  refine ((rdats m c).withAfter after).arrAt_eq_of_covers 9 _ (by decide +kernel) fun t hf y => ?_
  blk_simp [RDat.withAfter_after]
  obtain ⟨h, kb, rfl⟩ := pt_3 t ((flush0_9 t).mp hf)
  obtain ⟨i, j, rfl⟩ : ∃ i j, y = ix2 i j := ⟨y 0, y 1, eq_ix2 _⟩
  rw [emb9 h kb i j]
  refine (endV R h kb _ (hA 9 _ hf) i j).trans (Eq.trans ?_ (Cert.FlashBwdRefIdeal.Hand.dv (heads R) h (kAt kb i) j _).symm)
  congr 1
  exact Finset.sum_congr rfl fun q _ => by unfold wt; ring

end Cert.FlashBwdIdeal.Hand

end
-- ==== Proof.Finite.lean ====
/- What a finiteness precondition says of an array: every entry is a real number. -/
module

public import Idealize.ShloMosaic.Lib.StableHlo
public import Idealize.ShloMosaic.Lib.ReduceAll
public import Idealize.ShloMosaic.Lib.Pointwise

@[expose] public section

set_option maxRecDepth 16384

noncomputable section

namespace Cert.Finite

open Idealize.ShloMosaic

/-- The shape of one number. -/
abbrev S0 : Shape := ⟨0, ![]⟩

instance : Subsingleton S0.Idx := ⟨fun a b => funext fun k => k.elim0⟩

/-- An absolute value below infinity is a real's. -/
theorem finite_of_lt (x : EReal) (h : Scalar.cmpf (F := Ideal) (φ := .f32) .olt (FloatOps.absf (F := Ideal) (φ := .f32) x) (⊤ : EReal) = 1#1) : x = (x.toReal : EReal) := by
  have hlt : max x (-x) < ⊤ := by
    by_contra hn
    have : Scalar.cmpf (F := Ideal) (φ := .f32) .olt (FloatOps.absf (F := Ideal) (φ := .f32) x) (⊤ : EReal) = BitVec.ofBool (decide (max x (-x) < ⊤)) := rfl
    rw [this, decide_eq_false hn] at h
    exact absurd h (by decide)
  refine (EReal.coe_toReal ?_ ?_).symm
  · rintro rfl; simp at hlt
  · rintro rfl; simp at hlt

theorem and_one {x y : IVec S0 1} {j : S0.Idx} (h : andi x y j = 1#1) : x j = 1#1 ∧ y j = 1#1 := by
  change x j &&& y j = 1#1 at h
  generalize x j = a at *; generalize y j = b at *
  revert a b; decide

/-- One argument's part of the precondition, at an entry. -/
theorem entry {a b : ℕ} (x : FVec Ideal (⟨2, ![a, b]⟩ : Shape) .f32) (hb : S0.BroadcastsInDim (⟨2, ![a, b]⟩ : Shape) (![] : Fin 0 → Fin 2))
    (hr : (⟨2, ![a, b]⟩ : Shape).ReducesTo [0, 1] S0) (hu : 0 < S0.numel) (j : S0.Idx)
    (e : Host.reduce IntOp.andi (cmpf .olt (Host.absf x) (broadcastInDim ⟨2, ![a, b]⟩ ![] hb (constant S0 .f32 0x7F800000#32))) (constantI S0 1 1#1) hr hu j = 1#1)
    (i : (⟨2, ![a, b]⟩ : Shape).Idx) : (x i : EReal) = ((x i : EReal).toReal : EReal) :=
  finite_of_lt _ (by
    have := Host.reduce_andi_all _ _ hr hu j e i
    have t : (constant S0 .f32 0x7F800000#32 : FVec Ideal S0 .f32) = fun _ => (⊤ : EReal) := by
      funext k; exact (show Ideal.ofBits .f32 0x7F800000#32 = (⊤ : EReal) by simp [Ideal.ofBits, Ideal.ieee])
    rw [t] at this
    exact this)

end Cert.Finite

end
-- ==== Proof.FlashPre.lean ====
/- What the precondition says of the arguments: every entry the kernel reads is a real number. -/
module

public import proofs.«01_k».proof.Defs
public import proofs.«01_k».proof.Proof.Finite

@[expose] public section

set_option maxRecDepth 16384

noncomputable section

namespace Cert.FlashPre

open Idealize.ShloMosaic Cert.Pre_finite_flash Cert.Finite

variable [Facts]

theorem reals (q : FVec Ideal S8192x2048 .f32) (k : FVec Ideal S8192x512 .f32) (z : FVec Ideal S8192x9216 .f32) (o : FVec Ideal S8192x2048 .f32)
    (h : fn (F := Ideal) q k z o = fun _ => 1#1) :
    (∀ i, (q i : EReal) = ((q i : EReal).toReal : EReal)) ∧ (∀ i, (k i : EReal) = ((k i : EReal).toReal : EReal))
    ∧ (∀ i, (extractStridedSlice S8192x512 ![0, 4608] z Facts.slices_S8192x9216_S8192x512_0_4608 i : EReal)
        = ((extractStridedSlice S8192x512 ![0, 4608] z Facts.slices_S8192x9216_S8192x512_0_4608 i : EReal).toReal : EReal))
    ∧ (∀ i, (o i : EReal) = ((o i : EReal).toReal : EReal)) := by
  have j : S_.Idx := fun k => k.elim0
  have h1 := congrFun h j
  unfold fn fn_part1 at h1
  simp only at h1
  obtain ⟨h2, ho⟩ := and_one h1
  obtain ⟨h3, hz⟩ := and_one h2
  obtain ⟨hq, hk⟩ := and_one h3
  generalize extractStridedSlice S8192x512 ![0, 4608] z Facts.slices_S8192x9216_S8192x512_0_4608 = v at hz ⊢
  exact ⟨entry q _ _ _ j hq, entry k _ _ _ j hk, entry v _ _ _ j hz, entry o _ _ _ j ho⟩

end Cert.FlashPre

end
-- ==== Proof.FlashValue.lean ====
/- The attention's gradient at finite arguments: the kernel and its reference end with equal results. -/
module

public import proofs.«01_k».proof.Proof.FlashFinal
public import proofs.«01_k».proof.Proof.FlashPre
public import proofs.«01_k».proof.Proof.Gen.FlashBwdRefIdeal.Run
public import Idealize.ShloMosaic.Adequacy
public import Idealize.ShloMosaic.Lib.Claim

@[expose] public section

set_option maxRecDepth 16384

noncomputable section

namespace Cert.FlashBwdIdeal.Hand

open Idealize.ShloMosaic Idealize.SL.Sem Idealize.ShloMosaic.TcCoe Idealize.ShloMosaic.Pipeline
open Cert.FlashBwdIdeal Cert.FlashBwdIdeal.Gen

theorem slice_at (z : FVec Ideal Cert.Pre_finite_flash.S8192x9216 .f32) (hs) (x : Fin 8192) (y : Fin 512) (p : 4608 + y.val < 9216) :
    extractStridedSlice Cert.Pre_finite_flash.S8192x512 ![0, 4608] z hs (ix2 x y) = z (ix2 x ⟨4608 + y.val, p⟩) := by
  pointwise

variable [h : Cert.Pre_finite_flash.Facts]

/-- Under the precondition the entries read are the reals they stand for. -/
theorem reads (m : (ℓ : Loc nD τ sig) → Buf (Elt Ideal) ℓ) (hp : Cert.Pre_FlashBwdIdeal_finite_flash m) (c : Dev nD) :
    Reads m c (fun i => (m ((c : Thread nD τ).loc main_arg0) i : EReal).toReal) (fun i => (m ((c : Thread nD τ).loc main_arg1) i : EReal).toReal)
      (fun i => (extractStridedSlice Cert.Pre_finite_flash.S8192x512 ![0, 4608] (m ((c : Thread nD τ).loc main_arg2)) Cert.Pre_finite_flash.Facts.slices_S8192x9216_S8192x512_0_4608 i : EReal).toReal)
      (fun i => (m ((c : Thread nD τ).loc main_arg3) i : EReal).toReal) := by
  obtain ⟨hq, hk, hv, ho⟩ := Cert.FlashPre.reals _ _ _ _ (hp c)
  exact ⟨hq, hk, fun x y p => (slice_at _ _ x y p).symm.trans (hv (ix2 x y)), ho⟩

theorem algebraic : Cert.algebraic_FlashBwdIdeal_FlashBwdRefIdeal_pre_finite_flash := by
  intro m g m' g' hp hagree
  refine ⟨fun c => Cert.FlashBwdRefIdeal.Read.val_main_v70 (m ((c : Thread nD τ).loc main_arg0)) (m ((c : Thread nD τ).loc main_arg1)) (m ((c : Thread nD τ).loc main_arg2)) (m ((c : Thread nD τ).loc main_arg3)),
    fun c => Cert.FlashBwdRefIdeal.Read.val_main_v67 (m ((c : Thread nD τ).loc main_arg0)) (m ((c : Thread nD τ).loc main_arg1)) (m ((c : Thread nD τ).loc main_arg2)) (m ((c : Thread nD τ).loc main_arg3)),
    fun c => Cert.FlashBwdRefIdeal.Read.val_main_v69 (m ((c : Thread nD τ).loc main_arg0)) (m ((c : Thread nD τ).loc main_arg1)) (m ((c : Thread nD τ).loc main_arg3)), ?_, ?_⟩
  · refine (θ_run defs _ _).mono (fun r hr c => ?_) (run_main_quiescent (F := Ideal) m g)
    obtain ⟨after, hA, he⟩ := RDat.FramePost.exists_exact hr.1 c
    have R := reads m hp c
    refine ⟨(he 7).trans (final7 R after hA), (he 8).trans (final8 R after hA), (he 9).trans (final9 R after hA), ?_⟩
    exact ⟨(hr.1 c).2 main_arg0 (Pipeline.mem_restRefs_of main_arg0 (by decide) (by decide)) |>.trans (V_main_arg0 m c),
      (hr.1 c).2 main_arg1 (Pipeline.mem_restRefs_of main_arg1 (by decide) (by decide)) |>.trans (V_main_arg1 m c),
      (RDat.FramePost.arr_in hr.1 c 3 rfl).trans ((A_eq m c 3).trans (V_main_arg2 m c)),
      (hr.1 c).2 main_arg3 (Pipeline.mem_restRefs_of main_arg3 (by decide) (by decide)) |>.trans (V_main_arg3 m c)⟩
  · refine (θ_run Cert.FlashBwdRefIdeal.defs _ _).mono (fun r hr c => ?_) (Cert.FlashBwdRefIdeal.Value.run (F := Ideal) m' g')
    obtain ⟨h0, h1, h2, h3⟩ := hagree c
    obtain ⟨r0, r1, r2, ra⟩ := hr c
    refine ⟨r0.trans ?_, r1.trans ?_, r2.trans ?_, ra⟩
    · rw [Cert.FlashBwdRefIdeal.Read.val_main_v70_eq, h0, h1, h2, h3]
    · rw [Cert.FlashBwdRefIdeal.Read.val_main_v67_eq, h0, h1, h2, h3]
    · rw [Cert.FlashBwdRefIdeal.Read.val_main_v69_eq, h0, h1, h3]

end Cert.FlashBwdIdeal.Hand

end
-- ==== Proof.LayerNorm.lean ====
/- A layer norm's gradient over one row, with the mean taken off: the direct form and the chain rule's form agree. -/
module

public import proofs.«01_k».proof.Proof.Reals
public import proofs.«01_k».proof.Proof.Softmax

@[expose] public section

noncomputable section

namespace Cert.LayerNorm

open Idealize.ShloMosaic Cert.Reals Cert.Softmax
open scoped BigOperators

/-- A sum that is a real has real terms. -/
theorem real_of_sum {n : ℕ} (f : Fin n → EReal) (hb : ∑ k, f k ≠ ⊥) (ht : ∑ k, f k ≠ ⊤) (j : Fin n) : ∃ a : ℝ, f j = (a : EReal) := by
  rw [← Finset.add_sum_erase _ f (Finset.mem_univ j)] at hb ht
  generalize ∑ k ∈ Finset.univ.erase j, f k = s at *
  induction h : f j using EReal.rec with
  | bot => rw [h] at hb; simp at hb
  | coe a => exact ⟨a, rfl⟩
  | top =>
    rw [h] at hb ht
    induction s using EReal.rec <;> simp_all

/-- What a row with its mean taken off, its mean square and the root's inverse can be: reals, or an inverse root of zero. -/
def Row {n : ℕ} (x : Fin n → EReal) (r v : EReal) : Prop :=
  (∃ (a : Fin n → ℝ) (ρ ν : ℝ), (∀ k, x k = (a k : EReal)) ∧ ∑ k, a k = 0 ∧ r = (ρ : EReal) ∧ v = (ν : EReal) ∧ ν ≠ 0 ∧ ρ * ρ * ν = 1)
  ∨ (r = 0 ∧ Ideal.div r v = 0)

theorem square_top (x : EReal) (h : x = ⊤ ∨ x = ⊥) : x * x = ⊤ := by
  rcases h with rfl | rfl <;> simp

/-- Any row is one or the other. -/
theorem row {n : ℕ} (hn : 0 < n) (f : Fin n → EReal) (e : ℝ) (he : 0 < e) :
    Row (fun k => f k - Ideal.div (∑ k, f k) ((n : ℝ) : EReal))
      (Ideal.rsqrt (Ideal.div (∑ k, (f k - Ideal.div (∑ k, f k) ((n : ℝ) : EReal)) * (f k - Ideal.div (∑ k, f k) ((n : ℝ) : EReal))) ((n : ℝ) : EReal) + (e : EReal)))
      (Ideal.div (∑ k, (f k - Ideal.div (∑ k, f k) ((n : ℝ) : EReal)) * (f k - Ideal.div (∑ k, f k) ((n : ℝ) : EReal))) ((n : ℝ) : EReal) + (e : EReal)) := by
  have hn0 : (n : ℝ) ≠ 0 := by positivity
  have hni : (0 : ℝ) < (n : ℝ)⁻¹ := by positivity
  simp only [div_coe _ hn0]
  by_cases hr : (∑ k, f k ≠ ⊥) ∧ (∑ k, f k ≠ ⊤)
  · left
    choose a ha using real_of_sum f hr.1 hr.2
    simp only [ha, sum_coe, ← EReal.coe_mul, ← EReal.coe_sub, ← EReal.coe_add]
    have hv : 0 < (∑ k, (a k - (∑ k, a k) * (n : ℝ)⁻¹) * (a k - (∑ k, a k) * (n : ℝ)⁻¹)) * (n : ℝ)⁻¹ + e := by
      have : 0 ≤ ∑ k, (a k - (∑ k, a k) * (n : ℝ)⁻¹) * (a k - (∑ k, a k) * (n : ℝ)⁻¹) := Finset.sum_nonneg fun k _ => mul_self_nonneg _
      positivity
    generalize (∑ k, (a k - (∑ k, a k) * (n : ℝ)⁻¹) * (a k - (∑ k, a k) * (n : ℝ)⁻¹)) * (n : ℝ)⁻¹ + e = ν at hv ⊢
    refine ⟨fun k => a k - (∑ k, a k) * (n : ℝ)⁻¹, (Real.sqrt ν)⁻¹, ν, fun k => rfl, ?_, ?_, rfl, hv.ne', ?_⟩
    · rw [Finset.sum_sub_distrib, Finset.sum_const, Finset.card_univ, Fintype.card_fin, nsmul_eq_mul]
      field_simp
      ring
    · rw [Ideal.rsqrt_coe, if_neg hv.not_gt, if_neg hv.ne']
    · rw [← mul_inv, Real.mul_self_sqrt hv.le, inv_mul_cancel₀ hv.ne']
  · right
    have hx : ∀ k, (f k - (∑ k, f k) * ((n : ℝ)⁻¹ : ℝ) = ⊤ ∨ f k - (∑ k, f k) * ((n : ℝ)⁻¹ : ℝ) = ⊥) := by
      intro k
      have : (∑ k, f k) = ⊥ ∨ (∑ k, f k) = ⊤ := by tauto
      rcases this with h | h
      · rw [h, EReal.bot_mul_coe_of_pos hni]
        induction f k using EReal.rec <;> simp
      · rw [h, EReal.top_mul_coe_of_pos hni]
        induction f k using EReal.rec <;> simp
    have hs : ∑ k, (f k - (∑ k, f k) * ((n : ℝ)⁻¹ : ℝ)) * (f k - (∑ k, f k) * ((n : ℝ)⁻¹ : ℝ)) = ⊤ := by
      rw [Finset.sum_congr rfl fun k _ => square_top _ (hx k)]
      rw [Finset.sum_const, Finset.card_univ, Fintype.card_fin]
      obtain ⟨j, rfl⟩ : ∃ j, n = j + 1 := ⟨n - 1, by omega⟩
      clear * -
      induction j with
      | zero => simp
      | succ j ih => rw [succ_nsmul, ih]; simp
    rw [hs, EReal.top_mul_coe_of_pos hni]
    have t : Ideal.rsqrt ⊤ = 0 := rfl
    rw [EReal.top_add_coe, t]
    exact ⟨rfl, by simp [Ideal.div]⟩

/-- The gradient of the row, both ways. -/
theorem row_grad {n : ℕ} (hn : 0 < n) {x : Fin n → EReal} {r v : EReal} (h : Row x r v) (w : Fin n → ℝ) (j : Fin n) :
    r * ((w j : EReal) - Ideal.div (∑ k, (w k : EReal)) ((n : ℝ) : EReal) - x j * r * Ideal.div (∑ k, (w k : EReal) * (x k * r)) ((n : ℝ) : EReal))
    = (let T := Ideal.div ((∑ k, x k * (w k : EReal)) * (((-(1 / 2) : ℝ) : EReal) * Ideal.div r v)) ((n : ℝ) : EReal)
       ((w j : EReal) * r + x j * T + T * x j) + Ideal.div (∑ k, -((w k : EReal) * r + x k * T + T * x k)) ((n : ℝ) : EReal)) := by
  have hn0 : (n : ℝ) ≠ 0 := by positivity
  dsimp only
  rcases h with ⟨a, ρ, ν, ha, hs, rfl, rfl, hν, hρ⟩ | ⟨h0, h1⟩
  · simp only [ha, div_coe _ hn0, div_coe _ hν, sum_coe, ← EReal.coe_mul, ← EReal.coe_sub, ← EReal.coe_add, ← EReal.coe_neg]
    congr 1
    have hi : ν⁻¹ = ρ * ρ := by field_simp; linarith
    rw [hi]
    have e1 : ∑ k, w k * (a k * ρ) = ρ * ∑ k, a k * w k := by rw [Finset.mul_sum]; exact Finset.sum_congr rfl fun k _ => by ring
    generalize hS : ∑ k, a k * w k = S at *
    have e2 : ∀ T : ℝ, ∑ k, -(w k * ρ + a k * T + T * a k) = -(ρ * ∑ k, w k) - 2 * T * ∑ k, a k := by
      intro T
      rw [Finset.mul_sum, Finset.mul_sum, ← Finset.sum_neg_distrib, ← Finset.sum_sub_distrib]
      exact Finset.sum_congr rfl fun k _ => by ring
    rw [e1, e2, hs]
    ring
  · rw [h1, h0]
    simp only [div_coe _ hn0]
    simp

/-- The derivative of `y * logistic y`, times a real: a real, the same in both forms. -/
theorem swish_grad (d : ℝ) (y : EReal) : ∃ w : ℝ, (d : EReal) * (Ideal.logistic y * (1 + y * (1 - Ideal.logistic y))) = (w : EReal)
    ∧ (d : EReal) * Ideal.logistic y + y * (d : EReal) * (Ideal.logistic y * (1 - Ideal.logistic y)) = (w : EReal) := by
  induction y using EReal.rec with
  | bot => exact ⟨0, by simp, by simp⟩
  | top =>
    have t : (1 : EReal) - 1 = 0 := by rw [show (1 : EReal) = ((1 : ℝ) : EReal) from rfl, ← EReal.coe_sub]; simp
    exact ⟨d, by simp [t], by simp [t]⟩
  | coe y =>
    obtain ⟨s, hs⟩ : ∃ s : ℝ, Ideal.logistic (y : EReal) = (s : EReal) := ⟨_, Ideal.logistic_coe y⟩
    rw [hs, show (1 : EReal) = ((1 : ℝ) : EReal) from rfl]
    refine ⟨d * (s * (1 + y * (1 - s))), by simp only [← EReal.coe_mul, ← EReal.coe_sub, ← EReal.coe_add], ?_⟩
    simp only [← EReal.coe_mul, ← EReal.coe_sub, ← EReal.coe_add]
    congr 1
    ring

end Cert.LayerNorm

end
-- ==== Proof.LnBwd.lean ====
/- The value of the backward call of the convolution's norm and swish: the input's, the gain's and the bias's gradient. -/
module

public import proofs.«01_k».proof.Proof.Gen.LnBwdIdeal.Frame
public import proofs.«01_k».proof.Proof.Gen.LnBwdRefIdeal.Read
public import proofs.«01_k».proof.Proof.LayerNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.LnBwdRefIdeal.Hand

open Cert.LnBwdRefIdeal Cert.LnBwdRefIdeal.Read Cert.Reals Cert.LayerNorm

variable (x0 x1 : FVec Ideal S8192x1024 .f32) (x2 x3 : FVec Ideal S1x1024 .f32)

theorem bits_1024 : Ideal.ofBits .f32 0x44800000#32 = ((1024 : ℝ) : EReal) := by
  simp [Ideal.ofBits, Ideal.ieee, -EReal.coe_mul]; norm_num

section
attribute [local pointwise] val_main_v0 val_main_v1 val_main_cst val_main_v2 val_main_v3 val_main_cst_0 val_main_v4 val_main_v5 val_main_v6 val_main_v7

theorem x_at (p : Fin 8192) (j : Fin 1024) : val_main_v7 (F := Ideal) x1 (ix2 p j)
    = x1 (ix2 p j) - Ideal.div (∑ k, x1 (ix2 p k)) (Ideal.ofBits .f32 0x44800000#32) := by
  pointwise

attribute [local pointwise] val_main_v8 val_main_cst_1 val_main_v9 val_main_v10 val_main_cst_2 val_main_v11 val_main_v12 val_main_cst_3 val_main_v13 val_main_v14 val_main_v15

theorem v_at (p : Fin 8192) : val_main_v14 (F := Ideal) x1 (ix2 p 0)
    = Ideal.div (∑ k, (x1 (ix2 p k) - Ideal.div (∑ k, x1 (ix2 p k)) (Ideal.ofBits .f32 0x44800000#32)) * (x1 (ix2 p k) - Ideal.div (∑ k, x1 (ix2 p k)) (Ideal.ofBits .f32 0x44800000#32)))
        (Ideal.ofBits .f32 0x44800000#32) + Ideal.ofBits .f32 0x358637BD#32 := by
  pointwise

theorem r_at (p : Fin 8192) : val_main_v15 (F := Ideal) x1 (ix2 p 0) = Ideal.rsqrt (val_main_v14 (F := Ideal) x1 (ix2 p 0)) := by
  unfold val_main_v15
  generalize val_main_v14 (F := Ideal) x1 = y
  pointwise
end

/-- Each row is of the two kinds. -/
theorem rows (p : Fin 8192) : Row (fun j => val_main_v7 (F := Ideal) x1 (ix2 p j)) (val_main_v15 (F := Ideal) x1 (ix2 p 0)) (val_main_v14 (F := Ideal) x1 (ix2 p 0)) := by
  obtain ⟨e, he, hb⟩ := bits_eps
  simp only [x_at, v_at, r_at, hb, bits_1024]
  exact row (n := 1024) (by decide) (fun k => x1 (ix2 p k)) e he

theorem xhat_at (p : Fin 8192) (j : Fin 1024) : val_main_v20 (F := Ideal) x1 (ix2 p j)
    = val_main_v7 (F := Ideal) x1 (ix2 p j) * val_main_v15 (F := Ideal) x1 (ix2 p 0) := by
  unfold val_main_v20 val_main_v19
  generalize val_main_v7 (F := Ideal) x1 = y
  generalize val_main_v15 (F := Ideal) x1 = z
  pointwise

theorem y_at (p : Fin 8192) (j : Fin 1024) : val_main_v26 (F := Ideal) x1 x2 x3 (ix2 p j)
    = val_main_v20 (F := Ideal) x1 (ix2 p j) * x2 (ix2 0 j) + x3 (ix2 0 j) := by
  unfold val_main_v26 val_main_v25 val_main_v24 val_main_v23 val_main_v22 val_main_v21 val_main_v1 val_main_v0
  generalize val_main_v20 (F := Ideal) x1 = y
  pointwise

theorem dy_at (p : Fin 8192) (j : Fin 1024) : val_main_v28 (F := Ideal) x0 x1 x2 x3 (ix2 p j)
    = (let y := val_main_v26 (F := Ideal) x1 x2 x3 (ix2 p j)
       x0 (ix2 p j) * Ideal.logistic y + y * x0 (ix2 p j) * (Ideal.logistic y * (1 - Ideal.logistic y))) := by
  unfold val_main_v28 val_main_call1_v2 val_main_call1_v1 val_main_call1_v0 val_main_v27_1 val_main_call0_v7 val_main_call0_v6 val_main_call0_cst_1 val_main_v27_2 val_main_call0_v4
    val_main_call0_cst_0 val_main_call0_v3 val_main_call0_v2 val_main_call0_cst val_main_call0_v1 val_main_call0_v0
  generalize val_main_v26 (F := Ideal) x1 x2 x3 = y
  unfold Ideal.logistic
  pointwise

theorem w_at (p : Fin 8192) (j : Fin 1024) : val_main_v36 (F := Ideal) x0 x1 x2 x3 (ix2 p j) = val_main_v28 (F := Ideal) x0 x1 x2 x3 (ix2 p j) * x2 (ix2 0 j) := by
  unfold val_main_v36 val_main_v35 val_main_v21 val_main_v0
  generalize val_main_v28 (F := Ideal) x0 x1 x2 x3 = y
  pointwise

theorem dx_at (p : Fin 8192) (j : Fin 1024) : val_main_v59 (F := Ideal) x0 x1 x2 x3 (ix2 p j)
    = (let x := fun k : Fin 1024 => val_main_v7 (F := Ideal) x1 (ix2 p k)
       let w := fun k : Fin 1024 => val_main_v36 (F := Ideal) x0 x1 x2 x3 (ix2 p k)
       let r := val_main_v15 (F := Ideal) x1 (ix2 p 0)
       let T := Ideal.div ((∑ k, x k * w k) * (((-(1 / 2) : ℝ) : EReal) * Ideal.div r (val_main_v14 (F := Ideal) x1 (ix2 p 0)))) ((1024 : ℝ) : EReal)
       (w j * r + x j * T + T * x j) + Ideal.div (∑ k, -(w k * r + x k * T + T * x k)) ((1024 : ℝ) : EReal)) := by
  unfold val_main_v59 val_main_v58 val_main_v57 val_main_cst_14 val_main_v56 val_main_v55 val_main_cst_13 val_main_v54 val_main_v53 val_main_cst_12 val_main_v52 val_main_v51
    val_main_v50 val_main_v49 val_main_v48 val_main_v47 val_main_v46 val_main_cst_11 val_main_v45 val_main_v44 val_main_cst_10 val_main_v43 val_main_v42 val_main_v41 val_main_v40
    val_main_v39 val_main_cst_9 val_main_v38 val_main_v18 val_main_v17 val_main_cst_4 val_main_v16
  generalize val_main_v36 (F := Ideal) x0 x1 x2 x3 = w
  generalize val_main_v7 (F := Ideal) x1 = x
  generalize val_main_v15 (F := Ideal) x1 = r
  generalize val_main_v14 (F := Ideal) x1 = v
  dsimp only
  rw [← bits_1024, ← bits_neg_half]
  pointwise
  simp only [Fin.sum_univ_one]

end Cert.LnBwdRefIdeal.Hand

namespace Cert.LnBwdIdeal.Whole

open Cert.LnBwdIdeal Cert.LnBwdIdeal.Gen Cert.LnBwdRefIdeal.Read Cert.Reals Cert.LayerNorm
open Cert.LnBwdRefIdeal.Hand (x_at v_at r_at xhat_at y_at dy_at w_at bits_1024 rows)

variable (m : (ℓ : Loc nD τ sig) → Buf (Elt Ideal) ℓ) (c : Dev nD)

theorem idx : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

/-- A row of a point's block. -/
abbrev at_ (t : Fin cfg0.N) (x : Fin 1024) : Fin 8192 := ⟨t.val * 1024 + x.val, by have := lt_of_lt_of_eq t.isLt N_0; omega⟩

theorem blk0 (t : Fin cfg0.N) (x j : Fin 1024) : iblk m c 0 t (ix2 x j) = m ((c : Thread nD τ).loc main_arg0) (ix2 (at_ t x) j) := by
  blk_point [iblk, idx t]
theorem blk1 (t : Fin cfg0.N) (x j : Fin 1024) : iblk m c 1 t (ix2 x j) = m ((c : Thread nD τ).loc main_arg1) (ix2 (at_ t x) j) := by
  blk_point [iblk, idx t]
theorem blk2 (t : Fin cfg0.N) (j : Fin 1024) : iblk m c 2 t (ix2 0 j) = m ((c : Thread nD τ).loc main_arg2) (ix2 0 j) := by
  blk_point [iblk, idx t]
theorem blk3 (t : Fin cfg0.N) (j : Fin 1024) : iblk m c 3 t (ix2 0 j) = m ((c : Thread nD τ).loc main_arg3) (ix2 0 j) := by
  blk_point [iblk, idx t]

/-- What the precondition says: the cotangent's and the gain's entries are reals. -/
structure Reads : Prop where
  d : ∀ i, ∃ a : ℝ, (m ((c : Thread nD τ).loc main_arg0) i : EReal) = (a : EReal)
  g : ∀ i, ∃ a : ℝ, (m ((c : Thread nD τ).loc main_arg2) i : EReal) = (a : EReal)

theorem pay6_at (t : Fin cfg0.N) (x j : Fin 1024) : k0_pay6 (F := Ideal) (iblk m c 1 t) (ix2 x j) = val_main_v7 (F := Ideal) (m ((c : Thread nD τ).loc main_arg1)) (ix2 (at_ t x) j) := by
  rw [x_at]
  pointwise [k0_pay6]
  simp only [blk1]

theorem pay7_at (t : Fin cfg0.N) (x : Fin 1024) : k0_pay7 (F := Ideal) (iblk m c 1 t) (ix2 x 0) = val_main_v15 (F := Ideal) (m ((c : Thread nD τ).loc main_arg1)) (ix2 (at_ t x) 0) := by
  rw [r_at, v_at]
  simp only [← x_at, ← pay6_at m c]
  unfold k0_pay7
  generalize k0_pay6 (F := Ideal) (iblk m c 1 t) = y
  pointwise

theorem pay8_at (t : Fin cfg0.N) (x j : Fin 1024) : k0_pay8 (F := Ideal) (iblk m c 1 t) (ix2 x j) = val_main_v20 (F := Ideal) (m ((c : Thread nD τ).loc main_arg1)) (ix2 (at_ t x) j) := by
  rw [xhat_at, ← pay6_at m c, ← pay7_at m c]
  unfold k0_pay8
  generalize k0_pay6 (F := Ideal) (iblk m c 1 t) = y
  generalize k0_pay7 (F := Ideal) (iblk m c 1 t) = z
  pointwise

/-- The swish's gradient: the two forms are one real. -/
theorem pay9_at (R : Reads m c) (t : Fin cfg0.N) (x j : Fin 1024) : k0_pay9 (F := Ideal) (iblk m c 0 t) (iblk m c 1 t) (iblk m c 2 t) (iblk m c 3 t) (ix2 x j)
      = val_main_v28 (F := Ideal) (m ((c : Thread nD τ).loc main_arg0)) (m ((c : Thread nD τ).loc main_arg1)) (m ((c : Thread nD τ).loc main_arg2)) (m ((c : Thread nD τ).loc main_arg3)) (ix2 (at_ t x) j)
    ∧ ∃ w : ℝ, val_main_v28 (F := Ideal) (m ((c : Thread nD τ).loc main_arg0)) (m ((c : Thread nD τ).loc main_arg1)) (m ((c : Thread nD τ).loc main_arg2)) (m ((c : Thread nD τ).loc main_arg3)) (ix2 (at_ t x) j) = (w : EReal) := by
  obtain ⟨d, hd⟩ := R.d (ix2 (at_ t x) j)
  have e : k0_pay9 (F := Ideal) (iblk m c 0 t) (iblk m c 1 t) (iblk m c 2 t) (iblk m c 3 t) (ix2 x j)
      = (let y := val_main_v26 (F := Ideal) (m ((c : Thread nD τ).loc main_arg1)) (m ((c : Thread nD τ).loc main_arg2)) (m ((c : Thread nD τ).loc main_arg3)) (ix2 (at_ t x) j)
         let d : EReal := m ((c : Thread nD τ).loc main_arg0) (ix2 (at_ t x) j)
         d * (Ideal.logistic y * (1 + y * (1 - Ideal.logistic y)))) := by
    dsimp only
    rw [y_at, ← pay8_at m c, ← blk0 m c, ← blk2 m c t, ← blk3 m c t]
    unfold k0_pay9
    generalize k0_pay8 (F := Ideal) (iblk m c 1 t) = y
    pointwise
  rw [e, dy_at, hd]
  obtain ⟨w, h1, h2⟩ := swish_grad d (val_main_v26 (F := Ideal) (m ((c : Thread nD τ).loc main_arg1)) (m ((c : Thread nD τ).loc main_arg2)) (m ((c : Thread nD τ).loc main_arg3)) (ix2 (at_ t x) j))
  exact ⟨h1.trans h2.symm, w, h2⟩

theorem pay10_at (R : Reads m c) (t : Fin cfg0.N) (x j : Fin 1024) : k0_pay10 (F := Ideal) (iblk m c 0 t) (iblk m c 1 t) (iblk m c 2 t) (iblk m c 3 t) (ix2 x j)
      = val_main_v36 (F := Ideal) (m ((c : Thread nD τ).loc main_arg0)) (m ((c : Thread nD τ).loc main_arg1)) (m ((c : Thread nD τ).loc main_arg2)) (m ((c : Thread nD τ).loc main_arg3)) (ix2 (at_ t x) j)
    ∧ ∃ w : ℝ, val_main_v36 (F := Ideal) (m ((c : Thread nD τ).loc main_arg0)) (m ((c : Thread nD τ).loc main_arg1)) (m ((c : Thread nD τ).loc main_arg2)) (m ((c : Thread nD τ).loc main_arg3)) (ix2 (at_ t x) j) = (w : EReal) := by
  obtain ⟨g, hg⟩ := R.g (ix2 0 j)
  obtain ⟨h1, w, h2⟩ := pay9_at m c R t x j
  rw [w_at, ← h1]
  refine ⟨?_, w * g, by rw [h1, h2, hg, EReal.coe_mul]⟩
  rw [← blk2 m c t]
  unfold k0_pay10
  generalize k0_pay9 (F := Ideal) (iblk m c 0 t) (iblk m c 1 t) (iblk m c 2 t) (iblk m c 3 t) = y
  pointwise

theorem final4 (R : Reads m c) : (dats m 0 c).arrAt 4 (cfgs 0).N
    = val_main_v59 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have e : (outsAt0 m c t.val t.isLt).1 = k0_pay1 (F := Ideal) (k0_pay7 (iblk m c 1 t)) (k0_pay8 (iblk m c 1 t))
      (k0_pay11 (iblk m c 0 t) (iblk m c 1 t) (iblk m c 2 t) (iblk m c 3 t)) (k0_pay12 (iblk m c 0 t) (iblk m c 1 t) (iblk m c 2 t) (iblk m c 3 t)) := by
    have hN := lt_of_lt_of_eq t.isLt N_0
    by_cases h0 : t.val % 8 = 0
    · rw [outsAt0_A m c t h0 (by omega) h0 (by omega)]; frame_out
    · rw [outsAt0_B m c t h0 (by omega) h0 (by omega)]; frame_out
  blk_simp
  rw [after0_4, e]
  obtain ⟨x, j, rfl⟩ : ∃ x j, y = ix2 x j := ⟨y 0, y 1, eq_ix2 _⟩
  have he : (win0_4.blk t).view.emb (ix2 x j) = ix2 (at_ t x) j := by blk_ext [idx t]
  rw [he, Cert.LnBwdRefIdeal.Hand.dx_at]
  choose h w hw using fun k => pay10_at m c R t x k
  simp only [hw]
  refine Eq.trans ?_ (row_grad (n := 1024) (by decide) (rows _ (at_ t x)) w j)
  simp only [← hw, ← h, ← pay6_at m c, ← pay7_at m c]
  rw [show (((1024 : ℕ) : ℝ) : EReal) = Ideal.ofBits .f32 0x44800000#32 by rw [bits_1024]; norm_num]
  have h8 : ∀ k, k0_pay8 (F := Ideal) (iblk m c 1 t) (ix2 x k) = k0_pay6 (F := Ideal) (iblk m c 1 t) (ix2 x k) * k0_pay7 (F := Ideal) (iblk m c 1 t) (ix2 x 0) := by
    intro k; rw [pay8_at, xhat_at, ← pay6_at m c, ← pay7_at m c]
  simp only [← h8]
  unfold k0_pay1 k0_pay11 k0_pay12
  generalize k0_pay10 (F := Ideal) (iblk m c 0 t) (iblk m c 1 t) (iblk m c 2 t) (iblk m c 3 t) = y
  generalize k0_pay8 (F := Ideal) (iblk m c 1 t) = z
  generalize k0_pay7 (F := Ideal) (iblk m c 1 t) = u
  pointwise

theorem step5 (acc : Vec Ideal S8x1024 .f32) (x d : FVec Ideal S1024x1024 .f32) (j : S8x1024.Idx) :
    k0_pay4 (F := Ideal) x d acc j = acc j + k0_pay2 (F := Ideal) x d j := by
  pointwise [k0_pay4, k0_pay2]

theorem step6 (acc : Vec Ideal S8x1024 .f32) (d : FVec Ideal S1024x1024 .f32) (j : S8x1024.Idx) :
    k0_pay5 (F := Ideal) d acc j = acc j + k0_pay3 (F := Ideal) d j := by
  pointwise [k0_pay5, k0_pay3]

/-- The two accumulated blocks: each point adds its own rows' part. -/
theorem parts5 : (dats m 0 c).arrAt 5 (cfgs 0).N
    = fun j => ∑ t : Fin cfg0.N, k0_pay2 (F := Ideal) (k0_pay8 (iblk m c 1 t)) (k0_pay9 (iblk m c 0 t) (iblk m c 1 t) (iblk m c 2 t) (iblk m c 3 t)) j := by
  refine (dats m 0 c).arrAt_eq_of_after_last 5 t0_7 (by decide +kernel) _ (fun j => ?_)
  blk_simp
  rw [after0_5, Pipeline.eq_sum_fin_of_reset_step_apply_last (fun n h => (outsAt0 m c n h).2.1) 8 (fun _ => 0)
    (fun t => k0_pay2 (F := Ideal) (k0_pay8 (iblk m c 1 t)) (k0_pay9 (iblk m c 0 t) (iblk m c 1 t) (iblk m c 2 t) (iblk m c 3 t)))
    (fun t h j => by have := lt_of_lt_of_eq t.isLt N_0; rw [outsAt0_A m c t h (by omega) h (by omega)]; frame_out; rw [zero_add])
    (fun t h j => by have := lt_of_lt_of_eq t.isLt N_0; rw [outsAt0_B m c t h (by omega) h (by omega)]; frame_out; rw [step5])
    (le_of_eq N_0) t0_7 rfl j, zero_add]

theorem parts6 : (dats m 0 c).arrAt 6 (cfgs 0).N
    = fun j => ∑ t : Fin cfg0.N, k0_pay3 (F := Ideal) (k0_pay9 (iblk m c 0 t) (iblk m c 1 t) (iblk m c 2 t) (iblk m c 3 t)) j := by
  refine (dats m 0 c).arrAt_eq_of_after_last 6 t0_7 (by decide +kernel) _ (fun j => ?_)
  blk_simp
  rw [after0_6, Pipeline.eq_sum_fin_of_reset_step_apply_last (fun n h => (outsAt0 m c n h).2.2) 8 (fun _ => 0)
    (fun t => k0_pay3 (F := Ideal) (k0_pay9 (iblk m c 0 t) (iblk m c 1 t) (iblk m c 2 t) (iblk m c 3 t)))
    (fun t h j => by have := lt_of_lt_of_eq t.isLt N_0; rw [outsAt0_A m c t h (by omega) h (by omega)]; frame_out; rw [zero_add])
    (fun t h j => by have := lt_of_lt_of_eq t.isLt N_0; rw [outsAt0_B m c t h (by omega) h (by omega)]; frame_out; rw [step6])
    (le_of_eq N_0) t0_7 rfl j, zero_add]

theorem tail5 (R : Reads m c) : Pipeline.afterTail₀ cfgs (dats m) 0 (V0 m) [hostOps1] c main_v2
    = val_main_v61 (m ((c : Thread nD τ).loc main_arg0)) (m ((c : Thread nD τ).loc main_arg1)) (m ((c : Thread nD τ).loc main_arg2)) (m ((c : Thread nD τ).loc main_arg3)) := by
  show StableHlo.after hostOps1 _ _ = _
  unfold hostOps1
  after_results_simp
  rw [show Pipeline.withArrays (cfgs 0).spec c (V0 m c) (fun w => (dats m 0 c).arrAt w (cfgs 0).N) (Proc.tc.devRef main_v0_1)
    = _ from Pipeline.withArrays_arr spec0 (by decide) c (V0 m c) (fun w => (dats m 0 c).arrAt w (cfgs 0).N) 5]
  rw [parts5]
  funext y
  unfold val_main_v61 val_main_v37 val_main_v34 val_main_v33 val_main_v32 val_main_cst_8 val_main_cst_7 k0_pay2
  have h8 := pay8_at m c
  have h9 := fun t x j => (pay9_at m c R t x j).1
  revert h8 h9
  generalize val_main_v20 (F := Ideal) (m ((c : Thread nD τ).loc main_arg1)) = X
  generalize val_main_v28 (F := Ideal) (m ((c : Thread nD τ).loc main_arg0)) (m ((c : Thread nD τ).loc main_arg1)) (m ((c : Thread nD τ).loc main_arg2)) (m ((c : Thread nD τ).loc main_arg3)) = D
  generalize (fun t => k0_pay8 (F := Ideal) (iblk m c 1 t)) = x
  generalize (fun t => k0_pay9 (F := Ideal) (iblk m c 0 t) (iblk m c 1 t) (iblk m c 2 t) (iblk m c 3 t)) = d
  intro h8 h9
  pointwise
  simp only [Fin.sum_univ_one]
  refine sum_rows_congr (fun s t i hl => (mul_comm _ _).trans ?_) (by decide)
  exact congrArg₂ (fun a b : EReal => a * b) (h8 t _ (y 1)) (h9 t _ (y 1))

theorem tail6 (R : Reads m c) : Pipeline.afterTail₀ cfgs (dats m) 0 (V0 m) [hostOps1] c main_v4
    = val_main_v60 (m ((c : Thread nD τ).loc main_arg0)) (m ((c : Thread nD τ).loc main_arg1)) (m ((c : Thread nD τ).loc main_arg2)) (m ((c : Thread nD τ).loc main_arg3)) := by
  show StableHlo.after hostOps1 _ _ = _
  unfold hostOps1
  after_results_simp
  rw [show Pipeline.withArrays (cfgs 0).spec c (V0 m c) (fun w => (dats m 0 c).arrAt w (cfgs 0).N) (Proc.tc.devRef main_v0_2)
    = _ from Pipeline.withArrays_arr spec0 (by decide) c (V0 m c) (fun w => (dats m 0 c).arrAt w (cfgs 0).N) 6]
  rw [parts6]
  funext y
  unfold val_main_v60 val_main_v31 val_main_v30 val_main_v29 val_main_cst_6 val_main_cst_5 k0_pay3
  have h9 := fun t x j => (pay9_at m c R t x j).1
  revert h9
  generalize val_main_v28 (F := Ideal) (m ((c : Thread nD τ).loc main_arg0)) (m ((c : Thread nD τ).loc main_arg1)) (m ((c : Thread nD τ).loc main_arg2)) (m ((c : Thread nD τ).loc main_arg3)) = D
  intro h9
  pointwise
  simp only [Fin.sum_univ_one]
  refine sum_rows_congr (fun s t i hl => ?_) (by decide)
  exact h9 t _ (y 1)

end Cert.LnBwdIdeal.Whole

end
-- ==== Proof.LnPre.lean ====
/- What the precondition says of the arguments: every entry the kernel reads is a real number. -/
module

public import proofs.«01_k».proof.Defs
public import proofs.«01_k».proof.Proof.Finite

@[expose] public section

set_option maxRecDepth 16384

noncomputable section

namespace Cert.LnPre

open Idealize.ShloMosaic Cert.Pre_finite_ln Cert.Finite

variable [Facts]

theorem reals (d v : FVec Ideal S8192x1024 .f32) (g b : FVec Ideal S1x1024 .f32) (h : fn (F := Ideal) d v g b = fun _ => 1#1) :
    (∀ i, (d i : EReal) = ((d i : EReal).toReal : EReal)) ∧ ∀ i, (g i : EReal) = ((g i : EReal).toReal : EReal) := by
  have j : S_.Idx := fun k => k.elim0
  have h1 := congrFun h j
  unfold fn at h1
  simp only at h1
  obtain ⟨hd, hg⟩ := and_one h1
  exact ⟨entry d _ _ _ j hd, entry g _ _ _ j hg⟩

end Cert.LnPre

end
-- ==== Proof.LnValue.lean ====
/- The layer norm's gradient at finite arguments: the kernel and its reference end with equal results. -/
module

public import proofs.«01_k».proof.Proof.LnBwd
public import proofs.«01_k».proof.Proof.LnPre
public import proofs.«01_k».proof.Proof.Gen.LnBwdRefIdeal.Run
public import Idealize.ShloMosaic.Adequacy
public import Idealize.ShloMosaic.Lib.Claim

@[expose] public section

set_option maxRecDepth 16384

noncomputable section

namespace Cert.LnBwdIdeal.Whole

open Idealize.ShloMosaic Idealize.SL.Sem Idealize.ShloMosaic.TcCoe Idealize.ShloMosaic.Pipeline
open Cert.LnBwdIdeal Cert.LnBwdIdeal.Gen

variable [h : Cert.Pre_finite_ln.Facts]

theorem reads (m : (ℓ : Loc nD τ sig) → Buf (Elt Ideal) ℓ) (hp : Cert.Pre_LnBwdIdeal_finite_ln m) (c : Dev nD) : Reads m c :=
  have r := Cert.LnPre.reals _ _ _ _ (hp c)
  ⟨fun i => ⟨_, r.1 i⟩, fun i => ⟨_, r.2 i⟩⟩

theorem algebraic : Cert.algebraic_LnBwdIdeal_LnBwdRefIdeal_pre_finite_ln := by
  pair_intro
  · run_from Cert.LnBwdIdeal.Gen.run_main m g
  · run_from Cert.LnBwdRefIdeal.Value.run m' g'
    · rw [Cert.LnBwdRefIdeal.Read.val_main_v59_eq, (hagree c).1, (hagree c).2.1, (hagree c).2.2.1, (hagree c).2.2.2]
      exact (final4 m c (reads m hpre c)).symm
    · rw [Cert.LnBwdRefIdeal.Read.val_main_v61_eq, (hagree c).1, (hagree c).2.1, (hagree c).2.2.1, (hagree c).2.2.2]
      exact (tail5 m c (reads m hpre c)).symm
    · rw [Cert.LnBwdRefIdeal.Read.val_main_v60_eq, (hagree c).1, (hagree c).2.1, (hagree c).2.2.1, (hagree c).2.2.2]
      exact (tail6 m c (reads m hpre c)).symm

end Cert.LnBwdIdeal.Whole

end
-- ==== Proof.Alone.lean ====
/- What a region leaves in the array of a window that shares it with no other. -/
module

public import Idealize.ShloMosaic.Lib.Pipeline.FrameSuffix

@[expose] public section

noncomputable section

open Idealize.ShloMosaic

namespace Cert.Reals

/-- A window whose array no other window has: its array leaves the region at the window's contents. -/
theorem withArrays_alone {nD : ℕ} {τ : Topo} {sig : RefSig} {Val : EltTy → Type} {gr W : ℕ} (win : Fin W → Pipeline.WinSpec sig gr) (c : Dev nD)
    (V : Valuation τ sig Val) (A : (w : Fin W) → Buf Val ((win w).arr.view.loc (c.tc : Thread nD τ))) (w : Fin W)
    (hw : ∀ w', Pipeline.arrRef win w' = Pipeline.arrRef win w → w' = w) :
    Pipeline.withArrays win c V A (Proc.devRef .tc (Pipeline.arrRef win w)) = A w :=  by
  unfold Pipeline.withArrays
  have h : ∃ w', Proc.devRef .tc (Pipeline.arrRef win w') = Proc.devRef (τ := τ) .tc (Pipeline.arrRef win w) := ⟨w, rfl⟩
  rw [dif_pos h]
  generalize_proofs e
  have hc := hw _ (Proc.devRef_injective _ h.choose_spec)
  revert e
  generalize h.choose = k at hc
  subst hc
  exact fun _ => rfl

end Cert.Reals

end
-- ==== Proof.RopeK.lean ====
/- The key heads' gradient through the norm and the rotary embedding: the reference's values at an index. -/
module

public import proofs.«01_k».proof.Proof.Reals
public import proofs.«01_k».proof.Proof.Alone
public import proofs.«01_k».proof.Proof.Gen.KBwdRefIdeal.Read
public import proofs.«01_k».proof.Proof.Gen.KBwdIdeal.Frame
public import Idealize.ShloMosaic.Lib.Claim
public import Idealize.ShloMosaic.Lib.StableHlo.RunRead
public import Idealize.ShloMosaic.Lib.Pipeline.ValueKit

@[expose] public section

set_option maxRecDepth 16384

noncomputable section

open Idealize.ShloMosaic Idealize.SL.Sem Idealize.ShloMosaic.TcCoe Idealize.ShloMosaic.Pipeline

namespace Cert.KBwdRefIdeal.Hand

open Cert.Reals Cert.KBwdRefIdeal Cert.KBwdRefIdeal.Gen Cert.KBwdRefIdeal.Read

variable (D : (⟨S8192x2048, .f32⟩ : BufTy).Contents (Elt Ideal)) (Z : (⟨S8192x9216, .f32⟩ : BufTy).Contents (Elt Ideal)) (G : (⟨S1x128, .f32⟩ : BufTy).Contents (Elt Ideal))

/-- The cotangent of a key head: the sum over its group's query heads. -/
def ct (t : Fin 8192) (h : Fin 4) (j : Fin 128) : EReal := val_main_v1 (F := Ideal) D (ix3 t h j)

/-- The tables at a lane: the first 64 lanes turn by the row's angle, the others by the column's. -/
def C (t : Fin 8192) (j : Fin 128) : EReal :=
  if j.val < 64 then val_main_v51 (F := Ideal) (ix2 t ⟨j.val % 32, by omega⟩) else val_main_v69 (F := Ideal) (ix2 t ⟨j.val % 32, by omega⟩)
def S (t : Fin 8192) (j : Fin 128) : EReal :=
  if j.val < 64 then val_main_v53 (F := Ideal) (ix2 t ⟨j.val % 32, by omega⟩) else val_main_v71 (F := Ideal) (ix2 t ⟨j.val % 32, by omega⟩)

attribute [local pointwise] val_main_v51 val_main_v69 val_main_v53 val_main_v71 val_main_v52 val_main_v70 val_main_v54 val_main_v72

attribute [local pointwise] val_main_v87 val_main_v88 val_main_v89 val_main_v90 val_main_v91 val_main_v92 val_main_v93 val_main_v94 val_main_v95
  val_main_v96 val_main_v97 val_main_v98 val_main_v99 val_main_v100 val_main_v101 val_main_v102 val_main_v103 val_main_v104 val_main_v105
  val_main_v106 val_main_v107 val_main_v108 val_main_v109 val_main_v110 val_main_v111 val_main_v112 val_main_v113 val_main_v114 val_main_v115
  val_main_cst_8 val_main_cst_9 val_main_cst_10 val_main_cst_11 val_main_cst_12 val_main_cst_13
  val_main_v116 val_main_v117 val_main_v118 val_main_v119 val_main_v120 val_main_v121 val_main_v122 val_main_v123

/-- The rotation's transpose: a lane of a half's first 32, and the lane 32 after it. -/
theorem dn_low (t : Fin 8192) (h : Fin 4) (j : Fin 128) (hj : j.val % 64 < 32) : val_main_v123 (F := Ideal) D (ix3 t h j)
    = ct D t h j * C t j + ct D t h ⟨j.val + 32, by omega⟩ * S t j := by
  unfold ct C S
  pointwise
  have hb := j.isLt
  by_cases h64 : j.val < 64
  · simp (disch := omega) only [dif_pos, dif_neg, if_pos, zero_add]
    rw [add_comm]
    congr! 5 <;> first | omega | (dsimp only; done) | (dsimp only; omega) | exact congrArg (ix2 t) (Fin.ext (by dsimp only; omega)) | exact Fin.ext (by dsimp only; omega)
  · simp (disch := omega) only [dif_pos, dif_neg, if_pos, if_neg, zero_add, add_zero]
    rw [add_comm]
    congr! 5 <;> first | omega | (dsimp only; done) | (dsimp only; omega) | exact congrArg (ix2 t) (Fin.ext (by dsimp only; omega)) | exact Fin.ext (by dsimp only; omega)

theorem dn_high (t : Fin 8192) (h : Fin 4) (j : Fin 128) (hj : ¬ j.val % 64 < 32) : val_main_v123 (F := Ideal) D (ix3 t h j)
    = ct D t h j * C t j + ct D t h ⟨j.val - 32, by omega⟩ * -S t j := by
  unfold ct C S
  pointwise
  have hb := j.isLt
  by_cases h64 : j.val < 64
  · simp (disch := omega) only [dif_pos, dif_neg, if_pos, zero_add, add_zero, neg_mul, mul_neg]
    congr! 5 <;> first | omega | (dsimp only; done) | (dsimp only; omega) | exact congrArg (ix2 t) (Fin.ext (by dsimp only; omega)) | exact Fin.ext (by dsimp only; omega)
  · simp (disch := omega) only [dif_pos, dif_neg, if_pos, if_neg, zero_add, add_zero, neg_mul, mul_neg]
    congr! 5 <;> first | omega | (dsimp only; done) | (dsimp only; omega) | exact congrArg (ix2 t) (Fin.ext (by dsimp only; omega)) | exact Fin.ext (by dsimp only; omega)

attribute [-pointwise] val_main_v123

attribute [local pointwise] val_main_v34 val_main_cst_7 val_main_cst_3 val_main_v35 val_main_v36 val_main_cst_4 val_main_v37 val_main_v38 val_main_cst_5
  val_main_v39 val_main_v40 val_main_v41 val_main_v42 val_main_cst_6 val_main_v43 val_main_v44 val_main_v45 val_main_v46 val_main_v47 val_main_v33
  val_main_v124 val_main_cst_14 val_main_v125 val_main_v126 val_main_v127 val_main_v128 val_main_cst_15 val_main_v129 val_main_v130 val_main_cst_16 val_main_v131 val_main_v132 val_main_v133
  val_main_v134 val_main_v135 val_main_cst_17 val_main_v136 val_main_v137 val_main_cst_18 val_main_v138 val_main_v139 val_main_v140 val_main_v141 val_main_v142 val_main_v143
  val_main_v144 val_main_v145 val_main_v146

theorem dx_at (t : Fin 8192) (h : Fin 4) (l : Fin 128) : val_main_v146 (F := Ideal) D Z G (ix2 t ⟨h.val * 128 + l.val, by omega⟩)
    = (let x := fun k => val_main_v32 (F := Ideal) Z (ix3 t h k)
       let w := fun k => val_main_v123 (F := Ideal) D (ix3 t h k) * G (ix2 0 k)
       let q := Ideal.div (∑ k, x k * x k) (Ideal.ofBits .f32 0x43000000#32) + Ideal.ofBits .f32 0x358637BD#32
       Ideal.rsqrt q * w l - x l * (Ideal.rsqrt q * Ideal.rsqrt q * Ideal.rsqrt q) * Ideal.div (∑ k, x k * w k) (Ideal.ofBits .f32 0x43000000#32)) := by
  dsimp only
  rw [mul_comm (Ideal.rsqrt _) (_ * G _), ← pull_back_of bits_128 (by norm_num) _ _ _ _ (mean_square_pos_of bits_128 (by norm_num) _)]
  pointwise
  simp only [Fin.sum_univ_one]

/-- A row's and a head's part of the gain's gradient. -/
def term (l : Fin 128) (t : Fin 8192) (h : Fin 4) : EReal :=
  val_main_v123 (F := Ideal) D (ix3 t h l) * val_main_v32 (F := Ideal) Z (ix3 t h l)
    * Ideal.rsqrt (Ideal.div (∑ k : Fin 128, val_main_v32 (F := Ideal) Z (ix3 t h k) * val_main_v32 (F := Ideal) Z (ix3 t h k)) (Ideal.ofBits .f32 0x43000000#32) + Ideal.ofBits .f32 0x358637BD#32)

theorem dg_at (l : Fin 128) : val_main_v144 (F := Ideal) D Z (ix2 0 l)
    = ∑ t : Fin 8192, ∑ h : Fin 4, term D Z l t h := by
  unfold term
  unfold val_main_v144 val_main_v129 val_main_v126 val_main_v125 val_main_cst_14 val_main_cst_15
  pointwise
  erw [sum_two]
  simp only [Fin.sum_univ_one, zero_add]
  pointwise
  erw [sum_two]
  pointwise
  exact Finset.sum_congr rfl fun t _ => Finset.sum_congr rfl fun h _ => (mul_comm _ _).trans (mul_assoc _ _ _).symm

end Cert.KBwdRefIdeal.Hand

namespace Cert.KBwdIdeal.Whole

open Cert.Reals Cert.KBwdIdeal Cert.KBwdIdeal.Gen Cert.KBwdRefIdeal.Read
open Cert.KBwdRefIdeal.Hand (C S ct term dn_low dn_high dx_at dg_at)

variable (m : (ℓ : Loc nD τ sig) → Buf (Elt Ideal) ℓ) (c : Dev nD)

theorem idx : ∀ t : Fin cfg0.N, win0_0.index t = ![t.val % 8, t.val / 8 * 4] ∧ win0_1.index t = ![t.val % 8, t.val / 8 * 4 + 1]
    ∧ win0_2.index t = ![t.val % 8, t.val / 8 * 4 + 2] ∧ win0_3.index t = ![t.val % 8, t.val / 8 * 4 + 3]
    ∧ win0_4.index t = ![t.val % 8, 32 + t.val / 8] ∧ win0_5.index t = ![0, 0] ∧ win0_6.index t = ![t.val % 8, 0] ∧ win0_7.index t = ![t.val % 8, 0]
    ∧ win0_8.index t = ![t.val % 8, t.val / 8] :=
  (by decide +kernel : ∀ t : Fin grid0.N, _)

attribute [local pointwise] val_main_v51 val_main_v69 val_main_v53 val_main_v71 val_main_v25 val_main_v31
  val_main_v5 val_main_cst_3 val_main_v9 val_main_v3 val_main_v4 val_main_v6 val_main_v7 val_main_v8 val_main_v10 val_main_cst val_main_v11 val_main_v12
  val_main_cst_0 val_main_v13 val_main_v14 val_main_v15 val_main_cst_1 val_main_v16 val_main_v17 val_main_cst_2 val_main_v18 val_main_v19
  val_main_v20 val_main_v21 val_main_v22 val_main_v23 val_main_v24 val_main_v26 val_main_v27 val_main_v28 val_main_v29 val_main_v30

/-- The host's operations, cut before the tables are put together. -/
theorem cut (b : Ref sig .tc) : V m c b = StableHlo.after (hostOps0.drop 42) (StableHlo.after (hostOps0.take 42) fun b => m (c, b)) b := by
  rw [← StableHlo.after_append, List.take_append_drop]
  rfl

theorem v26_at (t : Fin 8192) (j : Fin 32) : V m c main_v26 (ix2 t j) = val_main_v51 (F := Ideal) (ix2 t j) := by
  show StableHlo.after hostOps0 _ _ _ = _
  unfold hostOps0
  after_results_simp
  pointwise

theorem v33_at (t : Fin 8192) (j : Fin 32) : V m c main_v33 (ix2 t j) = val_main_v69 (F := Ideal) (ix2 t j) := by
  show StableHlo.after hostOps0 _ _ _ = _
  unfold hostOps0
  after_results_simp
  pointwise

theorem v29_at (t : Fin 8192) (j : Fin 32) : V m c main_v29 (ix2 t j) = val_main_v53 (F := Ideal) (ix2 t j) := by
  show StableHlo.after hostOps0 _ _ _ = _
  unfold hostOps0
  after_results_simp
  pointwise

theorem v37_at (t : Fin 8192) (j : Fin 32) : V m c main_v37 (ix2 t j) = val_main_v71 (F := Ideal) (ix2 t j) := by
  show StableHlo.after hostOps0 _ _ _ = _
  unfold hostOps0
  after_results_simp
  pointwise

/-- Four arrays of 32 lanes side by side. -/
def beside (a b c d : FVec Ideal S8192x32 .f32) : FVec Ideal S8192x128 .f32 :=
  concatenate S8192x128 1 [⟨S8192x32, a⟩, ⟨S8192x32, b⟩, ⟨S8192x32, c⟩, ⟨S8192x32, d⟩] concatenates_S8192x32_S8192x32_S8192x32_S8192x32_S8192x128_d1

theorem v38_eq : V m c main_v38 = beside (V m c main_v26) (V m c main_v26) (V m c main_v33) (V m c main_v33) := by
  rw [cut m c main_v38, cut m c main_v26, cut m c main_v33]
  unfold beside
  generalize StableHlo.after ((hostOps0 (F := Ideal)).take 42) _ = W
  simp only [hostOps0, List.drop_succ_cons, List.drop_zero]
  after_reads_simp
  rfl

theorem v41_eq : V m c main_v41 = beside (Host.negf (F := Ideal) (φ := .f32) (V m c main_v29)) (V m c main_v29) (Host.negf (F := Ideal) (φ := .f32) (V m c main_v37)) (V m c main_v37) := by
  rw [cut m c main_v41, cut m c main_v29, cut m c main_v37]
  unfold beside
  generalize StableHlo.after ((hostOps0 (F := Ideal)).take 42) _ = W
  simp only [hostOps0, List.drop_succ_cons, List.drop_zero]
  after_reads_simp
  rfl

/-- A lane of the four reads the array its 32 lanes came from. -/
theorem beside_at (a b c d : FVec Ideal S8192x32 .f32) (t : Fin 8192) (j : Fin 128) : beside a b c d (ix2 t j)
    = (if j.val < 64 then if j.val % 64 < 32 then a else b else if j.val % 64 < 32 then c else d) (ix2 t ⟨j.val % 32, by omega⟩) := by
  have hb := j.isLt
  pointwise [beside]
  by_cases h1 : j.val < 64 <;> by_cases h2 : j.val % 64 < 32
  all_goals
    simp (disch := omega) only [dif_pos, dif_neg, if_pos, if_neg, h1, h2, reduceIte]
    congr 2
    exact Fin.ext (by dsimp only; omega)

theorem tab_c (t : Fin 8192) (j : Fin 128) : V m c main_v38 (ix2 t j) = C t j := by
  rw [v38_eq, beside_at]
  unfold C
  rw [← v26_at m c, ← v33_at m c]
  split_ifs <;> rfl

theorem tab_s (t : Fin 8192) (j : Fin 128) : V m c main_v41 (ix2 t j) = if j.val % 64 < 32 then -S t j else S t j := by
  rw [v41_eq, beside_at]
  unfold S
  rw [← v29_at m c, ← v37_at m c]
  split_ifs <;> rfl

theorem half (x : Fin 1024) (j : Fin 128) : k0_pay4 (ix2 x j) = if j.val % 64 < 32 then 1#1 else 0#1 := by
  pointwise [k0_pay4]
  revert j
  decide

/-- A lane and its partner: a half's first 32 lanes take the lane 32 on, the others the lane 32 back. -/
theorem swap_at (a b : FVec Ideal S1024x128 .f32) (x : Fin 1024) (j : Fin 128) :
    k0_pay5 (F := Ideal) a b k0_pay4 96#32 (ix2 x j) = a (ix2 x j) + (if h : j.val % 64 < 32 then b (ix2 x ⟨j.val + 32, by omega⟩) else b (ix2 x ⟨j.val - 32, by omega⟩)) := by
  have hb := j.isLt
  pointwise [k0_pay5]
  rw [half]
  by_cases h : j.val % 64 < 32
  · rw [if_pos h, dif_pos h]
    exact congrArg (fun k => a (ix2 x j) + b (ix2 x k)) (Fin.ext (by dsimp only; omega))
  · rw [if_neg h, dif_neg h]
    exact congrArg (fun k => a (ix2 x j) + b (ix2 x k)) (Fin.ext (by dsimp only; omega))

/-- A row of a point's block. -/
abbrev at_ (t : Fin cfg0.N) (x : Fin 1024) : Fin 8192 := ⟨t.val % 8 * 1024 + x.val, by omega⟩
/-- A point's head. -/
abbrev hd (t : Fin cfg0.N) : Fin 4 := ⟨t.val / 8, by have := lt_of_lt_of_eq t.isLt N_0; omega⟩

/-- The cotangent's four heads of a point's group. -/
theorem blk_d (t : Fin cfg0.N) (x : Fin 1024) (j : Fin 128) : k0_pay1 (F := Ideal) (iblk m c 0 t) (iblk m c 1 t) (iblk m c 2 t) (iblk m c 3 t) (ix2 x j)
    = ct (m ((c : Thread nD τ).loc main_arg0)) (at_ t x) (hd t) j := by
  have ht := lt_of_lt_of_eq t.isLt N_0
  have h0 : iblk m c 0 t (ix2 x j) = m ((c : Thread nD τ).loc main_arg0) (ix2 (at_ t x) ⟨(hd t).val * 512 + 0 * 128 + j.val, by omega⟩) := by blk_point [iblk, idx t]
  have h1 : iblk m c 1 t (ix2 x j) = m ((c : Thread nD τ).loc main_arg0) (ix2 (at_ t x) ⟨(hd t).val * 512 + 1 * 128 + j.val, by omega⟩) := by blk_point [iblk, idx t]
  have h2 : iblk m c 2 t (ix2 x j) = m ((c : Thread nD τ).loc main_arg0) (ix2 (at_ t x) ⟨(hd t).val * 512 + 2 * 128 + j.val, by omega⟩) := by blk_point [iblk, idx t]
  have h3 : iblk m c 3 t (ix2 x j) = m ((c : Thread nD τ).loc main_arg0) (ix2 (at_ t x) ⟨(hd t).val * 512 + 3 * 128 + j.val, by omega⟩) := by blk_point [iblk, idx t]
  unfold ct
  pointwise [k0_pay1, val_main_v1, val_main_v0, val_main_cst]
  rw [h0, h1, h2, h3]
  exact (Fin.sum_univ_four (M := EReal) (fun g : Fin 4 => (m ((c : Thread nD τ).loc main_arg0) (ix2 (at_ t x) ⟨(hd t).val * 512 + g.val * 128 + j.val, by omega⟩) : EReal))).symm

theorem blk_z (t : Fin cfg0.N) (x : Fin 1024) (j : Fin 128) : iblk m c 4 t (ix2 x j)
    = val_main_v32 (F := Ideal) (m ((c : Thread nD τ).loc main_arg1)) (ix3 (at_ t x) (hd t) j) := by
  have ht := lt_of_lt_of_eq t.isLt N_0
  have h : iblk m c 4 t (ix2 x j) = m ((c : Thread nD τ).loc main_arg1) (ix2 (at_ t x) ⟨4096 + ((hd t).val * 128 + j.val), by omega⟩) := by blk_point [iblk, idx t]
  rw [h]
  unfold val_main_v32 val_main_v2
  pointwise

theorem blk_g (t : Fin cfg0.N) (j : Fin 128) : iblk m c 5 t (ix2 0 j) = m ((c : Thread nD τ).loc main_arg2) (ix2 0 j) := by
  blk_point [iblk, idx t]

theorem blk_c (t : Fin cfg0.N) (x : Fin 1024) (j : Fin 128) : iblk m c 6 t (ix2 x j) = C (at_ t x) j := by
  rw [← tab_c m c]
  blk_point [iblk, idx t]

theorem blk_s (t : Fin cfg0.N) (x : Fin 1024) (j : Fin 128) : iblk m c 7 t (ix2 x j) = if j.val % 64 < 32 then -S (at_ t x) j else S (at_ t x) j := by
  rw [← tab_s m c]
  blk_point [iblk, idx t]

/-- The first product and the second at a lane of a point's block. -/
theorem pay2_at (t : Fin cfg0.N) (x : Fin 1024) (j : Fin 128) : k0_pay2 (F := Ideal) (iblk m c 0 t) (iblk m c 1 t) (iblk m c 2 t) (iblk m c 3 t) (iblk m c 6 t) (ix2 x j)
    = ct (m ((c : Thread nD τ).loc main_arg0)) (at_ t x) (hd t) j * C (at_ t x) j := by
  rw [← blk_d, ← blk_c m c]
  unfold k0_pay2
  generalize k0_pay1 (F := Ideal) (iblk m c 0 t) (iblk m c 1 t) (iblk m c 2 t) (iblk m c 3 t) = y
  pointwise

theorem pay3_at (t : Fin cfg0.N) (x : Fin 1024) (j : Fin 128) : k0_pay3 (F := Ideal) (iblk m c 0 t) (iblk m c 1 t) (iblk m c 2 t) (iblk m c 3 t) (iblk m c 7 t) (ix2 x j)
    = ct (m ((c : Thread nD τ).loc main_arg0)) (at_ t x) (hd t) j * (if j.val % 64 < 32 then -S (at_ t x) j else S (at_ t x) j) := by
  rw [← blk_d, ← blk_s m c]
  unfold k0_pay3
  generalize k0_pay1 (F := Ideal) (iblk m c 0 t) (iblk m c 1 t) (iblk m c 2 t) (iblk m c 3 t) = y
  pointwise

/-- A lane's partner has the same angle. -/
theorem S_partner (t : Fin 8192) (i j : Fin 128) (h : i.val % 32 = j.val % 32) (h' : i.val / 64 = j.val / 64) : S t i = S t j := by
  unfold S
  have e : (i.val < 64) = (j.val < 64) := by rw [eq_iff_iff]; omega
  simp only [h, e]

/-- What the kernel turns back at a point's block. -/
abbrev turned (t : Fin cfg0.N) : FVec Ideal S1024x128 .f32 :=
  k0_pay5 (F := Ideal) (k0_pay2 (iblk m c 0 t) (iblk m c 1 t) (iblk m c 2 t) (iblk m c 3 t) (iblk m c 6 t))
    (k0_pay3 (iblk m c 0 t) (iblk m c 1 t) (iblk m c 2 t) (iblk m c 3 t) (iblk m c 7 t)) k0_pay4 96#32

theorem turned_at (t : Fin cfg0.N) (x : Fin 1024) (j : Fin 128) : turned m c t (ix2 x j)
    = val_main_v123 (F := Ideal) (m ((c : Thread nD τ).loc main_arg0)) (ix3 (at_ t x) (hd t) j) := by
  have hb := j.isLt
  unfold turned
  rw [swap_at, pay2_at]
  by_cases h : j.val % 64 < 32
  · rw [dif_pos h, pay3_at, dn_low _ _ _ _ h, if_neg (by dsimp only; omega), S_partner _ _ j (by dsimp only; omega) (by dsimp only; omega)]
  · rw [dif_neg h, pay3_at, dn_high _ _ _ _ h, if_pos (by dsimp only; omega), S_partner _ _ j (by dsimp only; omega) (by dsimp only; omega)]

theorem final8 : (dats m 0 c).arrAt 8 (cfgs 0).N
    = val_main_v146 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  have hN := lt_of_lt_of_eq t.isLt N_0
  have e : (outsAt0 m c t.val t.isLt).1 = k0_pay8 (F := Ideal) (iblk m c 4 t) (iblk m c 5 t)
      (k0_pay2 (iblk m c 0 t) (iblk m c 1 t) (iblk m c 2 t) (iblk m c 3 t) (iblk m c 6 t))
      (k0_pay3 (iblk m c 0 t) (iblk m c 1 t) (iblk m c 2 t) (iblk m c 3 t) (iblk m c 7 t)) k0_pay4 96#32 := by
    by_cases h0 : t.val % 32 = 0
    · rw [outsAt0_A m c t h0 (by omega)]; frame_out
    · rw [outsAt0_B m c t h0 (by omega)]; frame_out
  blk_simp
  rw [after0_8, e]
  obtain ⟨x, j, rfl⟩ : ∃ x j, y = ix2 x j := ⟨y 0, y 1, eq_ix2 _⟩
  have he : (win0_8.blk t).view.emb (ix2 x j) = ix2 (at_ t x) ⟨(hd t).val * 128 + j.val, by omega⟩ := by blk_ext [idx t]
  rw [he, dx_at]
  simp only [← turned_at, ← blk_z, ← blk_g m c t]
  unfold k0_pay8 turned k0_pay6
  generalize k0_pay5 (F := Ideal) (k0_pay2 (iblk m c 0 t) (iblk m c 1 t) (iblk m c 2 t) (iblk m c 3 t) (iblk m c 6 t))
    (k0_pay3 (iblk m c 0 t) (iblk m c 1 t) (iblk m c 2 t) (iblk m c 3 t) (iblk m c 7 t)) k0_pay4 96#32 = y
  pointwise

/-- The last point. -/
abbrev t0_last : Fin cfg0.N := ⟨31, by rw [show cfg0.N = 32 from N_0]; decide⟩

/-- A point's part of the gain's gradient. -/
abbrev part (t : Fin cfg0.N) : FVec Ideal S8x128 .f32 :=
  k0_pay7 (F := Ideal) (iblk m c 4 t) (k0_pay2 (iblk m c 0 t) (iblk m c 1 t) (iblk m c 2 t) (iblk m c 3 t) (iblk m c 6 t))
    (k0_pay3 (iblk m c 0 t) (iblk m c 1 t) (iblk m c 2 t) (iblk m c 3 t) (iblk m c 7 t)) k0_pay4 96#32

theorem step9 (x : Vec Ideal S1024x128 .f32) (a b : FVec Ideal S1024x128 .f32) (u : IVec S1024x128 1) (k : BitVec 32) (acc : Vec Ideal S8x128 .f32) (j : S8x128.Idx) :
    k0_pay9 (F := Ideal) x a b u k acc j = acc j + k0_pay7 (F := Ideal) x a b u k j := by
  unfold k0_pay9
  generalize k0_pay7 (F := Ideal) x a b u k = y
  pointwise

theorem parts9 : (dats m 0 c).arrAt 9 (cfgs 0).N = fun j => ∑ t : Fin cfg0.N, part m c t j := by
  refine (dats m 0 c).arrAt_eq_of_after_last 9 t0_last (by decide +kernel) _ (fun j => ?_)
  blk_simp
  rw [after0_9, Pipeline.eq_sum_fin_of_reset_step_apply_last (fun n h => (outsAt0 m c n h).2) 32 (fun _ => 0) (part m c)
    (fun t h j => by have := lt_of_lt_of_eq t.isLt N_0; rw [outsAt0_A m c t h (by omega)]; frame_out; rw [zero_add])
    (fun t h j => by have := lt_of_lt_of_eq t.isLt N_0; rw [outsAt0_B m c t h (by omega)]; frame_out; rw [step9])
    (le_of_eq N_0) t0_last rfl j, zero_add]

theorem tail9 : Pipeline.afterTail₀ cfgs (dats m) 0 (V0 m) [hostOps1] c main_v44
    = val_main_v144 (F := Ideal) (m ((c : Thread nD τ).loc main_arg0)) (m ((c : Thread nD τ).loc main_arg1)) := by
  show StableHlo.after hostOps1 _ _ = _
  unfold hostOps1
  after_results_simp
  rw [show Pipeline.withArrays (cfgs 0).spec c (V0 m c) (fun w => (dats m 0 c).arrAt w (cfgs 0).N) (Proc.tc.devRef main_v42_1)
    = _ from withArrays_alone spec0 c (V0 m c) (fun w => (dats m 0 c).arrAt w (cfgs 0).N) 9 (by decide)]
  rw [parts9]
  funext y
  obtain ⟨l, rfl⟩ : ∃ l, y = ix2 0 l := ⟨y 1, by rw [eq_ix2 y]; congr 1; exact Subsingleton.elim _ _⟩
  rw [dg_at]
  have h : ∀ (t : Fin cfg0.N) (s : Fin 8), part m c t (ix2 s l) = ∑ i : Fin 128, term (m ((c : Thread nD τ).loc main_arg0)) (m ((c : Thread nD τ).loc main_arg1)) l
      (at_ t ⟨i.val * 8 + s.val, by omega⟩) (hd t) := by
    intro t s
    unfold term
    simp only [← turned_at, ← blk_z]
    unfold part turned k0_pay7 k0_pay6
    generalize k0_pay5 (F := Ideal) (k0_pay2 (iblk m c 0 t) (iblk m c 1 t) (iblk m c 2 t) (iblk m c 3 t) (iblk m c 6 t))
      (k0_pay3 (iblk m c 0 t) (iblk m c 1 t) (iblk m c 2 t) (iblk m c 3 t) (iblk m c 7 t)) k0_pay4 96#32 = y
    pointwise
  generalize part m c = p at *
  pointwise
  simp only [h]
  rw [Finset.sum_comm (s := (Finset.univ : Finset (Fin 8192)))]
  simp only [Fin.sum_univ_tiles 4 8 (show 4 * 8 = cfg0.N from N_0.symm)]
  rw [Finset.sum_comm]
  refine Finset.sum_congr rfl fun u _ => ?_
  refine sum_rows_congr (fun s t i hl => ?_) (by decide)
  exact congrArg₂ (term _ _ l) (Fin.ext (by dsimp only; omega)) (Fin.ext (by dsimp only; omega))

end Cert.KBwdIdeal.Whole

end
-- ==== Proof.RopeQ.lean ====
/- The query heads' gradient through the norm and the rotary embedding: the reference's values at an index. -/
module

public import proofs.«01_k».proof.Proof.Reals
public import proofs.«01_k».proof.Proof.RopeK
public import proofs.«01_k».proof.Proof.Gen.QBwdRefIdeal.Read
public import proofs.«01_k».proof.Proof.Gen.QBwdIdeal.Frame
public import Idealize.ShloMosaic.Lib.Claim
public import Idealize.ShloMosaic.Lib.StableHlo.RunRead
public import Idealize.ShloMosaic.Lib.Pipeline.ValueKit

@[expose] public section

set_option maxRecDepth 16384

noncomputable section

open Idealize.ShloMosaic Idealize.SL.Sem Idealize.ShloMosaic.TcCoe Idealize.ShloMosaic.Pipeline

namespace Cert.QBwdRefIdeal.Hand

open Cert.Reals Cert.QBwdRefIdeal Cert.QBwdRefIdeal.Gen Cert.QBwdRefIdeal.Read

variable (D : (⟨S2048x8192, .f32⟩ : BufTy).Contents (Elt Ideal)) (Z : (⟨S8192x9216, .f32⟩ : BufTy).Contents (Elt Ideal)) (G : (⟨S1x128, .f32⟩ : BufTy).Contents (Elt Ideal))

/-- The cotangent of a query head. -/
def ct (t : Fin 8192) (h : Fin 16) (j : Fin 128) : EReal := val_main_v86 (F := Ideal) D (ix3 t h j)

/-- The tables at a lane: the first 64 lanes turn by the row's angle, the others by the column's. -/
def C (t : Fin 8192) (j : Fin 128) : EReal :=
  if j.val < 64 then val_main_v49 (F := Ideal) (ix2 t ⟨j.val % 32, by omega⟩) else val_main_v67 (F := Ideal) (ix2 t ⟨j.val % 32, by omega⟩)
def S (t : Fin 8192) (j : Fin 128) : EReal :=
  if j.val < 64 then val_main_v51 (F := Ideal) (ix2 t ⟨j.val % 32, by omega⟩) else val_main_v69 (F := Ideal) (ix2 t ⟨j.val % 32, by omega⟩)

attribute [local pointwise] val_main_v49 val_main_v67 val_main_v51 val_main_v69 val_main_v50 val_main_v68 val_main_v52 val_main_v70

attribute [local pointwise] val_main_v87 val_main_v88 val_main_v89 val_main_v90 val_main_v91 val_main_v92 val_main_v93 val_main_v94 val_main_v95
  val_main_v96 val_main_v97 val_main_v98 val_main_v99 val_main_v100 val_main_v101 val_main_v102 val_main_v103 val_main_v104 val_main_v105
  val_main_v106 val_main_v107 val_main_v108 val_main_v109 val_main_v110 val_main_v111 val_main_v112 val_main_v113 val_main_v114 val_main_v115
  val_main_cst_7 val_main_cst_8 val_main_cst_9 val_main_cst_10 val_main_cst_11 val_main_cst_12
  val_main_v116 val_main_v117 val_main_v118 val_main_v119 val_main_v120 val_main_v121 val_main_v122 val_main_v123

/-- The rotation's transpose: a lane of a half's first 32, and the lane 32 after it. -/
theorem dn_low (t : Fin 8192) (h : Fin 16) (j : Fin 128) (hj : j.val % 64 < 32) : val_main_v123 (F := Ideal) D (ix3 t h j)
    = ct D t h j * C t j + ct D t h ⟨j.val + 32, by omega⟩ * S t j := by
  unfold ct C S
  pointwise
  have hb := j.isLt
  by_cases h64 : j.val < 64
  · simp (disch := omega) only [dif_pos, dif_neg, if_pos, zero_add]
    rw [add_comm]
    congr! 5 <;> first | omega | (dsimp only; done) | (dsimp only; omega) | exact congrArg (ix2 t) (Fin.ext (by dsimp only; omega)) | exact Fin.ext (by dsimp only; omega)
  · simp (disch := omega) only [dif_pos, dif_neg, if_pos, if_neg, zero_add, add_zero]
    rw [add_comm]
    congr! 5 <;> first | omega | (dsimp only; done) | (dsimp only; omega) | exact congrArg (ix2 t) (Fin.ext (by dsimp only; omega)) | exact Fin.ext (by dsimp only; omega)

theorem dn_high (t : Fin 8192) (h : Fin 16) (j : Fin 128) (hj : ¬ j.val % 64 < 32) : val_main_v123 (F := Ideal) D (ix3 t h j)
    = ct D t h j * C t j + ct D t h ⟨j.val - 32, by omega⟩ * -S t j := by
  unfold ct C S
  pointwise
  have hb := j.isLt
  by_cases h64 : j.val < 64
  · simp (disch := omega) only [dif_pos, dif_neg, if_pos, zero_add, add_zero, neg_mul, mul_neg]
    congr! 5 <;> first | omega | (dsimp only; done) | (dsimp only; omega) | exact congrArg (ix2 t) (Fin.ext (by dsimp only; omega)) | exact Fin.ext (by dsimp only; omega)
  · simp (disch := omega) only [dif_pos, dif_neg, if_pos, if_neg, zero_add, add_zero, neg_mul, mul_neg]
    congr! 5 <;> first | omega | (dsimp only; done) | (dsimp only; omega) | exact congrArg (ix2 t) (Fin.ext (by dsimp only; omega)) | exact Fin.ext (by dsimp only; omega)

attribute [-pointwise] val_main_v123

attribute [local pointwise] val_main_v32 val_main_cst_6 val_main_cst_2 val_main_v33 val_main_v34 val_main_cst_3 val_main_v35 val_main_v36 val_main_cst_4
  val_main_v37 val_main_v38 val_main_v39 val_main_v40 val_main_cst_5 val_main_v41 val_main_v42 val_main_v43 val_main_v44 val_main_v45 val_main_v31
  val_main_v124 val_main_cst_13 val_main_v125 val_main_v126 val_main_v127 val_main_v128 val_main_cst_14 val_main_v129 val_main_v130 val_main_cst_15 val_main_v131 val_main_v132 val_main_v133
  val_main_v134 val_main_v135 val_main_cst_16 val_main_v136 val_main_v137 val_main_cst_17 val_main_v138 val_main_v139 val_main_v140 val_main_v141 val_main_v142 val_main_v143
  val_main_v144 val_main_v145 val_main_v146

theorem dx_at (t : Fin 8192) (h : Fin 16) (l : Fin 128) : val_main_v146 (F := Ideal) D Z G (ix2 t ⟨h.val * 128 + l.val, by omega⟩)
    = (let x := fun k => val_main_v30 (F := Ideal) Z (ix3 t h k)
       let w := fun k => val_main_v123 (F := Ideal) D (ix3 t h k) * G (ix2 0 k)
       let q := Ideal.div (∑ k, x k * x k) (Ideal.ofBits .f32 0x43000000#32) + Ideal.ofBits .f32 0x358637BD#32
       Ideal.rsqrt q * w l - x l * (Ideal.rsqrt q * Ideal.rsqrt q * Ideal.rsqrt q) * Ideal.div (∑ k, x k * w k) (Ideal.ofBits .f32 0x43000000#32)) := by
  dsimp only
  rw [mul_comm (Ideal.rsqrt _) (_ * G _), ← pull_back_of bits_128 (by norm_num) _ _ _ _ (mean_square_pos_of bits_128 (by norm_num) _)]
  pointwise
  simp only [Fin.sum_univ_one]

/-- A row's and a head's part of the gain's gradient. -/
def term (l : Fin 128) (t : Fin 8192) (h : Fin 16) : EReal :=
  val_main_v123 (F := Ideal) D (ix3 t h l) * val_main_v30 (F := Ideal) Z (ix3 t h l)
    * Ideal.rsqrt (Ideal.div (∑ k : Fin 128, val_main_v30 (F := Ideal) Z (ix3 t h k) * val_main_v30 (F := Ideal) Z (ix3 t h k)) (Ideal.ofBits .f32 0x43000000#32) + Ideal.ofBits .f32 0x358637BD#32)

theorem dg_at (l : Fin 128) : val_main_v144 (F := Ideal) D Z (ix2 0 l)
    = ∑ t : Fin 8192, ∑ h : Fin 16, term D Z l t h := by
  unfold term
  unfold val_main_v144 val_main_v129 val_main_v126 val_main_v125 val_main_cst_13 val_main_cst_14
  pointwise
  erw [sum_two]
  simp only [Fin.sum_univ_one, zero_add]
  pointwise
  erw [sum_two]
  pointwise
  exact Finset.sum_congr rfl fun t _ => Finset.sum_congr rfl fun h _ => (mul_comm _ _).trans (mul_assoc _ _ _).symm

end Cert.QBwdRefIdeal.Hand

namespace Cert.QBwdIdeal.Whole

open Cert.Reals Cert.QBwdIdeal Cert.QBwdIdeal.Gen Cert.QBwdRefIdeal.Read
open Cert.QBwdRefIdeal.Hand (C S ct term dn_low dn_high dx_at dg_at)

variable (m : (ℓ : Loc nD τ sig) → Buf (Elt Ideal) ℓ) (c : Dev nD)

theorem idx : ∀ t : Fin cfg0.N, win0_0.index t = ![t.val / 8, t.val % 8] ∧ win0_1.index t = ![t.val % 8, 4 + t.val / 8]
    ∧ win0_2.index t = ![0, 0] ∧ win0_3.index t = ![t.val % 8, 0] ∧ win0_4.index t = ![t.val % 8, 0] ∧ win0_5.index t = ![t.val % 8, t.val / 8] :=
  (by decide +kernel : ∀ t : Fin grid0.N, _)

attribute [local pointwise] val_main_v49 val_main_v67 val_main_v51 val_main_v69 val_main_v23 val_main_v29
  val_main_v3 val_main_cst_2 val_main_v7 val_main_v1 val_main_v2 val_main_v4 val_main_v5 val_main_v6 val_main_v8 val_main_cst val_main_v9 val_main_v10
  val_main_cst val_main_v11 val_main_v12 val_main_v13 val_main_cst_0 val_main_v14 val_main_v15 val_main_cst_1 val_main_v16 val_main_v17
  val_main_v18 val_main_v19 val_main_v20 val_main_v21 val_main_v22 val_main_v24 val_main_v25 val_main_v26 val_main_v27 val_main_v28

/-- The host's operations, cut before the tables are put together. -/
theorem cut (b : Ref sig .tc) : V m c b = StableHlo.after (hostOps0.drop 42) (StableHlo.after (hostOps0.take 42) fun b => m (c, b)) b := by
  rw [← StableHlo.after_append, List.take_append_drop]
  rfl

theorem v26_at (t : Fin 8192) (j : Fin 32) : V m c main_v26 (ix2 t j) = val_main_v49 (F := Ideal) (ix2 t j) := by
  show StableHlo.after hostOps0 _ _ _ = _
  unfold hostOps0
  after_results_simp
  pointwise

theorem v33_at (t : Fin 8192) (j : Fin 32) : V m c main_v33 (ix2 t j) = val_main_v67 (F := Ideal) (ix2 t j) := by
  show StableHlo.after hostOps0 _ _ _ = _
  unfold hostOps0
  after_results_simp
  pointwise

theorem v29_at (t : Fin 8192) (j : Fin 32) : V m c main_v29 (ix2 t j) = val_main_v51 (F := Ideal) (ix2 t j) := by
  show StableHlo.after hostOps0 _ _ _ = _
  unfold hostOps0
  after_results_simp
  pointwise

theorem v37_at (t : Fin 8192) (j : Fin 32) : V m c main_v37 (ix2 t j) = val_main_v69 (F := Ideal) (ix2 t j) := by
  show StableHlo.after hostOps0 _ _ _ = _
  unfold hostOps0
  after_results_simp
  pointwise

/-- Four arrays of 32 lanes side by side. -/
def beside (a b c d : FVec Ideal S8192x32 .f32) : FVec Ideal S8192x128 .f32 :=
  concatenate S8192x128 1 [⟨S8192x32, a⟩, ⟨S8192x32, b⟩, ⟨S8192x32, c⟩, ⟨S8192x32, d⟩] concatenates_S8192x32_S8192x32_S8192x32_S8192x32_S8192x128_d1

theorem v38_eq : V m c main_v38 = beside (V m c main_v26) (V m c main_v26) (V m c main_v33) (V m c main_v33) := by
  rw [cut m c main_v38, cut m c main_v26, cut m c main_v33]
  unfold beside
  generalize StableHlo.after ((hostOps0 (F := Ideal)).take 42) _ = W
  simp only [hostOps0, List.drop_succ_cons, List.drop_zero]
  after_reads_simp
  rfl

theorem v41_eq : V m c main_v41 = beside (Host.negf (F := Ideal) (φ := .f32) (V m c main_v29)) (V m c main_v29) (Host.negf (F := Ideal) (φ := .f32) (V m c main_v37)) (V m c main_v37) := by
  rw [cut m c main_v41, cut m c main_v29, cut m c main_v37]
  unfold beside
  generalize StableHlo.after ((hostOps0 (F := Ideal)).take 42) _ = W
  simp only [hostOps0, List.drop_succ_cons, List.drop_zero]
  after_reads_simp
  rfl

/-- A lane of the four reads the array its 32 lanes came from. -/
theorem beside_at (a b c d : FVec Ideal S8192x32 .f32) (t : Fin 8192) (j : Fin 128) : beside a b c d (ix2 t j)
    = (if j.val < 64 then if j.val % 64 < 32 then a else b else if j.val % 64 < 32 then c else d) (ix2 t ⟨j.val % 32, by omega⟩) := by
  have hb := j.isLt
  pointwise [beside]
  by_cases h1 : j.val < 64 <;> by_cases h2 : j.val % 64 < 32
  all_goals
    simp (disch := omega) only [dif_pos, dif_neg, if_pos, if_neg, h1, h2, reduceIte]
    congr 2
    exact Fin.ext (by dsimp only; omega)

theorem tab_c (t : Fin 8192) (j : Fin 128) : V m c main_v38 (ix2 t j) = C t j := by
  rw [v38_eq, beside_at]
  unfold C
  rw [← v26_at m c, ← v33_at m c]
  split_ifs <;> rfl

theorem tab_s (t : Fin 8192) (j : Fin 128) : V m c main_v41 (ix2 t j) = if j.val % 64 < 32 then -S t j else S t j := by
  rw [v41_eq, beside_at]
  unfold S
  rw [← v29_at m c, ← v37_at m c]
  split_ifs <;> rfl

/-- A row of a point's block. -/
abbrev at_ (t : Fin cfg0.N) (x : Fin 1024) : Fin 8192 := ⟨t.val % 8 * 1024 + x.val, by omega⟩
/-- The `g`-th head of a point's four. -/
abbrev hd (t : Fin cfg0.N) (g : Fin 4) : Fin 16 := ⟨t.val / 8 * 4 + g.val, by have := lt_of_lt_of_eq t.isLt N_0; omega⟩

/-- The four heads of a block of the projection, and of the cotangent's block, which is turned on its side. -/
def heads (z : Vec Ideal S1024x512 .f32) : Fin 4 → FVec Ideal S1024x128 .f32 := ![k0_pay6 z, k0_pay12 z, k0_pay21 z, k0_pay31 z]
def sides (d : Vec Ideal S512x1024 .f32) : Fin 4 → FVec Ideal S1024x128 .f32 :=
  ![transpose S1024x128 [1, 0] (extractStridedSlice S128x1024 ![0, 0] d slices_S512x1024_o0_0_S128x1024) transposes_S128x1024_p1_0_S1024x128, k0_pay13 d, k0_pay22 d, k0_pay32 d]

theorem heads_at (z : Vec Ideal S1024x512 .f32) (g : Fin 4) (x : Fin 1024) (j : Fin 128) : heads z g (ix2 x j) = z (ix2 x ⟨g.val * 128 + j.val, by omega⟩) := by
  unfold heads
  fin_cases g <;> pointwise [k0_pay6, k0_pay12, k0_pay21, k0_pay31]

theorem sides_at (d : Vec Ideal S512x1024 .f32) (g : Fin 4) (x : Fin 1024) (j : Fin 128) : sides d g (ix2 x j) = d (ix2 ⟨g.val * 128 + j.val, by omega⟩ x) := by
  unfold sides
  fin_cases g <;> pointwise [k0_pay13, k0_pay22, k0_pay32]

/-- A head turned back, its gradient, and its part of the gain's gradient. -/
def turn (c s d : FVec Ideal S1024x128 .f32) : FVec Ideal S1024x128 .f32 :=
  Cert.KBwdIdeal.Gen.k0_pay5 (F := Ideal) (mulf d c) (mulf d s) Cert.KBwdIdeal.Gen.k0_pay4 96#32
def squares (x : FVec Ideal S1024x128 .f32) : FVec Ideal S1024x1 .f32 :=
  shapeCast S1024x1 (multiReduction .add [1] S1024 (mulf x x) 0x00000000#32 reduces_S1024x128_S1024 (.inl rfl) rfl) shapeCasts_S1024_S1024x1
def grad (g : Vec Ideal S1x128 .f32) (x y : FVec Ideal S1024x128 .f32) : FVec Ideal S1024x128 .f32 := k0_pay10 g x y (squares x)
def gain (x y : FVec Ideal S1024x128 .f32) : FVec Ideal S8x128 .f32 := k0_pay11 x y (squares x)

/-- Four heads side by side, and the sum of four parts. -/
def four (d : Fin 4 → FVec Ideal S1024x128 .f32) : FVec Ideal S1024x512 .bf16 :=
  truncf .bf16 (concatenate S1024x512 1 [⟨S1024x128, d 0⟩, ⟨S1024x128, d 1⟩, ⟨S1024x128, d 2⟩, ⟨S1024x128, d 3⟩] concatenates_S1024x128_S1024x128_S1024x128_S1024x128_S1024x512_d1) bitsLt_bf16_f32
def sum4 (p : Fin 4 → FVec Ideal S8x128 .f32) : FVec Ideal S8x128 .f32 := addf (addf (addf (p 0) (p 1)) (p 2)) (p 3)

theorem four_at (d : Fin 4 → FVec Ideal S1024x128 .f32) (x : Fin 1024) (j : Fin 512) : four d (ix2 x j) = d ⟨j.val / 128, by omega⟩ (ix2 x ⟨j.val % 128, by omega⟩) := by
  have hb := j.isLt
  pointwise [four]
  obtain h | h | h | h : j.val / 128 = 0 ∨ j.val / 128 = 1 ∨ j.val / 128 = 2 ∨ j.val / 128 = 3 := by omega
  all_goals
    simp (disch := omega) only [dif_pos, dif_neg, h]
    refine congrArg (fun k => d _ (ix2 x k)) (Fin.ext ?_)
    dsimp only
    omega

/-- A point's four heads, turned back, and the two stored blocks. -/
def turned (t : Fin cfg0.N) (g : Fin 4) : FVec Ideal S1024x128 .f32 := turn (k0_pay4 (iblk m c 3 t)) (k0_pay5 (iblk m c 4 t)) (sides (iblk m c 0 t) g)
def part (t : Fin cfg0.N) (g : Fin 4) : FVec Ideal S8x128 .f32 := gain (heads (iblk m c 1 t) g) (turned m c t g)
def block (t : Fin cfg0.N) : FVec Ideal S1024x512 .bf16 := four fun g => grad (iblk m c 2 t) (heads (iblk m c 1 t) g) (turned m c t g)
def parts (t : Fin cfg0.N) : FVec Ideal S8x128 .f32 := sum4 (part m c t)

theorem turn_0 (d : Vec Ideal S512x1024 .f32) (c s : Vec Ideal S1024x128 .f32) : k0_pay7 d c s = turn (k0_pay4 c) (k0_pay5 s) (sides d 0) := rfl
theorem turn_1 (d : Vec Ideal S512x1024 .f32) (c s : FVec Ideal S1024x128 .f32) : k0_pay17 (k0_pay14 d c) (k0_pay15 d s) k0_pay16 32#32 = turn c s (sides d 1) := rfl
theorem turn_2 (d : Vec Ideal S512x1024 .f32) (c s : FVec Ideal S1024x128 .f32) : k0_pay27 (k0_pay23 d c) (k0_pay24 d s) 64#32 k0_pay25 k0_pay26 = turn c s (sides d 2) := rfl
theorem turn_3 (d : Vec Ideal S512x1024 .f32) (c s : FVec Ideal S1024x128 .f32) : k0_pay33 c s (k0_pay32 d) = turn c s (sides d 3) := rfl

theorem stored (g : Vec Ideal S1x128 .f32) (z : Vec Ideal S1024x512 .f32) (d : Vec Ideal S512x1024 .f32) (c s : Vec Ideal S1024x128 .f32) :
    k0_pay2 (F := Ideal) (k0_pay10 g (k0_pay6 z) (k0_pay7 d c s) (k0_pay8 z)) (k0_pay19 g (k0_pay12 z) (k0_pay14 d (k0_pay4 c)) (k0_pay15 d (k0_pay5 s)) k0_pay16 32#32)
      (k0_pay29 g (k0_pay21 z) (k0_pay23 d (k0_pay4 c)) (k0_pay24 d (k0_pay5 s)) 64#32 k0_pay25 k0_pay26)
      (k0_pay36 g (k0_pay4 c) (k0_pay5 s) (k0_pay31 z) (k0_pay32 d)) (k0_pay37 (k0_pay31 z)) (k0_pay38 g (k0_pay4 c) (k0_pay5 s) (k0_pay31 z) (k0_pay32 d))
    = four (fun i => grad g (heads z i) (turn (k0_pay4 c) (k0_pay5 s) (sides d i))) := by
  unfold k0_pay36 k0_pay38 k0_pay35 k0_pay29 k0_pay19
  rw [turn_0, turn_1, turn_2, turn_3]
  generalize turn _ _ (sides d 0) = y0
  sl_kernel_rfl

theorem added (z : Vec Ideal S1024x512 .f32) (d : Vec Ideal S512x1024 .f32) (c s : Vec Ideal S1024x128 .f32) :
    k0_pay1 (F := Ideal) (k0_pay30 (k0_pay20 (k0_pay11 (k0_pay6 z) (k0_pay7 d c s) (k0_pay8 z)) (k0_pay12 z) (k0_pay14 d (k0_pay4 c)) (k0_pay15 d (k0_pay5 s)) k0_pay16 32#32)
        (k0_pay21 z) (k0_pay23 d (k0_pay4 c)) (k0_pay24 d (k0_pay5 s)) 64#32 k0_pay25 k0_pay26)
      (k0_pay31 z) (k0_pay33 (k0_pay4 c) (k0_pay5 s) (k0_pay32 d)) (k0_pay34 (k0_pay31 z))
    = sum4 (fun i => gain (heads z i) (turn (k0_pay4 c) (k0_pay5 s) (sides d i))) := by
  unfold k0_pay30 k0_pay20
  rw [turn_0, turn_1, turn_2, turn_3]
  sl_kernel_rfl

theorem outs_A (t : Fin cfg0.N) (h0 : t.val % 32 = 0) (h1 : ¬1 ≤ t.val) : outsAt0 m c t.val t.isLt = (block m c t, parts m c t) := by
  rw [outsAt0_A m c t h0 h1]
  refine Prod.ext ?_ ?_
  · frame_out
    exact stored ..
  · frame_out
    exact added ..

theorem outs_B (t : Fin cfg0.N) (h0 : ¬t.val % 32 = 0) (h1 : 1 ≤ t.val) : outsAt0 m c t.val t.isLt
    = (block m c t, fun j => (outsAt0 m c (t.val - 1) (Nat.lt_of_le_of_lt (Nat.sub_le _ _) t.isLt)).2 j + parts m c t j) := by
  rw [outsAt0_B m c t h0 h1]
  refine Prod.ext ?_ ?_
  · frame_out
    exact stored ..
  · frame_out
    unfold k0_pay3
    rw [added]
    funext j
    pointwise
    rfl

theorem blk_x (t : Fin cfg0.N) (g : Fin 4) (x : Fin 1024) (j : Fin 128) : heads (iblk m c 1 t) g (ix2 x j)
    = val_main_v30 (F := Ideal) (m ((c : Thread nD τ).loc main_arg1)) (ix3 (at_ t x) (hd t g) j) := by
  have ht := lt_of_lt_of_eq t.isLt N_0
  have h : ∀ j : Fin 512, iblk m c 1 t (ix2 x j) = m ((c : Thread nD τ).loc main_arg1) (ix2 (at_ t x) ⟨2048 + (t.val / 8 * 512 + j.val), by omega⟩) := by
    intro j; blk_point [iblk, idx t]
  rw [heads_at, h]
  unfold val_main_v30 val_main_v0
  pointwise
  congr! 2
  exact Fin.ext (by dsimp only; omega)

theorem blk_d (t : Fin cfg0.N) (g : Fin 4) (x : Fin 1024) (j : Fin 128) : sides (iblk m c 0 t) g (ix2 x j)
    = ct (m ((c : Thread nD τ).loc main_arg0)) (at_ t x) (hd t g) j := by
  have ht := lt_of_lt_of_eq t.isLt N_0
  have h : ∀ j : Fin 512, iblk m c 0 t (ix2 j x) = m ((c : Thread nD τ).loc main_arg0) (ix2 ⟨t.val / 8 * 512 + j.val, by omega⟩ (at_ t x)) := by
    intro j; blk_point [iblk, idx t]
  rw [sides_at, h]
  unfold ct val_main_v86 val_main_v85
  pointwise
  congr! 2
  exact Fin.ext (by dsimp only; omega)

theorem blk_g (t : Fin cfg0.N) (j : Fin 128) : iblk m c 2 t (ix2 0 j) = m ((c : Thread nD τ).loc main_arg2) (ix2 0 j) := by
  blk_point [iblk, idx t]

theorem blk_c (t : Fin cfg0.N) (x : Fin 1024) (j : Fin 128) : k0_pay4 (F := Ideal) (iblk m c 3 t) (ix2 x j) = C (at_ t x) j := by
  have h : iblk m c 3 t (ix2 x j) = V m c main_v38 (ix2 (at_ t x) j) := by blk_point [iblk, idx t]
  rw [← tab_c m c, ← h]
  pointwise [k0_pay4]

theorem blk_s (t : Fin cfg0.N) (x : Fin 1024) (j : Fin 128) : k0_pay5 (F := Ideal) (iblk m c 4 t) (ix2 x j) = if j.val % 64 < 32 then -S (at_ t x) j else S (at_ t x) j := by
  have h : iblk m c 4 t (ix2 x j) = V m c main_v41 (ix2 (at_ t x) j) := by blk_point [iblk, idx t]
  rw [← tab_s m c, ← h]
  pointwise [k0_pay5]

/-- A lane's partner has the same angle. -/
theorem S_partner (t : Fin 8192) (i j : Fin 128) (h : i.val % 32 = j.val % 32) (h' : i.val / 64 = j.val / 64) : S t i = S t j := by
  unfold S
  have e : (i.val < 64) = (j.val < 64) := by rw [eq_iff_iff]; omega
  simp only [h, e]

theorem turned_at (t : Fin cfg0.N) (g : Fin 4) (x : Fin 1024) (j : Fin 128) : turned m c t g (ix2 x j)
    = val_main_v123 (F := Ideal) (m ((c : Thread nD τ).loc main_arg0)) (ix3 (at_ t x) (hd t g) j) := by
  have hb := j.isLt
  have hc : ∀ k, mulf (F := Ideal) (φ := .f32) (sides (iblk m c 0 t) g) (k0_pay4 (iblk m c 3 t)) (ix2 x k)
      = ct (m ((c : Thread nD τ).loc main_arg0)) (at_ t x) (hd t g) k * C (at_ t x) k := fun k => by rw [← blk_d m c, ← blk_c m c]; rfl
  have hs : ∀ k : Fin 128, mulf (F := Ideal) (φ := .f32) (sides (iblk m c 0 t) g) (k0_pay5 (iblk m c 4 t)) (ix2 x k)
      = ct (m ((c : Thread nD τ).loc main_arg0)) (at_ t x) (hd t g) k * (if k.val % 64 < 32 then -S (at_ t x) k else S (at_ t x) k) := fun k => by rw [← blk_d m c, ← blk_s m c]; rfl
  unfold turned turn
  refine (Cert.KBwdIdeal.Whole.swap_at _ _ x j).trans ?_
  rw [hc]
  by_cases h : j.val % 64 < 32
  · rw [dif_pos h, hs, dn_low _ _ _ _ h, if_neg (by dsimp only; omega), S_partner _ _ j (by dsimp only; omega) (by dsimp only; omega)]
  · rw [dif_neg h, hs, dn_high _ _ _ _ h, if_pos (by dsimp only; omega), S_partner _ _ j (by dsimp only; omega) (by dsimp only; omega)]

theorem grad_at (t : Fin cfg0.N) (g : Fin 4) (x : Fin 1024) (j : Fin 128) : grad (iblk m c 2 t) (heads (iblk m c 1 t) g) (turned m c t g) (ix2 x j)
    = val_main_v146 (F := Ideal) (m ((c : Thread nD τ).loc main_arg0)) (m ((c : Thread nD τ).loc main_arg1)) (m ((c : Thread nD τ).loc main_arg2))
        (ix2 (at_ t x) ⟨(hd t g).val * 128 + j.val, by have := (hd t g).isLt; omega⟩) := by
  rw [dx_at]
  simp only [← turned_at, ← blk_x, ← blk_g m c t]
  unfold grad k0_pay10 k0_pay9 squares
  generalize turned m c t g = y
  generalize heads (iblk m c 1 t) g = x
  pointwise

theorem final5 : (dats m 0 c).arrAt 5 (cfgs 0).N
    = val_main_v146 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  have hN := lt_of_lt_of_eq t.isLt N_0
  have e : (outsAt0 m c t.val t.isLt).1 = block m c t := by
    by_cases h0 : t.val % 32 = 0
    · rw [outs_A m c t h0 (by omega)]
    · rw [outs_B m c t h0 (by omega)]
  blk_simp
  rw [after0_5, e]
  obtain ⟨x, j, rfl⟩ : ∃ x j, y = ix2 x j := ⟨y 0, y 1, eq_ix2 _⟩
  have hb : j.val < 512 := j.isLt
  have he : (win0_5.blk t).view.emb (ix2 x j) = ix2 (at_ t x) ⟨(hd t ⟨j.val / 128, by omega⟩).val * 128 + j.val % 128, by dsimp only; omega⟩ := by blk_ext [idx t]
  rw [he]
  refine Eq.trans ?_ (grad_at m c t ⟨j.val / 128, by omega⟩ x ⟨j.val % 128, by omega⟩)
  unfold block
  rw [four_at]

/-- The last point. -/
abbrev t0_last : Fin cfg0.N := ⟨31, by rw [show cfg0.N = 32 from N_0]; decide⟩

theorem parts6 : (dats m 0 c).arrAt 6 (cfgs 0).N = fun j => ∑ t : Fin cfg0.N, parts m c t j := by
  refine (dats m 0 c).arrAt_eq_of_after_last 6 t0_last (by decide +kernel) _ (fun j => ?_)
  blk_simp
  rw [after0_6, Pipeline.eq_sum_fin_of_reset_step_apply_last (fun n h => (outsAt0 m c n h).2) 32 (fun _ => 0) (parts m c)
    (fun t h j => by have := lt_of_lt_of_eq t.isLt N_0; rw [outs_A m c t h (by omega), zero_add])
    (fun t h j => by have := lt_of_lt_of_eq t.isLt N_0; rw [outs_B m c t h (by omega)])
    (le_of_eq N_0) t0_last rfl j, zero_add]

/-- A point's part is the sum over its four heads, its rows taken by eights. -/
theorem parts_at (t : Fin cfg0.N) (s : Fin 8) (l : Fin 128) : parts m c t (ix2 s l)
    = ∑ g : Fin 4, ∑ i : Fin 128, term (m ((c : Thread nD τ).loc main_arg0)) (m ((c : Thread nD τ).loc main_arg1)) l (at_ t ⟨i.val * 8 + s.val, by omega⟩) (hd t g) := by
  have h : ∀ g, part m c t g (ix2 s l) = ∑ i : Fin 128, term (m ((c : Thread nD τ).loc main_arg0)) (m ((c : Thread nD τ).loc main_arg1)) l (at_ t ⟨i.val * 8 + s.val, by omega⟩) (hd t g) := by
    intro g
    unfold term
    simp only [← turned_at, ← blk_x]
    unfold part gain k0_pay11 k0_pay9 squares
    generalize turned m c t g = y
    generalize heads (iblk m c 1 t) g = x
    pointwise
  simp only [← h]
  rw [Fin.sum_univ_four]
  rfl

theorem tail6 : Pipeline.afterTail₀ cfgs (dats m) 0 (V0 m) [hostOps1] c main_v44
    = val_main_v144 (F := Ideal) (m ((c : Thread nD τ).loc main_arg0)) (m ((c : Thread nD τ).loc main_arg1)) := by
  show StableHlo.after hostOps1 _ _ = _
  unfold hostOps1
  after_results_simp
  rw [show Pipeline.withArrays (cfgs 0).spec c (V0 m c) (fun w => (dats m 0 c).arrAt w (cfgs 0).N) (Proc.tc.devRef main_v42_1)
    = _ from withArrays_alone spec0 c (V0 m c) (fun w => (dats m 0 c).arrAt w (cfgs 0).N) 6 (by decide)]
  rw [parts6]
  funext y
  obtain ⟨l, rfl⟩ : ∃ l, y = ix2 0 l := ⟨y 1, by rw [eq_ix2 y]; congr 1; exact Subsingleton.elim _ _⟩
  rw [dg_at]
  have h := parts_at m c
  generalize parts m c = p at *
  pointwise
  simp only [h]
  rw [Finset.sum_comm (s := (Finset.univ : Finset (Fin 8192)))]
  simp only [Fin.sum_univ_tiles 4 8 (show 4 * 8 = cfg0.N from N_0.symm), Fin.sum_univ_tiles 4 4 (show 4 * 4 = 16 from rfl)]
  rw [Finset.sum_comm]
  refine Finset.sum_congr rfl fun u _ => ?_
  rw [Finset.sum_congr rfl fun s _ => Finset.sum_comm, Finset.sum_comm]
  refine Finset.sum_congr rfl fun g _ => ?_
  refine sum_rows_congr (fun s t i hl => ?_) (by decide)
  exact congrArg₂ (term _ _ l) (Fin.ext (by dsimp only; omega)) (Fin.ext (by dsimp only; omega))

end Cert.QBwdIdeal.Whole

end
-- ==== Proof.AttnSums.lean ====
/- The attention's running sums over the reals: what they come to whatever the row's running maximum. -/
module

public import proofs.«01_k».proof.Proof.Softmax
public import Idealize.ShloMosaic.Lib.Pipeline.ValueKit

@[expose] public section

noncomputable section

open Idealize.ShloMosaic
open scoped BigOperators

namespace Cert.Softmax

/-- A key's weight in base two, relative to `M`. -/
def wt2 (x M : ℝ) : ℝ := Real.rpow 2 (x / Real.log 2 - M)

theorem wt2_exp (x M : ℝ) : wt2 x M = Real.exp (x - M * Real.log 2) := by
  have h := log_two_pos.ne'
  show (2 : ℝ) ^ (x / Real.log 2 - M) = _
  rw [Real.rpow_def_of_pos (by norm_num)]
  congr 1
  field_simp

theorem wt2_shift (x M M' : ℝ) : wt2 x M' = Real.rpow 2 (M - M') * wt2 x M := by
  show (2 : ℝ) ^ (x / Real.log 2 - M') = (2 : ℝ) ^ (M - M') * (2 : ℝ) ^ (x / Real.log 2 - M)
  rw [← Real.rpow_add (by norm_num)]
  congr 1
  ring

/-- The key at position `i` of block `b`. -/
abbrev keyAt (b : ℕ) (hb : b < 8) (i : Fin 1024) : Fin 8192 := ⟨b * 1024 + i.val, by omega⟩

/-- One block's weighted sum, and the sum of the first `n` blocks'. -/
def part (s v : Fin 8192 → ℝ) (M : ℝ) (b : ℕ) : ℝ := if hb : b < 8 then ∑ i, v (keyAt b hb i) * wt2 (s (keyAt b hb i)) M else 0
def parts (s v : Fin 8192 → ℝ) (M : ℝ) (n : ℕ) : ℝ := ∑ b ∈ Finset.range n, part s v M b

theorem part_shift (s v : Fin 8192 → ℝ) (M M' : ℝ) (b : ℕ) : part s v M' b = Real.rpow 2 (M - M') * part s v M b := by
  unfold part
  split
  · rw [Finset.mul_sum]
    refine Finset.sum_congr rfl fun i _ => ?_
    rw [wt2_shift _ M M']; ring
  · simp

theorem parts_succ (s v : Fin 8192 → ℝ) (M M' : ℝ) (n : ℕ) : Real.rpow 2 (M - M') * parts s v M n + part s v M' n = parts s v M' (n + 1) := by
  rw [parts, parts, Finset.sum_range_succ, Finset.mul_sum]
  simp only [part_shift s v M M']

theorem parts_one (s v : Fin 8192 → ℝ) (M : ℝ) : part s v M 0 = parts s v M 1 := by simp [parts]

/-- All blocks together, as one sum over the keys. -/
theorem parts_all (s v : Fin 8192 → ℝ) (M : ℝ) : parts s v M 8 = (∑ k, v k * Real.exp (s k - top s)) * Real.exp (top s - M * Real.log 2) := by
  have e : parts s v M 8 = ∑ k, v k * wt2 (s k) M := by
    rw [parts, Finset.sum_range]
    rw [Fin.sum_univ_tiles 8 1024 (by norm_num) fun k : Fin 8192 => v k * wt2 (s k) M]
    refine Finset.sum_congr rfl fun b _ => ?_
    rw [part, dif_pos b.isLt]
  rw [e, Finset.sum_mul]
  refine Finset.sum_congr rfl fun k _ => ?_
  rw [wt2_exp, mul_assoc, ← Real.exp_add]
  congr 2
  ring

theorem parts_ones (s : Fin 8192 → ℝ) (M : ℝ) : parts s (fun _ => 1) M 8 = total s * Real.exp (top s - M * Real.log 2) := by
  rw [parts_all, total]; simp only [one_mul]

theorem parts_ones_pos (s : Fin 8192 → ℝ) (M : ℝ) : 0 < parts s (fun _ => 1) M 8 := by
  rw [parts_ones]; exact mul_pos (total_pos s) (Real.exp_pos _)

theorem parts_out (s v : Fin 8192 → ℝ) (M : ℝ) : parts s v M 8 * (parts s (fun _ => 1) M 8)⁻¹ = ∑ k, prob s k * v k := by
  have h := (total_pos s).ne'
  have h' := (Real.exp_pos (top s - M * Real.log 2)).ne'
  rw [parts_ones, parts_all, mul_inv, ← mul_assoc, mul_right_comm, mul_assoc _ (Real.exp _), mul_inv_cancel₀ h', mul_one, Finset.sum_mul]
  exact Finset.sum_congr rfl fun k _ => by rw [prob]; ring

theorem parts_lse (s : Fin 8192 → ℝ) (M : ℝ) : M + Real.log (parts s (fun _ => 1) M 8) * (Real.log 2)⁻¹ = lse s := by
  have h := log_two_pos.ne'
  rw [parts_ones, Real.log_mul (total_pos s).ne' (Real.exp_pos _).ne', Real.log_exp, lse]
  field_simp
  ring

/-- The greater of a real, or of nothing, and of a row of reals is a real. -/
theorem exists_max {n : ℕ} [NeZero n] (x : EReal) (s : Fin n → ℝ) (h : x = ⊥ ∨ ∃ r : ℝ, x = (r : EReal)) :
    ∃ M : ℝ, max x ((top s : ℝ) : EReal) = (M : EReal) := by
  rcases h with h | ⟨r, h⟩
  · exact ⟨top s, by rw [h]; exact max_eq_right bot_le⟩
  · exact ⟨max r (top s), by rw [h]; exact (EReal.coe_strictMono.monotone.map_max (a := r) (b := top s)).symm⟩

theorem first_weight (M : ℝ) : Ideal.exp2 ((⊥ : EReal) - (M : EReal)) = 0 := by
  rw [EReal.bot_sub, Ideal.exp2_bot]

theorem weight_coe (x M : ℝ) : Ideal.exp2 (((x / Real.log 2 : ℝ) : EReal) - (M : EReal)) = ((wt2 x M : ℝ) : EReal) := by
  rw [← EReal.coe_sub, Ideal.exp2_coe]; rfl

theorem shift_coe (M M' : ℝ) : Ideal.exp2 ((M : EReal) - (M' : EReal)) = ((Real.rpow 2 (M - M') : ℝ) : EReal) := by
  rw [← EReal.coe_sub, Ideal.exp2_coe]

end Cert.Softmax

end
-- ==== Proof.AttnRef.lean ====
/- The attention as the reference writes it: at finite arguments each of its steps is a step of the real attention. -/
module

public import proofs.«01_k».proof.Proof.Gen.AttnRefIdeal.Read
public import proofs.«01_k».proof.Proof.FlashParts

@[expose] public section

set_option maxRecDepth 16384

noncomputable section

namespace Cert.AttnRefIdeal.Hand

open Idealize.ShloMosaic Idealize.ShloMosaic.TcCoe
open scoped BigOperators
open Cert.AttnRefIdeal Cert.AttnRefIdeal.Gen Cert.AttnRefIdeal.Read Cert.Softmax

/-- Each head's queries, keys and values are these reals. -/
structure Heads (x0 : FVec Ideal S8192x2048 .f32) (x1 : FVec Ideal S8192x512 .f32) (x2 : FVec Ideal S8192x9216 .f32) (Q K V : Fin 16 → Fin 8192 → Fin 128 → ℝ) : Prop where
  q : ∀ (h : Fin 16) (q : Fin 8192) (j : Fin 128) (p), x0 (ix2 q ⟨h.val * 128 + j.val, p⟩) = ((Q h q j : ℝ) : EReal)
  k : ∀ (h : Fin 16) (k : Fin 8192) (j : Fin 128) (p), x1 (ix2 k ⟨h.val / 4 * 128 + j.val, p⟩) = ((K h k j : ℝ) : EReal)
  v : ∀ (h : Fin 16) (k : Fin 8192) (j : Fin 128) (p), x2 (ix2 k ⟨4608 + (h.val / 4 * 128 + j.val), p⟩) = ((V h k j : ℝ) : EReal)

variable {x0 : FVec Ideal S8192x2048 .f32} {x1 : FVec Ideal S8192x512 .f32} {x2 : FVec Ideal S8192x9216 .f32}
variable {Q K V : Fin 16 → Fin 8192 → Fin 128 → ℝ} (H : Heads x0 x1 x2 Q K V) (h : Fin 16) (q : Fin 8192)
include H

theorem score (k : Fin 8192) : val_main_v13 (F := Ideal) x0 x1 (ix3 h q k) = ((scores (Q h q) (K h) k : ℝ) : EReal) := by
  have h0 := H.q h q; have h1 := H.k h k
  unfold val_main_v13 val_main_v12 val_main_cst val_main_v11 val_main_v10 val_main_v9 val_main_v3 val_main_v2 val_main_v1 val_main_v0
  pointwise
  simp only [h0, h1, dot_coe, scale_coe, scores_coe]

theorem value (k : Fin 8192) (j : Fin 128) : val_main_v8 (F := Ideal) x2 (ix3 h k j) = ((V h k j : ℝ) : EReal) := by
  have h0 := H.v h k
  unfold val_main_v8 val_main_v7 val_main_v6 val_main_v5 val_main_v4
  pointwise
  simp only [h0]

theorem greatest : val_main_v14 (F := Ideal) x0 x1 (ix2 h q) = ((top (scores (Q h q) (K h)) : ℝ) : EReal) := by
  exact Cert.FlashBwdIdeal.Hand.top_of (val_main_v13 (F := Ideal) x0 x1) h q _ (score H h q)

theorem greatest' : val_main_v28 (F := Ideal) x0 x1 (ix2 h q) = ((top (scores (Q h q) (K h)) : ℝ) : EReal) := by
  exact Cert.FlashBwdIdeal.Hand.top_of (val_main_v13 (F := Ideal) x0 x1) h q _ (score H h q)

omit H in
theorem top_again (x : FVec Ideal S16x8192 .f32) (i : S16x8192.Idx) (s : Fin 8192 → ℝ) (hx : x i = ((top s : ℝ) : EReal)) :
    maximumf (val_main_v15 (F := Ideal)) x i = ((top s : ℝ) : EReal) := by
  show max (val_main_v15 (F := Ideal) i : EReal) (x i : EReal) = _
  rw [hx, show (val_main_v15 (F := Ideal) i : EReal) = ⊥ from negInf]
  exact max_eq_right bot_le

theorem bounded : val_main_v16 (F := Ideal) x0 x1 (ix2 h q) = ((top (scores (Q h q) (K h)) : ℝ) : EReal) :=
  top_again _ _ _ (greatest H h q)

theorem weight (k : Fin 8192) : val_main_v20 (F := Ideal) x0 x1 (ix3 h q k) = ((Real.exp (scores (Q h q) (K h) k - top (scores (Q h q) (K h))) : ℝ) : EReal) := by
  exact Cert.FlashBwdIdeal.Hand.wt_of (val_main_v13 (F := Ideal) x0 x1) (val_main_v16 (F := Ideal) x0 x1) h q k _ (score H h q) (bounded H h q)

theorem weight' (k : Fin 8192) : val_main_v32 (F := Ideal) x0 x1 (ix3 h q k) = ((Real.exp (scores (Q h q) (K h) k - top (scores (Q h q) (K h))) : ℝ) : EReal) := by
  exact Cert.FlashBwdIdeal.Hand.wt_of (val_main_v13 (F := Ideal) x0 x1) (val_main_v28 (F := Ideal) x0 x1) h q k _ (score H h q) (greatest' H h q)

theorem sum : val_main_v21 (F := Ideal) x0 x1 (ix2 h q) = ((total (scores (Q h q) (K h)) : ℝ) : EReal) := by
  exact Cert.FlashBwdIdeal.Hand.total_of (val_main_v20 (F := Ideal) x0 x1) h q _ (weight H h q)

theorem sum' : val_main_v33 (F := Ideal) x0 x1 (ix2 h q) = ((total (scores (Q h q) (K h)) : ℝ) : EReal) := by
  exact Cert.FlashBwdIdeal.Hand.total_of (val_main_v32 (F := Ideal) x0 x1) h q _ (weight' H h q)

theorem share (k : Fin 8192) : val_main_v24 (F := Ideal) x0 x1 (ix3 h q k) = ((prob (scores (Q h q) (K h)) k : ℝ) : EReal) := by
  exact Cert.FlashBwdIdeal.Hand.prob_of (val_main_v20 (F := Ideal) x0 x1) (val_main_v21 (F := Ideal) x0 x1) h q k _ (weight H h q k) (sum H h q)

theorem head (j : Fin 128) : val_main_v25 (F := Ideal) x0 x1 x2 (ix3 h q j) = ((dot (prob (scores (Q h q) (K h))) fun k => V h k j : ℝ) : EReal) := by
  exact Cert.FlashBwdIdeal.Hand.out_of (val_main_v24 (F := Ideal) x0 x1) (val_main_v8 (F := Ideal) x2) h q j _ (V h) (share H h q) (value H h)

/-- The reference's outputs. -/
theorem result (j : Fin 128) (p) : val_main_v27 (F := Ideal) x0 x1 x2 (ix2 q ⟨h.val * 128 + j.val, p⟩) = ((dot (prob (scores (Q h q) (K h))) fun k => V h k j : ℝ) : EReal) := by
  have h0 := head H h q j
  unfold val_main_v27 val_main_v26
  generalize val_main_v25 (F := Ideal) x0 x1 x2 = y at *
  pointwise
  simp only [h0]

omit H in
/-- The rows' logarithms from their greatest scores and their sums. -/
theorem logs_of (t l : FVec Ideal S16x8192 .f32) (r : Fin 8) (s : Fin 8192 → ℝ) (ht : t (ix2 h q) = ((top s : ℝ) : EReal)) (hl : l (ix2 h q) = ((total s : ℝ) : EReal)) :
    broadcastInDim S16x8x8192 ![0, 1, 2] bcast_S16x1x8192_S16x8x8192_0_1_2 (broadcastInDim S16x1x8192 ![0, 2] bcast_S16x8192_S16x1x8192_0_2
      (Host.divf (addf t (Host.log l)) (broadcastInDim S16x8192 ![] bcast_S_S16x8192 (Host.log (constant S_ .f32 0x40000000#32))))) (ix3 h r q) = ((lse s : ℝ) : EReal) := by
  pointwise
  simp only [ht, hl, log_two, lse_coe]

/-- They are the reference's second output, the same in each of the eight rows they fill. -/
theorem logSum (r : Fin 8) : val_main_v40 (F := Ideal) x0 x1 (ix3 h r q) = ((lse (scores (Q h q) (K h)) : ℝ) : EReal) :=
  logs_of h q _ _ r _ (greatest' H h q) (sum' H h q)

end Cert.AttnRefIdeal.Hand

end
-- ==== Proof.AttnParts.lean ====
/- The attention's kernel at finite arguments: its blocks, and one block of keys' step of the running sums. -/
module

public import proofs.«01_k».proof.Proof.Gen.AttnIdeal.Frame
public import proofs.«01_k».proof.Proof.AttnSums
public import proofs.«01_k».proof.Proof.AttnRef
public import Idealize.ShloMosaic.Lib.Pipeline.ValueKit
public import Idealize.ShloMosaic.Lib.StableHlo.RunRead

@[expose] public section

set_option maxRecDepth 16384

noncomputable section

namespace Cert.AttnIdeal.Hand

open Cert.AttnIdeal Cert.AttnIdeal.Gen Cert.Softmax Cert.AttnRefIdeal.Hand
open Cert.FlashBwdIdeal.Hand (qAt kAt qCol kCol vCol)
open Idealize.ShloMosaic Idealize.ShloMosaic.TcCoe
open scoped BigOperators
variable (m : (ℓ : Loc nD τ sig) → Buf (Elt Ideal) ℓ) (c : Dev nD)

/-- The point of head `h`, block of queries `s` and block of keys `b`. -/
def pt (h : Fin 16) (s : Fin 4) (b : Fin 8) : Fin cfg0.N := ⟨h.val * 32 + s.val * 8 + b.val, by have : cfg0.N = 512 := N_0; omega⟩

theorem idx : ∀ (h : Fin 16) (s : Fin 4) (b : Fin 8), win0_0.index (pt h s b) = ![s.val, h.val] ∧ win0_1.index (pt h s b) = ![b.val, h.val / 4]
    ∧ win0_2.index (pt h s b) = ![h.val / 4, b.val] ∧ win0_3.index (pt h s b) = ![s.val, h.val] ∧ win0_4.index (pt h s b) = ![h.val, 0, s.val] := by
  decide +kernel

/-- A row of the transposed values, after each head's 128 the rows of ones. -/
abbrev vRow (h : Fin 16) (j : Fin 144) : Fin 576 := ⟨h.val / 4 * 144 + j.val, by omega⟩

theorem blk0 (h : Fin 16) (s : Fin 4) (b : Fin 8) (x : Fin 2048) (j : Fin 128) :
    iblk m c 0 (pt h s b) (ix2 x j) = V m c main_v12 (ix2 (qAt s x) (qCol h j)) := by
  blk_point [iblk, idx h s b]
theorem blk1 (h : Fin 16) (s : Fin 4) (b : Fin 8) (i : Fin 1024) (j : Fin 128) :
    iblk m c 1 (pt h s b) (ix2 i j) = V m c main_v13 (ix2 (kAt b i) (kCol h j)) := by
  blk_point [iblk, idx h s b]
theorem blk2 (h : Fin 16) (s : Fin 4) (b : Fin 8) (i : Fin 1024) (j : Fin 144) :
    iblk m c 2 (pt h s b) (ix2 j i) = V m c main_v6 (ix2 (vRow h j) (kAt b i)) := by
  blk_point [iblk, idx h s b]

theorem cut (n : ℕ) (b : Ref sig .tc) : V m c b = StableHlo.after (hostOps0.drop n) (StableHlo.after (hostOps0.take n) fun b => m (c, b)) b := by
  rw [← StableHlo.after_append, List.take_append_drop]

/-- Values over ones, head by head. -/
def stacked (v : FVec Ideal S4x128x8192 .bf16) (w : FVec Ideal S4x16x8192 .bf16) : FVec Ideal S576x8192 .bf16 :=
  shapeCast _ (concatenate S4x144x8192 1 [⟨S4x128x8192, v⟩, ⟨S4x16x8192, w⟩] concatenates_S4x128x8192_S4x16x8192_S4x144x8192_d1) shapeCasts_S4x144x8192_S576x8192

theorem v6_eq : V m c main_v6 = stacked (V m c main_v3) (V m c main_v4) := by
  rw [cut m c 6 main_v6, cut m c 6 main_v3, cut m c 6 main_v4]
  unfold stacked
  generalize StableHlo.after ((hostOps0 (F := Ideal)).take 6) _ = W
  simp only [hostOps0, List.drop_succ_cons, List.drop_zero]
  after_reads_simp
  rfl

theorem stacked_value (v : FVec Ideal S4x128x8192 .bf16) (w : FVec Ideal S4x16x8192 .bf16) (h : Fin 16) (j : Fin 144) (k : Fin 8192) (p : j.val < 128) :
    stacked v w (ix2 (vRow h j) k) = v (ix3 (⟨h.val / 4, by omega⟩ : Fin 4) ⟨j.val, p⟩ k) := by
  have e : (h.val / 4 * 144 + j.val) % 144 = j.val := by omega
  unfold stacked
  pointwise
  rw [dif_pos (by omega)]
  blk_ext

theorem stacked_one (v : FVec Ideal S4x128x8192 .bf16) (w : FVec Ideal S4x16x8192 .bf16) (h : Fin 16) (j : Fin 144) (k : Fin 8192) (p : ¬j.val < 128) :
    stacked v w (ix2 (vRow h j) k) = w (ix3 (⟨h.val / 4, by omega⟩ : Fin 4) ⟨j.val - 128, by omega⟩ k) := by
  have e : (h.val / 4 * 144 + j.val) % 144 = j.val := by omega
  unfold stacked
  pointwise
  rw [dif_neg (by omega)]
  blk_ext

variable {m c}
variable {Q K W : Fin 16 → Fin 8192 → Fin 128 → ℝ}
  (H : Heads (m ((c : Thread nD τ).loc main_arg0)) (m ((c : Thread nD τ).loc main_arg1)) (m ((c : Thread nD τ).loc main_arg2)) Q K W)
include H

theorem query (h : Fin 16) (s : Fin 4) (b : Fin 8) (x : Fin 2048) (j : Fin 128) : (iblk m c 0 (pt h s b) (ix2 x j) : EReal) = (base2 (Q h (qAt s x)) j : EReal) := by
  have h0 := H.q h (qAt s x)
  rw [blk0]
  entry_read
  pointwise
  simp only [h0, scale_coe, log_two, base2_coe]

theorem key (h : Fin 16) (s : Fin 4) (b : Fin 8) (i : Fin 1024) (j : Fin 128) : (iblk m c 1 (pt h s b) (ix2 i j) : EReal) = (K h (kAt b i) j : EReal) := by
  have h0 := H.k h (kAt b i)
  rw [blk1]
  entry_read
  pointwise
  simp only [h0]

/-- A key's row of values, then of ones. -/
def rowOf (W : Fin 8192 → Fin 128 → ℝ) (j : Fin 144) (k : Fin 8192) : ℝ := if p : j.val < 128 then W k ⟨j.val, p⟩ else 1

theorem val (h : Fin 16) (s : Fin 4) (b : Fin 8) (i : Fin 1024) (j : Fin 144) : (iblk m c 2 (pt h s b) (ix2 j i) : EReal) = (rowOf (W h) j (kAt b i) : EReal) := by
  have h0 := H.v h (kAt b i)
  rw [blk2, v6_eq]
  by_cases p : j.val < 128
  · rw [stacked_value _ _ h j _ p, rowOf, dif_pos p]
    entry_read
    pointwise
    exact h0 ⟨j.val, p⟩ _
  · rw [stacked_one _ _ h j _ p, rowOf, dif_neg p]
    entry_read
    pointwise
    exact EReal.coe_one.symm

end Cert.AttnIdeal.Hand

end
-- ==== Proof.AttnSteps.lean ====
/- The attention's kernel at finite arguments: the running sums after each block of keys, and the outputs after the last. -/
module

public import proofs.«01_k».proof.Proof.AttnParts
public import Idealize.ShloMosaic.Lib.Pipeline.ReadBack

@[expose] public section

set_option maxRecDepth 16384

noncomputable section

namespace Cert.AttnIdeal.Hand

open Cert.AttnIdeal Cert.AttnIdeal.Gen Cert.Softmax Cert.AttnRefIdeal.Hand
open Cert.FlashBwdIdeal.Hand (qAt kAt qCol kCol vCol)
open Idealize.ShloMosaic Idealize.ShloMosaic.TcCoe
open scoped BigOperators

section Payloads
variable (k : Vec Ideal S1024x128 .bf16) (q : Vec Ideal S2048x128 .bf16) (t : Vec Ideal S1x2048 .f32) (a : Vec Ideal S144x2048 .f32) (v : Vec Ideal S144x1024 .bf16)

theorem pay5_at (x : Fin 2048) (K : Fin 1024 → Fin 128 → ℝ) (Q : Fin 128 → ℝ) (hK : ∀ i j, k (ix2 i j) = (K i j : EReal)) (hQ : ∀ j, q (ix2 x j) = (Q j : EReal)) (i : Fin 1024) :
    k0_pay5 k q (ix2 i x) = ((dot (K i) Q : ℝ) : EReal) := by
  unfold k0_pay5
  pointwise
  simp only [hK, hQ, dot_coe]

theorem column_max {a b : ℕ} [NeZero a] (y : FVec Ideal (⟨2, ![a, b]⟩ : Shape) .f32) (h : (⟨2, ![a, b]⟩ : Shape).Reduces [0] (⟨1, ![b]⟩ : Shape)) (hf) (hn)
    (x : Fin b) (s : Fin a → ℝ) (hs : ∀ i, y (ix2 i x) = (s i : EReal)) :
    multiReduction .maximumf [0] (⟨1, ![b]⟩ : Shape) y 0xFF800000#32 h hf hn (ix1 x) = ((top s : ℝ) : EReal) := by
  rw [multiReduction_maximumf_eq_fold, h.fold_fiber_r2_a0]
  refine Eq.trans ?_ (top_coe s)
  have e : (fun i : Fin a => y (ix2 i x)) = fun i => (s i : EReal) := funext hs
  exact congrArg₂ (fun (c : EReal) (f : Fin a → EReal) => Finset.univ.fold max c f) negInf e

theorem pay6_at (x : Fin 2048) (s : Fin 1024 → ℝ) (hs : ∀ i, k0_pay5 k q (ix2 i x) = (s i : EReal)) :
    k0_pay6 k q t (ix2 0 x) = max (t (ix2 0 x) : EReal) ((top s : ℝ) : EReal) := by
  have e := column_max (k0_pay5 k q) reduces_S1024x2048_S2048 (.inl rfl) rfl x s hs
  unfold k0_pay6
  generalize multiReduction .maximumf [0] S2048 (k0_pay5 k q) 0xFF800000#32 reduces_S1024x2048_S2048 (.inl rfl) rfl = w at *
  pointwise
  rw [e]

theorem pay7_at (j : Fin 144) (x : Fin 2048) :
    k0_pay7 k q t a v (ix2 j x) = Ideal.exp2 ((t (ix2 0 x) : EReal) - k0_pay6 k q t (ix2 0 x)) * a (ix2 j x)
      + ∑ i : Fin 1024, v (ix2 j i) * Ideal.exp2 (k0_pay5 k q (ix2 i x) - k0_pay6 k q t (ix2 0 x)) := by
  unfold k0_pay7
  generalize k0_pay5 k q = y
  generalize k0_pay6 k q t = w
  pointwise
  rfl

theorem pay8_at (x : Fin 2048) : k0_pay8 k q t (ix2 0 x) = k0_pay6 k q t (ix2 0 x) := by
  unfold k0_pay8
  generalize k0_pay6 k q t = w
  pointwise

theorem pay3_at (x : Fin 2048) : k0_pay3 (F := Ideal) (ix2 0 x) = (⊥ : EReal) := by
  unfold k0_pay3
  pointwise
  rfl

theorem pay4_at (j : Fin 144) (x : Fin 2048) : k0_pay4 (F := Ideal) (ix2 j x) = (0 : EReal) := by
  unfold k0_pay4
  pointwise

theorem pay1_at (l : Vec Ideal S1x2048 .f32) (b : Vec Ideal S128x2048 .f32) (x : Fin 2048) (j : Fin 128) :
    k0_pay1 l b (ix2 x j) = Ideal.div (b (ix2 j x)) (l (ix2 0 x)) := by
  unfold k0_pay1
  pointwise

theorem log2e_def : (Named.named (F := Ideal) κ "log2e" (φ := .f32) 0x3FB8AA3B#32 : EReal) = (((Real.log 2)⁻¹ : ℝ) : EReal) := rfl

theorem pay2_at (l t : Vec Ideal S1x2048 .f32) (r : Fin 8) (x : Fin 2048) :
    k0_pay2 l t (ix3 0 r x) = (t (ix2 0 x) : EReal) + Ideal.log (l (ix2 0 x)) * (((Real.log 2)⁻¹ : ℝ) : EReal) := by
  unfold k0_pay2
  pointwise
  rw [log2e_def]

end Payloads

/-- A query's running maximum is a real `M`, and its running sums are relative to it. -/
def Sums (s : Fin 8192 → ℝ) (W : Fin 8192 → Fin 128 → ℝ) (n : ℕ) (x : Fin 2048) (t : Vec Ideal S1x2048 .f32) (a : Vec Ideal S144x2048 .f32) : Prop :=
  ∃ M : ℝ, t (ix2 0 x) = (M : EReal) ∧ ∀ j, a (ix2 j x) = ((parts s (rowOf W j) M n : ℝ) : EReal)

section Step
variable {m : (ℓ : Loc nD τ sig) → Buf (Elt Ideal) ℓ} {c : Dev nD}
variable {Q K W : Fin 16 → Fin 8192 → Fin 128 → ℝ}
  (H : Heads (m ((c : Thread nD τ).loc main_arg0)) (m ((c : Thread nD τ).loc main_arg1)) (m ((c : Thread nD τ).loc main_arg2)) Q K W)
  (h : Fin 16) (s : Fin 4) (b : Fin 8) (x : Fin 2048)

abbrev sc (Q K : Fin 16 → Fin 8192 → Fin 128 → ℝ) (h : Fin 16) (s : Fin 4) (x : Fin 2048) : Fin 8192 → ℝ := scores (Q h (qAt s x)) (K h)

include H
theorem point_score (i : Fin 1024) : k0_pay5 (iblk m c 1 (pt h s b)) (iblk m c 0 (pt h s b)) (ix2 i x) = ((sc Q K h s x (kAt b i) / Real.log 2 : ℝ) : EReal) := by
  rw [pay5_at _ _ x (fun i => K h (kAt b i)) (base2 (Q h (qAt s x))) (key H h s b) (query H h s b x) i, dot_base2]

omit H in
theorem block_sum (k : Vec Ideal S1024x128 .bf16) (q : Vec Ideal S2048x128 .bf16) (v : Vec Ideal S144x1024 .bf16) (j : Fin 144) (M : ℝ) (z w : Fin 8192 → ℝ)
    (hz : ∀ i, k0_pay5 k q (ix2 i x) = ((z (kAt b i) / Real.log 2 : ℝ) : EReal)) (hw : ∀ i, v (ix2 j i) = (w (kAt b i) : EReal)) :
    ∑ i : Fin 1024, v (ix2 j i) * Ideal.exp2 (k0_pay5 k q (ix2 i x) - (M : EReal)) = ((part z w M b.val : ℝ) : EReal) := by
  rw [part, dif_pos b.isLt, ← sum_coe]
  refine Finset.sum_congr rfl fun i _ => ?_
  rw [hz, hw, weight_coe, EReal.coe_mul]

/-- The first block of keys. -/
theorem first (hb : b.val = 0) :
    Sums (sc Q K h s x) (W h) (b.val + 1) x (k0_pay8 (iblk m c 1 (pt h s b)) (iblk m c 0 (pt h s b)) (k0_pay3 (F := Ideal)))
      (k0_pay7 (iblk m c 1 (pt h s b)) (iblk m c 0 (pt h s b)) (k0_pay3 (F := Ideal)) (k0_pay4 (F := Ideal)) (iblk m c 2 (pt h s b))) := by
  have e := pay6_at _ _ (k0_pay3 (F := Ideal)) x _ (point_score H h s b x)
  obtain ⟨M, hM⟩ := exists_max (k0_pay3 (F := Ideal) (ix2 0 x)) (fun i => sc Q K h s x (kAt b i) / Real.log 2) (.inl (pay3_at x))
  rw [hM] at e
  refine ⟨M, (pay8_at _ _ _ x).trans e, fun j => ?_⟩
  rw [pay7_at, e, block_sum b x _ _ (iblk m c 2 (pt h s b)) j M _ _ (point_score H h s b x) (val H h s b · j), pay3_at, pay4_at, mul_zero, zero_add, hb, parts_one]

/-- A later block. -/
theorem later (t : Vec Ideal S1x2048 .f32) (a : Vec Ideal S144x2048 .f32) (ht : Sums (sc Q K h s x) (W h) b.val x t a) :
    Sums (sc Q K h s x) (W h) (b.val + 1) x (k0_pay8 (iblk m c 1 (pt h s b)) (iblk m c 0 (pt h s b)) t)
      (k0_pay7 (iblk m c 1 (pt h s b)) (iblk m c 0 (pt h s b)) t a (iblk m c 2 (pt h s b))) := by
  obtain ⟨M, h0, h1⟩ := ht
  have e := pay6_at _ _ t x _ (point_score H h s b x)
  obtain ⟨M', hM⟩ := exists_max (t (ix2 0 x)) (fun i => sc Q K h s x (kAt b i) / Real.log 2) (.inr ⟨M, h0⟩)
  rw [hM] at e
  refine ⟨M', (pay8_at _ _ _ x).trans e, fun j => ?_⟩
  rw [pay7_at, e, block_sum b x _ _ (iblk m c 2 (pt h s b)) j M' _ _ (point_score H h s b x) (val H h s b · j), h0, h1, shift_coe, ← EReal.coe_mul, ← EReal.coe_add, parts_succ]

omit H
/-- What a later block of keys leaves in the scratch, from what the block before it left. -/
theorem left (b' : Fin 8) (hb : b.val = b'.val + 1) : (outsAt0 m c (pt h s b).val (pt h s b).isLt).2.2
    = (k0_pay8 (iblk m c 1 (pt h s b)) (iblk m c 0 (pt h s b)) (outsAt0 m c (pt h s b').val (pt h s b').isLt).2.2.1,
      k0_pay7 (iblk m c 1 (pt h s b)) (iblk m c 0 (pt h s b)) (outsAt0 m c (pt h s b').val (pt h s b').isLt).2.2.1
        (outsAt0 m c (pt h s b').val (pt h s b').isLt).2.2.2 (iblk m c 2 (pt h s b))) := by
  have e8 : (pt h s b).val % 8 = b.val := by simp only [pt]; omega
  have ep : (pt h s b).val - 1 = (pt h s b').val := by simp only [pt]; omega
  by_cases h7 : b.val = 7
  · rw [outsAt0_C m c (pt h s b) (by omega) (by omega)]
    simp only [ep]
    generalize outsAt0 m c (pt h s b').val (pt h s b').isLt = o
    refine Prod.ext ?_ ?_
    · frame_out; rw [read_unread_whole]
    · frame_out; rw [read_unread_whole, read_unread_whole]
  · rw [outsAt0_B m c (pt h s b) (by omega) (by omega)]
    simp only [ep]
    generalize outsAt0 m c (pt h s b').val (pt h s b').isLt = o
    refine Prod.ext ?_ ?_
    · frame_out; rw [read_unread_whole]
    · frame_out; rw [read_unread_whole, read_unread_whole]

/-- Reads of the scratch after a whole store: its last row of ones, and its values' rows. -/
theorem row_of (P : Vec Ideal S144x2048 .f32) (x : Fin 2048) :
    ((View.whole cc0_scratch1).readCov [⟨Rect.unit ![0, 0] ![144, 2048] inb_S144x2048_S144x2048_0_0, P⟩] (Rect.unit (s := S144x2048) ![128, 0] ![1, 2048] inb_S144x2048_S1x2048_128_0).toLoadRect : Vec Ideal S1x2048 .f32) (ix2 0 x)
      = P (ix2 (128 : Fin 144) x) := by
  refine (congrFun (View.readCov_fill _ inb_S144x2048_S144x2048_0_0 P [] _ (by decide)) _).trans ?_
  show P _ = P _
  congr 1
  idx_ext

theorem rows_of (P : Vec Ideal S144x2048 .f32) (j : Fin 128) (x : Fin 2048) :
    ((View.whole cc0_scratch1).readCov [⟨Rect.unit ![0, 0] ![144, 2048] inb_S144x2048_S144x2048_0_0, P⟩] (Rect.unit (s := S144x2048) ![0, 0] ![128, 2048] inb_S144x2048_S128x2048_0_0).toLoadRect : Vec Ideal S128x2048 .f32) (ix2 j x)
      = P (ix2 (⟨j.val, by omega⟩ : Fin 144) x) := by
  refine (congrFun (View.readCov_fill _ inb_S144x2048_S144x2048_0_0 P [] _ (by decide)) _).trans ?_
  show P _ = P _
  congr 1
  idx_ext

/-- A head's output and logarithm blocks, from what the last block of keys leaves. -/
theorem out_o (x : Fin 2048) (j : Fin 128) : (outsAt0 m c (pt h s 7).val (pt h s 7).isLt).1 (ix2 x j)
    = Ideal.div ((outsAt0 m c (pt h s 7).val (pt h s 7).isLt).2.2.2 (ix2 (⟨j.val, by omega⟩ : Fin 144) x)) ((outsAt0 m c (pt h s 7).val (pt h s 7).isLt).2.2.2 (ix2 (128 : Fin 144) x)) := by
  have e8 : (pt h s 7).val % 8 = 7 := by simp only [pt]; show (_ + _ + 7) % 8 = 7; omega
  rw [outsAt0_C m c (pt h s 7) (by omega) (by omega)]
  frame_out
  exact (pay1_at _ _ x j).trans (by rw [row_of, rows_of])

theorem out_l (x : Fin 2048) (r : Fin 8) : (outsAt0 m c (pt h s 7).val (pt h s 7).isLt).2.1 (ix3 0 r x)
    = ((outsAt0 m c (pt h s 7).val (pt h s 7).isLt).2.2.1 (ix2 0 x) : EReal) + Ideal.log ((outsAt0 m c (pt h s 7).val (pt h s 7).isLt).2.2.2 (ix2 (128 : Fin 144) x)) * (((Real.log 2)⁻¹ : ℝ) : EReal) := by
  have e8 : (pt h s 7).val % 8 = 7 := by simp only [pt]; show (_ + _ + 7) % 8 = 7; omega
  rw [outsAt0_C m c (pt h s 7) (by omega) (by omega)]
  frame_out
  exact (pay2_at _ _ r x).trans (by rw [row_of])

include H in
/-- The sums left by each block of keys. -/
theorem sums (n : ℕ) (hb : b.val = n) : Sums (sc Q K h s x) (W h) (b.val + 1) x
    (outsAt0 m c (pt h s b).val (pt h s b).isLt).2.2.1 (outsAt0 m c (pt h s b).val (pt h s b).isLt).2.2.2 := by
  induction n generalizing b with
  | zero =>
    have e8 : (pt h s b).val % 8 = 0 := by simp only [pt]; omega
    rw [outsAt0_A m c (pt h s b) e8 (by omega)]
    frame_out
    exact first H h s b x hb
  | succ n ih =>
    have hp := ih ⟨n, by omega⟩ rfl
    rw [left h s b ⟨n, by omega⟩ hb]
    rw [show (⟨n, by omega⟩ : Fin 8).val + 1 = b.val from hb.symm] at hp
    exact later H h s b x _ _ hp

include H in
/-- Each query's outputs are the attention's, and its logarithm. -/
theorem end_o (j : Fin 128) : (outsAt0 m c (pt h s 7).val (pt h s 7).isLt).1 (ix2 x j) = ((dot (prob (sc Q K h s x)) fun k => W h k j : ℝ) : EReal) := by
  obtain ⟨M, -, ha⟩ := sums H h s 7 x 7 rfl
  have eo : rowOf (W h) 128 = fun _ => 1 := funext fun k => dif_neg (by decide)
  have ej : rowOf (W h) ⟨j.val, by omega⟩ = fun k => W h k j := funext fun k => dif_pos j.isLt
  have hp : (parts (sc Q K h s x) (fun _ => 1) M 8 : ℝ) ≠ 0 := (parts_ones_pos _ M).ne'
  rw [out_o, ha, ha, eo, ej]
  refine (Cert.Reals.div_coe _ hp).trans ?_
  rw [← EReal.coe_mul]
  exact congrArg _ (parts_out _ _ M)

include H in
theorem end_l (r : Fin 8) : (outsAt0 m c (pt h s 7).val (pt h s 7).isLt).2.1 (ix3 0 r x) = ((lse (sc Q K h s x) : ℝ) : EReal) := by
  obtain ⟨M, hm, ha⟩ := sums H h s 7 x 7 rfl
  have eo : rowOf (W h) 128 = fun _ => 1 := funext fun k => dif_neg (by decide)
  have hp : 0 < (parts (sc Q K h s x) (fun _ => 1) M 8 : ℝ) := parts_ones_pos _ M
  rw [out_l, hm, ha, eo]
  refine Eq.trans (b := (M : EReal) + Ideal.log ((parts (sc Q K h s x) (fun _ => 1) M 8 : ℝ) : EReal) * (((Real.log 2)⁻¹ : ℝ) : EReal)) rfl ?_
  rw [Ideal.log_coe, if_neg hp.not_ge, ← EReal.coe_mul, ← EReal.coe_add]
  exact congrArg _ (parts_lse _ M)

end Step

end Cert.AttnIdeal.Hand

end
-- ==== Proof.AttnPre.lean ====
/- What the attention's precondition says of the arguments: every entry the kernel reads is a real number. -/
module

public import proofs.«01_k».proof.Defs
public import proofs.«01_k».proof.Proof.Finite

@[expose] public section

set_option maxRecDepth 16384

noncomputable section

namespace Cert.AttnPre

open Idealize.ShloMosaic Cert.Pre_finite_attn Cert.Finite

variable [Facts]

theorem reals (q : FVec Ideal S8192x2048 .f32) (k : FVec Ideal S8192x512 .f32) (z : FVec Ideal S8192x9216 .f32) (h : fn (F := Ideal) q k z = fun _ => 1#1) :
    (∀ i, (q i : EReal) = ((q i : EReal).toReal : EReal)) ∧ (∀ i, (k i : EReal) = ((k i : EReal).toReal : EReal))
    ∧ (∀ i, (extractStridedSlice S8192x512 ![0, 4608] z Facts.slices_S8192x9216_S8192x512_0_4608 i : EReal)
        = ((extractStridedSlice S8192x512 ![0, 4608] z Facts.slices_S8192x9216_S8192x512_0_4608 i : EReal).toReal : EReal)) := by
  have j : S_.Idx := fun k => k.elim0
  have h1 := congrFun h j
  unfold fn at h1
  simp only at h1
  obtain ⟨h2, hz⟩ := and_one h1
  obtain ⟨hq, hk⟩ := and_one h2
  generalize extractStridedSlice S8192x512 ![0, 4608] z Facts.slices_S8192x9216_S8192x512_0_4608 = v at hz ⊢
  exact ⟨entry q _ _ _ j hq, entry k _ _ _ j hk, entry v _ _ _ j hz⟩

theorem slice_at (z : FVec Ideal S8192x9216 .f32) (hs) (x : Fin 8192) (y : Fin 512) (p : 4608 + y.val < 9216) :
    extractStridedSlice S8192x512 ![0, 4608] z hs (ix2 x y) = z (ix2 x ⟨4608 + y.val, p⟩) := by
  pointwise

end Cert.AttnPre

end
-- ==== Proof.AttnValue.lean ====
/- The attention at finite arguments: the kernel and its reference end with equal results. -/
module

public import proofs.«01_k».proof.Proof.AttnSteps
public import proofs.«01_k».proof.Proof.AttnPre
public import proofs.«01_k».proof.Proof.Gen.AttnRefIdeal.Run
public import Idealize.ShloMosaic.Adequacy
public import Idealize.ShloMosaic.Lib.Claim

@[expose] public section

set_option maxRecDepth 16384

noncomputable section

namespace Cert.AttnIdeal.Hand

open Idealize.ShloMosaic Idealize.SL.Sem Idealize.ShloMosaic.TcCoe Idealize.ShloMosaic.Pipeline
open Cert.AttnIdeal Cert.AttnIdeal.Gen Cert.AttnRefIdeal.Hand Cert.AttnRefIdeal.Read
open Cert.FlashBwdIdeal.Hand (qAt kAt qCol kCol vCol)

theorem pt_7 (t : Fin cfg0.N) (h : t.val % 8 = 7) : ∃ (x : Fin 16) (s : Fin 4), t = pt x s 7 := by
  have := t.isLt
  have e : cfg0.N = 512 := N_0
  exact ⟨⟨t.val / 32, by omega⟩, ⟨t.val / 8 % 4, by omega⟩, Fin.ext (by simp only [pt]; show t.val = _ + _ + 7; omega)⟩

theorem emb3 (h : Fin 16) (s : Fin 4) (x : Fin 2048) (j : Fin 128) : (win0_3.blk (pt h s 7)).view.emb (ix2 x j) = ix2 (qAt s x) (qCol h j) := by
  blk_ext [idx h s 7]
theorem emb4 (h : Fin 16) (s : Fin 4) (r : Fin 8) (x : Fin 2048) : (win0_4.blk (pt h s 7)).view.emb (ix3 0 r x) = ix3 h r (qAt s x) := by
  blk_ext [idx h s 7]

section Final
variable {m : (ℓ : Loc nD τ sig) → Buf (Elt Ideal) ℓ} {c : Dev nD} {Q K W : Fin 16 → Fin 8192 → Fin 128 → ℝ}
  (H : Heads (m ((c : Thread nD τ).loc main_arg0)) (m ((c : Thread nD τ).loc main_arg1)) (m ((c : Thread nD τ).loc main_arg2)) Q K W)
include H

theorem final3 : (dats m 0 c).arrAt 3 (cfgs 0).N
    = val_main_v27 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  obtain ⟨h, s, rfl⟩ := pt_7 t ((flush0_3 t).mp hf)
  obtain ⟨x, j, rfl⟩ : ∃ x j, y = ix2 x j := ⟨y 0, y 1, eq_ix2 _⟩
  rw [emb3 h s x j, after0_3]
  exact (end_o H h s x j).trans (result H h (qAt s x) j _).symm

theorem final4 : (dats m 0 c).arrAt 4 (cfgs 0).N
    = val_main_v40 (m ((c : Thread nD τ).loc main_arg0)) (m ((c : Thread nD τ).loc main_arg1)) := by
  refine (dats m 0 c).arrAt_eq_of_covers 4 _ (by decide +kernel) fun t hf y => ?_
  blk_simp
  obtain ⟨h, s, rfl⟩ := pt_7 t ((flush0_4 t).mp hf)
  obtain ⟨r, x, rfl⟩ : ∃ r x, y = ix3 0 r x := ⟨y 1, y 2, by
    refine (eq_ix3 y).trans ?_
    congr 1
    exact Fin.ext (Nat.lt_one_iff.mp (y 0).isLt)⟩
  rw [emb4 h s r x, after0_4]
  exact (end_l H h s x r).trans (logSum H h (qAt s x) r).symm

end Final

variable [h : Cert.Pre_finite_attn.Facts]

/-- Under the precondition the entries read are reals. -/
theorem heads (m : (ℓ : Loc nD τ sig) → Buf (Elt Ideal) ℓ) (hp : Cert.Pre_AttnIdeal_finite_attn m) (c : Dev nD) :
    ∃ Q K W, Heads (m ((c : Thread nD τ).loc main_arg0)) (m ((c : Thread nD τ).loc main_arg1)) (m ((c : Thread nD τ).loc main_arg2)) Q K W := by
  obtain ⟨hq, hk, hv⟩ := Cert.AttnPre.reals _ _ _ (hp c)
  exact ⟨_, _, _, fun h q j p => hq (ix2 q (qCol h j)), fun h k j p => hk (ix2 k (kCol h j)),
    fun h k j p => (Cert.AttnPre.slice_at _ _ k (kCol h j) p).symm.trans (hv (ix2 k (kCol h j)))⟩

theorem algebraic : Cert.algebraic_AttnIdeal_AttnRefIdeal_pre_finite_attn := by
  pair_intro
  · run_from Cert.AttnIdeal.Gen.run_main m g
  · run_from Cert.AttnRefIdeal.Value.run m' g'
    · obtain ⟨Q, K, W, H⟩ := heads m hpre c
      rw [Cert.AttnRefIdeal.Read.val_main_v27_eq, (hagree c).1, (hagree c).2.1, (hagree c).2.2]
      exact (final3 H).symm
    · obtain ⟨Q, K, W, H⟩ := heads m hpre c
      rw [Cert.AttnRefIdeal.Read.val_main_v40_eq]
      exact (final4 H).symm

end Cert.AttnIdeal.Hand

end
-- ==== Proof.GluTaps.lean ====
/- The kernel of the gated convolution's backward: its 31 taps as one recursion, and what a tap reads. -/
module

public import proofs.«01_k».proof.Proof.Gen.GluBwdIdeal.Frame
public import proofs.«01_k».proof.Proof.Reals
public import Idealize.ShloMosaic.Lib.Pipeline.ValueKit

@[expose] public section

set_option maxRecDepth 65536

noncomputable section

open Idealize.ShloMosaic Idealize.ShloMosaic.TcCoe Idealize.SL.Sem
open scoped BigOperators

namespace Cert.GluBwdIdeal.Whole

open Cert.GluBwdIdeal Cert.GluBwdIdeal.Gen

/-- The rows a tap reads of the block with its halo. -/
def tap (X : FVec Ideal S160x1024 .f32) (k : ℕ) : FVec Ideal S128x1024 .f32 :=
  extractStridedSlice S128x1024 ![16, 0]
    (if k = 15 then X else dynamicRotate 0 (BitVec.ofNat 32 ((k + 145) % 160)) none X rotates_S160x1024_d0) slices_S160x1024_o16_0_S128x1024

theorem inb_row {k : ℕ} (h : k < 32) : ∀ a, (![k, 0] : Fin 2 → Nat) a + S1x1024.size a ≤ S32x1024.size a := by
  intro a
  match a with
  | 0 => exact h
  | 1 => exact le_refl _

/-- The number of the row an element of the weights lies in. -/
def places : IVec S32x1024 32 := iota .tc S32x1024 32 [0] iota_S32x1024_d0_w32

theorem places_eq : iota .tc S32x1024 32 [0] iota_S32x1024_d0_w32 = places := rfl

/-- One tap's row of weights. -/
def row (W : Vec Ideal S32x1024 .f32) (k : ℕ) : Vec Ideal S1x1024 .f32 :=
  if h : k < 32 then View.ld W (Rect.unit (s := S32x1024) ![k, 0] S1x1024.size (inb_row h)) else fun _ => 0

/-- The gradient of the gated input after the first taps. -/
def duTo (X : FVec Ideal S160x1024 .f32) (W : Vec Ideal S32x1024 .f32) : ℕ → FVec Ideal S128x1024 .f32
  | 0 => broadcast S128x1024 (Scalar.ofBits .f32 0x00000000#32)
  | k + 1 => addf (duTo X W k) (mulf (tap X k) (broadcastTo S128x1024 (shapeCast S1x1024 (row W k) shapeCasts_S1x1024_S1x1024) broadcasts_S1x1024_S128x1024))

/-- The weights' gradient after the first taps. -/
def dwTo (X : FVec Ideal S160x1024 .f32) (u : FVec Ideal S128x1024 .f32) : ℕ → FVec Ideal S32x1024 .f32
  | 0 => broadcast S32x1024 (Scalar.ofBits .f32 0x00000000#32)
  | k + 1 => addf (dwTo X u k) (select (cmpi .eq places (broadcast S32x1024 (BitVec.ofNat 32 k)))
      (broadcastTo S32x1024 (shapeCast S1x1024 (shapeCast S1x1024 (multiReduction .add [0] S1024 (mulf (tap X k) u) 0x00000000#32 reduces_S128x1024_S1024
        (.inl rfl) rfl) shapeCasts_S1024_S1x1024) shapeCasts_S1x1024_S1x1024) broadcasts_S1x1024_S32x1024)
      (broadcast S32x1024 (Scalar.ofBits .f32 0x00000000#32)))

theorem row_eq (W : Vec Ideal S32x1024 .f32) (k : ℕ) (h : ∀ a, (![k, 0] : Fin 2 → Nat) a + (![1, 1024] : Fin 2 → Nat) a ≤ S32x1024.size a) :
    View.ld W (Rect.unit (s := S32x1024) ![k, 0] ![1, 1024] h) = row W k := by
  have hk : k < 32 := Nat.lt_of_succ_le (h 0)
  rw [row, dif_pos hk]

section Steps

variable (X : FVec Ideal S160x1024 .f32) (W : Vec Ideal S32x1024 .f32) (u : FVec Ideal S128x1024 .f32)
  (g : grid0.Coords) (d : Vec Ideal S128x1024 .f32) (p q : Vec Ideal S16x1024 .f32)

theorem du_first : k0_pay6 g d p q (row W 0) = duTo (k0_pay2 g d p q) W 1 := rfl
theorem turned : k0_pay8 g d p q = dynamicRotate 0 146#32 none (k0_pay2 g d p q) rotates_S160x1024_d0 := rfl
theorem du_4 : k0_pay13 X (duTo X W 1) (dynamicRotate 0 146#32 none X rotates_S160x1024_d0) (row W 1) (row W 2) (row W 3) = duTo X W 4 := rfl
theorem du_6 : k0_pay18 X (duTo X W 4) (row W 4) (row W 5) = duTo X W 6 := rfl
theorem du_9 : k0_pay25 X (duTo X W 6) (k0_pay20 X) (k0_pay21 (row W 6)) (row W 7) (row W 8) = duTo X W 9 := rfl
theorem du_12 : k0_pay33 X (duTo X W 9) (row W 9) (row W 10) (row W 11) = duTo X W 12 := rfl
theorem du_14 : k0_pay37 X (duTo X W 12) (row W 12) (row W 13) = duTo X W 14 := rfl
theorem du_17 : k0_pay43 X (duTo X W 14) (k0_pay39 X) (row W 14) (row W 15) (row W 16) = duTo X W 17 := rfl
theorem du_20 : k0_pay50 X (duTo X W 17) (row W 17) (row W 18) (row W 19) = duTo X W 20 := rfl
theorem du_22 : k0_pay53 X (duTo X W 20) (row W 20) (row W 21) = duTo X W 22 := rfl
theorem du_25 : k0_pay59 X (duTo X W 22) 7#32 (row W 22) (row W 23) (row W 24) = duTo X W 25 := rfl
theorem du_27 : k0_pay64 X (duTo X W 25) (row W 25) (row W 26) = duTo X W 27 := rfl
theorem du_30 : k0_pay70 X (duTo X W 27) (k0_pay66 X) (row W 27) (row W 28) (row W 29) = duTo X W 30 := rfl

theorem dw_first (a b : Vec Ideal S128x1024 .f32) : k0_pay7 g d a p q b = dwTo (k0_pay2 g d p q) (k0_pay4 a b) 1 := rfl
theorem du_a (S : FVec Ideal S128x1024 .f32) : k0_pay76 X S (duTo X W 30) (row W 30) = truncf .bf16 (mulf (duTo X W 31) S) bitsLt_bf16_f32 := rfl
theorem du_b (a S : FVec Ideal S128x1024 .f32) : k0_pay77 a X S (duTo X W 30) (row W 30) = truncf .bf16 (mulf (mulf (mulf (duTo X W 31) a) S)
    (subf (broadcast S128x1024 (Scalar.ofBits .f32 0x3F800000#32)) S)) bitsLt_bf16_f32 := rfl
theorem dw_3 : k0_pay11 X u places (dwTo X u 1) (dynamicRotate 0 146#32 none X rotates_S160x1024_d0) = dwTo X u 3 := rfl
theorem dw_6 : k0_pay19 X u places (dwTo X u 3) (k0_pay14 places) (k0_pay15 X u) = dwTo X u 6 := rfl
theorem dw_8 : k0_pay23 X u places (dwTo X u 6) (k0_pay20 X) = dwTo X u 8 := rfl
theorem dw_11 : k0_pay31 X u places (dwTo X u 8) (k0_pay26 places) (k0_pay27 X u) k0_pay28 = dwTo X u 11 := rfl
theorem dw_14 : k0_pay38 X u places (dwTo X u 11) (k0_pay32 X) k0_pay34 = dwTo X u 14 := rfl
theorem dw_16 : k0_pay41 X u places (dwTo X u 14) (k0_pay39 X) = dwTo X u 16 := rfl
theorem dw_19 : k0_pay48 X u places (dwTo X u 16) (k0_pay44 places) (FloatOps.ofBits FTy.f32 0#32) (k0_pay45 X u) = dwTo X u 19 := rfl
theorem dw_22 : k0_pay54 X u places (dwTo X u 19) (k0_pay49 X) = dwTo X u 22 := rfl
theorem dw_24 : k0_pay57 X u places (dwTo X u 22) 7#32 = dwTo X u 24 := rfl
theorem dw_27 : k0_pay65 X u places (dwTo X u 24) (k0_pay60 places) (k0_pay61 X u) = dwTo X u 27 := rfl
theorem dw_29 : k0_pay68 X u places (dwTo X u 27) (k0_pay66 X) = dwTo X u 29 := rfl
theorem dw_31 : k0_pay75 X u places (dwTo X u 29) (k0_pay71 places) (FloatOps.ofBits FTy.f32 0#32) (k0_pay72 X u) = dwTo X u 31 := rfl

end Steps

variable (m : (ℓ : Loc nD τ sig) → Buf (Elt Ideal) ℓ) (c : Dev nD)

/-- A point's block of cotangents with its halo. -/
def halo (t : Fin cfg0.N) : FVec Ideal S160x1024 .f32 := k0_pay2 (grid0.coords t) (iblk m c 1 t) (iblk m c 0 t) (iblk m c 2 t)

/-- What a point leaves of the three results: the gradients of both halves, and its part of the weights'. -/
def outA (t : Fin cfg0.N) : FVec Ideal S128x1024 .bf16 := truncf .bf16 (mulf (duTo (halo m c t) (iblk m c 5 t) 31) (k0_pay3 (iblk m c 4 t))) bitsLt_bf16_f32
def outB (t : Fin cfg0.N) : FVec Ideal S128x1024 .bf16 :=
  truncf .bf16 (mulf (mulf (mulf (duTo (halo m c t) (iblk m c 5 t) 31) (iblk m c 3 t)) (k0_pay3 (iblk m c 4 t)))
    (subf (broadcast S128x1024 (Scalar.ofBits .f32 0x3F800000#32)) (k0_pay3 (iblk m c 4 t)))) bitsLt_bf16_f32
def outW (t : Fin cfg0.N) : FVec Ideal S32x1024 .f32 := dwTo (halo m c t) (k0_pay4 (iblk m c 3 t) (iblk m c 4 t)) 31

theorem left_a (t : Fin cfg0.N) : (outsAt0 m c t.val t.isLt).1 = outA m c t := by
  by_cases h0 : t.val % 64 = 0
  · rw [outsAt0_A m c t h0 (by have := lt_of_lt_of_eq t.isLt N_0; omega)]; frame_out; simp only [row_eq]; rw [turned, du_first, du_4, du_6, du_9, du_12, du_14, du_17, du_20, du_22, du_25, du_27, du_30, du_a]; rfl
  · rw [outsAt0_B m c t h0 (by omega)]; frame_out; simp only [row_eq]; rw [turned, du_first, du_4, du_6, du_9, du_12, du_14, du_17, du_20, du_22, du_25, du_27, du_30, du_a]; rfl

theorem left_b (t : Fin cfg0.N) : (outsAt0 m c t.val t.isLt).2.1 = outB m c t := by
  by_cases h0 : t.val % 64 = 0
  · rw [outsAt0_A m c t h0 (by have := lt_of_lt_of_eq t.isLt N_0; omega)]; frame_out; simp only [row_eq]; rw [turned, du_first, du_4, du_6, du_9, du_12, du_14, du_17, du_20, du_22, du_25, du_27, du_30, du_b]; rfl
  · rw [outsAt0_B m c t h0 (by omega)]; frame_out; simp only [row_eq]; rw [turned, du_first, du_4, du_6, du_9, du_12, du_14, du_17, du_20, du_22, du_25, du_27, du_30, du_b]; rfl

theorem first_w (t : Fin cfg0.N) (h0 : t.val % 64 = 0) : (outsAt0 m c t.val t.isLt).2.2 = outW m c t := by
  rw [outsAt0_A m c t h0 (by have := lt_of_lt_of_eq t.isLt N_0; omega)]; frame_out; rw [places_eq, turned, dw_first, dw_3, dw_6, dw_8, dw_11, dw_14, dw_16, dw_19, dw_22, dw_24, dw_27, dw_29, dw_31]; rfl

theorem later_w (t : Fin cfg0.N) (h0 : ¬t.val % 64 = 0) : (outsAt0 m c t.val t.isLt).2.2
    = k0_pay1 (outW m c t) (outsAt0 m c (t.val - 1) (Nat.lt_of_le_of_lt (Nat.sub_le _ _) t.isLt)).2.2 := by
  rw [outsAt0_B m c t h0 (by omega)]; frame_out; rw [places_eq, turned, dw_first, dw_3, dw_6, dw_8, dw_11, dw_14, dw_16, dw_19, dw_22, dw_24, dw_27, dw_29, dw_31]; rfl

theorem tap_at (X : FVec Ideal S160x1024 .f32) {k : ℕ} (h : k < 31) (x : Fin 128) (y : Fin 1024) :
    tap X k (ix2 x y) = X (ix2 ⟨x.val + 31 - k, by omega⟩ y) := by
  unfold tap
  interval_cases k <;> pointwise <;> blk_ext

theorem row_at (W : Vec Ideal S32x1024 .f32) {k : ℕ} (h : k < 32) (y : Fin 1024) : row W k (ix2 0 y) = W (ix2 ⟨k, h⟩ y) := by
  rw [row, dif_pos h]
  pointwise
  blk_ext

/-- A tap's row of the block, as a function of the natural number it starts from. -/
def at' (X : FVec Ideal S160x1024 .f32) (n : ℕ) (y : Fin 1024) : EReal := if h : n < 160 then X (ix2 ⟨n, h⟩ y) else 0

theorem duTo_at (X : FVec Ideal S160x1024 .f32) (W : Vec Ideal S32x1024 .f32) (x : Fin 128) (y : Fin 1024) :
    ∀ n ≤ 31, duTo X W n (ix2 x y) = ∑ k : Fin n, at' X (x.val + 31 - k.val) y * row W k.val (ix2 0 y) := by
  intro n
  induction n with
  | zero => intro _; simp only [Finset.univ_eq_empty, Finset.sum_empty]; unfold duTo; pointwise
  | succ n ih =>
    intro h
    rw [Fin.sum_univ_castSucc, duTo]
    show FloatOps.addf (duTo X W n (ix2 x y)) (FloatOps.mulf (tap X n (ix2 x y)) _) = _
    rw [ih (by omega), tap_at X (by omega), Fin.val_last, at', dif_pos (by omega)]
    congr 1
    congr 1
    pointwise

theorem dwTo_at (X : FVec Ideal S160x1024 .f32) (u : FVec Ideal S128x1024 .f32) (j : Fin 32) (y : Fin 1024) :
    ∀ n ≤ 31, dwTo X u n (ix2 j y) = if j.val < n then ∑ x : Fin 128, at' X (x.val + 31 - j.val) y * u (ix2 x y) else 0 := by
  intro n
  induction n with
  | zero => intro _; rw [if_neg (by omega)]; unfold dwTo; pointwise
  | succ n ih =>
    intro h
    have e : dwTo X u (n + 1) (ix2 j y) = dwTo X u n (ix2 j y) + if j.val = n then ∑ x : Fin 128, tap X n (ix2 x y) * u (ix2 x y) else 0 := by
      rw [dwTo]
      generalize dwTo X u n = a
      generalize tap X n = b
      unfold places
      pointwise
      congr 1
      by_cases hj : j.val = n
      · rw [if_pos hj, hj]
        simp only [Scalar.select, IntOp.cmpi]
        simp
      · rw [if_neg hj]
        have hn : (BitVec.ofNat 32 j.val == BitVec.ofNat 32 n) = false := by
          rw [beq_eq_false_iff_ne]
          intro e
          have := congrArg BitVec.toNat e
          rw [BitVec.toNat_ofNat, BitVec.toNat_ofNat, Nat.mod_eq_of_lt (by omega), Nat.mod_eq_of_lt (by omega)] at this
          exact hj this
        simp only [Scalar.select, IntOp.cmpi, hn]
        simp
    rw [e, ih (by omega)]
    rcases lt_trichotomy j.val n with hj | hj | hj
    · rw [if_pos hj, if_neg (by omega), if_pos (by omega), add_zero]
    · rw [if_neg (by omega), if_pos hj, if_pos (by omega), zero_add]
      refine Finset.sum_congr rfl fun x _ => ?_
      rw [tap_at X (by omega), at', dif_pos (by omega)]
      congr 2
      congr 1
      apply Fin.ext
      show x.val + 31 - n = x.val + 31 - j.val
      omega
    · rw [if_neg (by omega), if_neg (by omega), if_neg (by omega), add_zero]

end Cert.GluBwdIdeal.Whole

end
-- ==== Proof.GluRef.lean ====
/- The reference of the gated convolution's backward, element by element. -/
module

public import proofs.«01_k».proof.Proof.Gen.GluBwdRefIdeal.Read
public import proofs.«01_k».proof.Proof.Reals
public import Idealize.ShloMosaic.Lib.Pipeline.ValueKit

@[expose] public section

set_option maxRecDepth 65536

noncomputable section

open Idealize.ShloMosaic Idealize.ShloMosaic.TcCoe Idealize.SL.Sem
open scoped BigOperators

namespace Cert.GluBwdRefIdeal.Whole

open Cert.GluBwdRefIdeal Cert.GluBwdRefIdeal.Gen Cert.GluBwdRefIdeal.Read

/-- An array's rows with zeros on both sides, at the row a natural number names. -/
def wide (U : FVec Ideal S8192x1024 .f32) (n : ℕ) (y : Fin 1024) : EReal := if h : 15 ≤ n ∧ n - 15 < 8192 then U (ix2 ⟨n - 15, h.2⟩ y) else 0

variable (D : (⟨S8192x1024, .f32⟩ : BufTy).Contents (Elt Ideal)) (Z : (⟨S8192x9216, .f32⟩ : BufTy).Contents (Elt Ideal))
  (W : (⟨S1x31x1024, .f32⟩ : BufTy).Contents (Elt Ideal))

/-! The weights' gradient. -/

theorem padded_at (n : Fin 8222) (y : Fin 1024) : val_main_v13 Z (ix2 n y) = wide (val_main_v11 Z) n.val y := by
  pointwise [val_main_v13, val_main_v12, val_main_cst_2]
  unfold wide
  by_cases h : n.val < 15
  · rw [dif_pos h, dif_neg (by omega)]
  · rw [dif_neg h]
    by_cases h' : n.val - 15 < 8192
    · rw [dif_pos h', dif_pos ⟨by omega, h'⟩]
    · rw [dif_neg h', dif_neg (by omega)]

theorem same_row (V : FVec Ideal S8222x1024 .f32) {p q : Fin 8222} {x y : Fin 1024} (h : p.val = q.val) (h' : x.val = y.val) :
    V (ix2 p x) = V (ix2 q y) := by
  rw [Fin.ext h, Fin.ext h']

attribute [local pointwise] val_main_v16 val_main_v17 val_main_v18 val_main_v19 val_main_v20 val_main_v21 val_main_v22
  val_main_v23 val_main_v24 val_main_v25 val_main_v26 val_main_v27 val_main_v28 val_main_v29 val_main_v30 val_main_v31
  val_main_v32 val_main_v33 val_main_v34 val_main_v35 val_main_v36 val_main_v37 val_main_v38 val_main_v39 val_main_v40
  val_main_v41 val_main_v42 val_main_v43 val_main_v44 val_main_v45 val_main_v46 val_main_v47 val_main_v48 val_main_v49
  val_main_v50 val_main_v51 val_main_v52 val_main_v53 val_main_v54 val_main_v55 val_main_v56 val_main_v57 val_main_v58
  val_main_v59 val_main_v60 val_main_v61 val_main_v62 val_main_v63 val_main_v64 val_main_v65 val_main_v66 val_main_v67
  val_main_v68 val_main_v69 val_main_v70 val_main_v71 val_main_v72 val_main_v73 val_main_v74 val_main_v75 val_main_v76
  val_main_v77

theorem lower_at (k : Fin 16) (s : Fin 8192) (y : Fin 1024) : val_main_v78 Z (ix3 k s y) = val_main_v13 Z (ix2 ⟨s.val + k.val, by omega⟩ y) := by
  unfold val_main_v78
  concat_tiles i h
  all_goals
    pointwise
    replace h : k.val = _ := h
    replace h1 : (i 1).val = s.val := h1
    exact same_row _ (by dsimp only; omega) h2

theorem upper_at (k : Fin 15) (s : Fin 8192) (y : Fin 1024) : val_main_v79 Z (ix3 k s y) = val_main_v13 Z (ix2 ⟨s.val + (k.val + 16), by omega⟩ y) := by
  unfold val_main_v79
  concat_tiles i h
  all_goals
    pointwise
    replace h : k.val = _ := h
    replace h1 : (i 1).val = s.val := h1
    exact same_row _ (by dsimp only; omega) h2

theorem window_at (k : Fin 31) (s : Fin 8192) (y : Fin 1024) : val_main_v80 Z (ix3 k s y) = wide (val_main_v11 Z) (s.val + k.val) y := by
  by_cases h : k.val < 16
  · have e : val_main_v80 Z (ix3 k s y) = val_main_v78 Z (ix3 ⟨k.val, h⟩ s y) := by pointwise [val_main_v80]; rw [dif_pos h]
    rw [e, lower_at, padded_at]
  · have e : val_main_v80 Z (ix3 k s y) = val_main_v79 Z (ix3 ⟨k.val - 16, by omega⟩ s y) := by pointwise [val_main_v80]; rw [dif_neg h]
    rw [e, upper_at, padded_at]
    congr 1
    show s.val + (k.val - 16 + 16) = _
    omega

theorem dw_at (j : Fin 32) (y : Fin 1024) : val_main_v226 D Z (ix2 j y)
    = if j.val < 31 then ∑ s : Fin 8192, wide (val_main_v11 Z) (s.val + j.val) y * D (ix2 s y) else 0 := by
  by_cases h : j.val < 31
  · have e : val_main_v226 D Z (ix2 j y) = ∑ s : Fin 8192, val_main_v80 Z (ix3 ⟨j.val, h⟩ s y) * D (ix2 s y) := by
      pointwise [val_main_v226, val_main_v225, val_main_v93, val_main_v92, val_main_v89, val_main_v88, val_main_v87, val_main_v86, val_main_cst_6, val_main_cst_7]
      rw [dif_pos h, Fin.sum_univ_one]
    rw [e, if_pos h]
    exact Finset.sum_congr rfl fun s _ => by rw [window_at]
  · rw [if_neg h]
    pointwise [val_main_v226, val_main_call0_v0, val_main_c]
    rw [dif_neg h]
    show (((0#32 : BitVec 32).toInt : ℝ) : EReal) = 0
    simp

/-! The input's gradient. -/

theorem piece_at {b k : ℕ} (hk : k < 31) (X : FVec Ideal S31x8192x1024 .f32) (hs : S31x8192x1024.Slices ![k, 0, 0] S1x8192x1024)
    (z : FVec Ideal S_ .f32) (hp : S8192x1024.Pads ![k, 0] ![b, 0] ![0, 0] S8222x1024) (n : Fin 8222) (y : Fin 1024) :
    pad S8222x1024 ![k, 0] ![b, 0] ![0, 0] (shapeCast S8192x1024 (extractStridedSlice S1x8192x1024 ![k, 0, 0] X hs) shapeCasts_S1x8192x1024_S8192x1024)
      z hp h_S_ (ix2 n y) = if h : k ≤ n.val ∧ n.val - k < 8192 then X (ix3 ⟨k, hk⟩ ⟨n.val - k, h.2⟩ y) else z (Shape.Idx.first h_S_) := by
  pointwise

/-- One tap's share of the padded gradient. -/
def share (X : FVec Ideal S31x8192x1024 .f32) (n : ℕ) (y : Fin 1024) (k : ℕ) : EReal :=
  if h : k < 31 ∧ k ≤ n ∧ n - k < 8192 then X (ix3 ⟨k, h.1⟩ ⟨n - k, h.2.2⟩ y) else 0

theorem share_of {b k : ℕ} (hk : k < 31) (X : FVec Ideal S31x8192x1024 .f32) (hs : S31x8192x1024.Slices ![k, 0, 0] S1x8192x1024)
    (hp : S8192x1024.Pads ![k, 0] ![b, 0] ![0, 0] S8222x1024) (n : Fin 8222) (y : Fin 1024) :
    pad S8222x1024 ![k, 0] ![b, 0] ![0, 0] (shapeCast S8192x1024 (extractStridedSlice S1x8192x1024 ![k, 0, 0] X hs) shapeCasts_S1x8192x1024_S8192x1024)
      (constant (F := Ideal) S_ .f32 0x00000000#32) hp h_S_ (ix2 n y) = share X n.val y k := by
  rw [piece_at hk, share]
  by_cases h : k ≤ n.val ∧ n.val - k < 8192
  · rw [dif_pos h, dif_pos ⟨hk, h⟩]
  · rw [dif_neg h, dif_neg (fun h' => h h'.2)]; pointwise

theorem sum_at (n : Fin 8222) (y : Fin 1024) : val_main_v216 D W (ix2 n y) = ∑ k ∈ Finset.range 31, share (val_main_v91 D W) n.val y k := by
  rw [← Finset.sum_range_reflect]
  pointwise [val_main_v158, val_main_v160, val_main_v162, val_main_v164, val_main_v166, val_main_v168, val_main_v170,
    val_main_v172, val_main_v174, val_main_v176, val_main_v178, val_main_v180, val_main_v182, val_main_v184,
    val_main_v186, val_main_v188, val_main_v190, val_main_v192, val_main_v194, val_main_v196, val_main_v198,
    val_main_v200, val_main_v202, val_main_v204, val_main_v206, val_main_v208, val_main_v210, val_main_v212,
    val_main_v214, val_main_v216]
  simp only [Finset.sum_range_succ, Finset.sum_range_zero, zero_add, Nat.reduceSub, Nat.reduceAdd]
  unfold val_main_v156 val_main_v157 val_main_v159 val_main_v161 val_main_v163 val_main_v165 val_main_v167
    val_main_v169 val_main_v171 val_main_v173 val_main_v175 val_main_v177 val_main_v179 val_main_v181
    val_main_v183 val_main_v185 val_main_v187 val_main_v189 val_main_v191 val_main_v193 val_main_v195
    val_main_v197 val_main_v199 val_main_v201 val_main_v203 val_main_v205 val_main_v207 val_main_v209
    val_main_v211 val_main_v213 val_main_v215
  unfold val_main_v95 val_main_v97 val_main_v99 val_main_v101 val_main_v103 val_main_v105 val_main_v107 val_main_v109
    val_main_v111 val_main_v113 val_main_v115 val_main_v117 val_main_v119 val_main_v121 val_main_v123 val_main_v125
    val_main_v127 val_main_v129 val_main_v131 val_main_v133 val_main_v135 val_main_v137 val_main_v139 val_main_v141
    val_main_v143 val_main_v145 val_main_v147 val_main_v149 val_main_v151 val_main_v153 val_main_v155 val_main_v94
    val_main_v96 val_main_v98 val_main_v100 val_main_v102 val_main_v104 val_main_v106 val_main_v108 val_main_v110
    val_main_v112 val_main_v114 val_main_v116 val_main_v118 val_main_v120 val_main_v122 val_main_v124 val_main_v126
    val_main_v128 val_main_v130 val_main_v132 val_main_v134 val_main_v136 val_main_v138 val_main_v140 val_main_v142
    val_main_v144 val_main_v146 val_main_v148 val_main_v150 val_main_v152 val_main_v154
  unfold val_main_cst_8 val_main_cst_9 val_main_cst_10 val_main_cst_11 val_main_cst_12 val_main_cst_13 val_main_cst_14
    val_main_cst_15 val_main_cst_16 val_main_cst_17 val_main_cst_18 val_main_cst_19 val_main_cst_20
    val_main_cst_21 val_main_cst_22 val_main_cst_23 val_main_cst_24 val_main_cst_25 val_main_cst_26
    val_main_cst_27 val_main_cst_28 val_main_cst_29 val_main_cst_30 val_main_cst_31 val_main_cst_32
    val_main_cst_33 val_main_cst_34 val_main_cst_35 val_main_cst_36 val_main_cst_37 val_main_cst_38
  simp only [share_of, Nat.reduceLT]

theorem du_at (s : Fin 8192) (y : Fin 1024) : val_main_v218 D W (ix2 s y) = ∑ k : Fin 31, share (val_main_v91 D W) (s.val + 15) y k.val := by
  rw [← Finset.sum_range (fun k => share (val_main_v91 D W) (s.val + 15) y k)]
  pointwise [val_main_v218]
  rw [sum_at]
  simp only [Nat.add_comm 15]

end Cert.GluBwdRefIdeal.Whole

end
-- ==== Proof.GluBwd.lean ====
/- The value of the gated convolution's backward call: both halves' gradients and the weights'. -/
module

public import proofs.«01_k».proof.Proof.GluTaps
public import proofs.«01_k».proof.Proof.GluRef

@[expose] public section

set_option maxRecDepth 65536

noncomputable section

open Idealize.ShloMosaic Idealize.ShloMosaic.TcCoe Idealize.SL.Sem
open Idealize.ShloMosaic.Pipeline (Dat)
open scoped BigOperators

namespace Cert.GluBwdIdeal.Whole

open Cert.GluBwdIdeal Cert.GluBwdIdeal.Gen
open Cert.GluBwdRefIdeal.Whole (wide share du_at dw_at)
open Cert.GluBwdRefIdeal.Read

variable (m : (ℓ : Loc nD τ sig) → Buf (Elt Ideal) ℓ) (c : Dev nD)

/-- The cotangent, the input and the weights. -/
abbrev dOf : FVec Ideal S8192x1024 .f32 := m ((c : Thread nD τ).loc main_arg0)
abbrev zOf : FVec Ideal S8192x9216 .f32 := m ((c : Thread nD τ).loc main_arg1)
abbrev wOf : FVec Ideal S1x31x1024 .f32 := m ((c : Thread nD τ).loc main_arg2)

/-- The last point. -/
def last : Fin cfg0.N := ⟨63, lt_of_lt_of_eq (by decide) N_0.symm⟩

theorem idx : ∀ t : Fin cfg0.N, win0_0.index t = ![8 * t.val - 1, 0] ∧ win0_1.index t = ![t.val, 0]
    ∧ win0_2.index t = ![min (8 * t.val + 8) 511, 0] ∧ win0_3.index t = ![t.val, 0] ∧ win0_4.index t = ![t.val, 1]
    ∧ win0_5.index t = ![0, 0] ∧ win0_6.index t = ![t.val, 0] ∧ win0_7.index t = ![t.val, 0] ∧ win0_8.index t = ![0, 0] :=
  (by decide +kernel : ∀ t : Fin grid0.N, _)

theorem before : ∀ t : Fin cfg0.N, Scalar.cmpi .sgt (BitVec.ofNat 32 (grid0.coords t 1).val) 0#32 = if 0 < t.val then 1#1 else 0#1 :=
  (by decide +kernel : ∀ t : Fin grid0.N, _)

theorem behind : ∀ t : Fin cfg0.N, Scalar.cmpi .slt (BitVec.ofNat 32 (grid0.coords t 1).val) 63#32 = if t.val < 63 then 1#1 else 0#1 :=
  (by decide +kernel : ∀ t : Fin grid0.N, _)

/-- The cotangent's rows with zeros on both sides. -/
def ext (D : FVec Ideal S8192x1024 .f32) (n : ℕ) (y : Fin 1024) : EReal := if h : 16 ≤ n ∧ n - 16 < 8192 then D (ix2 ⟨n - 16, h.2⟩ y) else 0

theorem ext_of (D : FVec Ideal S8192x1024 .f32) {n : ℕ} {p : Fin 8192} {y y' : Fin 1024} (h : n = p.val + 16) (hy : y' = y) : D (ix2 p y') = ext D n y := by
  subst h; subst hy
  rw [ext, dif_pos ⟨by omega, by omega⟩]
  congr 2

theorem halo_at (t : Fin cfg0.N) (r : Fin 160) (y : Fin 1024) : halo m c t (ix2 r y) = ext (dOf m c) (t.val * 128 + r.val) y := by
  have ht := lt_of_lt_of_eq t.isLt N_0
  unfold halo
  pointwise [k0_pay2]
  rw [before, behind]
  by_cases h : r.val < 16
  · rw [dif_pos h]
    by_cases h' : 0 < t.val
    · rw [if_pos h']
      show iblk m c 0 t (ix2 ⟨r.val, h⟩ y) = _
      refine Eq.trans ?_ (ext_of (dOf m c) (p := ⟨t.val * 128 + r.val - 16, by omega⟩) (y' := y) (by dsimp only; omega) rfl)
      blk_point [iblk, idx t]
    · rw [if_neg h', ext, dif_neg (by omega)]
      rfl
  · rw [dif_neg h]
    by_cases h' : r.val - 16 < 128
    · rw [dif_pos h']
      refine Eq.trans ?_ (ext_of (dOf m c) (p := ⟨t.val * 128 + r.val - 16, by omega⟩) (y' := y) (by dsimp only; omega) rfl)
      blk_point [iblk, idx t]
    · rw [dif_neg h']
      by_cases h'' : t.val < 63
      · rw [if_pos h'']
        show iblk m c 2 t (ix2 ⟨r.val - 16 - 128, _⟩ y) = _
        refine Eq.trans ?_ (ext_of (dOf m c) (p := ⟨t.val * 128 + r.val - 16, by omega⟩) (y' := y) (by dsimp only; omega) rfl)
        blk_point [iblk, idx t]
      · rw [if_neg h'', ext, dif_neg (by omega)]
        rfl

theorem weight_at (t : Fin cfg0.N) (k : Fin 31) (y : Fin 1024) : row (iblk m c 5 t) k.val (ix2 0 y) = (wOf m c) (ix3 0 k y) := by
  rw [row_at _ (by omega)]
  have e : iblk m c 5 t (ix2 ⟨k.val, by omega⟩ y) = V m c main_v1 (ix2 ⟨k.val, by omega⟩ y) := by
    blk_point [iblk, idx t]
  rw [e]
  show StableHlo.after (hostOps0 ++ hostOps0_1) _ _ _ = _
  unfold hostOps0 hostOps0_1
  simp only [List.cons_append, List.nil_append, StableHlo.TRef.unary, StableHlo.TRef.binary]
  after_results_simp
  change pad S32x1024 ![0, 0] ![1, 0] ![0, 0] (shapeCast S31x1024 (wOf m c) shapeCasts_S1x31x1024_S31x1024)
    (sitofp (F := Ideal) .f32 (constantI S_ 32 0#32)) pads_S31x1024_S32x1024_010_000 h_S_ (ix2 ⟨k.val, by omega⟩ y) = _
  pointwise

theorem weights_kept : StableHlo.after [hostOps0, hostOps0_1].flatten (fun b => m (c, b)) (Proc.devRef .tc main_arg2)
    = m ((c : Thread nD τ).loc main_arg2) := by
  show StableHlo.after (hostOps0 ++ hostOps0_1) _ _ = _
  unfold hostOps0 hostOps0_1
  simp only [List.cons_append, List.nil_append, StableHlo.TRef.unary, StableHlo.TRef.binary]
  after_results_simp

theorem du_all (t : Fin cfg0.N) (x : Fin 128) (y : Fin 1024) : duTo (halo m c t) (iblk m c 5 t) 31 (ix2 x y)
    = val_main_v218 (F := Ideal) (dOf m c) (wOf m c) (ix2 ⟨t.val * 128 + x.val, by have := lt_of_lt_of_eq t.isLt N_0; omega⟩ y) := by
  have ht := lt_of_lt_of_eq t.isLt N_0
  rw [duTo_at _ _ _ _ _ le_rfl, du_at]
  refine Finset.sum_congr rfl fun k _ => ?_
  rw [weight_at, at', dif_pos (by omega), halo_at, share, ext]
  dsimp only
  by_cases h : k.val ≤ t.val * 128 + x.val + 15 ∧ t.val * 128 + x.val + 15 - k.val < 8192
  · rw [dif_pos (by omega), dif_pos ⟨k.isLt, h⟩]
    pointwise [val_main_v91, val_main_v90, val_main_v86, val_main_v82, val_main_v81]
    congr 3
    exact Fin.ext (by dsimp only; omega)
  · rw [dif_neg (by omega), dif_neg (fun h' => h h'.2), zero_mul]

theorem a_at (t : Fin cfg0.N) (x : Fin 128) (y : Fin 1024) : iblk m c 3 t (ix2 x y)
    = zOf m c (ix2 ⟨t.val * 128 + x.val, by have := lt_of_lt_of_eq t.isLt N_0; omega⟩ ⟨y.val, by omega⟩) := by
  blk_point [iblk, idx t]

theorem b_at (t : Fin cfg0.N) (x : Fin 128) (y : Fin 1024) : iblk m c 4 t (ix2 x y)
    = zOf m c (ix2 ⟨t.val * 128 + x.val, by have := lt_of_lt_of_eq t.isLt N_0; omega⟩ ⟨1024 + y.val, by omega⟩) := by
  blk_point [iblk, idx t]

theorem outA_at (t : Fin cfg0.N) (x : Fin 128) (y : Fin 1024) : outA m c t (ix2 x y)
    = val_main_v223 (F := Ideal) (dOf m c) (zOf m c) (wOf m c) (ix2 ⟨t.val * 128 + x.val, by have := lt_of_lt_of_eq t.isLt N_0; omega⟩ y) := by
  pointwise [outA, k0_pay3, val_main_v223, val_main_v221, val_main_v7, val_main_v6, val_main_v5, val_main_v4, val_main_v3,
    val_main_v2, val_main_v1, val_main_cst, val_main_cst_0, Ideal.logistic]
  rw [du_all, b_at]

theorem reorder (d a s r : EReal) : d * a * s * r = a * d * (s * r) := by
  rw [mul_comm d a, mul_assoc (a * d)]

theorem outB_at (t : Fin cfg0.N) (x : Fin 128) (y : Fin 1024) : outB m c t (ix2 x y)
    = val_main_v224 (F := Ideal) (dOf m c) (zOf m c) (wOf m c) (ix2 ⟨t.val * 128 + x.val, by have := lt_of_lt_of_eq t.isLt N_0; omega⟩ y) := by
  pointwise [outB, k0_pay3, val_main_v224, val_main_v222, val_main_v220, val_main_v10, val_main_v9, val_main_v8, val_main_v7, val_main_v6,
    val_main_v5, val_main_v4, val_main_v3, val_main_v2, val_main_v1, val_main_v0, val_main_cst, val_main_cst_0, val_main_cst_1,
    Ideal.logistic]
  rw [du_all, a_at, b_at]
  exact reorder _ _ _ _

theorem final6 : (dats m 0 c).arrAt 6 (cfgs 0).N = val_main_v223 (F := Ideal) (dOf m c) (zOf m c) (wOf m c) := by
  refine (dats m 0 c).arrAt_eq_of_covers 6 _ (by decide +kernel) fun t _ y => ?_
  have ht := lt_of_lt_of_eq t.isLt N_0
  blk_simp
  rw [after0_6, left_a]
  refine Eq.trans (b := outA m c t (ix2 (y 0) (y 1))) (congrArg _ (by idx_ext)) ((outA_at m c t (y 0) (y 1)).trans ?_)
  blk_point [idx t]

theorem final7 : (dats m 0 c).arrAt 7 (cfgs 0).N = val_main_v224 (F := Ideal) (dOf m c) (zOf m c) (wOf m c) := by
  refine (dats m 0 c).arrAt_eq_of_covers 7 _ (by decide +kernel) fun t _ y => ?_
  have ht := lt_of_lt_of_eq t.isLt N_0
  blk_simp
  rw [after0_7, left_b]
  refine Eq.trans (b := outB m c t (ix2 (y 0) (y 1))) (congrArg _ (by idx_ext)) ((outB_at m c t (y 0) (y 1)).trans ?_)
  blk_point [idx t]

theorem step (acc : Vec Ideal S32x1024 .f32) (v : FVec Ideal S32x1024 .f32) (j : S32x1024.Idx) :
    k0_pay1 (F := Ideal) v acc j = acc j + v j := by
  pointwise [k0_pay1]

theorem parts : (dats m 0 c).arrAt 8 (cfgs 0).N = fun j => ∑ t : Fin cfg0.N, outW m c t j := by
  refine (dats m 0 c).arrAt_eq_of_after_last 8 last (by decide +kernel) _ (fun j => ?_)
  blk_simp
  rw [after0_8, Pipeline.eq_sum_fin_of_reset_step_apply_last (fun n h => (outsAt0 m c n h).2.2) 64 (fun _ => 0) (outW m c)
    (fun t h j => by rw [first_w m c t h, zero_add]) (fun t h j => by rw [later_w m c t h, step])
    (le_of_eq N_0) last rfl j, zero_add]

/-- A convolution's gradient by its weights, summed over the rows of either factor. -/
theorem swap (D U : FVec Ideal S8192x1024 .f32) (j : ℕ) (hj : j < 31) (y : Fin 1024) :
    ∑ l : Fin 8192, ext D (l.val + 31 - j) y * U (ix2 l y) = ∑ s : Fin 8192, wide U (s.val + j) y * D (ix2 s y) := by
  have e (l : Fin 8192) : ext D (l.val + 31 - j) y * U (ix2 l y) = ∑ s : Fin 8192, if s.val + j = l.val + 15 then U (ix2 l y) * D (ix2 s y) else 0 := by
    rw [ext]
    by_cases h : 16 ≤ l.val + 31 - j ∧ l.val + 31 - j - 16 < 8192
    · rw [dif_pos h, Finset.sum_eq_single ⟨l.val + 31 - j - 16, h.2⟩ (fun s _ hs => if_neg fun hl => hs (Fin.ext (by dsimp only; omega)))
        (fun h' => absurd (Finset.mem_univ _) h'), if_pos (by dsimp only; omega), mul_comm]
    · rw [dif_neg h, zero_mul, Finset.sum_eq_zero fun s _ => if_neg (by omega)]
  have f (s : Fin 8192) : wide U (s.val + j) y * D (ix2 s y) = ∑ l : Fin 8192, if s.val + j = l.val + 15 then U (ix2 l y) * D (ix2 s y) else 0 := by
    rw [wide]
    by_cases h : 15 ≤ s.val + j ∧ s.val + j - 15 < 8192
    · rw [dif_pos h, Finset.sum_eq_single ⟨s.val + j - 15, h.2⟩ (fun l _ hl => if_neg fun hs => hl (Fin.ext (by dsimp only; omega)))
        (fun h' => absurd (Finset.mem_univ _) h'), if_pos (by dsimp only; omega)]
    · rw [dif_neg h, zero_mul, Finset.sum_eq_zero fun l _ => if_neg (by omega)]
  rw [Finset.sum_congr rfl fun l _ => e l, Finset.sum_comm, Finset.sum_congr rfl fun s _ => f s]

theorem gated_at (t : Fin cfg0.N) (x : Fin 128) (y : Fin 1024) : k0_pay4 (iblk m c 3 t) (iblk m c 4 t) (ix2 x y)
    = val_main_v11 (F := Ideal) (zOf m c) (ix2 ⟨t.val * 128 + x.val, by have := lt_of_lt_of_eq t.isLt N_0; omega⟩ y) := by
  pointwise [k0_pay4, k0_pay3, val_main_v11, val_main_v7, val_main_v6, val_main_v5, val_main_v4, val_main_v3, val_main_v2, val_main_v1, val_main_v0, val_main_cst, val_main_cst_0, Ideal.logistic]
  rw [a_at, b_at]

theorem final8 : (dats m 0 c).arrAt 8 (cfgs 0).N = val_main_v226 (F := Ideal) (dOf m c) (zOf m c) := by
  rw [parts]
  funext q
  obtain ⟨j, y, rfl⟩ : ∃ j y, q = ix2 j y := ⟨q 0, q 1, by idx_ext⟩
  rw [dw_at]
  simp only [outW]
  rw [Finset.sum_congr rfl fun t _ => dwTo_at _ _ j y 31 le_rfl]
  by_cases h : j.val < 31
  · simp only [if_pos h]
    rw [← swap _ _ _ h, Fin.sum_univ_tiles 64 128 rfl]
    refine Finset.sum_congr rfl fun t _ => Finset.sum_congr rfl fun x _ => ?_
    rw [at', dif_pos (by omega), halo_at, gated_at]
    congr 2
    dsimp only
    omega
  · simp only [if_neg h, Finset.sum_const_zero]

end Cert.GluBwdIdeal.Whole

end
-- ==== Proof.RmsFwd.lean ====
/- The value of the root-mean-square norm: each block of rows is the reference's. -/
module

public import proofs.«01_k».proof.Proof.Gen.RmsFwdIdeal.Frame
public import proofs.«01_k».proof.Proof.Gen.RmsFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.RmsFwdIdeal.Whole

open Cert.RmsFwdIdeal Cert.RmsFwdIdeal.Gen

variable (m : (ℓ : Loc nD τ sig) → Buf (Elt Ideal) ℓ) (c : Dev nD)

open Cert.RmsFwdRefIdeal.Read

attribute [local pointwise] val_main_v0 val_main_v1 val_main_cst val_main_v2 val_main_v3 val_main_cst_0 val_main_v4 val_main_v5
  val_main_cst_1 val_main_v6 val_main_v7 val_main_v8 val_main_v9 val_main_v10 val_main_v11 val_main_v12 val_main_v13 val_main_v14

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 (cfgs 0).N = val_main_v14 (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1]
  blk_point [iblk, idx t]

end Cert.RmsFwdIdeal.Whole

end
-- ==== Proof.Merged.lean ====
/- The value of the attention's projection with the gated merge: the projection, and the merged branches. -/
module

public import proofs.«01_k».proof.Proof.Gen.MergedIdeal.Frame
public import proofs.«01_k».proof.Proof.Gen.MergedRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MergedIdeal.Whole

open Cert.MergedIdeal Cert.MergedIdeal.Gen

variable (m : (ℓ : Loc nD τ sig) → Buf (Elt Ideal) ℓ) (c : Dev nD)

open Cert.MergedRefIdeal.Read

attribute [local pointwise] val_main_v0 val_main_v1 val_main_v2 val_main_v3 val_main_v4 val_main_v5 val_main_cst val_main_v6 val_main_v7
  val_main_cst_0 val_main_v8 val_main_v9 val_main_v10 val_main_v11 val_main_v12 val_main_cst_1 val_main_v13 val_main_v14
  val_main_cst_2 val_main_v15 val_main_v16 val_main_v17 val_main_v18 val_main_v19

theorem idx : ∀ t : Fin cfg0.N, win0_0.index t = ![t.val % 16, 0] ∧ win0_1.index t = ![0, 0, t.val / 16]
    ∧ win0_2.index t = ![t.val % 16, 5 + t.val / 16] ∧ win0_3.index t = ![t.val % 16, 7 + t.val / 16]
    ∧ win0_4.index t = ![t.val % 16, t.val / 16] ∧ win0_5.index t = ![t.val % 16, t.val / 16]
    ∧ win0_6.index t = ![t.val % 16, t.val / 16] :=
  (by decide +kernel : ∀ t : Fin grid0.N, _)

theorem final5 : (dats m 0 c).arrAt 5 (cfgs 0).N = val_main_v1 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  unfold Gen.outsAt0
  frame_out
  pointwise [k0_pay1]
  blk_point [iblk, idx t]

theorem final6 : (dats m 0 c).arrAt 6 (cfgs 0).N
    = val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  unfold Gen.outsAt0
  frame_out
  pointwise [k0_pay2, k0_pay1, Ideal.logistic]
  blk_point [iblk, idx t]

end Cert.MergedIdeal.Whole

end
-- ==== Proof.Act.lean ====
/- The value of the channel mixer's first product, and of its squared ReLU. -/
module

public import proofs.«01_k».proof.Proof.Gen.ActIdeal.Frame
public import proofs.«01_k».proof.Proof.Gen.ActRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ActIdeal.Whole

open Cert.ActIdeal Cert.ActIdeal.Gen

variable (m : (ℓ : Loc nD τ sig) → Buf (Elt Ideal) ℓ) (c : Dev nD)

open Cert.ActRefIdeal.Read

attribute [local pointwise] val_main_v0 val_main_v1 val_main_v2 val_main_call0_cst val_main_call0_v0 val_main_v3 val_main_v4 val_main_v5

theorem idx : ∀ t : Fin cfg0.N, win0_0.index t = ![t.val % 8, 0] ∧ win0_1.index t = ![t.val / 8, 0, 0]
    ∧ win0_2.index t = ![t.val % 8, t.val / 8] ∧ win0_3.index t = ![t.val % 8, t.val / 8] :=
  (by decide +kernel : ∀ t : Fin grid0.N, _)

theorem final2 : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  pointwise [k0_pay1]
  blk_point [iblk, idx t]

theorem final3 : (dats m 0 c).arrAt 3 (cfgs 0).N = val_main_v5 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold Gen.outsAt0
  frame_out
  pointwise [k0_pay2, k0_pay1]
  blk_point [iblk, idx t]

end Cert.ActIdeal.Whole

end
-- ==== Proof.HeadsK.lean ====
/- The key heads: the norm and the rotary embedding, block by block. -/
module

public import proofs.«01_k».proof.Proof.Reals
public import proofs.«01_k».proof.Proof.Gen.KeysRefIdeal.Read
public import proofs.«01_k».proof.Proof.Gen.KeysIdeal.Frame
public import Idealize.ShloMosaic.Lib.StableHlo.RunRead
public import Idealize.ShloMosaic.Lib.Pipeline.ValueKit

@[expose] public section

set_option maxRecDepth 16384

noncomputable section

open Idealize.ShloMosaic Idealize.SL.Sem Idealize.ShloMosaic.TcCoe Idealize.ShloMosaic.Pipeline

namespace Cert.KeysRefIdeal.Hand

open Cert.Reals Cert.KeysRefIdeal Cert.KeysRefIdeal.Gen Cert.KeysRefIdeal.Read

variable (Z : (⟨S8192x9216, .f32⟩ : BufTy).Contents (Elt Ideal)) (G : (⟨S1x128, .f32⟩ : BufTy).Contents (Elt Ideal))

/-- The tables at a lane: the first 64 lanes turn by the row's angle, the others by the column's. -/
def C (t : Fin 8192) (j : Fin 128) : EReal :=
  if j.val < 64 then val_main_v46 (F := Ideal) (ix2 t ⟨j.val % 32, by omega⟩) else val_main_v64 (F := Ideal) (ix2 t ⟨j.val % 32, by omega⟩)
def S (t : Fin 8192) (j : Fin 128) : EReal :=
  if j.val < 64 then val_main_v48 (F := Ideal) (ix2 t ⟨j.val % 32, by omega⟩) else val_main_v66 (F := Ideal) (ix2 t ⟨j.val % 32, by omega⟩)

/-- A lane's partner has the same angle. -/
theorem S_partner (t : Fin 8192) (i j : Fin 128) (h : i.val % 32 = j.val % 32) (h' : i.val / 64 = j.val / 64) : S t i = S t j := by
  unfold S
  have e : (i.val < 64) = (j.val < 64) := by rw [eq_iff_iff]; omega
  simp only [h, e]

section Turned

attribute [local pointwise] val_main_v45 val_main_v47 val_main_v49 val_main_v50 val_main_v51 val_main_v52 val_main_v53 val_main_v54 val_main_v55 val_main_v56 val_main_v57 val_main_v58 val_main_v59 val_main_v60 val_main_v61 val_main_v62 val_main_v63 val_main_v65 val_main_v67 val_main_v68 val_main_v69 val_main_v70 val_main_v71 val_main_v72 val_main_v73 val_main_v74 val_main_v75 val_main_v76 val_main_v77 val_main_v78 val_main_v79 val_main_v80 val_main_v81

/-- The rotation: a lane of a half's first 32 with the lane 32 after it, and one of its last 32 with the lane 32 before it. -/
theorem up_low (t : Fin 8192) (h : Fin 4) (j : Fin 128) (hj : j.val % 64 < 32) : val_main_v81 (F := Ideal) Z G (ix3 t h j)
    = val_main_v44 (F := Ideal) Z G (ix3 t h j) * C t j + val_main_v44 (F := Ideal) Z G (ix3 t h ⟨j.val + 32, by omega⟩) * -S t j := by
  unfold C S
  pointwise
  have hb := j.isLt
  by_cases h64 : j.val < 64
  · simp (disch := omega) only [dif_pos, if_pos, sub_eq_add_neg, mul_neg]
    congr! 5 <;> first | omega | (dsimp only; done) | (dsimp only; omega) | exact congrArg (ix2 t) (Fin.ext (by dsimp only; omega)) | exact Fin.ext (by dsimp only; omega)
  · simp (disch := omega) only [dif_pos, dif_neg, if_neg, sub_eq_add_neg, mul_neg]
    congr! 5 <;> first | omega | (dsimp only; done) | (dsimp only; omega) | exact congrArg (ix2 t) (Fin.ext (by dsimp only; omega)) | exact Fin.ext (by dsimp only; omega)

theorem up_high (t : Fin 8192) (h : Fin 4) (j : Fin 128) (hj : ¬ j.val % 64 < 32) : val_main_v81 (F := Ideal) Z G (ix3 t h j)
    = val_main_v44 (F := Ideal) Z G (ix3 t h j) * C t j + val_main_v44 (F := Ideal) Z G (ix3 t h ⟨j.val - 32, by omega⟩) * S t j := by
  unfold C S
  pointwise
  have hb := j.isLt
  by_cases h64 : j.val < 64
  · simp (disch := omega) only [dif_pos, dif_neg, if_pos]
    congr! 5 <;> first | omega | (dsimp only; done) | (dsimp only; omega) | exact congrArg (ix2 t) (Fin.ext (by dsimp only; omega)) | exact Fin.ext (by dsimp only; omega)
  · simp (disch := omega) only [dif_neg, if_neg]
    congr! 5 <;> first | omega | (dsimp only; done) | (dsimp only; omega) | exact congrArg (ix2 t) (Fin.ext (by dsimp only; omega)) | exact Fin.ext (by dsimp only; omega)

end Turned

attribute [local pointwise] val_main_v31 val_main_v32 val_main_cst_3 val_main_v33 val_main_v34 val_main_cst_4 val_main_v35 val_main_v36 val_main_cst_5 val_main_v37
  val_main_v38 val_main_v39 val_main_v40 val_main_v41 val_main_v42 val_main_v43 val_main_v44

/-- A head's norm. -/
theorem normed_at (t : Fin 8192) (h : Fin 4) (j : Fin 128) : val_main_v44 (F := Ideal) Z G (ix3 t h j)
    = (let x := fun k => val_main_v30 (F := Ideal) Z (ix3 t h k)
       x j * Ideal.rsqrt (Ideal.div (∑ k, x k * x k) (Ideal.ofBits .f32 0x43000000#32) + Ideal.ofBits .f32 0x358637BD#32) * G (ix2 0 j)) := by
  dsimp only
  pointwise

end Cert.KeysRefIdeal.Hand

namespace Cert.KeysIdeal.Whole

open Cert.Reals Cert.KeysIdeal Cert.KeysIdeal.Gen Cert.KeysRefIdeal.Read
open Cert.KeysRefIdeal.Hand (C S S_partner)
open Cert.KeysRefIdeal.Hand (up_low up_high normed_at)

/-- The four heads of a block of the projection. -/
def heads (z : Vec Ideal S1024x512 .f32) : Fin 4 → FVec Ideal S1024x128 .f32 :=
  ![extractStridedSlice S1024x128 ![0, 0] z slices_S1024x512_o0_0_S1024x128, extractStridedSlice S1024x128 ![0, 128] z slices_S1024x512_o0_128_S1024x128,
    extractStridedSlice S1024x128 ![0, 256] z slices_S1024x512_o0_256_S1024x128, extractStridedSlice S1024x128 ![0, 384] z slices_S1024x512_o0_384_S1024x128]

theorem heads_at (z : Vec Ideal S1024x512 .f32) (g : Fin 4) (x : Fin 1024) (j : Fin 128) : heads z g (ix2 x j) = z (ix2 x ⟨g.val * 128 + j.val, by omega⟩) := by
  unfold heads
  fin_cases g <;> pointwise

/-- A head's norm, its rotation, and four heads side by side. -/
def normed (g : Vec Ideal S1x128 .f32) (x : FVec Ideal S1024x128 .f32) : FVec Ideal S1024x128 .f32 :=
  mulf (mulf x (broadcastTo S1024x128 (rsqrt (addf (divf (shapeCast S1024x1 (multiReduction .add [1] S1024 (mulf x x) 0x00000000#32 reduces_S1024x128_S1024 (.inl rfl) rfl) shapeCasts_S1024_S1024x1)
    (broadcast S1024x1 (Scalar.ofBits .f32 0x43000000#32))) (broadcast S1024x1 (Scalar.ofBits .f32 0x358637BD#32)))) broadcasts_S1024x1_S1024x128))
    (broadcastTo S1024x128 g broadcasts_S1x128_S1024x128)
def turn (c s y : FVec Ideal S1024x128 .f32) : FVec Ideal S1024x128 .f32 := k0_pay7 (F := Ideal) s y (mulf y c) k0_pay6 96#32
def four (d : Fin 4 → FVec Ideal S1024x128 .f32) : FVec Ideal S1024x512 .bf16 :=
  truncf .bf16 (concatenate S1024x512 1 [⟨S1024x128, d 0⟩, ⟨S1024x128, d 1⟩, ⟨S1024x128, d 2⟩, ⟨S1024x128, d 3⟩] concatenates_S1024x128_S1024x128_S1024x128_S1024x128_S1024x512_d1) bitsLt_bf16_f32

theorem four_at (d : Fin 4 → FVec Ideal S1024x128 .f32) (x : Fin 1024) (j : Fin 512) : four d (ix2 x j) = d ⟨j.val / 128, by omega⟩ (ix2 x ⟨j.val % 128, by omega⟩) := by
  have hb := j.isLt
  pointwise [four]
  obtain h | h | h | h : j.val / 128 = 0 ∨ j.val / 128 = 1 ∨ j.val / 128 = 2 ∨ j.val / 128 = 3 := by omega
  all_goals
    simp (disch := omega) only [dif_pos, dif_neg, h]
    refine congrArg (fun k => d _ (ix2 x k)) (Fin.ext ?_)
    dsimp only
    omega

theorem half (x : Fin 1024) (j : Fin 128) : k0_pay6 (ix2 x j) = if j.val % 64 < 32 then 1#1 else 0#1 := by
  pointwise [k0_pay6]
  revert j
  decide

/-- A lane and its partner: a half's first 32 lanes take the lane 32 on, the others the lane 32 back. -/
theorem turn_at (c s y : FVec Ideal S1024x128 .f32) (x : Fin 1024) (j : Fin 128) : turn c s y (ix2 x j)
    = y (ix2 x j) * c (ix2 x j) + (if h : j.val % 64 < 32 then y (ix2 x ⟨j.val + 32, by omega⟩) else y (ix2 x ⟨j.val - 32, by omega⟩)) * s (ix2 x j) := by
  have hb := j.isLt
  unfold turn
  pointwise [k0_pay7]
  rw [half]
  by_cases h : j.val % 64 < 32
  · rw [if_pos h, dif_pos h]
    exact congrArg (fun k => y (ix2 x j) * c (ix2 x j) + y (ix2 x k) * s (ix2 x j)) (Fin.ext (by dsimp only; omega))
  · rw [if_neg h, dif_neg h]
    exact congrArg (fun k => y (ix2 x j) * c (ix2 x j) + y (ix2 x k) * s (ix2 x j)) (Fin.ext (by dsimp only; omega))

theorem norm_at (g : Vec Ideal S1x128 .f32) (v : FVec Ideal S1024x128 .f32) (x : Fin 1024) (j : Fin 128) : normed g v (ix2 x j)
    = v (ix2 x j) * Ideal.rsqrt (Ideal.div (∑ k : Fin 128, v (ix2 x k) * v (ix2 x k)) (Ideal.ofBits .f32 0x43000000#32) + Ideal.ofBits .f32 0x358637BD#32) * g (ix2 0 j) := by
  pointwise [normed]

/-- Four arrays of 32 lanes side by side. -/
def beside (a b c d : FVec Ideal S8192x32 .f32) : FVec Ideal S8192x128 .f32 :=
  concatenate S8192x128 1 [⟨S8192x32, a⟩, ⟨S8192x32, b⟩, ⟨S8192x32, c⟩, ⟨S8192x32, d⟩] concatenates_S8192x32_S8192x32_S8192x32_S8192x32_S8192x128_d1

/-- A lane of the four reads the array its 32 lanes came from. -/
theorem beside_at (a b c d : FVec Ideal S8192x32 .f32) (t : Fin 8192) (j : Fin 128) : beside a b c d (ix2 t j)
    = (if j.val < 64 then if j.val % 64 < 32 then a else b else if j.val % 64 < 32 then c else d) (ix2 t ⟨j.val % 32, by omega⟩) := by
  have hb := j.isLt
  pointwise [beside]
  by_cases h1 : j.val < 64 <;> by_cases h2 : j.val % 64 < 32
  all_goals
    simp (disch := omega) only [dif_pos, dif_neg, if_pos, if_neg, h1, h2, reduceIte]
    congr 2
    exact Fin.ext (by dsimp only; omega)

variable (m : (ℓ : Loc nD τ sig) → Buf (Elt Ideal) ℓ) (c : Dev nD)

theorem idx : ∀ t : Fin cfg0.N, win0_0.index t = ![t.val % 8, 8 + t.val / 8] ∧ win0_1.index t = ![0, 0]
    ∧ win0_2.index t = ![t.val % 8, 0] ∧ win0_3.index t = ![t.val % 8, 0] ∧ win0_4.index t = ![t.val % 8, t.val / 8] :=
  (by decide +kernel : ∀ t : Fin grid0.N, _)

section Tables

attribute [local pointwise] Cert.KeysRefIdeal.Read.val_main_v46 Cert.KeysRefIdeal.Read.val_main_v64 Cert.KeysRefIdeal.Read.val_main_v48 Cert.KeysRefIdeal.Read.val_main_v66 Cert.KeysRefIdeal.Read.val_main_v23 Cert.KeysRefIdeal.Read.val_main_v29
  Cert.KeysRefIdeal.Read.val_main_v1 Cert.KeysRefIdeal.Read.val_main_v2 Cert.KeysRefIdeal.Read.val_main_v3 Cert.KeysRefIdeal.Read.val_main_v4 Cert.KeysRefIdeal.Read.val_main_v5 Cert.KeysRefIdeal.Read.val_main_v6 Cert.KeysRefIdeal.Read.val_main_v7 Cert.KeysRefIdeal.Read.val_main_v8 Cert.KeysRefIdeal.Read.val_main_cst Cert.KeysRefIdeal.Read.val_main_v9 Cert.KeysRefIdeal.Read.val_main_v10
  Cert.KeysRefIdeal.Read.val_main_cst_0 Cert.KeysRefIdeal.Read.val_main_v11 Cert.KeysRefIdeal.Read.val_main_v12 Cert.KeysRefIdeal.Read.val_main_v13 Cert.KeysRefIdeal.Read.val_main_cst_1 Cert.KeysRefIdeal.Read.val_main_v14 Cert.KeysRefIdeal.Read.val_main_v15 Cert.KeysRefIdeal.Read.val_main_cst_2 Cert.KeysRefIdeal.Read.val_main_v16 Cert.KeysRefIdeal.Read.val_main_v17
  Cert.KeysRefIdeal.Read.val_main_v18 Cert.KeysRefIdeal.Read.val_main_v19 Cert.KeysRefIdeal.Read.val_main_v20 Cert.KeysRefIdeal.Read.val_main_v21 Cert.KeysRefIdeal.Read.val_main_v22 Cert.KeysRefIdeal.Read.val_main_v24 Cert.KeysRefIdeal.Read.val_main_v25 Cert.KeysRefIdeal.Read.val_main_v26 Cert.KeysRefIdeal.Read.val_main_v27 Cert.KeysRefIdeal.Read.val_main_v28

/-- The host's operations, cut before the tables are put together. -/
theorem cut (b : Ref sig .tc) : V m c b = StableHlo.after (hostOps0.drop 42) (StableHlo.after (hostOps0.take 42) fun b => m (c, b)) b := by
  rw [← StableHlo.after_append, List.take_append_drop]

theorem v26_at (t : Fin 8192) (j : Fin 32) : V m c main_v26 (ix2 t j) = Cert.KeysRefIdeal.Read.val_main_v46 (F := Ideal) (ix2 t j) := by
  show StableHlo.after hostOps0 _ _ _ = _
  unfold hostOps0
  after_results_simp
  pointwise

theorem v33_at (t : Fin 8192) (j : Fin 32) : V m c main_v33 (ix2 t j) = Cert.KeysRefIdeal.Read.val_main_v64 (F := Ideal) (ix2 t j) := by
  show StableHlo.after hostOps0 _ _ _ = _
  unfold hostOps0
  after_results_simp
  pointwise

theorem v29_at (t : Fin 8192) (j : Fin 32) : V m c main_v29 (ix2 t j) = Cert.KeysRefIdeal.Read.val_main_v48 (F := Ideal) (ix2 t j) := by
  show StableHlo.after hostOps0 _ _ _ = _
  unfold hostOps0
  after_results_simp
  pointwise

theorem v37_at (t : Fin 8192) (j : Fin 32) : V m c main_v37 (ix2 t j) = Cert.KeysRefIdeal.Read.val_main_v66 (F := Ideal) (ix2 t j) := by
  show StableHlo.after hostOps0 _ _ _ = _
  unfold hostOps0
  after_results_simp
  pointwise

end Tables

theorem v38_eq : V m c main_v38 = beside (V m c main_v26) (V m c main_v26) (V m c main_v33) (V m c main_v33) := by
  rw [cut m c main_v38, cut m c main_v26, cut m c main_v33]
  unfold beside
  generalize StableHlo.after ((hostOps0 (F := Ideal)).take 42) _ = W
  simp only [hostOps0, List.drop_succ_cons, List.drop_zero]
  after_reads_simp
  rfl

theorem v41_eq : V m c main_v41 = beside (Host.negf (F := Ideal) (φ := .f32) (V m c main_v29)) (V m c main_v29) (Host.negf (F := Ideal) (φ := .f32) (V m c main_v37)) (V m c main_v37) := by
  rw [cut m c main_v41, cut m c main_v29, cut m c main_v37]
  unfold beside
  generalize StableHlo.after ((hostOps0 (F := Ideal)).take 42) _ = W
  simp only [hostOps0, List.drop_succ_cons, List.drop_zero]
  after_reads_simp
  rfl

theorem tab_c (t : Fin 8192) (j : Fin 128) : V m c main_v38 (ix2 t j) = C t j := by
  rw [v38_eq, beside_at]
  unfold C
  rw [← v26_at m c, ← v33_at m c]
  split_ifs <;> rfl

theorem tab_s (t : Fin 8192) (j : Fin 128) : V m c main_v41 (ix2 t j) = if j.val % 64 < 32 then -S t j else S t j := by
  rw [v41_eq, beside_at]
  unfold S
  rw [← v29_at m c, ← v37_at m c]
  split_ifs <;> rfl

/-- A row of a point's block, and the `g`-th head of a point's four. -/
abbrev at_ (t : Fin cfg0.N) (x : Fin 1024) : Fin 8192 := ⟨t.val % 8 * 1024 + x.val, by omega⟩
abbrev hd (t : Fin cfg0.N) (g : Fin 4) : Fin 4 := ⟨t.val / 8 * 4 + g.val, by have := lt_of_lt_of_eq t.isLt N_0; omega⟩

theorem blk_z (t : Fin cfg0.N) (g : Fin 4) (x : Fin 1024) (j : Fin 128) : heads (iblk m c 0 t) g (ix2 x j)
    = val_main_v30 (F := Ideal) (m ((c : Thread nD τ).loc main_arg0)) (ix3 (at_ t x) (hd t g) j) := by
  have ht := lt_of_lt_of_eq t.isLt N_0
  have h : ∀ j : Fin 512, iblk m c 0 t (ix2 x j) = m ((c : Thread nD τ).loc main_arg0) (ix2 (at_ t x) ⟨4096 + (t.val / 8 * 512 + j.val), by omega⟩) := by
    intro j; blk_point [iblk, idx t]
  rw [heads_at, h]
  unfold val_main_v30 val_main_v0
  pointwise
  congr! 2
  exact Fin.ext (by dsimp only; omega)

theorem blk_g (t : Fin cfg0.N) (j : Fin 128) : iblk m c 1 t (ix2 0 j) = m ((c : Thread nD τ).loc main_arg1) (ix2 0 j) := by
  blk_point [iblk, idx t]

theorem blk_c (t : Fin cfg0.N) (x : Fin 1024) (j : Fin 128) : k0_pay2 (F := Ideal) (iblk m c 2 t) (ix2 x j) = C (at_ t x) j := by
  rw [← tab_c m c]
  pointwise [k0_pay2]
  blk_point [iblk, idx t]

theorem blk_s (t : Fin cfg0.N) (x : Fin 1024) (j : Fin 128) : k0_pay3 (F := Ideal) (iblk m c 3 t) (ix2 x j) = if j.val % 64 < 32 then -S (at_ t x) j else S (at_ t x) j := by
  rw [← tab_s m c]
  pointwise [k0_pay3]
  blk_point [iblk, idx t]

theorem blk_n (t : Fin cfg0.N) (g : Fin 4) (x : Fin 1024) (j : Fin 128) : normed (iblk m c 1 t) (heads (iblk m c 0 t) g) (ix2 x j)
    = val_main_v44 (F := Ideal) (m ((c : Thread nD τ).loc main_arg0)) (m ((c : Thread nD τ).loc main_arg1)) (ix3 (at_ t x) (hd t g) j) := by
  rw [norm_at, normed_at]
  dsimp only
  simp only [blk_z]
  rw [← blk_g m c t]

/-- A head of a point's block, turned. -/
theorem blk_t (t : Fin cfg0.N) (g : Fin 4) (x : Fin 1024) (j : Fin 128) :
    turn (k0_pay2 (iblk m c 2 t)) (k0_pay3 (iblk m c 3 t)) (normed (iblk m c 1 t) (heads (iblk m c 0 t) g)) (ix2 x j)
    = val_main_v81 (F := Ideal) (m ((c : Thread nD τ).loc main_arg0)) (m ((c : Thread nD τ).loc main_arg1)) (ix3 (at_ t x) (hd t g) j) := by
  have hb := j.isLt
  rw [turn_at, blk_n, blk_c, blk_s]
  by_cases h : j.val % 64 < 32
  · rw [dif_pos h, blk_n, up_low _ _ _ _ _ h, if_pos h]
  · rw [dif_neg h, blk_n, up_high _ _ _ _ _ h, if_neg h]

theorem turn_0 (z : Vec Ideal S1024x512 .f32) (g : Vec Ideal S1x128 .f32) (c s : Vec Ideal S1024x128 .f32) :
    k0_pay7 (F := Ideal) (k0_pay3 s) (k0_pay4 z g) (k0_pay5 z g c) k0_pay6 96#32 = turn (k0_pay2 c) (k0_pay3 s) (normed g (heads z 0)) := rfl
theorem turn_1 (z : Vec Ideal S1024x512 .f32) (g : Vec Ideal S1x128 .f32) (c s : FVec Ideal S1024x128 .f32) :
    k0_pay8 (F := Ideal) z g c s = turn c s (normed g (heads z 1)) := rfl
theorem turn_2 (z : Vec Ideal S1024x512 .f32) (g : Vec Ideal S1x128 .f32) (c s : FVec Ideal S1024x128 .f32) :
    k0_pay11 (F := Ideal) g c s (k0_pay9 z) (k0_pay10 z) = turn c s (normed g (heads z 2)) := rfl
theorem turn_3 (z : Vec Ideal S1024x512 .f32) (g : Vec Ideal S1x128 .f32) (c s a b d : FVec Ideal S1024x128 .f32) :
    k0_pay1 (F := Ideal) g c s a b d (k0_pay12 z) = four ![a, b, d, turn c s (normed g (heads z 3))] := rfl

theorem stored (z : Vec Ideal S1024x512 .f32) (g : Vec Ideal S1x128 .f32) (c s : Vec Ideal S1024x128 .f32) :
    out0_4 (F := Ideal) z g c s = four fun i => turn (k0_pay2 c) (k0_pay3 s) (normed g (heads z i)) := by
  frame_out [k0_pay13, k0_pay14]
  rw [turn_0, turn_1, turn_2, turn_3]
  rfl

/-- The heads side by side again, rounded. -/
theorem beside_heads (Z : (⟨S8192x9216, .f32⟩ : BufTy).Contents (Elt Ideal)) (G : (⟨S1x128, .f32⟩ : BufTy).Contents (Elt Ideal)) (t : Fin 8192) (j : Fin 512) :
    val_main_v83 (F := Ideal) Z G (ix2 t j) = val_main_v81 (F := Ideal) Z G (ix3 t ⟨j.val / 128, by omega⟩ ⟨j.val % 128, by omega⟩) := by
  pointwise [val_main_v83, val_main_v82]

theorem final : (dats m 0 c).arrAt 4 (cfgs 0).N
    = val_main_v83 (F := Ideal) (m ((c : Thread nD τ).loc main_arg0)) (m ((c : Thread nD τ).loc main_arg1)) := by
  refine (dats m 0 c).arrAt_eq_of_covers 4 _ (by decide +kernel) fun t _ y => ?_
  have hN := lt_of_lt_of_eq t.isLt N_0
  blk_simp
  rw [after0_4]
  refine (congrFun (stored _ _ _ _) y).trans ?_
  obtain ⟨x, j, rfl⟩ : ∃ x j, y = ix2 x j := ⟨y 0, y 1, eq_ix2 _⟩
  have he : (win0_4.blk t).view.emb (ix2 x j) = ix2 (at_ t x) ⟨t.val / 8 * 512 + j.val, by omega⟩ := by blk_ext [idx t]
  rw [he, four_at]
  rw [beside_heads, blk_t]
  have hj := j.isLt
  congr 2 <;> exact Fin.ext (by dsimp only; omega)

end Cert.KeysIdeal.Whole

end
-- ==== Proof.HeadsQ.lean ====
/- The query heads: the norm, the rotary embedding and the scale, block by block. -/
module

public import proofs.«01_k».proof.Proof.Reals
public import proofs.«01_k».proof.Proof.HeadsK
public import proofs.«01_k».proof.Proof.Gen.QueriesRefIdeal.Read
public import proofs.«01_k».proof.Proof.Gen.QueriesIdeal.Frame
public import Idealize.ShloMosaic.Lib.StableHlo.RunRead
public import Idealize.ShloMosaic.Lib.Pipeline.ValueKit

@[expose] public section

set_option maxRecDepth 16384

noncomputable section

open Idealize.ShloMosaic Idealize.SL.Sem Idealize.ShloMosaic.TcCoe Idealize.ShloMosaic.Pipeline

namespace Cert.QueriesRefIdeal.Hand

open Cert.Reals Cert.QueriesRefIdeal Cert.QueriesRefIdeal.Gen Cert.QueriesRefIdeal.Read
open Cert.KeysRefIdeal.Hand (C S)

variable (Z : (⟨S8192x9216, .f32⟩ : BufTy).Contents (Elt Ideal)) (G : (⟨S1x128, .f32⟩ : BufTy).Contents (Elt Ideal))

section Turned

attribute [local pointwise] val_main_v45 val_main_v47 val_main_v49 val_main_v50 val_main_v51 val_main_v52 val_main_v53 val_main_v54 val_main_v55 val_main_v56 val_main_v57 val_main_v58 val_main_v59 val_main_v60 val_main_v61 val_main_v62 val_main_v63 val_main_v65 val_main_v67 val_main_v68 val_main_v69 val_main_v70 val_main_v71 val_main_v72 val_main_v73 val_main_v74 val_main_v75 val_main_v76 val_main_v77 val_main_v78 val_main_v79 val_main_v80 val_main_v81

/-- The tables are the keys'. -/
theorem cos_row : val_main_v46 (F := Ideal) = Cert.KeysRefIdeal.Read.val_main_v46 := rfl
theorem cos_col : val_main_v64 (F := Ideal) = Cert.KeysRefIdeal.Read.val_main_v64 := rfl
theorem sin_row : val_main_v48 (F := Ideal) = Cert.KeysRefIdeal.Read.val_main_v48 := rfl
theorem sin_col : val_main_v66 (F := Ideal) = Cert.KeysRefIdeal.Read.val_main_v66 := rfl

theorem up_low (t : Fin 8192) (h : Fin 16) (j : Fin 128) (hj : j.val % 64 < 32) : val_main_v81 (F := Ideal) Z G (ix3 t h j)
    = val_main_v44 (F := Ideal) Z G (ix3 t h j) * C t j + val_main_v44 (F := Ideal) Z G (ix3 t h ⟨j.val + 32, by omega⟩) * -S t j := by
  unfold C S
  rw [← cos_row, ← cos_col, ← sin_row, ← sin_col]
  pointwise
  have hb := j.isLt
  by_cases h64 : j.val < 64
  · simp (disch := omega) only [dif_pos, if_pos, sub_eq_add_neg, mul_neg]
    congr! 5 <;> first | omega | (dsimp only; done) | (dsimp only; omega) | exact congrArg (ix2 t) (Fin.ext (by dsimp only; omega)) | exact Fin.ext (by dsimp only; omega)
  · simp (disch := omega) only [dif_pos, dif_neg, if_neg, sub_eq_add_neg, mul_neg]
    congr! 5 <;> first | omega | (dsimp only; done) | (dsimp only; omega) | exact congrArg (ix2 t) (Fin.ext (by dsimp only; omega)) | exact Fin.ext (by dsimp only; omega)

theorem up_high (t : Fin 8192) (h : Fin 16) (j : Fin 128) (hj : ¬ j.val % 64 < 32) : val_main_v81 (F := Ideal) Z G (ix3 t h j)
    = val_main_v44 (F := Ideal) Z G (ix3 t h j) * C t j + val_main_v44 (F := Ideal) Z G (ix3 t h ⟨j.val - 32, by omega⟩) * S t j := by
  unfold C S
  rw [← cos_row, ← cos_col, ← sin_row, ← sin_col]
  pointwise
  have hb := j.isLt
  by_cases h64 : j.val < 64
  · simp (disch := omega) only [dif_pos, dif_neg, if_pos]
    congr! 5 <;> first | omega | (dsimp only; done) | (dsimp only; omega) | exact congrArg (ix2 t) (Fin.ext (by dsimp only; omega)) | exact Fin.ext (by dsimp only; omega)
  · simp (disch := omega) only [dif_neg, if_neg]
    congr! 5 <;> first | omega | (dsimp only; done) | (dsimp only; omega) | exact congrArg (ix2 t) (Fin.ext (by dsimp only; omega)) | exact Fin.ext (by dsimp only; omega)

end Turned

attribute [local pointwise] val_main_v31 val_main_v32 val_main_cst_3 val_main_v33 val_main_v34 val_main_cst_4 val_main_v35 val_main_v36 val_main_cst_5 val_main_v37
  val_main_v38 val_main_v39 val_main_v40 val_main_v41 val_main_v42 val_main_v43 val_main_v44

/-- A head's norm. -/
theorem normed_at (t : Fin 8192) (h : Fin 16) (j : Fin 128) : val_main_v44 (F := Ideal) Z G (ix3 t h j)
    = (let x := fun k => val_main_v30 (F := Ideal) Z (ix3 t h k)
       x j * Ideal.rsqrt (Ideal.div (∑ k, x k * x k) (Ideal.ofBits .f32 0x43000000#32) + Ideal.ofBits .f32 0x358637BD#32) * G (ix2 0 j)) := by
  dsimp only
  pointwise

end Cert.QueriesRefIdeal.Hand

namespace Cert.QueriesIdeal.Whole

open Cert.Reals Cert.QueriesIdeal Cert.QueriesIdeal.Gen Cert.QueriesRefIdeal.Read
open Cert.KeysRefIdeal.Hand (C S S_partner)
open Cert.QueriesRefIdeal.Hand (up_low up_high normed_at)
open Cert.KeysIdeal.Whole (heads heads_at normed turn four four_at turn_at norm_at beside beside_at)

variable (m : (ℓ : Loc nD τ sig) → Buf (Elt Ideal) ℓ) (c : Dev nD)

theorem idx : ∀ t : Fin cfg0.N, win0_0.index t = ![t.val % 8, 4 + t.val / 8] ∧ win0_1.index t = ![0, 0]
    ∧ win0_2.index t = ![t.val % 8, 0] ∧ win0_3.index t = ![t.val % 8, 0] ∧ win0_4.index t = ![t.val % 8, t.val / 8] :=
  (by decide +kernel : ∀ t : Fin grid0.N, _)

section Tables

attribute [local pointwise] Cert.KeysRefIdeal.Read.val_main_v46 Cert.KeysRefIdeal.Read.val_main_v64 Cert.KeysRefIdeal.Read.val_main_v48 Cert.KeysRefIdeal.Read.val_main_v66 Cert.KeysRefIdeal.Read.val_main_v23 Cert.KeysRefIdeal.Read.val_main_v29
  Cert.KeysRefIdeal.Read.val_main_v1 Cert.KeysRefIdeal.Read.val_main_v2 Cert.KeysRefIdeal.Read.val_main_v3 Cert.KeysRefIdeal.Read.val_main_v4 Cert.KeysRefIdeal.Read.val_main_v5 Cert.KeysRefIdeal.Read.val_main_v6 Cert.KeysRefIdeal.Read.val_main_v7 Cert.KeysRefIdeal.Read.val_main_v8 Cert.KeysRefIdeal.Read.val_main_cst Cert.KeysRefIdeal.Read.val_main_v9 Cert.KeysRefIdeal.Read.val_main_v10
  Cert.KeysRefIdeal.Read.val_main_cst_0 Cert.KeysRefIdeal.Read.val_main_v11 Cert.KeysRefIdeal.Read.val_main_v12 Cert.KeysRefIdeal.Read.val_main_v13 Cert.KeysRefIdeal.Read.val_main_cst_1 Cert.KeysRefIdeal.Read.val_main_v14 Cert.KeysRefIdeal.Read.val_main_v15 Cert.KeysRefIdeal.Read.val_main_cst_2 Cert.KeysRefIdeal.Read.val_main_v16 Cert.KeysRefIdeal.Read.val_main_v17
  Cert.KeysRefIdeal.Read.val_main_v18 Cert.KeysRefIdeal.Read.val_main_v19 Cert.KeysRefIdeal.Read.val_main_v20 Cert.KeysRefIdeal.Read.val_main_v21 Cert.KeysRefIdeal.Read.val_main_v22 Cert.KeysRefIdeal.Read.val_main_v24 Cert.KeysRefIdeal.Read.val_main_v25 Cert.KeysRefIdeal.Read.val_main_v26 Cert.KeysRefIdeal.Read.val_main_v27 Cert.KeysRefIdeal.Read.val_main_v28

/-- The host's operations, cut before the tables are put together. -/
theorem cut (b : Ref sig .tc) : V m c b = StableHlo.after (hostOps0.drop 42) (StableHlo.after (hostOps0.take 42) fun b => m (c, b)) b := by
  rw [← StableHlo.after_append, List.take_append_drop]

theorem v26_at (t : Fin 8192) (j : Fin 32) : V m c main_v26 (ix2 t j) = Cert.KeysRefIdeal.Read.val_main_v46 (F := Ideal) (ix2 t j) := by
  show StableHlo.after hostOps0 _ _ _ = _
  unfold hostOps0
  after_results_simp
  pointwise

theorem v33_at (t : Fin 8192) (j : Fin 32) : V m c main_v33 (ix2 t j) = Cert.KeysRefIdeal.Read.val_main_v64 (F := Ideal) (ix2 t j) := by
  show StableHlo.after hostOps0 _ _ _ = _
  unfold hostOps0
  after_results_simp
  pointwise

theorem v29_at (t : Fin 8192) (j : Fin 32) : V m c main_v29 (ix2 t j) = Cert.KeysRefIdeal.Read.val_main_v48 (F := Ideal) (ix2 t j) := by
  show StableHlo.after hostOps0 _ _ _ = _
  unfold hostOps0
  after_results_simp
  pointwise

theorem v37_at (t : Fin 8192) (j : Fin 32) : V m c main_v37 (ix2 t j) = Cert.KeysRefIdeal.Read.val_main_v66 (F := Ideal) (ix2 t j) := by
  show StableHlo.after hostOps0 _ _ _ = _
  unfold hostOps0
  after_results_simp
  pointwise

end Tables

theorem v38_eq : V m c main_v38 = beside (V m c main_v26) (V m c main_v26) (V m c main_v33) (V m c main_v33) := by
  rw [cut m c main_v38, cut m c main_v26, cut m c main_v33]
  unfold beside
  generalize StableHlo.after ((hostOps0 (F := Ideal)).take 42) _ = W
  simp only [hostOps0, List.drop_succ_cons, List.drop_zero]
  after_reads_simp
  rfl

theorem v41_eq : V m c main_v41 = beside (Host.negf (F := Ideal) (φ := .f32) (V m c main_v29)) (V m c main_v29) (Host.negf (F := Ideal) (φ := .f32) (V m c main_v37)) (V m c main_v37) := by
  rw [cut m c main_v41, cut m c main_v29, cut m c main_v37]
  unfold beside
  generalize StableHlo.after ((hostOps0 (F := Ideal)).take 42) _ = W
  simp only [hostOps0, List.drop_succ_cons, List.drop_zero]
  after_reads_simp
  rfl

theorem tab_c (t : Fin 8192) (j : Fin 128) : V m c main_v38 (ix2 t j) = C t j := by
  rw [v38_eq, beside_at]
  unfold C
  rw [← v26_at m c, ← v33_at m c]
  split_ifs <;> rfl

theorem tab_s (t : Fin 8192) (j : Fin 128) : V m c main_v41 (ix2 t j) = if j.val % 64 < 32 then -S t j else S t j := by
  rw [v41_eq, beside_at]
  unfold S
  rw [← v29_at m c, ← v37_at m c]
  split_ifs <;> rfl

/-- A row of a point's block, and the `g`-th head of a point's four. -/
abbrev at_ (t : Fin cfg0.N) (x : Fin 1024) : Fin 8192 := ⟨t.val % 8 * 1024 + x.val, by omega⟩
abbrev hd (t : Fin cfg0.N) (g : Fin 4) : Fin 16 := ⟨t.val / 8 * 4 + g.val, by have := lt_of_lt_of_eq t.isLt N_0; omega⟩

theorem blk_z (t : Fin cfg0.N) (g : Fin 4) (x : Fin 1024) (j : Fin 128) : heads (iblk m c 0 t) g (ix2 x j)
    = val_main_v30 (F := Ideal) (m ((c : Thread nD τ).loc main_arg0)) (ix3 (at_ t x) (hd t g) j) := by
  have ht := lt_of_lt_of_eq t.isLt N_0
  have h : ∀ j : Fin 512, iblk m c 0 t (ix2 x j) = m ((c : Thread nD τ).loc main_arg0) (ix2 (at_ t x) ⟨2048 + (t.val / 8 * 512 + j.val), by omega⟩) := by
    intro j; blk_point [iblk, idx t]
  rw [heads_at, h]
  unfold val_main_v30 val_main_v0
  pointwise
  congr! 2
  exact Fin.ext (by dsimp only; omega)

theorem blk_g (t : Fin cfg0.N) (j : Fin 128) : iblk m c 1 t (ix2 0 j) = m ((c : Thread nD τ).loc main_arg1) (ix2 0 j) := by
  blk_point [iblk, idx t]

theorem blk_c (t : Fin cfg0.N) (x : Fin 1024) (j : Fin 128) : k0_pay2 (F := Ideal) (iblk m c 2 t) (ix2 x j) = C (at_ t x) j := by
  rw [← tab_c m c]
  pointwise [k0_pay2]
  blk_point [iblk, idx t]

theorem blk_s (t : Fin cfg0.N) (x : Fin 1024) (j : Fin 128) : k0_pay3 (F := Ideal) (iblk m c 3 t) (ix2 x j) = if j.val % 64 < 32 then -S (at_ t x) j else S (at_ t x) j := by
  rw [← tab_s m c]
  pointwise [k0_pay3]
  blk_point [iblk, idx t]

theorem blk_n (t : Fin cfg0.N) (g : Fin 4) (x : Fin 1024) (j : Fin 128) : normed (iblk m c 1 t) (heads (iblk m c 0 t) g) (ix2 x j)
    = val_main_v44 (F := Ideal) (m ((c : Thread nD τ).loc main_arg0)) (m ((c : Thread nD τ).loc main_arg1)) (ix3 (at_ t x) (hd t g) j) := by
  rw [norm_at, normed_at]
  dsimp only
  simp only [blk_z]
  rw [← blk_g m c t]

/-- A head of a point's block, turned. -/
theorem blk_t (t : Fin cfg0.N) (g : Fin 4) (x : Fin 1024) (j : Fin 128) :
    turn (k0_pay2 (iblk m c 2 t)) (k0_pay3 (iblk m c 3 t)) (normed (iblk m c 1 t) (heads (iblk m c 0 t) g)) (ix2 x j)
    = val_main_v81 (F := Ideal) (m ((c : Thread nD τ).loc main_arg0)) (m ((c : Thread nD τ).loc main_arg1)) (ix3 (at_ t x) (hd t g) j) := by
  have hb := j.isLt
  rw [turn_at, blk_n, blk_c, blk_s]
  by_cases h : j.val % 64 < 32
  · rw [dif_pos h, blk_n, up_low _ _ _ _ _ h, if_pos h]
  · rw [dif_neg h, blk_n, up_high _ _ _ _ _ h, if_neg h]

/-- A block of turned heads times the named scale. -/
def scaled (y : FVec Ideal S1024x128 .f32) : FVec Ideal S1024x128 .f32 := mulf y (broadcast S1024x128 (Named.named κ "scale" 0x3E0293EE#32))

theorem turn_0 (z : Vec Ideal S1024x512 .f32) (g : Vec Ideal S1x128 .f32) (c s : Vec Ideal S1024x128 .f32) :
    k0_pay7 (F := Ideal) (k0_pay3 s) (k0_pay4 z g) (k0_pay5 z g c) k0_pay6 96#32 = scaled (turn (k0_pay2 c) (k0_pay3 s) (normed g (heads z 0))) := rfl
theorem turn_1 (z : Vec Ideal S1024x512 .f32) (g : Vec Ideal S1x128 .f32) (c s : FVec Ideal S1024x128 .f32) :
    k0_pay9 (F := Ideal) (k0_pay8 z g c s) (Named.named κ "scale" 0x3E0293EE#32) = scaled (turn c s (normed g (heads z 1))) := rfl
theorem turn_2 (z : Vec Ideal S1024x512 .f32) (g : Vec Ideal S1x128 .f32) (c s : FVec Ideal S1024x128 .f32) :
    k0_pay10 (F := Ideal) z g c s = scaled (turn c s (normed g (heads z 2))) := rfl
theorem turn_3 (z : Vec Ideal S1024x512 .f32) (g : Vec Ideal S1x128 .f32) (c s a b d : FVec Ideal S1024x128 .f32) :
    k0_pay1 (F := Ideal) g c s a b d (k0_pay11 z) (k0_pay12 z) = four ![a, b, d, scaled (turn c s (normed g (heads z 3)))] := rfl

theorem stored (z : Vec Ideal S1024x512 .f32) (g : Vec Ideal S1x128 .f32) (c s : Vec Ideal S1024x128 .f32) :
    out0_4 (F := Ideal) z g c s = four fun i => scaled (turn (k0_pay2 c) (k0_pay3 s) (normed g (heads z i))) := by
  frame_out [k0_pay13, k0_pay14]
  rw [turn_0, turn_1, turn_2, turn_3]
  rfl

theorem scale_def : (Named.named (F := Ideal) κ "scale" (φ := .f32) 0x3E0293EE#32 : EReal) = (((Real.sqrt 128)⁻¹ * (Real.log 2)⁻¹ : ℝ) : EReal) := rfl

theorem scaled_at (y : FVec Ideal S1024x128 .f32) (x : Fin 1024) (j : Fin 128) : scaled y (ix2 x j) = y (ix2 x j) * (((Real.sqrt 128)⁻¹ * (Real.log 2)⁻¹ : ℝ) : EReal) := by
  rw [← scale_def]
  pointwise [scaled]

/-- The heads side by side again, divided by the root of the head's length and by the logarithm of two, rounded. -/
theorem beside_heads (Z : (⟨S8192x9216, .f32⟩ : BufTy).Contents (Elt Ideal)) (G : (⟨S1x128, .f32⟩ : BufTy).Contents (Elt Ideal)) (t : Fin 8192) (j : Fin 2048) :
    val_main_v89 (F := Ideal) Z G (ix2 t j) = val_main_v81 (F := Ideal) Z G (ix3 t ⟨j.val / 128, by omega⟩ ⟨j.val % 128, by omega⟩)
      * (((Real.sqrt 128)⁻¹ * (Real.log 2)⁻¹ : ℝ) : EReal) := by
  have e : val_main_v89 (F := Ideal) Z G (ix2 t j) = Ideal.div (Ideal.div (val_main_v81 (F := Ideal) Z G (ix3 t ⟨j.val / 128, by omega⟩ ⟨j.val % 128, by omega⟩))
      (Ideal.sqrt (Ideal.ofBits .f32 0x43000000#32))) (Ideal.log (Ideal.ofBits .f32 0x40000000#32)) := by
    pointwise [val_main_v89, val_main_v88, val_main_v87, val_main_v86, val_main_cst_7, val_main_v85, val_main_v84, val_main_v83, val_main_cst_6, val_main_v82]
  have h1 : Real.sqrt 128 ≠ 0 := (Real.sqrt_pos.2 (by norm_num)).ne'
  have h2 : Real.log 2 ≠ 0 := (Real.log_pos (by norm_num)).ne'
  rw [e, bits_128, bits_two, Ideal.sqrt_coe, Ideal.log_coe, if_neg (by norm_num), if_neg (by norm_num), div_coe _ h1, div_coe _ h2, mul_assoc, ← EReal.coe_mul]

theorem final : (dats m 0 c).arrAt 4 (cfgs 0).N
    = val_main_v89 (F := Ideal) (m ((c : Thread nD τ).loc main_arg0)) (m ((c : Thread nD τ).loc main_arg1)) := by
  refine (dats m 0 c).arrAt_eq_of_covers 4 _ (by decide +kernel) fun t _ y => ?_
  have hN := lt_of_lt_of_eq t.isLt N_0
  blk_simp
  rw [after0_4]
  refine (congrFun (stored _ _ _ _) y).trans ?_
  obtain ⟨x, j, rfl⟩ : ∃ x j, y = ix2 x j := ⟨y 0, y 1, eq_ix2 _⟩
  have he : (win0_4.blk t).view.emb (ix2 x j) = ix2 (at_ t x) ⟨t.val / 8 * 512 + j.val, by omega⟩ := by blk_ext [idx t]
  rw [he, four_at]
  rw [beside_heads, scaled_at, blk_t]
  have hj := j.isLt
  congr 3 <;> exact Fin.ext (by dsimp only; omega)

end Cert.QueriesIdeal.Whole

end
-- ==== Proof.ConvFwd.lean ====
/- The value of the gated convolution with its norm and its gate: the sums of 31 taps, and what is made of them. -/
module

public import proofs.«01_k».proof.Proof.GluBwd
public import proofs.«01_k».proof.Proof.Gen.ConvIdeal.Frame
public import proofs.«01_k».proof.Proof.Gen.ConvRefIdeal.Read
public import Idealize.ShloMosaic.Lib.Pipeline.ValueKit

@[expose] public section

set_option maxRecDepth 65536

noncomputable section

open Idealize.ShloMosaic Idealize.ShloMosaic.TcCoe Idealize.SL.Sem
open scoped BigOperators

namespace Cert.ConvRefIdeal.Whole

open Cert.ConvRefIdeal Cert.ConvRefIdeal.Gen Cert.ConvRefIdeal.Read
open Cert.GluBwdRefIdeal.Whole (wide same_row)

variable (Z : (⟨S8192x9216, .f32⟩ : BufTy).Contents (Elt Ideal)) (W : (⟨S1x31x1024, .f32⟩ : BufTy).Contents (Elt Ideal))
  (G B : (⟨S1x1024, .f32⟩ : BufTy).Contents (Elt Ideal))

theorem padded_at (n : Fin 8222) (y : Fin 1024) : val_main_v10 Z (ix2 n y) = wide (val_main_v8 Z) n.val y := by
  pointwise [val_main_v10, val_main_v9, val_main_cst_1]
  unfold wide
  by_cases h : n.val < 15
  · rw [dif_pos h, dif_neg (by omega)]
  · rw [dif_neg h]
    by_cases h' : n.val - 15 < 8192
    · rw [dif_pos h', dif_pos ⟨by omega, h'⟩]
    · rw [dif_neg h', dif_neg (by omega)]

section Windows

attribute [local pointwise] val_main_v11 val_main_v12 val_main_v13 val_main_v14 val_main_v15 val_main_v16 val_main_v17 val_main_v18 val_main_v19 val_main_v20 val_main_v21
  val_main_v22 val_main_v23 val_main_v24 val_main_v25 val_main_v26 val_main_v27 val_main_v28 val_main_v29 val_main_v30 val_main_v31 val_main_v32
  val_main_v33 val_main_v34 val_main_v35 val_main_v36 val_main_v37 val_main_v38 val_main_v39 val_main_v40 val_main_v41 val_main_v42 val_main_v43
  val_main_v44 val_main_v45 val_main_v46 val_main_v47 val_main_v48 val_main_v49 val_main_v50 val_main_v51 val_main_v52 val_main_v53 val_main_v54
  val_main_v55 val_main_v56 val_main_v57 val_main_v58 val_main_v59 val_main_v60 val_main_v61 val_main_v62 val_main_v63 val_main_v64 val_main_v65
  val_main_v66 val_main_v67 val_main_v68 val_main_v69 val_main_v70 val_main_v71 val_main_v72

theorem lower_at (k : Fin 16) (s : Fin 8192) (y : Fin 1024) : val_main_v73 Z (ix3 k s y) = val_main_v10 Z (ix2 ⟨s.val + k.val, by omega⟩ y) := by
  unfold val_main_v73
  concat_tiles i h
  all_goals
    pointwise
    replace h : k.val = _ := h
    replace h1 : (i 1).val = s.val := h1
    exact same_row _ (by dsimp only; omega) h2

theorem upper_at (k : Fin 15) (s : Fin 8192) (y : Fin 1024) : val_main_v74 Z (ix3 k s y) = val_main_v10 Z (ix2 ⟨s.val + (k.val + 16), by omega⟩ y) := by
  unfold val_main_v74
  concat_tiles i h
  all_goals
    pointwise
    replace h : k.val = _ := h
    replace h1 : (i 1).val = s.val := h1
    exact same_row _ (by dsimp only; omega) h2

end Windows

theorem window_at (k : Fin 31) (s : Fin 8192) (y : Fin 1024) : val_main_v75 Z (ix3 k s y) = wide (val_main_v8 Z) (s.val + k.val) y := by
  by_cases h : k.val < 16
  · have e : val_main_v75 Z (ix3 k s y) = val_main_v73 Z (ix3 ⟨k.val, h⟩ s y) := by pointwise [val_main_v75]; rw [dif_pos h]
    rw [e, lower_at, padded_at]
  · have e : val_main_v75 Z (ix3 k s y) = val_main_v74 Z (ix3 ⟨k.val - 16, by omega⟩ s y) := by pointwise [val_main_v75]; rw [dif_neg h]
    rw [e, upper_at, padded_at]
    congr 1
    show s.val + (k.val - 16 + 16) = _
    omega

theorem conv_at (s : Fin 8192) (y : Fin 1024) : val_main_v80 Z W (ix2 s y) = ∑ k : Fin 31, wide (val_main_v8 Z) (s.val + k.val) y * W (ix3 0 k y) := by
  simp only [← window_at]
  pointwise [val_main_v80, val_main_cst_2, val_main_v79, val_main_v78, val_main_v77, val_main_v76]

end Cert.ConvRefIdeal.Whole

namespace Cert.ConvIdeal.Whole

open Cert.ConvIdeal Cert.ConvIdeal.Gen Cert.ConvRefIdeal.Read
open Cert.ConvRefIdeal.Whole (conv_at)
open Cert.GluBwdRefIdeal.Whole (wide)
open Cert.GluBwdIdeal.Whole (tap tap_at row row_at row_eq at' ext ext_of)

/-- The convolution after the first taps. -/
def convTo (X : FVec Ideal S160x1024 .f32) (W : Vec Ideal S32x1024 .f32) : ℕ → FVec Ideal S128x1024 .f32
  | 0 => broadcast S128x1024 (Scalar.ofBits .f32 0x00000000#32)
  | k + 1 => addf (convTo X W k) (mulf (tap X (30 - k)) (broadcastTo S128x1024 (shapeCast S1x1024 (row W k) shapeCasts_S1x1024_S1x1024) broadcasts_S1x1024_S128x1024))

section Steps

variable (X : FVec Ideal S160x1024 .f32) (W : Vec Ideal S32x1024 .f32) (i : grid0.Coords)
  (a b : Vec Ideal S128x1024 .f32) (ap bp an bn : Vec Ideal S16x1024 .f32) (g e : Vec Ideal S1x1024 .f32)

theorem first_2 : k0_pay3 i a ap bp b an bn (row W 0) (row W 1) = convTo (k0_pay2 i a ap bp b an bn) W 2 := by
  unfold k0_pay3 k0_pay2
  rfl
theorem first_8 : k0_pay4 X (convTo X W 2) 13#32 (row W 2) (row W 3) (row W 4) (row W 5) (row W 6) (row W 7) = convTo X W 8 := rfl
theorem first_14 : k0_pay5 X (convTo X W 8) 7#32 (row W 8) (row W 9) (row W 10) (row W 11) (row W 12) (row W 13) = convTo X W 14 := rfl
theorem first_20 : k0_pay6 X (convTo X W 14) 1#32 (row W 14) (row W 15) (row W 16) (row W 17) (row W 18) (row W 19) = convTo X W 20 := rfl
theorem first_26 : k0_pay8 X (convTo X W 20) (k0_pay7 X) (row W 20) (row W 21) (row W 22) (row W 23) (row W 24) (row W 25) = convTo X W 26 := rfl
theorem first_31 : k0_pay10 X (convTo X W 26) (k0_pay9 X) (row W 26) (row W 27) (row W 28) (row W 29) (row W 30) = convTo X W 31 := rfl

/-- A block less its rows' means. -/
def centred (v : FVec Ideal S128x1024 .f32) : FVec Ideal S128x1024 .f32 :=
  subf v (broadcastTo S128x1024 (divf (shapeCast S128x1 (multiReduction .add [1] S128 v 0x00000000#32 reduces_S128x1024_S128 (.inl rfl) rfl) shapeCasts_S128_S128x1)
    (broadcast S128x1 (Scalar.ofBits .f32 0x44800000#32))) broadcasts_S128x1_S128x1024)

/-- A block's norm, gated by itself. -/
def gated (v : FVec Ideal S128x1024 .f32) : FVec Ideal S128x1024 .bf16 :=
  k0_pay1 (centred v) (shapeCast S128x1 (multiReduction .add [1] S128 (mulf (centred v) (centred v)) 0x00000000#32 reduces_S128x1024_S128 (.inl rfl) rfl) shapeCasts_S128_S128x1)
    (Scalar.ofBits .f32 0x44800000#32) g e

theorem centred_31 : k0_pay11 X (convTo X W 26) (k0_pay9 X) (row W 26) (row W 27) (row W 28) (row W 29) (row W 30) = centred (convTo X W 31) := by
  unfold k0_pay11
  rw [first_31]
  rfl

theorem squares_31 : k0_pay12 X (convTo X W 26) (k0_pay9 X) (row W 26) (row W 27) (row W 28) (row W 29) (row W 30)
    = shapeCast S128x1 (multiReduction .add [1] S128 (mulf (centred (convTo X W 31)) (centred (convTo X W 31))) 0x00000000#32 reduces_S128x1024_S128 (.inl rfl) rfl) shapeCasts_S128_S128x1 := by
  unfold k0_pay12
  rw [centred_31]

theorem row_ld (k : ℕ) (h : ∀ a, (![k, 0] : Fin 2 → Nat) a + S1x1024.size a ≤ S32x1024.size a) :
    View.ld W (Rect.unit (s := S32x1024) ![k, 0] S1x1024.size h) = row W k := row_eq W k h

theorem out_conv : out0_9 (F := Ideal) i ap a an bp b bn W g e = convTo (k0_pay2 i a ap bp b an bn) W 31 := by
  frame_out [k0_pay13, k0_pay14, k0_pay15]
  repeat rw [row_ld]
  rw [first_2, first_8, first_14, first_20, first_26, first_31]

theorem out_gated : out0_10 (F := Ideal) i ap a an bp b bn W g e = gated g e (convTo (k0_pay2 i a ap bp b an bn) W 31) := by
  frame_out [k0_pay13, k0_pay14, k0_pay15]
  repeat rw [row_ld]
  rw [first_2, first_8, first_14, first_20, first_26, centred_31, squares_31]
  rfl

end Steps

theorem convTo_at (X : FVec Ideal S160x1024 .f32) (W : Vec Ideal S32x1024 .f32) (x : Fin 128) (y : Fin 1024) :
    ∀ n ≤ 31, convTo X W n (ix2 x y) = ∑ k : Fin n, at' X (x.val + 1 + k.val) y * row W k.val (ix2 0 y) := by
  intro n
  induction n with
  | zero => intro _; simp only [Finset.univ_eq_empty, Finset.sum_empty]; unfold convTo; pointwise
  | succ n ih =>
    intro h
    rw [Fin.sum_univ_castSucc, convTo]
    show FloatOps.addf (convTo X W n (ix2 x y)) (FloatOps.mulf (tap X (30 - n) (ix2 x y)) _) = _
    rw [ih (by omega), tap_at X (by omega), Fin.val_last, at', dif_pos (by omega)]
    congr 1
    congr 1
    · congr 2
      exact Fin.ext (by dsimp only; omega)
    · pointwise

variable (m : (ℓ : Loc nD τ sig) → Buf (Elt Ideal) ℓ) (c : Dev nD)

/-- The input and the weights. -/
abbrev zOf : FVec Ideal S8192x9216 .f32 := m ((c : Thread nD τ).loc main_arg0)
abbrev wOf : FVec Ideal S1x31x1024 .f32 := m ((c : Thread nD τ).loc main_arg1)

theorem idx : ∀ t : Fin cfg0.N, win0_0.index t = ![8 * t.val - 1, 0] ∧ win0_1.index t = ![t.val, 0] ∧ win0_2.index t = ![min (8 * t.val + 8) 511, 0]
    ∧ win0_3.index t = ![8 * t.val - 1, 1] ∧ win0_4.index t = ![t.val, 1] ∧ win0_5.index t = ![min (8 * t.val + 8) 511, 1]
    ∧ win0_6.index t = ![0, 0] ∧ win0_7.index t = ![0, 0] ∧ win0_8.index t = ![0, 0] ∧ win0_9.index t = ![t.val, 0] ∧ win0_10.index t = ![t.val, 0] :=
  (by decide +kernel : ∀ t : Fin grid0.N, _)

theorem before : ∀ t : Fin cfg0.N, Scalar.cmpi .sgt (BitVec.ofNat 32 (grid0.coords t 1).val) 0#32 = if 0 < t.val then 1#1 else 0#1 :=
  (by decide +kernel : ∀ t : Fin grid0.N, _)

theorem behind : ∀ t : Fin cfg0.N, Scalar.cmpi .slt (BitVec.ofNat 32 (grid0.coords t 1).val) 63#32 = if t.val < 63 then 1#1 else 0#1 :=
  (by decide +kernel : ∀ t : Fin grid0.N, _)

/-- A point's block of the gated input with its halo. -/
def halo (t : Fin cfg0.N) : FVec Ideal S160x1024 .f32 :=
  k0_pay2 (grid0.coords t) (iblk m c 1 t) (iblk m c 0 t) (iblk m c 3 t) (iblk m c 4 t) (iblk m c 2 t) (iblk m c 5 t)

/-- The gated input at a place. -/
theorem u_at (Z : FVec Ideal S8192x9216 .f32) (s : Fin 8192) (y : Fin 1024) :
    val_main_v8 (F := Ideal) Z (ix2 s y) = Z (ix2 s ⟨y.val, by omega⟩) * Ideal.logistic (Z (ix2 s ⟨1024 + y.val, by omega⟩)) := by
  pointwise [val_main_v8, val_main_v7, val_main_v6, val_main_v5, val_main_v4, val_main_v3, val_main_v2, val_main_v1, val_main_v0, val_main_cst, val_main_cst_0, Ideal.logistic]

theorem place (a b : EReal) (Z : FVec Ideal S8192x9216 .f32) {n : ℕ} (s : Fin 8192) (y : Fin 1024) (h : n = s.val + 16)
    (ha : a = Z (ix2 s ⟨y.val, by omega⟩)) (hb : b = Z (ix2 s ⟨1024 + y.val, by omega⟩)) : a * Ideal.logistic b = ext (val_main_v8 (F := Ideal) Z) n y := by
  rw [ha, hb, ← u_at]
  exact ext_of _ h rfl

theorem halo_at (t : Fin cfg0.N) (r : Fin 160) (y : Fin 1024) : halo m c t (ix2 r y) = ext (val_main_v8 (F := Ideal) (zOf m c)) (t.val * 128 + r.val) y := by
  have ht := lt_of_lt_of_eq t.isLt N_0
  unfold halo
  pointwise [k0_pay2]
  rw [before, behind]
  by_cases h : r.val < 16
  · rw [dif_pos h]
    by_cases h' : 0 < t.val
    · rw [if_pos h']
      refine place (iblk m c 0 t (ix2 ⟨r.val, h⟩ y)) (iblk m c 3 t (ix2 ⟨r.val, h⟩ y)) _ ⟨t.val * 128 + r.val - 16, by omega⟩ _ (by dsimp only; omega) ?_ ?_
      · blk_point [iblk, idx t]
      · blk_point [iblk, idx t]
    · rw [if_neg h', ext, dif_neg (by omega)]
      rfl
  · rw [dif_neg h]
    by_cases h' : r.val - 16 < 128
    · rw [dif_pos h']
      refine place _ _ _ ⟨t.val * 128 + r.val - 16, by omega⟩ _ (by dsimp only; omega) ?_ ?_
      · blk_point [iblk, idx t]
      · blk_point [iblk, idx t]
    · rw [dif_neg h']
      by_cases h'' : t.val < 63
      · rw [if_pos h'']
        refine place (iblk m c 2 t (ix2 ⟨r.val - 16 - 128, by omega⟩ y)) (iblk m c 5 t (ix2 ⟨r.val - 16 - 128, by omega⟩ y)) _ ⟨t.val * 128 + r.val - 16, by omega⟩ _ (by dsimp only; omega) ?_ ?_
        · blk_point [iblk, idx t]
        · blk_point [iblk, idx t]
      · rw [if_neg h'', ext, dif_neg (by omega)]
        rfl

theorem weight_at (t : Fin cfg0.N) (k : Fin 31) (y : Fin 1024) : row (iblk m c 6 t) k.val (ix2 0 y) = (wOf m c) (ix3 0 k y) := by
  rw [row_at _ (by omega)]
  have e : iblk m c 6 t (ix2 ⟨k.val, by omega⟩ y) = V m c main_v1 (ix2 ⟨k.val, by omega⟩ y) := by
    blk_point [iblk, idx t]
  rw [e]
  show StableHlo.after (hostOps0 ++ hostOps0_1) _ _ _ = _
  unfold hostOps0 hostOps0_1
  simp only [List.cons_append, List.nil_append, StableHlo.TRef.unary, StableHlo.TRef.binary]
  after_results_simp
  change pad S32x1024 ![0, 0] ![1, 0] ![0, 0] (shapeCast S31x1024 (wOf m c) shapeCasts_S1x31x1024_S31x1024)
    (sitofp (F := Ideal) .f32 (constantI S_ 32 0#32)) pads_S31x1024_S32x1024_010_000 h_S_ (ix2 ⟨k.val, by omega⟩ y) = _
  pointwise

theorem weights_kept : StableHlo.after [hostOps0, hostOps0_1].flatten (fun b => m (c, b)) (Proc.devRef .tc main_arg1)
    = m ((c : Thread nD τ).loc main_arg1) := by
  show StableHlo.after (hostOps0 ++ hostOps0_1) _ _ = _
  unfold hostOps0 hostOps0_1
  simp only [List.cons_append, List.nil_append, StableHlo.TRef.unary, StableHlo.TRef.binary]
  after_results_simp

/-- A point's convolution. -/
abbrev block (t : Fin cfg0.N) : FVec Ideal S128x1024 .f32 := convTo (halo m c t) (iblk m c 6 t) 31

theorem block_at (t : Fin cfg0.N) (x : Fin 128) (y : Fin 1024) : block m c t (ix2 x y)
    = val_main_v80 (F := Ideal) (zOf m c) (wOf m c) (ix2 ⟨t.val * 128 + x.val, by have := lt_of_lt_of_eq t.isLt N_0; omega⟩ y) := by
  have ht := lt_of_lt_of_eq t.isLt N_0
  rw [block, convTo_at _ _ _ _ _ le_rfl, conv_at]
  refine Finset.sum_congr rfl fun k _ => ?_
  rw [weight_at, at', dif_pos (by omega), halo_at, wide, ext]
  dsimp only
  congr 1
  by_cases h : 15 ≤ t.val * 128 + x.val + k.val ∧ t.val * 128 + x.val + k.val - 15 < 8192
  · rw [dif_pos (by omega), dif_pos h]
    congr 2
    exact Fin.ext (by dsimp only; omega)
  · rw [dif_neg (by omega), dif_neg h]

theorem final9 : (dats m 0 c).arrAt 9 (cfgs 0).N = val_main_v80 (F := Ideal) (zOf m c) (wOf m c) := by
  refine (dats m 0 c).arrAt_eq_of_covers 9 _ (by decide +kernel) fun t _ y => ?_
  have ht := lt_of_lt_of_eq t.isLt N_0
  blk_simp
  rw [after0_9, out_conv]
  refine Eq.trans (b := block m c t (ix2 (y 0) (y 1))) (congrArg _ (by idx_ext)) ((block_at m c t (y 0) (y 1)).trans ?_)
  blk_point [idx t]

theorem gain_at (t : Fin cfg0.N) (y : Fin 1024) : iblk m c 7 t (ix2 0 y) = m ((c : Thread nD τ).loc main_arg2) (ix2 0 y) := by
  blk_point [iblk, idx t]

theorem offset_at (t : Fin cfg0.N) (y : Fin 1024) : iblk m c 8 t (ix2 0 y) = m ((c : Thread nD τ).loc main_arg3) (ix2 0 y) := by
  blk_point [iblk, idx t]

theorem gated_at (t : Fin cfg0.N) (x : Fin 128) (y : Fin 1024) : gated (iblk m c 7 t) (iblk m c 8 t) (block m c t) (ix2 x y)
    = val_main_v106 (F := Ideal) (zOf m c) (wOf m c) (m ((c : Thread nD τ).loc main_arg2)) (m ((c : Thread nD τ).loc main_arg3))
      (ix2 ⟨t.val * 128 + x.val, by have := lt_of_lt_of_eq t.isLt N_0; omega⟩ y) := by
  have hb := block_at m c t
  generalize block m c t = v at *
  pointwise [gated, centred, k0_pay1, val_main_v81, val_main_v82, val_main_v83, val_main_v84, val_main_v85, val_main_v86, val_main_v87, val_main_v88, val_main_v89, val_main_v90,
    val_main_v91, val_main_v92, val_main_v93, val_main_v94, val_main_v95, val_main_v96, val_main_v97, val_main_v98, val_main_v99, val_main_v100,
    val_main_v101, val_main_v102, val_main_v103, val_main_v104, val_main_v105, val_main_v106, val_main_cst_3, val_main_cst_4, val_main_cst_5,
    val_main_cst_6, val_main_cst_7, val_main_call0_v0, val_main_call0_v1, val_main_call0_cst, val_main_call0_v2, val_main_call0_v3, val_main_call0_cst_0,
    val_main_call0_v4, val_main_call0_v5, Ideal.logistic]
  simp only [hb, gain_at, offset_at]

theorem final10 : (dats m 0 c).arrAt 10 (cfgs 0).N = val_main_v106 (F := Ideal) (zOf m c) (wOf m c) (m ((c : Thread nD τ).loc main_arg2)) (m ((c : Thread nD τ).loc main_arg3)) := by
  refine (dats m 0 c).arrAt_eq_of_covers 10 _ (by decide +kernel) fun t _ y => ?_
  have ht := lt_of_lt_of_eq t.isLt N_0
  blk_simp
  rw [after0_10, out_gated]
  refine Eq.trans (b := gated (iblk m c 7 t) (iblk m c 8 t) (block m c t) (ix2 (y 0) (y 1))) (congrArg _ (by idx_ext)) ((gated_at m c t (y 0) (y 1)).trans ?_)
  blk_point [idx t]

end Cert.ConvIdeal.Whole

end
-- ==== Proof.Mixed.lean ====
/- The value of the product that starts the token mixer. -/
module

public import proofs.«01_k».proof.Proof.Gen.MixedIdeal.Frame
public import proofs.«01_k».proof.Proof.Gen.MixedRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.MixedIdeal.Whole

open Cert.MixedIdeal Cert.MixedIdeal.Gen Cert.MixedRefIdeal.Read

variable (m : (ℓ : Loc nD τ sig) → Buf (Elt Ideal) ℓ) (c : Dev nD)

theorem idx : ∀ t : Fin cfg0.N, win0_0.index t = ![t.val % 16, 0] ∧ win0_1.index t = ![t.val / 16, 0, 0] ∧ win0_2.index t = ![t.val % 16, t.val / 16] :=
  (by decide +kernel : ∀ t : Fin grid0.N, _)

theorem final : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t _ y => ?_
  have ht := lt_of_lt_of_eq t.isLt N_0
  blk_simp
  rw [after0_2]
  unfold Gen.outsAt0
  frame_out
  pointwise [k0_pay1, val_main_v0, val_main_v1, val_main_v2]
  blk_point [iblk, idx t]

end Cert.MixedIdeal.Whole

end
-- ==== Proof.Dh.lean ====
/- The value of the product that carries a gradient back to the token mixer's input: an accumulator over four blocks of the contracted axis. -/
module

public import proofs.«01_k».proof.Proof.Gen.DhIdeal.Frame
public import proofs.«01_k».proof.Proof.Gen.DhRefIdeal.Read
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem Idealize.ShloMosaic.Pipeline
open scoped BigOperators

namespace Cert.DhIdeal.Whole

open Cert.DhIdeal Cert.DhIdeal.Gen Cert.DhRefIdeal.Read

variable (m : (ℓ : Loc nD τ sig) → Buf (Elt Ideal) ℓ) (c : Dev nD)

theorem idx : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- One block's product. -/
def part (t : Fin cfg0.N) : Vec Ideal S1024x1024 .f32 :=
  k0_pay1 (View.ld (iblk m c 1 t) (Rect.unit (s := S2x1024x1152) ![0, 0, 0] S1x1024x1152.size (by decide)))
    (View.ld (iblk m c 1 t) (Rect.unit (s := S2x1024x1152) ![1, 0, 0] S1x1024x1152.size (by decide))) (iblk m c 0 t)

theorem kept_first (t : Fin cfg0.N) (h : t.val % 4 = 0) (j : S1024x1024.Idx) : (outsAt0 m c t.val t.isLt).2 j = part m c t j := by
  rw [outsAt0_A m c t h (by omega) (by omega)]
  frame_out
  pointwise [k0_pay2]
  rfl

theorem kept_later (t : Fin cfg0.N) (h : 1 ≤ t.val % 4 ∧ t.val % 4 ≤ 2) (j : S1024x1024.Idx) :
    (outsAt0 m c t.val t.isLt).2 j = (outsAt0 m c (t.val - 1) (Nat.lt_of_le_of_lt (Nat.sub_le _ _) t.isLt)).2 j + part m c t j := by
  rw [outsAt0_B m c t (by omega) h (by omega)]
  frame_out
  pointwise [k0_pay3]
  rw [read_unread_whole]
  rfl

theorem out_last (t : Fin cfg0.N) (h : t.val % 4 = 3) (j : S1024x1024.Idx) :
    (outsAt0 m c t.val t.isLt).1 j = (outsAt0 m c (t.val - 1) (Nat.lt_of_le_of_lt (Nat.sub_le _ _) t.isLt)).2 j + part m c t j := by
  rw [outsAt0_C m c t (by omega) (by omega) h]
  frame_out
  pointwise [k0_pay4]
  rw [read_unread_whole]
  rfl

/-- One term of the contraction. -/
def term (D : FVec Ideal S8192x9216 .bf16) (W : FVec Ideal S1x2048x9216 .f32) (x : Fin 8192) (y : Fin 2048) (k : Fin 9216) : EReal :=
  D (ix2 x k) * W (ix3 0 y k)

theorem part_at (t : Fin cfg0.N) (a : Fin 8) (b : Fin 2) (r : Fin 4) (ha : t.val / 8 = a.val) (hb : t.val / 4 % 2 = b.val) (hr : t.val % 4 = r.val)
    (x y : Fin 1024) : part m c t (ix2 x y)
    = ∑ k : Fin 2304, term (m ((c : Thread nD τ).loc main_arg0)) (m ((c : Thread nD τ).loc main_arg1)) ⟨a.val * 1024 + x.val, by omega⟩ ⟨b.val * 1024 + y.val, by omega⟩ ⟨r.val * 2304 + k.val, by omega⟩ := by
  pointwise [part, k0_pay1]
  refine (congrArg₂ _ (Finset.sum_congr rfl fun k _ => ?_) (Finset.sum_congr rfl fun k _ => ?_)).trans
    (Fin.sum_univ_add (a := 1152) (b := 1152) fun l : Fin 2304 => term (m ((c : Thread nD τ).loc main_arg0)) (m ((c : Thread nD τ).loc main_arg1)) ⟨a.val * 1024 + x.val, by omega⟩ ⟨b.val * 1024 + y.val, by omega⟩
      ⟨r.val * 2304 + l.val, by omega⟩).symm
  all_goals simp only [term, Fin.val_castAdd, Fin.val_natAdd]; blk_point [iblk, idx t, ha, hb, hr]

theorem four (f : Fin 9216 → EReal) : ∑ l, f l = (∑ k : Fin 2304, f ⟨(0 : Fin 4).val * 2304 + k.val, by omega⟩)
    + (∑ k : Fin 2304, f ⟨(1 : Fin 4).val * 2304 + k.val, by omega⟩) + (∑ k : Fin 2304, f ⟨(2 : Fin 4).val * 2304 + k.val, by omega⟩)
    + ∑ k : Fin 2304, f ⟨(3 : Fin 4).val * 2304 + k.val, by omega⟩ := by
  rw [← Fin.sum_mul_add_fin 4 2304 f, Fin.sum_univ_four]

theorem final : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  have h3 : t.val % 4 = 3 := (flush0_2 t).mp hf
  blk_simp
  rw [after0_2]
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e1 := fun j => kept_later m c ⟨t.val - 1, l1⟩ (by dsimp only; omega) j
  have e2 := fun j => kept_later m c ⟨t.val - 1 - 1, l2⟩ (by dsimp only; omega) j
  have e3 := fun j => kept_first m c ⟨t.val - 1 - 1 - 1, l3⟩ (by dsimp only; omega) j
  dsimp only at e1 e2 e3
  rw [out_last m c t h3, e1, e2, e3]
  obtain ⟨x, z, rfl⟩ : ∃ x z, y = ix2 x z := ⟨y 0, y 1, eq_ix2 _⟩
  have b0 : t.val / 8 < 8 := by omega
  have b1 : t.val / 4 % 2 < 2 := by omega
  have p := fun (t' : Fin cfg0.N) r ha hb hr => part_at m c t' ⟨t.val / 8, b0⟩ ⟨t.val / 4 % 2, b1⟩ r ha hb hr x z
  rw [p t 3 rfl rfl h3, p ⟨t.val - 1, l1⟩ 2 (by dsimp only; omega) (by dsimp only; omega) (by change _ = 2; dsimp only; omega), p ⟨t.val - 1 - 1, l2⟩ 1 (by dsimp only; omega) (by dsimp only; omega) (by change _ = 1; dsimp only; omega),
    p ⟨t.val - 1 - 1 - 1, l3⟩ 0 (by dsimp only; omega) (by dsimp only; omega) (by change _ = 0; dsimp only; omega), ← four]
  pointwise [val_main_v4, val_main_v3, val_main_v1]
  simp only [term]
  blk_point [idx t]

end Cert.DhIdeal.Whole

end
-- ==== Proof.Dw.lean ====
/- The value of the product that makes the gradient of the token mixer's weights: an accumulator over four blocks of the rows. -/
module

public import proofs.«01_k».proof.Proof.Gen.DwIdeal.Frame
public import proofs.«01_k».proof.Proof.Gen.DwRefIdeal.Read
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem Idealize.ShloMosaic.Pipeline
open scoped BigOperators

namespace Cert.DwIdeal.Whole

open Cert.DwIdeal Cert.DwIdeal.Gen Cert.DwRefIdeal.Read

variable (m : (ℓ : Loc nD τ sig) → Buf (Elt Ideal) ℓ) (c : Dev nD)

theorem idx : ∀ t : Fin cfg0.N, win0_0.index t = ![t.val % 4, t.val / 16] ∧ win0_1.index t = ![t.val % 4, t.val / 4 % 4]
    ∧ win0_2.index t = ![t.val / 4 % 4, t.val / 16, 0] :=
  (by decide +kernel : ∀ t : Fin grid0.N, _)

/-- What the points before left of a block of the weights' gradient. -/
def kept (t : ℕ) (h : t < cfg0.N) (x : Fin 512) (y : Fin 2304) : EReal := (outsAt0 m c t h).2 (ix2 x y)

/-- What one point adds. -/
def part (t : Fin cfg0.N) (x : Fin 512) (y : Fin 2304) : EReal := k0_pay1 (F := Ideal) (iblk m c 0 t) (iblk m c 1 t) (ix2 x y)

theorem kept_first (t : Fin cfg0.N) (h : t.val % 4 = 0) (x : Fin 512) (y : Fin 2304) : kept m c t.val t.isLt x y = part m c t x y := by
  rw [kept, outsAt0_A m c t h (by omega) (by omega)]
  frame_out
  pointwise [k0_pay2]
  rfl

theorem kept_later (t : Fin cfg0.N) (h : 1 ≤ t.val % 4 ∧ t.val % 4 ≤ 2) (x : Fin 512) (y : Fin 2304) :
    kept m c t.val t.isLt x y = kept m c (t.val - 1) (Nat.lt_of_le_of_lt (Nat.sub_le _ _) t.isLt) x y + part m c t x y := by
  rw [kept, outsAt0_B m c t (by omega) h (by omega)]
  frame_out
  pointwise [k0_pay3]
  rw [read_unread_whole]
  rfl

theorem out_last (t : Fin cfg0.N) (h : t.val % 4 = 3) (p : Fin 2) (x : Fin 512) (y : Fin 1152) :
    (outsAt0 m c t.val t.isLt).1 (ix3 p x y) = kept m c (t.val - 1) (Nat.lt_of_le_of_lt (Nat.sub_le _ _) t.isLt) x ⟨p.val * 1152 + y.val, by omega⟩
      + part m c t x ⟨p.val * 1152 + y.val, by omega⟩ := by
  rw [outsAt0_C m c t (by omega) (by omega) h]
  frame_out
  canon_tiles u h
  all_goals
    change p.val = _ at h0
    change x.val = _ at h1
    change y.val = _ at h2
    pointwise [k0_pay4, k0_pay5, k0_pay6]
    rw [read_unread_whole]
    exact congrArg₂ (· + ·) (congrArg _ (by idx_ext)) (congrArg _ (by idx_ext))

theorem part_at (t : Fin cfg0.N) (a b r : Fin 4) (ha : t.val / 16 = a.val) (hb : t.val / 4 % 4 = b.val) (hr : t.val % 4 = r.val)
    (x : Fin 512) (y : Fin 2304) : part m c t x y
    = ∑ k : Fin 2048, val_main_v4 (F := Ideal) (m ((c : Thread nD τ).loc main_arg1)) (ix2 (⟨r.val * 2048 + k.val, by omega⟩ : Fin 8192) (⟨b.val * 2304 + y.val, by omega⟩ : Fin 9216))
      * val_main_v1 (F := Ideal) (m ((c : Thread nD τ).loc main_arg0)) (ix2 (⟨r.val * 2048 + k.val, by omega⟩ : Fin 8192) (⟨a.val * 512 + x.val, by omega⟩ : Fin 2048)) := by
  pointwise [part, k0_pay1, val_main_v4, val_main_v1]
  refine Finset.sum_congr rfl fun k _ => (mul_comm _ _).trans ?_
  blk_point [iblk, idx t, ha, hb, hr]

theorem four (f : Fin 8192 → EReal) : ∑ l, f l = (∑ k : Fin 2048, f ⟨(0 : Fin 4).val * 2048 + k.val, by omega⟩)
    + (∑ k : Fin 2048, f ⟨(1 : Fin 4).val * 2048 + k.val, by omega⟩) + (∑ k : Fin 2048, f ⟨(2 : Fin 4).val * 2048 + k.val, by omega⟩)
    + ∑ k : Fin 2048, f ⟨(3 : Fin 4).val * 2048 + k.val, by omega⟩ := by
  rw [← Fin.sum_mul_add_fin 4 2048 f, Fin.sum_univ_four]

theorem final : (dats m 0 c).arrAt 2 (cfgs 0).N = val_main_v9 (F := Ideal) (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  have h3 : t.val % 4 = 3 := (flush0_2 t).mp hf
  blk_simp
  rw [after0_2]
  obtain ⟨p, x, z, rfl⟩ : ∃ p x z, y = ix3 p x z := ⟨y 0, y 1, y 2, eq_ix3 _⟩
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e1 := kept_later m c ⟨t.val - 1, l1⟩ (by dsimp only; omega)
  have e2 := kept_later m c ⟨t.val - 1 - 1, l2⟩ (by dsimp only; omega)
  have e3 := kept_first m c ⟨t.val - 1 - 1 - 1, l3⟩ (by dsimp only; omega)
  dsimp only at e1 e2 e3
  rw [out_last m c t h3, e1, e2, e3]
  have b0 : t.val / 16 < 4 := by omega
  have b1 : t.val / 4 % 4 < 4 := by omega
  have q := fun (t' : Fin cfg0.N) r ha hb hr => part_at m c t' ⟨t.val / 16, b0⟩ ⟨t.val / 4 % 4, b1⟩ r ha hb hr x
  rw [q t 3 rfl rfl h3, q ⟨t.val - 1, l1⟩ 2 (by dsimp only; omega) (by dsimp only; omega) (by change _ = 2; dsimp only; omega),
    q ⟨t.val - 1 - 1, l2⟩ 1 (by dsimp only; omega) (by dsimp only; omega) (by change _ = 1; dsimp only; omega),
    q ⟨t.val - 1 - 1 - 1, l3⟩ 0 (by dsimp only; omega) (by dsimp only; omega) (by change _ = 0; dsimp only; omega)]
  refine (four fun l => val_main_v4 (F := Ideal) (m ((c : Thread nD τ).loc main_arg1)) (ix2 l (⟨t.val / 4 % 4 * 2304 + (p.val * 1152 + z.val), by omega⟩ : Fin 9216))
      * val_main_v1 (F := Ideal) (m ((c : Thread nD τ).loc main_arg0)) (ix2 l (⟨t.val / 16 * 512 + x.val, by omega⟩ : Fin 2048))).symm.trans ?_
  pointwise [val_main_v9, val_main_v8, val_main_v7, val_main_v6, val_main_v5, val_main_v4, val_main_v1]
  blk_point [idx t]

end Cert.DwIdeal.Whole

end
-- ==== Proof.Step.lean ====
/- The values of one step of the optimiser on a device's shard of a weight. -/
module

public import proofs.«01_k».proof.Proof.Gen.StepIdeal.Frame
public import proofs.«01_k».proof.Proof.Gen.StepRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.StepIdeal.Whole

open Cert.StepIdeal Cert.StepIdeal.Gen Cert.StepRefIdeal.Read

attribute [local pointwise] val_main_v2 val_main_v3 val_main_v4 val_main_v5 val_main_v6 val_main_v7 val_main_v8 val_main_v9 val_main_v10 val_main_v11 val_main_v12
    val_main_v13 val_main_v14 val_main_v15 val_main_v16 val_main_v17 val_main_v18 val_main_v19 val_main_v20 val_main_v21 val_main_v22
    val_main_v23 val_main_v24 val_main_v25 val_main_v26 val_main_v27 val_main_v28 val_main_cst_0 val_main_cst_1 val_main_cst_2 val_main_cst_3
    val_main_cst_4 val_main_cst_5 val_main_cst_6 val_main_cst_7 val_main_cst_8

variable (m : (ℓ : Loc nD τ sig) → Buf (Elt Ideal) ℓ) (c : Dev nD)

theorem idx : ∀ t : Fin cfg0.N, win0_0.index t = ![0 + t.val, 0] ∧ win0_1.index t = ![16 + t.val, 0] ∧ win0_2.index t = ![32 + t.val, 0] ∧ win0_3.index t = ![48 + t.val, 0] ∧ win0_4.index t = ![64 + t.val, 0] ∧ win0_5.index t = ![80 + t.val, 0] ∧ win0_6.index t = ![96 + t.val, 0] ∧ win0_7.index t = ![112 + t.val, 0]
    ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

/-- A point's block of the gradient: the eight devices' parts added. -/
abbrev total (t : Fin cfg0.N) : FVec Ideal S128x1152 .f32 :=
  k0_pay1 (k0_pay8 (iblk m c 0 t) (iblk m c 1 t) (iblk m c 2 t) (iblk m c 3 t) (iblk m c 4 t) (iblk m c 5 t) (iblk m c 6 t)) (k0_pay9 (iblk m c 7 t))

theorem total_at (t : Fin cfg0.N) (y : S128x1152.Idx) : total m c t y = val_main_v1 (F := Ideal) (m ((c : Thread nD τ).loc main_arg0)) (((cfg0.win 11).blk t).view.emb y) := by
  have ht := lt_of_lt_of_eq t.isLt N_0
  pointwise [k0_pay1, k0_pay8, k0_pay9, val_main_v0, val_main_v1, val_main_cst]
  rw [Fin.sum_univ_eight]
  refine congrArg₂ _ (congrArg₂ _ (congrArg₂ _ (congrArg₂ _ (congrArg₂ _ (congrArg₂ _ (congrArg₂ _ ?_ ?_) ?_) ?_) ?_) ?_) ?_) ?_
  all_goals blk_point [iblk, idx t]

theorem final11 : (dats m 0 c).arrAt 11 (cfgs 0).N = val_main_v1 (F := Ideal) (m ((c : Thread nD τ).loc main_arg0)) := by
  refine (dats m 0 c).arrAt_eq_of_covers 11 _ (by decide +kernel) fun t _ y => ?_
  have ht := lt_of_lt_of_eq t.isLt N_0
  blk_simp
  rw [after0_11]
  frame_out [k0_pay10, k0_pay11, k0_pay12, k0_pay13]
  exact total_at m c t y

theorem final12 : (dats m 0 c).arrAt 12 (cfgs 0).N = val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t _ y => ?_
  have ht := lt_of_lt_of_eq t.isLt N_0
  blk_simp
  rw [after0_12]
  frame_out [k0_pay10, k0_pay11, k0_pay12, k0_pay13]
  have hg := total_at m c t y
  unfold total at hg
  pointwise [k0_pay4, k0_pay2, k0_pay3, k0_pay5, k0_pay6, k0_pay7]
  rw [hg]
  blk_point [iblk, idx t]

theorem final13 : (dats m 0 c).arrAt 13 (cfgs 0).N = val_main_v9 (F := Ideal) (m ((c : Thread nD τ).loc main_arg0)) (m ((c : Thread nD τ).loc main_arg2)) := by
  refine (dats m 0 c).arrAt_eq_of_covers 13 _ (by decide +kernel) fun t _ y => ?_
  have ht := lt_of_lt_of_eq t.isLt N_0
  blk_simp
  rw [after0_13]
  frame_out [k0_pay10, k0_pay11, k0_pay12, k0_pay13]
  have hg := total_at m c t y
  unfold total at hg
  pointwise [k0_pay2, k0_pay6]
  rw [hg]
  blk_point [iblk, idx t]

theorem final14 : (dats m 0 c).arrAt 14 (cfgs 0).N = val_main_v15 (F := Ideal) (m ((c : Thread nD τ).loc main_arg0)) (m ((c : Thread nD τ).loc main_arg3)) := by
  refine (dats m 0 c).arrAt_eq_of_covers 14 _ (by decide +kernel) fun t _ y => ?_
  have ht := lt_of_lt_of_eq t.isLt N_0
  blk_simp
  rw [after0_14]
  frame_out [k0_pay10, k0_pay11, k0_pay12, k0_pay13]
  have hg := total_at m c t y
  unfold total at hg
  pointwise [k0_pay3, k0_pay7]
  rw [hg]
  blk_point [iblk, idx t]

end Cert.StepIdeal.Whole

end
-- ==== Proof.Small.lean ====
/- The values of one step of the optimiser on a gain, which every device holds whole. -/
module

public import proofs.«01_k».proof.Proof.Gen.SmallIdeal.Frame
public import proofs.«01_k».proof.Proof.Gen.SmallRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.SmallIdeal.Whole

open Cert.SmallIdeal Cert.SmallIdeal.Gen Cert.SmallRefIdeal.Read

attribute [local pointwise] val_main_v3 val_main_v4 val_main_v5 val_main_v6 val_main_v7 val_main_v8 val_main_v9 val_main_v10 val_main_v11 val_main_v12 val_main_v13
    val_main_v14 val_main_v15 val_main_v16 val_main_v17 val_main_v18 val_main_v19 val_main_v20 val_main_v21 val_main_v22 val_main_v23
    val_main_v24 val_main_v25 val_main_v26 val_main_cst_1 val_main_cst_2 val_main_cst_3 val_main_cst_4 val_main_cst_5 val_main_cst_6
    val_main_cst_7 val_main_cst_8 val_main_cst_9

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem total_at (t : Fin cfg0.N) (y : S1x2048.Idx) : k0_pay5 (iblk m c 0 t) (iblk m c 1 t) (iblk m c 2 t) (iblk m c 3 t) y = val_main_v2 (F := Ideal) (m ((c : Thread nD τ).loc main_arg0)) y := by
  unfold k0_pay5
  pointwise [k0_pay4, val_main_v0, val_main_v1, val_main_v2, val_main_cst, val_main_cst_0]
  refine Finset.sum_congr rfl fun x _ => ?_
  rw [Fin.sum_univ_eight]
  refine congrArg₂ _ (congrArg₂ _ (congrArg₂ _ (congrArg₂ _ (congrArg₂ _ (congrArg₂ _ (congrArg₂ _ ?_ ?_) ?_) ?_) ?_) ?_) ?_) ?_
  all_goals blk_point [iblk, idx t]

theorem final4 : (dats m 0 c).arrAt 4 (cfgs 0).N = val_main_v2 (F := Ideal) (m ((c : Thread nD τ).loc main_arg0)) := by
  refine (dats m 0 c).arrAt_eq_of_covers 4 _ (by decide +kernel) fun t _ y => ?_
  blk_simp
  rw [after0_4]
  frame_out
  have hg := total_at m c t y
  generalize k0_pay5 (iblk m c 0 t) (iblk m c 1 t) (iblk m c 2 t) (iblk m c 3 t) = g at hg ⊢
  pointwise []
  rw [hg]
  blk_point [iblk, idx t]

theorem final5 : (dats m 0 c).arrAt 5 (cfgs 0).N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  have hg := total_at m c t y
  generalize k0_pay5 (iblk m c 0 t) (iblk m c 1 t) (iblk m c 2 t) (iblk m c 3 t) = g at hg ⊢
  pointwise [k0_pay3, k0_pay1, k0_pay2]
  rw [hg]
  blk_point [iblk, idx t]

theorem final6 : (dats m 0 c).arrAt 6 (cfgs 0).N = val_main_v7 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  frame_out
  have hg := total_at m c t y
  generalize k0_pay5 (iblk m c 0 t) (iblk m c 1 t) (iblk m c 2 t) (iblk m c 3 t) = g at hg ⊢
  pointwise [k0_pay1]
  rw [hg]
  blk_point [iblk, idx t]

theorem final7 : (dats m 0 c).arrAt 7 (cfgs 0).N = val_main_v13 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  frame_out
  have hg := total_at m c t y
  generalize k0_pay5 (iblk m c 0 t) (iblk m c 1 t) (iblk m c 2 t) (iblk m c 3 t) = g at hg ⊢
  pointwise [k0_pay2]
  rw [hg]
  blk_point [iblk, idx t]

end Cert.SmallIdeal.Whole

end
-- ==== Proof.GroupSum.lean ====
/- The value of the sum over a group's query heads. -/
module

public import proofs.«01_k».proof.Proof.Gen.GroupSumIdeal.Frame
public import proofs.«01_k».proof.Proof.Gen.GroupSumRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.GroupSumIdeal.Whole

open Cert.GroupSumIdeal Cert.GroupSumIdeal.Gen Cert.GroupSumRefIdeal.Read

variable (m : (ℓ : Loc nD τ sig) → Buf (Elt Ideal) ℓ) (c : Dev nD)

theorem idx : ∀ t : Fin cfg0.N, win0_0.index t = ![t.val % 8, 4 * (t.val / 8)] ∧ win0_1.index t = ![t.val % 8, 4 * (t.val / 8) + 1]
    ∧ win0_2.index t = ![t.val % 8, 4 * (t.val / 8) + 2] ∧ win0_3.index t = ![t.val % 8, 4 * (t.val / 8) + 3] ∧ win0_4.index t = ![t.val % 8, t.val / 8] :=
  (by decide +kernel : ∀ t : Fin grid0.N, _)

theorem final : (dats m 0 c).arrAt 4 (cfgs 0).N = val_main_v3 (F := Ideal) (m ((c : Thread nD τ).loc main_arg0)) := by
  refine (dats m 0 c).arrAt_eq_of_covers 4 _ (by decide +kernel) fun t _ y => ?_
  have ht := lt_of_lt_of_eq t.isLt N_0
  blk_simp
  rw [after0_4]
  frame_out
  pointwise [k0_pay1, val_main_v3, val_main_v2, val_main_v1, val_main_v0, val_main_cst]
  rw [Fin.sum_univ_four]
  blk_point [iblk, idx t]

end Cert.GroupSumIdeal.Whole

end
-- ==== Proof.lean ====
module

public import proofs.«01_k».proof.Defs
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactRefIdeal
public import proofs.«01_k».proof.Proof.Gen.DactRefIdeal.Run
public import proofs.«01_k».proof.Proof.Gen.Dmerged
public import proofs.«01_k».proof.Proof.Gen.Dmerged.Skeleton
public import proofs.«01_k».proof.Proof.Gen.Dmerged.Launch
public import proofs.«01_k».proof.Proof.Gen.Dmerged.Points
public import proofs.«01_k».proof.Proof.Gen.Dmerged.Frame
public import proofs.«01_k».proof.Proof.Gen.DmergedIdeal
public import proofs.«01_k».proof.Proof.Gen.DmergedIdeal.Skeleton
public import proofs.«01_k».proof.Proof.Gen.DmergedIdeal.Launch
public import proofs.«01_k».proof.Proof.Gen.DmergedIdeal.Points
public import proofs.«01_k».proof.Proof.Gen.DmergedIdeal.Frame
public import proofs.«01_k».proof.Proof.Gen.DmergedRefIdeal
public import proofs.«01_k».proof.Proof.Gen.DmergedRefIdeal.Run
public import proofs.«01_k».proof.Proof.Gen.AttnDo
public import proofs.«01_k».proof.Proof.Gen.AttnDo.Skeleton
public import proofs.«01_k».proof.Proof.Gen.AttnDo.Launch
public import proofs.«01_k».proof.Proof.Gen.AttnDo.Points
public import proofs.«01_k».proof.Proof.Gen.AttnDo.Frame
public import proofs.«01_k».proof.Proof.Gen.AttnDoIdeal
public import proofs.«01_k».proof.Proof.Gen.AttnDoIdeal.Skeleton
public import proofs.«01_k».proof.Proof.Gen.AttnDoIdeal.Launch
public import proofs.«01_k».proof.Proof.Gen.AttnDoIdeal.Points
public import proofs.«01_k».proof.Proof.Gen.AttnDoIdeal.Frame
public import proofs.«01_k».proof.Proof.Gen.AttnDoRefIdeal
public import proofs.«01_k».proof.Proof.Gen.AttnDoRefIdeal.Run
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdRefIdeal
public import proofs.«01_k».proof.Proof.Gen.RmsBwdRefIdeal.Run
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.HeadRefIdeal.Run
public import proofs.«01_k».proof.Proof.Gen.FlashBwd
public import proofs.«01_k».proof.Proof.Gen.FlashBwd.Skeleton
public import proofs.«01_k».proof.Proof.Gen.FlashBwd.Launch
public import proofs.«01_k».proof.Proof.Gen.FlashBwd.Points
public import proofs.«01_k».proof.Proof.Gen.FlashBwdIdeal
public import proofs.«01_k».proof.Proof.Gen.FlashBwdIdeal.Skeleton
public import proofs.«01_k».proof.Proof.Gen.FlashBwdIdeal.Launch
public import proofs.«01_k».proof.Proof.Gen.FlashBwdIdeal.Points
public import proofs.«01_k».proof.Proof.Gen.FlashBwdRefIdeal
public import proofs.«01_k».proof.Proof.Gen.FlashBwdRefIdeal.Run
public import proofs.«01_k».proof.Proof.Gen.Pre_finite_flash
public import proofs.«01_k».proof.Proof.Gen.LnBwd
public import proofs.«01_k».proof.Proof.Gen.LnBwd.Skeleton
public import proofs.«01_k».proof.Proof.Gen.LnBwd.Launch
public import proofs.«01_k».proof.Proof.Gen.LnBwd.Points
public import proofs.«01_k».proof.Proof.Gen.LnBwdIdeal
public import proofs.«01_k».proof.Proof.Gen.LnBwdIdeal.Skeleton
public import proofs.«01_k».proof.Proof.Gen.LnBwdIdeal.Launch
public import proofs.«01_k».proof.Proof.Gen.LnBwdIdeal.Points
public import proofs.«01_k».proof.Proof.Gen.LnBwdRefIdeal
public import proofs.«01_k».proof.Proof.Gen.LnBwdRefIdeal.Run
public import proofs.«01_k».proof.Proof.Gen.Pre_finite_ln
public import proofs.«01_k».proof.Proof.Gen.LnBwd.Frame
public import proofs.«01_k».proof.Proof.Gen.LnBwdIdeal.Frame
public import proofs.«01_k».proof.Proof.Gen.QBwd
public import proofs.«01_k».proof.Proof.Gen.QBwd.Skeleton
public import proofs.«01_k».proof.Proof.Gen.QBwd.Launch
public import proofs.«01_k».proof.Proof.Gen.QBwd.Points
public import proofs.«01_k».proof.Proof.Gen.QBwd.Frame
public import proofs.«01_k».proof.Proof.Gen.QBwdIdeal
public import proofs.«01_k».proof.Proof.Gen.QBwdIdeal.Skeleton
public import proofs.«01_k».proof.Proof.Gen.QBwdIdeal.Launch
public import proofs.«01_k».proof.Proof.Gen.QBwdIdeal.Points
public import proofs.«01_k».proof.Proof.Gen.QBwdIdeal.Frame
public import proofs.«01_k».proof.Proof.Gen.QBwdRefIdeal
public import proofs.«01_k».proof.Proof.Gen.QBwdRefIdeal.Run
public import proofs.«01_k».proof.Proof.Gen.KBwd
public import proofs.«01_k».proof.Proof.Gen.KBwd.Skeleton
public import proofs.«01_k».proof.Proof.Gen.KBwd.Launch
public import proofs.«01_k».proof.Proof.Gen.KBwd.Points
public import proofs.«01_k».proof.Proof.Gen.KBwd.Frame
public import proofs.«01_k».proof.Proof.Gen.KBwdIdeal
public import proofs.«01_k».proof.Proof.Gen.KBwdIdeal.Skeleton
public import proofs.«01_k».proof.Proof.Gen.KBwdIdeal.Launch
public import proofs.«01_k».proof.Proof.Gen.KBwdIdeal.Points
public import proofs.«01_k».proof.Proof.Gen.KBwdIdeal.Frame
public import proofs.«01_k».proof.Proof.Gen.KBwdRefIdeal
public import proofs.«01_k».proof.Proof.Gen.KBwdRefIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnRefIdeal
public import proofs.«01_k».proof.Proof.Gen.AttnRefIdeal.Run
public import proofs.«01_k».proof.Proof.Gen.Pre_finite_attn
public import proofs.«01_k».proof.Proof.Gen.Attn.Frame
public import proofs.«01_k».proof.Proof.Gen.AttnIdeal.Frame
public import proofs.«01_k».proof.Proof.Gen.GluBwd
public import proofs.«01_k».proof.Proof.Gen.GluBwd.Skeleton
public import proofs.«01_k».proof.Proof.Gen.GluBwd.Launch
public import proofs.«01_k».proof.Proof.Gen.GluBwd.Points
public import proofs.«01_k».proof.Proof.Gen.GluBwd.Frame
public import proofs.«01_k».proof.Proof.Gen.GluBwdIdeal
public import proofs.«01_k».proof.Proof.Gen.GluBwdIdeal.Skeleton
public import proofs.«01_k».proof.Proof.Gen.GluBwdIdeal.Launch
public import proofs.«01_k».proof.Proof.Gen.GluBwdIdeal.Points
public import proofs.«01_k».proof.Proof.Gen.GluBwdIdeal.Frame
public import proofs.«01_k».proof.Proof.Gen.GluBwdRefIdeal
public import proofs.«01_k».proof.Proof.Gen.GluBwdRefIdeal.Run
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdRefIdeal
public import proofs.«01_k».proof.Proof.Gen.RmsFwdRefIdeal.Run
public import proofs.«01_k».proof.Proof.Gen.Merged
public import proofs.«01_k».proof.Proof.Gen.Merged.Skeleton
public import proofs.«01_k».proof.Proof.Gen.Merged.Launch
public import proofs.«01_k».proof.Proof.Gen.Merged.Points
public import proofs.«01_k».proof.Proof.Gen.Merged.Frame
public import proofs.«01_k».proof.Proof.Gen.MergedIdeal
public import proofs.«01_k».proof.Proof.Gen.MergedIdeal.Skeleton
public import proofs.«01_k».proof.Proof.Gen.MergedIdeal.Launch
public import proofs.«01_k».proof.Proof.Gen.MergedIdeal.Points
public import proofs.«01_k».proof.Proof.Gen.MergedIdeal.Frame
public import proofs.«01_k».proof.Proof.Gen.MergedRefIdeal
public import proofs.«01_k».proof.Proof.Gen.MergedRefIdeal.Run
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.ActRefIdeal.Run
public import proofs.«01_k».proof.Proof.Gen.Queries
public import proofs.«01_k».proof.Proof.Gen.Queries.Skeleton
public import proofs.«01_k».proof.Proof.Gen.Queries.Launch
public import proofs.«01_k».proof.Proof.Gen.Queries.Points
public import proofs.«01_k».proof.Proof.Gen.Queries.Frame
public import proofs.«01_k».proof.Proof.Gen.QueriesIdeal
public import proofs.«01_k».proof.Proof.Gen.QueriesIdeal.Skeleton
public import proofs.«01_k».proof.Proof.Gen.QueriesIdeal.Launch
public import proofs.«01_k».proof.Proof.Gen.QueriesIdeal.Points
public import proofs.«01_k».proof.Proof.Gen.QueriesIdeal.Frame
public import proofs.«01_k».proof.Proof.Gen.QueriesRefIdeal
public import proofs.«01_k».proof.Proof.Gen.QueriesRefIdeal.Run
public import proofs.«01_k».proof.Proof.Gen.Keys
public import proofs.«01_k».proof.Proof.Gen.Keys.Skeleton
public import proofs.«01_k».proof.Proof.Gen.Keys.Launch
public import proofs.«01_k».proof.Proof.Gen.Keys.Points
public import proofs.«01_k».proof.Proof.Gen.Keys.Frame
public import proofs.«01_k».proof.Proof.Gen.KeysIdeal
public import proofs.«01_k».proof.Proof.Gen.KeysIdeal.Skeleton
public import proofs.«01_k».proof.Proof.Gen.KeysIdeal.Launch
public import proofs.«01_k».proof.Proof.Gen.KeysIdeal.Points
public import proofs.«01_k».proof.Proof.Gen.KeysIdeal.Frame
public import proofs.«01_k».proof.Proof.Gen.KeysRefIdeal
public import proofs.«01_k».proof.Proof.Gen.KeysRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.Mixed
public import proofs.«01_k».proof.Proof.Gen.Mixed.Skeleton
public import proofs.«01_k».proof.Proof.Gen.Mixed.Launch
public import proofs.«01_k».proof.Proof.Gen.Mixed.Points
public import proofs.«01_k».proof.Proof.Gen.Mixed.Frame
public import proofs.«01_k».proof.Proof.Gen.MixedIdeal
public import proofs.«01_k».proof.Proof.Gen.MixedIdeal.Skeleton
public import proofs.«01_k».proof.Proof.Gen.MixedIdeal.Launch
public import proofs.«01_k».proof.Proof.Gen.MixedIdeal.Points
public import proofs.«01_k».proof.Proof.Gen.MixedIdeal.Frame
public import proofs.«01_k».proof.Proof.Gen.MixedRefIdeal
public import proofs.«01_k».proof.Proof.Gen.MixedRefIdeal.Run
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.DhRefIdeal.Run
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.DwRefIdeal.Run
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepRefIdeal
public import proofs.«01_k».proof.Proof.Gen.StepRefIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRefIdeal
public import proofs.«01_k».proof.Proof.Gen.SmallRefIdeal.Run
public import proofs.«01_k».proof.Proof.Gen.GroupSum
public import proofs.«01_k».proof.Proof.Gen.GroupSum.Skeleton
public import proofs.«01_k».proof.Proof.Gen.GroupSum.Launch
public import proofs.«01_k».proof.Proof.Gen.GroupSum.Points
public import proofs.«01_k».proof.Proof.Gen.GroupSum.Frame
public import proofs.«01_k».proof.Proof.Gen.GroupSumIdeal
public import proofs.«01_k».proof.Proof.Gen.GroupSumIdeal.Skeleton
public import proofs.«01_k».proof.Proof.Gen.GroupSumIdeal.Launch
public import proofs.«01_k».proof.Proof.Gen.GroupSumIdeal.Points
public import proofs.«01_k».proof.Proof.Gen.GroupSumIdeal.Frame
public import proofs.«01_k».proof.Proof.Gen.GroupSumRefIdeal
public import proofs.«01_k».proof.Proof.Gen.GroupSumRefIdeal.Run
public import proofs.«01_k».proof.Proof.Dact
public import proofs.«01_k».proof.Proof.Dmerged
public import proofs.«01_k».proof.Proof.AttnDo
public import proofs.«01_k».proof.Proof.RmsBwd
public import proofs.«01_k».proof.Proof.Head
public import proofs.«01_k».proof.Proof.FlashRun
public import proofs.«01_k».proof.Proof.FlashFrame
public import proofs.«01_k».proof.Proof.FlashBits
public import proofs.«01_k».proof.Proof.FlashSums
public import proofs.«01_k».proof.Proof.Softmax
public import proofs.«01_k».proof.Proof.FlashParts
public import proofs.«01_k».proof.Proof.FlashPoint
public import proofs.«01_k».proof.Proof.FlashRef
public import proofs.«01_k».proof.Proof.FlashFinal
public import proofs.«01_k».proof.Proof.FlashPre
public import proofs.«01_k».proof.Proof.FlashValue
public import proofs.«01_k».proof.Proof.LayerNorm
public import proofs.«01_k».proof.Proof.LnBwd
public import proofs.«01_k».proof.Proof.LnPre
public import proofs.«01_k».proof.Proof.LnValue
public import proofs.«01_k».proof.Proof.Finite
public import proofs.«01_k».proof.Proof.Alone
public import proofs.«01_k».proof.Proof.RopeK
public import proofs.«01_k».proof.Proof.RopeQ
public import proofs.«01_k».proof.Proof.AttnSums
public import proofs.«01_k».proof.Proof.AttnParts
public import proofs.«01_k».proof.Proof.AttnRef
public import proofs.«01_k».proof.Proof.AttnSteps
public import proofs.«01_k».proof.Proof.AttnPre
public import proofs.«01_k».proof.Proof.AttnValue
public import proofs.«01_k».proof.Proof.GluTaps
public import proofs.«01_k».proof.Proof.GluRef
public import proofs.«01_k».proof.Proof.GluBwd
public import proofs.«01_k».proof.Proof.RmsFwd
public import proofs.«01_k».proof.Proof.Merged
public import proofs.«01_k».proof.Proof.Act
public import proofs.«01_k».proof.Proof.HeadsQ
public import proofs.«01_k».proof.Proof.HeadsK
public import proofs.«01_k».proof.Proof.ConvFwd
public import proofs.«01_k».proof.Proof.Mixed
public import proofs.«01_k».proof.Proof.Dh
public import proofs.«01_k».proof.Proof.Dw
public import proofs.«01_k».proof.Proof.Step
public import proofs.«01_k».proof.Proof.Small
public import proofs.«01_k».proof.Proof.GroupSum
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

theorem frame_dact_ref : Cert.quiescent_DactRefIdeal := fun m ρ _ =>
  (θ_run Cert.DactRefIdeal.defs _ _).mono (fun r h => ⟨fun c => (h c).2, sem_eq_zero_of_no_sems (by decide) r.2⟩)
    (Cert.DactRefIdeal.Value.run (F := Ideal) m ρ)

theorem value_dact : Cert.algebraic_DactIdeal_DactRefIdeal := by
  pair_intro
  · run_from Cert.DactIdeal.Gen.run_main m g
  · run_from Cert.DactRefIdeal.Value.run m' g'
    exact (Cert.DactIdeal.Whole.final m c).symm

theorem frame_merge_ref : Cert.quiescent_DmergedRefIdeal := fun m ρ _ =>
  (θ_run Cert.DmergedRefIdeal.defs _ _).mono (fun r h => ⟨fun c => (h c).2.2.2.2, sem_eq_zero_of_no_sems (by decide) r.2⟩)
    (Cert.DmergedRefIdeal.Value.run (F := Ideal) m ρ)

theorem value_merge : Cert.algebraic_DmergedIdeal_DmergedRefIdeal := by
  pair_intro
  · run_from Cert.DmergedIdeal.Gen.run_main m g
  · run_from Cert.DmergedRefIdeal.Value.run m' g'
    · exact (Cert.DmergedIdeal.Whole.final6 m c).symm
    · exact (Cert.DmergedIdeal.Whole.final7 m c).symm
    · exact (Cert.DmergedIdeal.Whole.final8 m c).symm
    · exact (Cert.DmergedIdeal.Whole.final9 m c).symm

theorem frame_mmdo_ref : Cert.quiescent_AttnDoRefIdeal := fun m ρ _ =>
  (θ_run Cert.AttnDoRefIdeal.defs _ _).mono (fun r h => ⟨fun c => (h c).2.2, sem_eq_zero_of_no_sems (by decide) r.2⟩)
    (Cert.AttnDoRefIdeal.Value.run (F := Ideal) m ρ)

theorem value_mmdo : Cert.algebraic_AttnDoIdeal_AttnDoRefIdeal := by
  pair_intro
  · run_from Cert.AttnDoIdeal.Gen.run_main m g
  · run_from Cert.AttnDoRefIdeal.Value.run m' g'
    · exact (Cert.AttnDoIdeal.Whole.final3 m c).symm
    · exact (Cert.AttnDoIdeal.Whole.final4 m c).symm

theorem frame_rms_ref : Cert.quiescent_RmsBwdRefIdeal := fun m ρ _ =>
  (θ_run Cert.RmsBwdRefIdeal.defs _ _).mono (fun r h => ⟨fun c => (h c).2.2, sem_eq_zero_of_no_sems (by decide) r.2⟩)
    (Cert.RmsBwdRefIdeal.Value.run (F := Ideal) m ρ)

theorem value_rms : Cert.algebraic_RmsBwdIdeal_RmsBwdRefIdeal := by
  pair_intro
  · run_from Cert.RmsBwdIdeal.Gen.run_main m g
  · run_from Cert.RmsBwdRefIdeal.Value.run m' g'
    · rw [Cert.RmsBwdRefIdeal.Read.val_main_v37_eq, (hagree c).1, (hagree c).2.1, (hagree c).2.2.1, (hagree c).2.2.2]
      exact (Cert.RmsBwdIdeal.Whole.final4 m c).symm
    · exact (Cert.RmsBwdIdeal.Whole.tail m c).symm

theorem frame_head_ref : Cert.quiescent_HeadRefIdeal := fun m ρ _ =>
  (θ_run Cert.HeadRefIdeal.defs _ _).mono (fun r h => ⟨fun c => (h c).2.2.2.2.2, sem_eq_zero_of_no_sems (by decide) r.2⟩)
    (Cert.HeadRefIdeal.Value.run (F := Ideal) m ρ)

theorem value_head : Cert.algebraic_HeadIdeal_HeadRefIdeal := by
  pair_intro
  · run_from Cert.HeadIdeal.Gen.run_main m g
    exact Cert.HeadIdeal.Whole.gain_kept m c
  · run_from Cert.HeadRefIdeal.Value.run m' g'
    · rw [Cert.HeadRefIdeal.Read.val_main_v61_eq, (hagree c).1, (hagree c).2.1, (hagree c).2.2.1, (hagree c).2.2.2.1, (hagree c).2.2.2.2]
      exact (Cert.HeadIdeal.Whole.final5 m c).symm
    · rw [Cert.HeadRefIdeal.Read.val_main_v65_eq, (hagree c).1, (hagree c).2.1, (hagree c).2.2.1, (hagree c).2.2.2.1, (hagree c).2.2.2.2]
      exact (Cert.HeadIdeal.Whole.final6 m c).symm
    · rw [Cert.HeadRefIdeal.Read.val_main_v66_eq, (hagree c).1, (hagree c).2.1, (hagree c).2.2.1, (hagree c).2.2.2.1, (hagree c).2.2.2.2]
      exact (Cert.HeadIdeal.Whole.final7 m c).symm
    · exact (Cert.HeadIdeal.Whole.final_dg m c).symm
    · exact (Cert.HeadIdeal.Whole.final_loss m c).symm

theorem frame_flash_ref : Cert.quiescent_FlashBwdRefIdeal := fun m ρ _ =>
  (θ_run Cert.FlashBwdRefIdeal.defs _ _).mono (fun r h => ⟨fun c => (h c).2.2.2, sem_eq_zero_of_no_sems (by decide) r.2⟩)
    (Cert.FlashBwdRefIdeal.Value.run (F := Ideal) m ρ)

theorem frame_ln_ref : Cert.quiescent_LnBwdRefIdeal := fun m ρ _ =>
  (θ_run Cert.LnBwdRefIdeal.defs _ _).mono (fun r h => ⟨fun c => (h c).2.2.2, sem_eq_zero_of_no_sems (by decide) r.2⟩)
    (Cert.LnBwdRefIdeal.Value.run (F := Ideal) m ρ)

theorem frame_q_ref : Cert.quiescent_QBwdRefIdeal := fun m ρ _ =>
  (θ_run Cert.QBwdRefIdeal.defs _ _).mono (fun r h => ⟨fun c => (h c).2.2, sem_eq_zero_of_no_sems (by decide) r.2⟩)
    (Cert.QBwdRefIdeal.Value.run (F := Ideal) m ρ)

theorem value_q : Cert.algebraic_QBwdIdeal_QBwdRefIdeal := by
  pair_intro
  · run_from Cert.QBwdIdeal.Gen.run_main m g
  · run_from Cert.QBwdRefIdeal.Value.run m' g'
    · rw [Cert.QBwdRefIdeal.Read.val_main_v146_eq, (hagree c).1, (hagree c).2.1, (hagree c).2.2]
      exact (Cert.QBwdIdeal.Whole.final5 m c).symm
    · rw [Cert.QBwdRefIdeal.Read.val_main_v144_eq, (hagree c).1, (hagree c).2.1]
      exact (Cert.QBwdIdeal.Whole.tail6 m c).symm

theorem frame_k_ref : Cert.quiescent_KBwdRefIdeal := fun m ρ _ =>
  (θ_run Cert.KBwdRefIdeal.defs _ _).mono (fun r h => ⟨fun c => (h c).2.2, sem_eq_zero_of_no_sems (by decide) r.2⟩)
    (Cert.KBwdRefIdeal.Value.run (F := Ideal) m ρ)

theorem value_k : Cert.algebraic_KBwdIdeal_KBwdRefIdeal := by
  pair_intro
  · run_from Cert.KBwdIdeal.Gen.run_main m g
  · run_from Cert.KBwdRefIdeal.Value.run m' g'
    · rw [Cert.KBwdRefIdeal.Read.val_main_v146_eq, (hagree c).1, (hagree c).2.1, (hagree c).2.2]
      exact (Cert.KBwdIdeal.Whole.final8 m c).symm
    · rw [Cert.KBwdRefIdeal.Read.val_main_v144_eq, (hagree c).1, (hagree c).2.1]
      exact (Cert.KBwdIdeal.Whole.tail9 m c).symm

theorem frame_attn_ref : Cert.quiescent_AttnRefIdeal := fun m ρ _ =>
  (θ_run Cert.AttnRefIdeal.defs _ _).mono (fun r h => ⟨fun c => (h c).2.2, sem_eq_zero_of_no_sems (by decide) r.2⟩)
    (Cert.AttnRefIdeal.Value.run (F := Ideal) m ρ)

theorem frame_glu_ref : Cert.quiescent_GluBwdRefIdeal := fun m ρ _ =>
  (θ_run Cert.GluBwdRefIdeal.defs _ _).mono (fun r h => ⟨fun c => (h c).2.2.2, sem_eq_zero_of_no_sems (by decide) r.2⟩)
    (Cert.GluBwdRefIdeal.Value.run (F := Ideal) m ρ)

theorem value_glu : Cert.algebraic_GluBwdIdeal_GluBwdRefIdeal := by
  pair_intro
  · run_from Cert.GluBwdIdeal.Gen.run_main m g
    exact Cert.GluBwdIdeal.Whole.weights_kept m c
  · run_from Cert.GluBwdRefIdeal.Value.run m' g'
    · rw [Cert.GluBwdRefIdeal.Read.val_main_v223_eq]
      refine Eq.trans ?_ (Cert.GluBwdIdeal.Whole.final6 m c).symm
      exact congr (congr (congrArg _ (hagree c).1) (hagree c).2.1) (hagree c).2.2
    · rw [Cert.GluBwdRefIdeal.Read.val_main_v224_eq]
      refine Eq.trans ?_ (Cert.GluBwdIdeal.Whole.final7 m c).symm
      exact congr (congr (congrArg _ (hagree c).1) (hagree c).2.1) (hagree c).2.2
    · rw [Cert.GluBwdRefIdeal.Read.val_main_v226_eq]
      refine Eq.trans ?_ (Cert.GluBwdIdeal.Whole.final8 m c).symm
      exact congr (congrArg _ (hagree c).1) (hagree c).2.1

theorem frame_rmsf_ref : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)

theorem value_rmsf : Cert.algebraic_RmsFwdIdeal_RmsFwdRefIdeal := by
  pair_intro
  · run_from Cert.RmsFwdIdeal.Gen.run_main m g
  · run_from Cert.RmsFwdRefIdeal.Value.run m' g'
    exact (Cert.RmsFwdIdeal.Whole.final m c).symm

theorem frame_proj_ref : Cert.quiescent_MergedRefIdeal := fun m ρ _ =>
  (θ_run Cert.MergedRefIdeal.defs _ _).mono (fun r h => ⟨fun c => (h c).2.2, sem_eq_zero_of_no_sems (by decide) r.2⟩)
    (Cert.MergedRefIdeal.Value.run (F := Ideal) m ρ)

theorem value_proj : Cert.algebraic_MergedIdeal_MergedRefIdeal := by
  pair_intro
  · run_from Cert.MergedIdeal.Gen.run_main m g
  · run_from Cert.MergedRefIdeal.Value.run m' g'
    · exact (Cert.MergedIdeal.Whole.final5 m c).symm
    · exact (Cert.MergedIdeal.Whole.final6 m c).symm

theorem frame_ffn_ref : Cert.quiescent_ActRefIdeal := fun m ρ _ =>
  (θ_run Cert.ActRefIdeal.defs _ _).mono (fun r h => ⟨fun c => (h c).2.2, sem_eq_zero_of_no_sems (by decide) r.2⟩)
    (Cert.ActRefIdeal.Value.run (F := Ideal) m ρ)

theorem value_ffn : Cert.algebraic_ActIdeal_ActRefIdeal := by
  pair_intro
  · run_from Cert.ActIdeal.Gen.run_main m g
  · run_from Cert.ActRefIdeal.Value.run m' g'
    · exact (Cert.ActIdeal.Whole.final2 m c).symm
    · exact (Cert.ActIdeal.Whole.final3 m c).symm

theorem frame_queries_ref : Cert.quiescent_QueriesRefIdeal := fun m ρ _ =>
  (θ_run Cert.QueriesRefIdeal.defs _ _).mono (fun r h => ⟨fun c => (h c).2, sem_eq_zero_of_no_sems (by decide) r.2⟩)
    (Cert.QueriesRefIdeal.Value.run (F := Ideal) m ρ)

theorem value_queries : Cert.algebraic_QueriesIdeal_QueriesRefIdeal := by
  pair_intro
  · run_from Cert.QueriesIdeal.Gen.run_main m g
  · run_from Cert.QueriesRefIdeal.Value.run m' g'
    · rw [Cert.QueriesRefIdeal.Read.val_main_v89_eq, (hagree c).1, (hagree c).2]
      exact (Cert.QueriesIdeal.Whole.final m c).symm

theorem frame_keys_ref : Cert.quiescent_KeysRefIdeal := fun m ρ _ =>
  (θ_run Cert.KeysRefIdeal.defs _ _).mono (fun r h => ⟨fun c => (h c).2, sem_eq_zero_of_no_sems (by decide) r.2⟩)
    (Cert.KeysRefIdeal.Value.run (F := Ideal) m ρ)

theorem value_keys : Cert.algebraic_KeysIdeal_KeysRefIdeal := by
  pair_intro
  · run_from Cert.KeysIdeal.Gen.run_main m g
  · run_from Cert.KeysRefIdeal.Value.run m' g'
    · rw [Cert.KeysRefIdeal.Read.val_main_v83_eq, (hagree c).1, (hagree c).2]
      exact (Cert.KeysIdeal.Whole.final m c).symm

theorem frame_conv_ref : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

theorem value_conv : Cert.algebraic_ConvIdeal_ConvRefIdeal := by
  pair_intro
  · run_from Cert.ConvIdeal.Gen.run_main m g
    exact Cert.ConvIdeal.Whole.weights_kept m c
  · run_from Cert.ConvRefIdeal.Value.run m' g'
    · rw [Cert.ConvRefIdeal.Read.val_main_v80_eq]
      refine Eq.trans ?_ (Cert.ConvIdeal.Whole.final9 m c).symm
      exact congr (congrArg _ (hagree c).1) (hagree c).2.1
    · rw [Cert.ConvRefIdeal.Read.val_main_v106_eq]
      refine Eq.trans ?_ (Cert.ConvIdeal.Whole.final10 m c).symm
      exact congr (congr (congr (congrArg _ (hagree c).1) (hagree c).2.1) (hagree c).2.2.1) (hagree c).2.2.2

theorem frame_mixed_ref : Cert.quiescent_MixedRefIdeal := fun m ρ _ =>
  (θ_run Cert.MixedRefIdeal.defs _ _).mono (fun r h => ⟨fun c => (h c).2, sem_eq_zero_of_no_sems (by decide) r.2⟩)
    (Cert.MixedRefIdeal.Value.run (F := Ideal) m ρ)

theorem value_mixed : Cert.algebraic_MixedIdeal_MixedRefIdeal := by
  pair_intro
  · run_from Cert.MixedIdeal.Gen.run_main m g
  · run_from Cert.MixedRefIdeal.Value.run m' g'
    exact (Cert.MixedIdeal.Whole.final m c).symm

theorem frame_dh_ref : Cert.quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)

theorem value_dh : Cert.algebraic_DhIdeal_DhRefIdeal := by
  pair_intro
  · run_from Cert.DhIdeal.Gen.run_main m g
  · run_from Cert.DhRefIdeal.Value.run m' g'
    exact (Cert.DhIdeal.Whole.final m c).symm

theorem frame_dw_ref : Cert.quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)

theorem value_dw : Cert.algebraic_DwIdeal_DwRefIdeal := by
  pair_intro
  · run_from Cert.DwIdeal.Gen.run_main m g
  · run_from Cert.DwRefIdeal.Value.run m' g'
    exact (Cert.DwIdeal.Whole.final m c).symm

theorem frame_step_ref : Cert.quiescent_StepRefIdeal := fun m ρ _ =>
  (θ_run Cert.StepRefIdeal.defs _ _).mono (fun r h => ⟨fun c => (h c).2.2.2.2, sem_eq_zero_of_no_sems (by decide) r.2⟩)
    (Cert.StepRefIdeal.Value.run (F := Ideal) m ρ)

theorem value_step : Cert.algebraic_StepIdeal_StepRefIdeal := by
  pair_intro
  · run_from Cert.StepIdeal.Gen.run_main m g
  · refine (θ_run Cert.StepRefIdeal.defs _ _).mono (fun r h c => ?_) (Cert.StepRefIdeal.Value.run m' g')
    obtain ⟨h0, h1, h2, h3, kept⟩ := h c
    refine ⟨h0.trans (Eq.trans (Cert.StepRefIdeal.Read.val_main_v1_eq ..) ?_), h1.trans (Eq.trans (Cert.StepRefIdeal.Read.val_main_v28_eq ..) ?_), h2.trans (Eq.trans (Cert.StepRefIdeal.Read.val_main_v9_eq ..) ?_), h3.trans (Eq.trans (Cert.StepRefIdeal.Read.val_main_v15_eq ..) ?_), kept⟩
    · rw [(hagree c).1]
      exact (Cert.StepIdeal.Whole.final11 m c).symm
    · rw [(hagree c).1, (hagree c).2.1, (hagree c).2.2.1, (hagree c).2.2.2]
      exact (Cert.StepIdeal.Whole.final12 m c).symm
    · rw [(hagree c).1, (hagree c).2.2.1]
      exact (Cert.StepIdeal.Whole.final13 m c).symm
    · rw [(hagree c).1, (hagree c).2.2.2]
      exact (Cert.StepIdeal.Whole.final14 m c).symm

theorem frame_small_ref : Cert.quiescent_SmallRefIdeal := fun m ρ _ =>
  (θ_run Cert.SmallRefIdeal.defs _ _).mono (fun r h => ⟨fun c => (h c).2.2.2.2, sem_eq_zero_of_no_sems (by decide) r.2⟩)
    (Cert.SmallRefIdeal.Value.run (F := Ideal) m ρ)

theorem value_small : Cert.algebraic_SmallIdeal_SmallRefIdeal := by
  pair_intro
  · run_from Cert.SmallIdeal.Gen.run_main m g
  · run_from Cert.SmallRefIdeal.Value.run m' g'
    · exact (Cert.SmallIdeal.Whole.final4 m c).symm
    · exact (Cert.SmallIdeal.Whole.final5 m c).symm
    · exact (Cert.SmallIdeal.Whole.final6 m c).symm
    · exact (Cert.SmallIdeal.Whole.final7 m c).symm

theorem frame_groupsum_ref : Cert.quiescent_GroupSumRefIdeal := fun m ρ _ =>
  (θ_run Cert.GroupSumRefIdeal.defs _ _).mono (fun r h => ⟨fun c => (h c).2, sem_eq_zero_of_no_sems (by decide) r.2⟩)
    (Cert.GroupSumRefIdeal.Value.run (F := Ideal) m ρ)

theorem value_groupsum : Cert.algebraic_GroupSumIdeal_GroupSumRefIdeal := by
  pair_intro
  · run_from Cert.GroupSumIdeal.Gen.run_main m g
  · run_from Cert.GroupSumRefIdeal.Value.run m' g'
    exact (Cert.GroupSumIdeal.Whole.final m c).symm

theorem claim : Cert.Claim :=
  ⟨Cert.Dact.Gen.facts, Cert.DactIdeal.Gen.facts, Cert.DactRefIdeal.Gen.facts, Cert.Dmerged.Gen.facts,
    Cert.DmergedIdeal.Gen.facts, Cert.DmergedRefIdeal.Gen.facts, Cert.AttnDo.Gen.facts,
    Cert.AttnDoIdeal.Gen.facts, Cert.AttnDoRefIdeal.Gen.facts, Cert.RmsBwd.Gen.facts,
    Cert.RmsBwdIdeal.Gen.facts, Cert.RmsBwdRefIdeal.Gen.facts, Cert.Head.Gen.facts, Cert.HeadIdeal.Gen.facts,
    Cert.HeadRefIdeal.Gen.facts, Cert.FlashBwd.Gen.facts, Cert.FlashBwdIdeal.Gen.facts,
    Cert.FlashBwdRefIdeal.Gen.facts, Cert.LnBwd.Gen.facts, Cert.LnBwdIdeal.Gen.facts,
    Cert.LnBwdRefIdeal.Gen.facts, Cert.QBwd.Gen.facts, Cert.QBwdIdeal.Gen.facts, Cert.QBwdRefIdeal.Gen.facts,
    Cert.KBwd.Gen.facts, Cert.KBwdIdeal.Gen.facts, Cert.KBwdRefIdeal.Gen.facts, Cert.Attn.Gen.facts,
    Cert.AttnIdeal.Gen.facts, Cert.AttnRefIdeal.Gen.facts, Cert.GluBwd.Gen.facts, Cert.GluBwdIdeal.Gen.facts,
    Cert.GluBwdRefIdeal.Gen.facts, Cert.RmsFwd.Gen.facts, Cert.RmsFwdIdeal.Gen.facts,
    Cert.RmsFwdRefIdeal.Gen.facts, Cert.Merged.Gen.facts, Cert.MergedIdeal.Gen.facts,
    Cert.MergedRefIdeal.Gen.facts, Cert.Act.Gen.facts, Cert.ActIdeal.Gen.facts, Cert.ActRefIdeal.Gen.facts,
    Cert.Queries.Gen.facts, Cert.QueriesIdeal.Gen.facts, Cert.QueriesRefIdeal.Gen.facts, Cert.Keys.Gen.facts,
    Cert.KeysIdeal.Gen.facts, Cert.KeysRefIdeal.Gen.facts, Cert.Conv.Gen.facts, Cert.ConvIdeal.Gen.facts,
    Cert.ConvRefIdeal.Gen.facts, Cert.Mixed.Gen.facts, Cert.MixedIdeal.Gen.facts, Cert.MixedRefIdeal.Gen.facts,
    Cert.Dh.Gen.facts, Cert.DhIdeal.Gen.facts, Cert.DhRefIdeal.Gen.facts, Cert.Dw.Gen.facts,
    Cert.DwIdeal.Gen.facts, Cert.DwRefIdeal.Gen.facts, Cert.Step.Gen.facts, Cert.StepIdeal.Gen.facts,
    Cert.StepRefIdeal.Gen.facts, Cert.Small.Gen.facts, Cert.SmallIdeal.Gen.facts, Cert.SmallRefIdeal.Gen.facts,
    Cert.GroupSum.Gen.facts, Cert.GroupSumIdeal.Gen.facts, Cert.GroupSumRefIdeal.Gen.facts,
    Cert.Pre_finite_flash.Gen.facts, Cert.Pre_finite_ln.Gen.facts, Cert.Pre_finite_attn.Gen.facts,
    fun m ρ _ => Cert.Dact.Gen.frame m ρ, fun m ρ _ => Cert.DactIdeal.Gen.frame m ρ, frame_dact_ref,
    fun m ρ _ => Cert.Dmerged.Gen.frame m ρ, fun m ρ _ => Cert.DmergedIdeal.Gen.frame m ρ, frame_merge_ref,
    fun m ρ _ => Cert.AttnDo.Gen.frame m ρ, fun m ρ _ => Cert.AttnDoIdeal.Gen.frame m ρ, frame_mmdo_ref,
    fun m ρ _ => Cert.RmsBwd.Gen.frame m ρ, fun m ρ _ => Cert.RmsBwdIdeal.Gen.frame m ρ, frame_rms_ref,
    fun m ρ _ => Cert.Head.Gen.frame m ρ, fun m ρ _ => Cert.HeadIdeal.Gen.frame m ρ, frame_head_ref,
    Cert.FlashBwd.Hand.frame, fun m ρ _ => Cert.FlashBwdIdeal.Hand.frame m ρ,
    fun m ρ _ => Cert.FlashBwdIdeal.Hand.frame m ρ, frame_flash_ref, fun m ρ _ => frame_flash_ref m ρ trivial,
    fun m ρ _ => Cert.LnBwd.Gen.frame m ρ, fun m ρ _ => Cert.LnBwdIdeal.Gen.frame m ρ,
    fun m ρ _ => Cert.LnBwdIdeal.Gen.frame m ρ, frame_ln_ref, fun m ρ _ => frame_ln_ref m ρ trivial,
    fun m ρ _ => Cert.QBwd.Gen.frame m ρ, fun m ρ _ => Cert.QBwdIdeal.Gen.frame m ρ, frame_q_ref,
    fun m ρ _ => Cert.KBwd.Gen.frame m ρ, fun m ρ _ => Cert.KBwdIdeal.Gen.frame m ρ, frame_k_ref,
    fun m ρ _ => Cert.Attn.Gen.frame m ρ, fun m ρ _ => Cert.AttnIdeal.Gen.frame m ρ,
    fun m ρ _ => Cert.AttnIdeal.Gen.frame m ρ, frame_attn_ref, fun m ρ _ => frame_attn_ref m ρ trivial,
    fun m ρ _ => Cert.GluBwd.Gen.frame m ρ, fun m ρ _ => Cert.GluBwdIdeal.Gen.frame m ρ, frame_glu_ref,
    fun m ρ _ => Cert.RmsFwd.Gen.frame m ρ, fun m ρ _ => Cert.RmsFwdIdeal.Gen.frame m ρ, frame_rmsf_ref,
    fun m ρ _ => Cert.Merged.Gen.frame m ρ, fun m ρ _ => Cert.MergedIdeal.Gen.frame m ρ, frame_proj_ref,
    fun m ρ _ => Cert.Act.Gen.frame m ρ, fun m ρ _ => Cert.ActIdeal.Gen.frame m ρ, frame_ffn_ref,
    fun m ρ _ => Cert.Queries.Gen.frame m ρ, fun m ρ _ => Cert.QueriesIdeal.Gen.frame m ρ, frame_queries_ref,
    fun m ρ _ => Cert.Keys.Gen.frame m ρ, fun m ρ _ => Cert.KeysIdeal.Gen.frame m ρ, frame_keys_ref,
    fun m ρ _ => Cert.Conv.Gen.frame m ρ, fun m ρ _ => Cert.ConvIdeal.Gen.frame m ρ, frame_conv_ref,
    fun m ρ _ => Cert.Mixed.Gen.frame m ρ, fun m ρ _ => Cert.MixedIdeal.Gen.frame m ρ, frame_mixed_ref,
    fun m ρ _ => Cert.Dh.Gen.frame m ρ, fun m ρ _ => Cert.DhIdeal.Gen.frame m ρ, frame_dh_ref,
    fun m ρ _ => Cert.Dw.Gen.frame m ρ, fun m ρ _ => Cert.DwIdeal.Gen.frame m ρ, frame_dw_ref,
    fun m ρ _ => Cert.Step.Gen.frame m ρ, fun m ρ _ => Cert.StepIdeal.Gen.frame m ρ, frame_step_ref,
    fun m ρ _ => Cert.Small.Gen.frame m ρ, fun m ρ _ => Cert.SmallIdeal.Gen.frame m ρ, frame_small_ref,
    fun m ρ _ => Cert.GroupSum.Gen.frame m ρ, fun m ρ _ => Cert.GroupSumIdeal.Gen.frame m ρ,
    frame_groupsum_ref,
    trivial, value_dact,
    trivial, value_merge,
    trivial, value_mmdo,
    trivial, value_rms,
    trivial, value_head,
    IdealRules.named_const.statement Cert.FlashBwdIdeal.κ "ln2" .f32 0x3F317218#32 ((Real.log 2 : ℝ) : EReal) rfl,
    Cert.FlashBwdIdeal.Hand.algebraic,
    trivial, Cert.LnBwdIdeal.Whole.algebraic,
    trivial, value_q,
    trivial, value_k,
    ⟨IdealRules.named_const.statement Cert.AttnIdeal.κ "lowest" .f32 0xF149F2CA#32 ⊥ rfl,
    IdealRules.named_const.statement Cert.AttnIdeal.κ "log2e" .f32 0x3FB8AA3B#32 (((Real.log 2)⁻¹ : ℝ) : EReal) rfl⟩,
    Cert.AttnIdeal.Hand.algebraic,
    trivial, value_glu,
    trivial, value_rmsf,
    trivial, value_proj,
    trivial, value_ffn,
    IdealRules.named_const.statement Cert.QueriesIdeal.κ "scale" .f32 0x3E0293EE#32 (((Real.sqrt 128)⁻¹ * (Real.log 2)⁻¹ : ℝ) : EReal) rfl,
    value_queries,
    trivial, value_keys,
    trivial, value_conv,
    trivial, value_mixed,
    trivial, value_dh,
    trivial, value_dw,
    trivial, value_step,
    trivial, value_small,
    trivial, value_groupsum⟩

end Cert.Proof

end
